-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S40x2048x1 : Shape := ⟨3, ![40, 2048, 1]⟩
abbrev S2048x40 : Shape := ⟨2, ![2048, 40]⟩
abbrev S40x2048 : Shape := ⟨2, ![40, 2048]⟩
abbrev S2049x12x40 : Shape := ⟨3, ![2049, 12, 40]⟩
abbrev S12x40 : Shape := ⟨2, ![12, 40]⟩
abbrev S1x12x40 : Shape := ⟨3, ![1, 12, 40]⟩
abbrev S1x40 : Shape := ⟨2, ![1, 40]⟩
abbrev S11x40 : Shape := ⟨2, ![11, 40]⟩
abbrev S40 : Shape := ⟨1, ![40]⟩

abbrev nBuf : Space → Nat
  | .hbm => 7
  | .vmem => 6
  | .smem => 0
  | _ => 0

abbrev bufTy : (tb : Table) → Fin (tcTables nBuf tb) → BufTy
  | .hbm, ⟨0, _⟩ => ⟨S40x2048x1, .f32⟩
  | .hbm, ⟨1, _⟩ => ⟨S2048x40, .f32⟩
  | .hbm, ⟨2, _⟩ => ⟨S40x2048, .f32⟩
  | .hbm, ⟨3, _⟩ => ⟨S2048x40, .f32⟩
  | .hbm, ⟨4, _⟩ => ⟨S2048x40, .f32⟩
  | .hbm, ⟨5, _⟩ => ⟨S40x2048, .f32⟩
  | .hbm, ⟨6, _⟩ => ⟨S40x2048x1, .f32⟩
  | .local _ .vmem, ⟨0, _⟩ => ⟨S2048x40, .f32⟩
  | .local _ .vmem, ⟨1, _⟩ => ⟨S2048x40, .f32⟩
  | .local _ .vmem, ⟨2, _⟩ => ⟨S2048x40, .f32⟩
  | .local _ .vmem, ⟨3, _⟩ => ⟨S2049x12x40, .f32⟩
  | .local _ .vmem, ⟨4, _⟩ => ⟨S2048x40, .f32⟩
  | .local _ .vmem, ⟨5, _⟩ => ⟨S2048x40, .f32⟩
  | _, _ => ⟨S40x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2048_i32 : BitVec 32 := 2048#32
  let v48 : BitVec 32 := Scalar.addi c0_i32 c2048_i32
  let c1_i32_20 : BitVec 32 := 1#32
  ⟨c0_i32, v48, c1_i32_20⟩
def k0_off1 (k0_t1 : Fin k0_t1_loop.trips) : Fin 2 → Nat :=
  let c0_i32 : BitVec 32 := 0#32
  let c1_i32_20 : BitVec 32 := 1#32
  let arg6 : BitVec 32 := Scf.iv c0_i32 c1_i32_20 k0_t1
  let v53 : Index := Scalar.indexCast arg6
  let c0_26 : Index := 0#32
  ![v53.toNat, 0]
def k0_off2 (k0_t1 : Fin k0_t1_loop.trips) : Fin 3 → Nat :=
  let c0_i32 : BitVec 32 := 0#32
  let c1_i32_20 : BitVec 32 := 1#32
  let arg6 : BitVec 32 := Scf.iv c0_i32 c1_i32_20 k0_t1
  let c1_i32_30 : BitVec 32 := 1#32
  let v73 : BitVec 32 := Scalar.addi arg6 c1_i32_30
  let v74 : Index := Scalar.indexCast v73
  let c0_31 : Index := 0#32
  let c0_32 : Index := 0#32
  ![v74.toNat, 0, 0]
@[reducible] def k0_t2_loop : Scf.Loop 32 :=
  let c0_i32_22 : BitVec 32 := 0#32
  let c2048_i32_23 : BitVec 32 := 2048#32
  let v51 : BitVec 32 := Scalar.addi c0_i32_22 c2048_i32_23
  let c1_i32_24 : BitVec 32 := 1#32
  ⟨c0_i32_22, v51, c1_i32_24⟩
def k0_off3 (k0_t2 : Fin k0_t2_loop.trips) : Fin 3 → Nat :=
  let c2048_i32_26 : BitVec 32 := 2048#32
  let c0_i32_22 : BitVec 32 := 0#32
  let c1_i32_24 : BitVec 32 := 1#32
  let arg6 : BitVec 32 := Scf.iv c0_i32_22 c1_i32_24 k0_t2
  let v53 : BitVec 32 := Scalar.subi c2048_i32_26 arg6
  let c1_i32_27 : BitVec 32 := 1#32
  let v54 : BitVec 32 := Scalar.subi v53 c1_i32_27
  let v55 : Index := Scalar.indexCast v54
  let c0_28 : Index := 0#32
  let c0_29 : Index := 0#32
  ![v55.toNat, 0, 0]
def k0_off4 (k0_t2 : Fin k0_t2_loop.trips) : Fin 3 → Nat :=
  let c2048_i32_26 : BitVec 32 := 2048#32
  let c0_i32_22 : BitVec 32 := 0#32
  let c1_i32_24 : BitVec 32 := 1#32
  let arg6 : BitVec 32 := Scf.iv c0_i32_22 c1_i32_24 k0_t2
  let v53 : BitVec 32 := Scalar.subi c2048_i32_26 arg6
  let v58 : Index := Scalar.indexCast v53
  let c0_30 : Index := 0#32
  let c0_31 : Index := 0#32
  ![v58.toNat, 0, 0]
def k0_off5 (k0_t2 : Fin k0_t2_loop.trips) : Fin 2 → Nat :=
  let c2048_i32_26 : BitVec 32 := 2048#32
  let c0_i32_22 : BitVec 32 := 0#32
  let c1_i32_24 : BitVec 32 := 1#32
  let arg6 : BitVec 32 := Scf.iv c0_i32_22 c1_i32_24 k0_t2
  let v53 : BitVec 32 := Scalar.subi c2048_i32_26 arg6
  let c1_i32_39 : BitVec 32 := 1#32
  let v79 : BitVec 32 := Scalar.subi v53 c1_i32_39
  let v80 : Index := Scalar.indexCast v79
  let c0_40 : Index := 0#32
  ![v80.toNat, 0]
abbrev stage0_0 : Fin 1 → Memref sig .tc .vmem S2048x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S40x2048x1 : Shape := ⟨3, ![40, 2048, 1]⟩
abbrev S2048x40 : Shape := ⟨2, ![2048, 40]⟩
abbrev S40x2048 : Shape := ⟨2, ![40, 2048]⟩
abbrev S_ : Shape := ⟨0, ![]⟩
abbrev S40x12 : Shape := ⟨2, ![40, 12]⟩
abbrev S1 : Shape := ⟨1, ![1]⟩
abbrev S40 : Shape := ⟨1, ![40]⟩
abbrev S2048x40x12 : Shape := ⟨3, ![2048, 40, 12]⟩
abbrev S1x40 : Shape := ⟨2, ![1, 40]⟩
abbrev S40x11 : Shape := ⟨2, ![40, 11]⟩
abbrev S40x1 : Shape := ⟨2, ![40, 1]⟩
abbrev S1x40x12 : Shape := ⟨3, ![1, 40, 12]⟩
abbrev S40x1x12 : Shape := ⟨3, ![40, 1, 12]⟩
abbrev S40x2048x12 : Shape := ⟨3, ![40, 2048, 12]⟩
abbrev S40x2049x12 : Shape := ⟨3, ![40, 2049, 12]⟩
abbrev S2048 : Shape := ⟨1, ![2048]⟩
abbrev S40x3 : Shape := ⟨2, ![40, 3]⟩
abbrev S2048x40x11 : Shape := ⟨3, ![2048, 40, 11]⟩
abbrev S1x40x11 : Shape := ⟨3, ![1, 40, 11]⟩
abbrev S40x1x1 : Shape := ⟨3, ![40, 1, 1]⟩

abbrev nBuf : Space → Nat
  | .hbm => 512
  | .vmem => 0
  | .smem => 0
  | _ => 0

abbrev hbmTy0_0 (i : Nat) : BufTy := match i % 128 with
  | 0 => ⟨S40x2048x1, .f32⟩
  | 1 => ⟨S2048x40, .f32⟩
  | 2 => ⟨S40x2048, .f32⟩
  | 3 => ⟨S40x2048, .f32⟩
  | 4 => ⟨S_, .f32⟩
  | 5 => ⟨S40x2048, .f32⟩
  | 6 => ⟨S40x2048, .f32⟩
  | 7 => ⟨S40x2048, .f32⟩
  | 8 => ⟨S40x2048, .f32⟩
  | 9 => ⟨S40x2048, .i1⟩
  | 10 => ⟨S40x2048, .f32⟩
  | 11 => ⟨S40x2048, .f32⟩
  | 12 => ⟨S40x2048, .f32⟩
  | 13 => ⟨S40x2048, .f32⟩
  | 14 => ⟨S40x2048, .f32⟩
  | 15 => ⟨S40x2048, .f32⟩
  | 16 => ⟨S40x2048, .f32⟩
  | 17 => ⟨S40x2048, .f32⟩
  | 18 => ⟨S40x2048, .f32⟩
  | 19 => ⟨S_, .f32⟩
  | 20 => ⟨S40x2048, .f32⟩
  | 21 => ⟨S40x2048, .f32⟩
  | 22 => ⟨S_, .f32⟩
  | 23 => ⟨S40x2048, .f32⟩
  | 24 => ⟨S40x2048, .i1⟩
  | 25 => ⟨S_, .f32⟩
  | 26 => ⟨S_, .f32⟩
  | 27 => ⟨S40x2048, .f32⟩
  | 28 => ⟨S40x2048, .f32⟩
  | 29 => ⟨S_, .f32⟩
  | 30 => ⟨S_, .f32⟩
  | 31 => ⟨S40x2048, .f32⟩
  | 32 => ⟨S40x2048, .f32⟩
  | 33 => ⟨S40x2048, .f32⟩
  | 34 => ⟨S40x2048, .f32⟩
  | 35 => ⟨S40x2048, .f32⟩
  | 36 => ⟨S40x2048, .f32⟩
  | 37 => ⟨S40x2048, .f32⟩
  | 38 => ⟨S40x2048, .f32⟩
  | 39 => ⟨S40x2048, .f32⟩
  | 40 => ⟨S_, .f32⟩
  | 41 => ⟨S40x12, .f32⟩
  | 42 => ⟨S_, .i32⟩
  | 43 => ⟨S1, .i32⟩
  | 44 => ⟨S_, .f32⟩
  | 45 => ⟨S40, .f32⟩
  | 46 => ⟨S40x12, .f32⟩
  | 47 => ⟨S2048x40, .f32⟩
  | 48 => ⟨S2048x40, .f32⟩
  | 49 => ⟨S_, .f32⟩
  | 50 => ⟨S2048x40x12, .f32⟩
  | 51 => ⟨S_, .i32⟩
  | 52 => ⟨S2048x40, .f32⟩
  | 53 => ⟨S2048x40, .f32⟩
  | 54 => ⟨S_, .i32⟩
  | 55 => ⟨S40x12, .f32⟩
  | 56 => ⟨S2048x40x12, .f32⟩
  | 57 => ⟨S_, .i32⟩
  | 58 => ⟨S_, .i1⟩
  | 59 => ⟨S_, .i32⟩
  | 60 => ⟨S1x40, .f32⟩
  | 61 => ⟨S40, .f32⟩
  | 62 => ⟨S_, .i32⟩
  | 63 => ⟨S1x40, .f32⟩
  | 64 => ⟨S40, .f32⟩
  | 65 => ⟨S40x11, .f32⟩
  | 66 => ⟨S40x1, .f32⟩
  | 67 => ⟨S40x11, .f32⟩
  | 68 => ⟨S40x11, .f32⟩
  | 69 => ⟨S40x11, .f32⟩
  | 70 => ⟨S40x1, .f32⟩
  | 71 => ⟨S40x11, .f32⟩
  | 72 => ⟨S40x11, .f32⟩
  | 73 => ⟨S40x11, .f32⟩
  | 74 => ⟨S40x11, .f32⟩
  | 75 => ⟨S40x11, .i1⟩
  | 76 => ⟨S40x11, .f32⟩
  | 77 => ⟨S40x11, .f32⟩
  | 78 => ⟨S40x11, .f32⟩
  | 79 => ⟨S40x11, .f32⟩
  | 80 => ⟨S40x11, .f32⟩
  | 81 => ⟨S40x11, .f32⟩
  | 82 => ⟨S40x11, .f32⟩
  | 83 => ⟨S_, .f32⟩
  | 84 => ⟨S40x1, .f32⟩
  | 85 => ⟨S40x12, .f32⟩
  | 86 => ⟨S1x40x12, .f32⟩
  | 87 => ⟨S_, .i32⟩
  | 88 => ⟨S_, .i32⟩
  | 89 => ⟨S2048x40x12, .f32⟩
  | 90 => ⟨S_, .i32⟩
  | 91 => ⟨S_, .i32⟩
  | 92 => ⟨S40x1x12, .f32⟩
  | 93 => ⟨S40x2048x12, .f32⟩
  | 94 => ⟨S40x2049x12, .f32⟩
  | 95 => ⟨S40, .i32⟩
  | 96 => ⟨S2048, .i32⟩
  | 97 => ⟨S_, .i32⟩
  | 98 => ⟨S2048, .i32⟩
  | 99 => ⟨S2048, .i32⟩
  | 100 => ⟨S_, .i32⟩
  | 101 => ⟨S2048, .i32⟩
  | 102 => ⟨S2048, .i32⟩
  | 103 => ⟨S_, .i32⟩
  | 104 => ⟨S40, .i32⟩
  | 105 => ⟨S_, .i32⟩
  | 106 => ⟨S2048x40, .i32⟩
  | 107 => ⟨S_, .i32⟩
  | 108 => ⟨S2048, .i32⟩
  | 109 => ⟨S2048x40, .f32⟩
  | 110 => ⟨S40, .i32⟩
  | 111 => ⟨S40x2049x12, .f32⟩
  | 112 => ⟨S40x2048, .f32⟩
  | 113 => ⟨S_, .i32⟩
  | 114 => ⟨S40, .i32⟩
  | 115 => ⟨S2048x40, .i32⟩
  | 116 => ⟨S_, .i32⟩
  | 117 => ⟨S_, .i1⟩
  | 118 => ⟨S1, .i32⟩
  | 119 => ⟨S_, .i32⟩
  | 120 => ⟨S_, .i32⟩
  | 121 => ⟨S1x40, .f32⟩
  | 122 => ⟨S40, .f32⟩
  | 123 => ⟨S_, .i32⟩
  | 124 => ⟨S40, .i32⟩
  | 125 => ⟨S_, .i32⟩
  | 126 => ⟨S_, .i32⟩
  | 127 => ⟨S40, .i32⟩
  | _ => ⟨S40x2048x1, .f32⟩

abbrev hbmTy0_1 (i : Nat) : BufTy := match i % 128 with
  | 0 => ⟨S40, .i32⟩
  | 1 => ⟨S_, .i32⟩
  | 2 => ⟨S40, .i32⟩
  | 3 => ⟨S40, .i32⟩
  | 4 => ⟨S_, .i32⟩
  | 5 => ⟨S40, .i32⟩
  | 6 => ⟨S40, .i32⟩
  | 7 => ⟨S_, .i32⟩
  | 8 => ⟨S40, .i32⟩
  | 9 => ⟨S40, .i1⟩
  | 10 => ⟨S_, .i32⟩
  | 11 => ⟨S40, .i32⟩
  | 12 => ⟨S40, .i32⟩
  | 13 => ⟨S40, .i32⟩
  | 14 => ⟨S_, .i32⟩
  | 15 => ⟨S40, .i32⟩
  | 16 => ⟨S40, .i1⟩
  | 17 => ⟨S_, .i32⟩
  | 18 => ⟨S40, .i32⟩
  | 19 => ⟨S40, .i32⟩
  | 20 => ⟨S40, .i32⟩
  | 21 => ⟨S_, .i32⟩
  | 22 => ⟨S40, .i32⟩
  | 23 => ⟨S40, .i1⟩
  | 24 => ⟨S_, .i32⟩
  | 25 => ⟨S40, .i32⟩
  | 26 => ⟨S40, .i32⟩
  | 27 => ⟨S40, .i32⟩
  | 28 => ⟨S40x1, .i32⟩
  | 29 => ⟨S40x1, .i32⟩
  | 30 => ⟨S40x1, .i32⟩
  | 31 => ⟨S40x3, .i32⟩
  | 32 => ⟨S40, .f32⟩
  | 33 => ⟨S_, .i32⟩
  | 34 => ⟨S40, .i32⟩
  | 35 => ⟨S40, .i32⟩
  | 36 => ⟨S_, .i32⟩
  | 37 => ⟨S40, .i32⟩
  | 38 => ⟨S40, .i32⟩
  | 39 => ⟨S_, .i32⟩
  | 40 => ⟨S40, .i32⟩
  | 41 => ⟨S40, .i1⟩
  | 42 => ⟨S_, .i32⟩
  | 43 => ⟨S40, .i32⟩
  | 44 => ⟨S40, .i32⟩
  | 45 => ⟨S40, .i32⟩
  | 46 => ⟨S_, .i32⟩
  | 47 => ⟨S40, .i32⟩
  | 48 => ⟨S40, .i1⟩
  | 49 => ⟨S_, .i32⟩
  | 50 => ⟨S40, .i32⟩
  | 51 => ⟨S40, .i32⟩
  | 52 => ⟨S40, .i32⟩
  | 53 => ⟨S_, .i32⟩
  | 54 => ⟨S40, .i32⟩
  | 55 => ⟨S40, .i1⟩
  | 56 => ⟨S_, .i32⟩
  | 57 => ⟨S40, .i32⟩
  | 58 => ⟨S40, .i32⟩
  | 59 => ⟨S40, .i32⟩
  | 60 => ⟨S40x1, .i32⟩
  | 61 => ⟨S40x1, .i32⟩
  | 62 => ⟨S40x1, .i32⟩
  | 63 => ⟨S40x3, .i32⟩
  | 64 => ⟨S40, .f32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S1, .i32⟩
  | 73 => ⟨S1, .i32⟩
  | 74 => ⟨S_, .i32⟩
  | 75 => ⟨S1, .i32⟩
  | 76 => ⟨S1, .i1⟩
  | 77 => ⟨S1, .i1⟩
  | 78 => ⟨S1, .i1⟩
  | 79 => ⟨S_, .i1⟩
  | 80 => ⟨S_, .i1⟩
  | 81 => ⟨S40, .f32⟩
  | 82 => ⟨S40, .i1⟩
  | 83 => ⟨S_, .f32⟩
  | 84 => ⟨S40, .f32⟩
  | 85 => ⟨S40, .f32⟩
  | 86 => ⟨S40, .f32⟩
  | 87 => ⟨S40, .f32⟩
  | 88 => ⟨S_, .f32⟩
  | 89 => ⟨S40, .f32⟩
  | 90 => ⟨S40, .f32⟩
  | 91 => ⟨S_, .f32⟩
  | 92 => ⟨S40, .f32⟩
  | 93 => ⟨S40, .i1⟩
  | 94 => ⟨S_, .f32⟩
  | 95 => ⟨S_, .f32⟩
  | 96 => ⟨S40, .f32⟩
  | 97 => ⟨S40, .f32⟩
  | 98 => ⟨S_, .f32⟩
  | 99 => ⟨S_, .f32⟩
  | 100 => ⟨S40, .f32⟩
  | 101 => ⟨S40, .f32⟩
  | 102 => ⟨S40, .f32⟩
  | 103 => ⟨S40, .f32⟩
  | 104 => ⟨S40, .f32⟩
  | 105 => ⟨S40, .f32⟩
  | 106 => ⟨S40, .f32⟩
  | 107 => ⟨S40, .f32⟩
  | 108 => ⟨S40, .f32⟩
  | 109 => ⟨S40, .f32⟩
  | 110 => ⟨S40, .f32⟩
  | 111 => ⟨S40, .f32⟩
  | 112 => ⟨S_, .f32⟩
  | 113 => ⟨S40, .f32⟩
  | 114 => ⟨S40, .f32⟩
  | 115 => ⟨S_, .f32⟩
  | 116 => ⟨S40, .f32⟩
  | 117 => ⟨S40, .f32⟩
  | 118 => ⟨S40, .i1⟩
  | 119 => ⟨S40, .i32⟩
  | 120 => ⟨S_, .i32⟩
  | 121 => ⟨S40, .i32⟩
  | 122 => ⟨S40, .i1⟩
  | 123 => ⟨S_, .i32⟩
  | 124 => ⟨S40, .i32⟩
  | 125 => ⟨S40, .i32⟩
  | 126 => ⟨S40, .i32⟩
  | 127 => ⟨S1x40, .i32⟩
  | _ => ⟨S40x2048x1, .f32⟩

abbrev hbmTy0_2 (i : Nat) : BufTy := match i % 128 with
  | 0 => ⟨S_, .i32⟩
  | 1 => ⟨S2048x40, .i32⟩
  | 2 => ⟨S_, .i32⟩
  | 3 => ⟨S_, .i32⟩
  | 4 => ⟨S2048x40, .i32⟩
  | 5 => ⟨S40x2048, .i32⟩
  | 6 => ⟨S40x2048, .f32⟩
  | 7 => ⟨S40x2048, .f32⟩
  | 8 => ⟨S_, .f32⟩
  | 9 => ⟨S40x2048, .f32⟩
  | 10 => ⟨S40x2048, .f32⟩
  | 11 => ⟨S40x2048, .f32⟩
  | 12 => ⟨S40x2048, .f32⟩
  | 13 => ⟨S40x2048, .i1⟩
  | 14 => ⟨S40x2048, .f32⟩
  | 15 => ⟨S40x2048, .f32⟩
  | 16 => ⟨S40x2048, .f32⟩
  | 17 => ⟨S40x2048, .f32⟩
  | 18 => ⟨S40x2048, .f32⟩
  | 19 => ⟨S40x2048, .f32⟩
  | 20 => ⟨S40x2048, .f32⟩
  | 21 => ⟨S40x2048, .f32⟩
  | 22 => ⟨S40x2048, .f32⟩
  | 23 => ⟨S_, .f32⟩
  | 24 => ⟨S40x2048, .f32⟩
  | 25 => ⟨S40x2048, .f32⟩
  | 26 => ⟨S_, .f32⟩
  | 27 => ⟨S40x2048, .f32⟩
  | 28 => ⟨S40x2048, .i1⟩
  | 29 => ⟨S_, .f32⟩
  | 30 => ⟨S_, .f32⟩
  | 31 => ⟨S40x2048, .f32⟩
  | 32 => ⟨S40x2048, .f32⟩
  | 33 => ⟨S_, .f32⟩
  | 34 => ⟨S40x2048, .f32⟩
  | 35 => ⟨S_, .f32⟩
  | 36 => ⟨S_, .f32⟩
  | 37 => ⟨S40x2048, .f32⟩
  | 38 => ⟨S40x2048, .f32⟩
  | 39 => ⟨S_, .f32⟩
  | 40 => ⟨S40x2048, .f32⟩
  | 41 => ⟨S40x2048, .f32⟩
  | 42 => ⟨S40x2048, .f32⟩
  | 43 => ⟨S40x2048, .f32⟩
  | 44 => ⟨S40x2048, .f32⟩
  | 45 => ⟨S40x2048, .f32⟩
  | 46 => ⟨S40x2048, .f32⟩
  | 47 => ⟨S40x2048, .f32⟩
  | 48 => ⟨S_, .f32⟩
  | 49 => ⟨S40x2048, .f32⟩
  | 50 => ⟨S40x2048, .f32⟩
  | 51 => ⟨S40x2048, .f32⟩
  | 52 => ⟨S_, .f32⟩
  | 53 => ⟨S40x12, .f32⟩
  | 54 => ⟨S_, .i32⟩
  | 55 => ⟨S1, .i32⟩
  | 56 => ⟨S_, .f32⟩
  | 57 => ⟨S40, .f32⟩
  | 58 => ⟨S40x12, .f32⟩
  | 59 => ⟨S2048x40, .f32⟩
  | 60 => ⟨S2048x40, .f32⟩
  | 61 => ⟨S_, .f32⟩
  | 62 => ⟨S40x11, .f32⟩
  | 63 => ⟨S_, .f32⟩
  | 64 => ⟨S40x11, .f32⟩
  | 65 => ⟨S_, .f32⟩
  | 66 => ⟨S40x11, .f32⟩
  | 67 => ⟨S_, .f32⟩
  | 68 => ⟨S40x11, .f32⟩
  | 69 => ⟨S_, .f32⟩
  | 70 => ⟨S40x1, .f32⟩
  | 71 => ⟨S_, .f32⟩
  | 72 => ⟨S40x1, .f32⟩
  | 73 => ⟨S_, .f32⟩
  | 74 => ⟨S2048x40x12, .f32⟩
  | 75 => ⟨S_, .f32⟩
  | 76 => ⟨S2048x40x11, .f32⟩
  | 77 => ⟨S_, .f32⟩
  | 78 => ⟨S2048x40x11, .f32⟩
  | 79 => ⟨S_, .i32⟩
  | 80 => ⟨S2048x40, .f32⟩
  | 81 => ⟨S2048x40, .f32⟩
  | 82 => ⟨S40x1, .f32⟩
  | 83 => ⟨S40x11, .f32⟩
  | 84 => ⟨S40x11, .f32⟩
  | 85 => ⟨S40x11, .f32⟩
  | 86 => ⟨S40x11, .f32⟩
  | 87 => ⟨S_, .i32⟩
  | 88 => ⟨S40x12, .f32⟩
  | 89 => ⟨S2048x40x12, .f32⟩
  | 90 => ⟨S2048x40x11, .f32⟩
  | 91 => ⟨S2048x40x11, .f32⟩
  | 92 => ⟨S_, .i32⟩
  | 93 => ⟨S_, .i1⟩
  | 94 => ⟨S_, .i32⟩
  | 95 => ⟨S1x40, .f32⟩
  | 96 => ⟨S40, .f32⟩
  | 97 => ⟨S_, .i32⟩
  | 98 => ⟨S1x40, .f32⟩
  | 99 => ⟨S40, .f32⟩
  | 100 => ⟨S40x11, .f32⟩
  | 101 => ⟨S40x1, .f32⟩
  | 102 => ⟨S40x11, .f32⟩
  | 103 => ⟨S40x11, .f32⟩
  | 104 => ⟨S40x11, .f32⟩
  | 105 => ⟨S40x1, .f32⟩
  | 106 => ⟨S40x11, .f32⟩
  | 107 => ⟨S40x11, .f32⟩
  | 108 => ⟨S40x11, .f32⟩
  | 109 => ⟨S40x11, .f32⟩
  | 110 => ⟨S40x11, .i1⟩
  | 111 => ⟨S40x11, .f32⟩
  | 112 => ⟨S40x11, .f32⟩
  | 113 => ⟨S40x11, .f32⟩
  | 114 => ⟨S40x11, .f32⟩
  | 115 => ⟨S40x11, .f32⟩
  | 116 => ⟨S40x11, .f32⟩
  | 117 => ⟨S40x11, .f32⟩
  | 118 => ⟨S_, .f32⟩
  | 119 => ⟨S40x11, .f32⟩
  | 120 => ⟨S40x11, .i1⟩
  | 121 => ⟨S40x11, .f32⟩
  | 122 => ⟨S_, .f32⟩
  | 123 => ⟨S40x11, .f32⟩
  | 124 => ⟨S40x11, .i1⟩
  | 125 => ⟨S40x11, .f32⟩
  | 126 => ⟨S40x11, .f32⟩
  | 127 => ⟨S40x11, .f32⟩
  | _ => ⟨S40x2048x1, .f32⟩

abbrev hbmTy0_3 (i : Nat) : BufTy := match i % 128 with
  | 0 => ⟨S_, .f32⟩
  | 1 => ⟨S40x11, .f32⟩
  | 2 => ⟨S40x11, .i1⟩
  | 3 => ⟨S40x11, .f32⟩
  | 4 => ⟨S_, .f32⟩
  | 5 => ⟨S40x11, .f32⟩
  | 6 => ⟨S40x11, .i1⟩
  | 7 => ⟨S40x11, .f32⟩
  | 8 => ⟨S40x11, .f32⟩
  | 9 => ⟨S40x11, .f32⟩
  | 10 => ⟨S40x12, .f32⟩
  | 11 => ⟨S1x40x12, .f32⟩
  | 12 => ⟨S_, .i32⟩
  | 13 => ⟨S_, .i32⟩
  | 14 => ⟨S2048x40x12, .f32⟩
  | 15 => ⟨S1x40x11, .f32⟩
  | 16 => ⟨S_, .i32⟩
  | 17 => ⟨S_, .i32⟩
  | 18 => ⟨S2048x40x11, .f32⟩
  | 19 => ⟨S1x40x11, .f32⟩
  | 20 => ⟨S_, .i32⟩
  | 21 => ⟨S_, .i32⟩
  | 22 => ⟨S2048x40x11, .f32⟩
  | 23 => ⟨S_, .i32⟩
  | 24 => ⟨S_, .i32⟩
  | 25 => ⟨S40x1x12, .f32⟩
  | 26 => ⟨S40x2048x12, .f32⟩
  | 27 => ⟨S40x2049x12, .f32⟩
  | 28 => ⟨S_, .f32⟩
  | 29 => ⟨S40x1x12, .f32⟩
  | 30 => ⟨S40x1x1, .f32⟩
  | 31 => ⟨S40, .f32⟩
  | 32 => ⟨S_, .f32⟩
  | 33 => ⟨S_, .f32⟩
  | 34 => ⟨S_, .f32⟩
  | 35 => ⟨S40x12, .f32⟩
  | 36 => ⟨S_, .f32⟩
  | 37 => ⟨S40, .f32⟩
  | 38 => ⟨S40x1x1, .f32⟩
  | 39 => ⟨S_, .f32⟩
  | 40 => ⟨S40x2049x12, .f32⟩
  | 41 => ⟨S40x1x12, .f32⟩
  | 42 => ⟨S40x2048x12, .f32⟩
  | 43 => ⟨S2048x40x12, .f32⟩
  | 44 => ⟨S_, .f32⟩
  | 45 => ⟨S40x12, .f32⟩
  | 46 => ⟨S_, .f32⟩
  | 47 => ⟨S2048x40, .f32⟩
  | 48 => ⟨S_, .f32⟩
  | 49 => ⟨S2048x40, .f32⟩
  | 50 => ⟨S_, .i32⟩
  | 51 => ⟨S2048x40x12, .f32⟩
  | 52 => ⟨S2048x40x11, .f32⟩
  | 53 => ⟨S2048x40x11, .f32⟩
  | 54 => ⟨S40x1, .f32⟩
  | 55 => ⟨S_, .i32⟩
  | 56 => ⟨S40x12, .f32⟩
  | 57 => ⟨S2048x40, .f32⟩
  | 58 => ⟨S2048x40, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S1x40x12, .f32⟩
  | 68 => ⟨S40x12, .f32⟩
  | 69 => ⟨S_, .i32⟩
  | 70 => ⟨S_, .i32⟩
  | 71 => ⟨S1x40x11, .f32⟩
  | 72 => ⟨S40x11, .f32⟩
  | 73 => ⟨S_, .i32⟩
  | 74 => ⟨S_, .i32⟩
  | 75 => ⟨S1x40x11, .f32⟩
  | 76 => ⟨S40x11, .f32⟩
  | 77 => ⟨S40x12, .f32⟩
  | 78 => ⟨S40x1, .f32⟩
  | 79 => ⟨S40x11, .f32⟩
  | 80 => ⟨S40x11, .f32⟩
  | 81 => ⟨S40x11, .f32⟩
  | 82 => ⟨S_, .f32⟩
  | 83 => ⟨S40, .f32⟩
  | 84 => ⟨S40x1, .f32⟩
  | 85 => ⟨S_, .f32⟩
  | 86 => ⟨S40, .f32⟩
  | 87 => ⟨S_, .f32⟩
  | 88 => ⟨S40x12, .f32⟩
  | 89 => ⟨S_, .f32⟩
  | 90 => ⟨S40, .f32⟩
  | 91 => ⟨S40x1, .f32⟩
  | 92 => ⟨S_, .f32⟩
  | 93 => ⟨S40, .f32⟩
  | 94 => ⟨S_, .f32⟩
  | 95 => ⟨S40x12, .f32⟩
  | 96 => ⟨S40x12, .f32⟩
  | 97 => ⟨S1x40, .f32⟩
  | 98 => ⟨S_, .i32⟩
  | 99 => ⟨S2048x40, .f32⟩
  | 100 => ⟨S1x40, .f32⟩
  | 101 => ⟨S_, .i32⟩
  | 102 => ⟨S2048x40, .f32⟩
  | 103 => ⟨S_, .i32⟩
  | 104 => ⟨S_, .i32⟩
  | 105 => ⟨S40x2048, .f32⟩
  | 106 => ⟨S40x2048, .f32⟩
  | 107 => ⟨S_, .f32⟩
  | 108 => ⟨S40x2048, .f32⟩
  | 109 => ⟨S40x2048, .f32⟩
  | 110 => ⟨S40x2048, .f32⟩
  | 111 => ⟨S40x2048, .f32⟩
  | 112 => ⟨S40x2048, .f32⟩
  | 113 => ⟨S40x2048, .f32⟩
  | 114 => ⟨S40x2048, .f32⟩
  | 115 => ⟨S40x2048, .f32⟩
  | 116 => ⟨S40x2048, .f32⟩
  | 117 => ⟨S_, .f32⟩
  | 118 => ⟨S40x2048, .f32⟩
  | 119 => ⟨S40x2048, .f32⟩
  | 120 => ⟨S40x2048, .f32⟩
  | 121 => ⟨S_, .f32⟩
  | 122 => ⟨S40x2048, .f32⟩
  | 123 => ⟨S40x2048, .f32⟩
  | 124 => ⟨S40x2048, .f32⟩
  | 125 => ⟨S40x2048, .f32⟩
  | 126 => ⟨S40x2048, .f32⟩
  | 127 => ⟨S40x2048x1, .f32⟩
  | _ => ⟨S40x2048x1, .f32⟩

abbrev hbmTy (i : Nat) : BufTy := match i / 128 with
  | 0 => hbmTy0_0 i
  | 1 => hbmTy0_1 i
  | 2 => hbmTy0_2 i
  | 3 => hbmTy0_3 i
  | _ => ⟨S40x2048x1, .f32⟩

abbrev bufTy : (tb : Table) → Fin (tcTables nBuf tb) → BufTy
  | .hbm, ⟨i, _⟩ => hbmTy i
  | _, _ => ⟨S40x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_v11 : Ref sig .tc := ⟨.hbm, 16, rfl⟩
abbrev main_call0_v1 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_v6 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_4 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_cst_5 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_6 : Ref sig .tc := ⟨.hbm, 49, rfl⟩
abbrev main_v21 : Ref sig .tc := ⟨.hbm, 50, rfl⟩
abbrev main_c_7 : Ref sig .tc := ⟨.hbm, 51, rfl⟩
abbrev main_v22_0 : Ref sig .tc := ⟨.hbm, 52, rfl⟩
abbrev main_v22_1 : Ref sig .tc := ⟨.hbm, 53, rfl⟩
abbrev main_v22_2 : Ref sig .tc := ⟨.hbm, 54, rfl⟩
abbrev main_v22_3 : Ref sig .tc := ⟨.hbm, 55, rfl⟩
abbrev main_v22_4 : Ref sig .tc := ⟨.hbm, 56, rfl⟩
abbrev main_while0c_c_44 : Ref sig .tc := ⟨.hbm, 57, rfl⟩
abbrev main_while0c_v105 : Ref sig .tc := ⟨.hbm, 58, rfl⟩
abbrev main_while0b_call4_c : Ref sig .tc := ⟨.hbm, 59, rfl⟩
abbrev main_while0b_call4_v0 : Ref sig .tc := ⟨.hbm, 60, rfl⟩
abbrev main_while0b_v105 : Ref sig .tc := ⟨.hbm, 61, rfl⟩
abbrev main_while0b_call5_c : Ref sig .tc := ⟨.hbm, 62, rfl⟩
abbrev main_while0b_call5_v0 : Ref sig .tc := ⟨.hbm, 63, rfl⟩
abbrev main_while0b_v106 : Ref sig .tc := ⟨.hbm, 64, rfl⟩
abbrev main_while0b_v107 : Ref sig .tc := ⟨.hbm, 65, rfl⟩
abbrev main_while0b_v108 : Ref sig .tc := ⟨.hbm, 66, rfl⟩
abbrev main_while0b_v109 : Ref sig .tc := ⟨.hbm, 67, rfl⟩
abbrev main_while0b_v110 : Ref sig .tc := ⟨.hbm, 68, rfl⟩
abbrev main_while0b_v111 : Ref sig .tc := ⟨.hbm, 69, rfl⟩
abbrev main_while0b_v112 : Ref sig .tc := ⟨.hbm, 70, rfl⟩
abbrev main_while0b_v113 : Ref sig .tc := ⟨.hbm, 71, rfl⟩
abbrev main_while0b_v114 : Ref sig .tc := ⟨.hbm, 72, rfl⟩
abbrev main_while0b_v115 : Ref sig .tc := ⟨.hbm, 73, rfl⟩
abbrev main_while0b_v116 : Ref sig .tc := ⟨.hbm, 74, rfl⟩
abbrev main_while0b_v117 : Ref sig .tc := ⟨.hbm, 75, rfl⟩
abbrev main_while0b_v118 : Ref sig .tc := ⟨.hbm, 76, rfl⟩
abbrev main_while0b_v119 : Ref sig .tc := ⟨.hbm, 77, rfl⟩
abbrev main_while0b_v120 : Ref sig .tc := ⟨.hbm, 78, rfl⟩
abbrev main_while0b_v121 : Ref sig .tc := ⟨.hbm, 79, rfl⟩
abbrev main_while0b_v122 : Ref sig .tc := ⟨.hbm, 80, rfl⟩
abbrev main_while0b_v123 : Ref sig .tc := ⟨.hbm, 81, rfl⟩
abbrev main_while0b_v124 : Ref sig .tc := ⟨.hbm, 82, rfl⟩
abbrev main_while0b_cst_44 : Ref sig .tc := ⟨.hbm, 83, rfl⟩
abbrev main_while0b_v125 : Ref sig .tc := ⟨.hbm, 84, rfl⟩
abbrev main_while0b_v126 : Ref sig .tc := ⟨.hbm, 85, rfl⟩
abbrev main_while0b_call6_v0 : Ref sig .tc := ⟨.hbm, 86, rfl⟩
abbrev main_while0b_call6_c : Ref sig .tc := ⟨.hbm, 87, rfl⟩
abbrev main_while0b_call6_c_0 : Ref sig .tc := ⟨.hbm, 88, rfl⟩
abbrev main_while0b_v127 : Ref sig .tc := ⟨.hbm, 89, rfl⟩
abbrev main_while0b_c_45 : Ref sig .tc := ⟨.hbm, 90, rfl⟩
abbrev main_while0b_v128 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_c_8 : Ref sig .tc := ⟨.hbm, 97, rfl⟩
abbrev main_v28 : Ref sig .tc := ⟨.hbm, 98, rfl⟩
abbrev main_v29 : Ref sig .tc := ⟨.hbm, 99, rfl⟩
abbrev main_c_9 : Ref sig .tc := ⟨.hbm, 100, rfl⟩
abbrev main_v30 : Ref sig .tc := ⟨.hbm, 101, rfl⟩
abbrev main_v31 : Ref sig .tc := ⟨.hbm, 102, rfl⟩
abbrev main_c_10 : Ref sig .tc := ⟨.hbm, 103, rfl⟩
abbrev main_v32 : Ref sig .tc := ⟨.hbm, 104, rfl⟩
abbrev main_c_11 : Ref sig .tc := ⟨.hbm, 105, rfl⟩
abbrev main_v33 : Ref sig .tc := ⟨.hbm, 106, rfl⟩
abbrev main_c_12 : Ref sig .tc := ⟨.hbm, 107, rfl⟩
abbrev main_v34_0 : Ref sig .tc := ⟨.hbm, 108, rfl⟩
abbrev main_v34_1 : Ref sig .tc := ⟨.hbm, 109, rfl⟩
abbrev main_v34_2 : Ref sig .tc := ⟨.hbm, 110, rfl⟩
abbrev main_v34_3 : Ref sig .tc := ⟨.hbm, 111, rfl⟩
abbrev main_v34_4 : Ref sig .tc := ⟨.hbm, 112, rfl⟩
abbrev main_v34_5 : Ref sig .tc := ⟨.hbm, 113, rfl⟩
abbrev main_v34_6 : Ref sig .tc := ⟨.hbm, 114, rfl⟩
abbrev main_v34_7 : Ref sig .tc := ⟨.hbm, 115, rfl⟩
abbrev main_while1c_c_47 : Ref sig .tc := ⟨.hbm, 116, rfl⟩
abbrev main_while1c_v105 : Ref sig .tc := ⟨.hbm, 117, rfl⟩
abbrev main_while1b_call7_v0 : Ref sig .tc := ⟨.hbm, 118, rfl⟩
abbrev main_while1b_v105 : Ref sig .tc := ⟨.hbm, 119, rfl⟩
abbrev main_while1b_call8_c : Ref sig .tc := ⟨.hbm, 120, rfl⟩
abbrev main_while1b_call8_v0 : Ref sig .tc := ⟨.hbm, 121, rfl⟩
abbrev main_while1b_v106 : Ref sig .tc := ⟨.hbm, 122, rfl⟩
abbrev main_while1b_c_47 : Ref sig .tc := ⟨.hbm, 123, rfl⟩
abbrev main_while1b_v107 : Ref sig .tc := ⟨.hbm, 124, rfl⟩
abbrev main_while1b_c_48 : Ref sig .tc := ⟨.hbm, 125, rfl⟩
abbrev main_while1b_v108 : Ref sig .tc := ⟨.hbm, 126, rfl⟩
abbrev main_while1b_v109 : Ref sig .tc := ⟨.hbm, 127, rfl⟩
abbrev main_while1b_v110 : Ref sig .tc := ⟨.hbm, 128, rfl⟩
abbrev main_while1b_c_49 : Ref sig .tc := ⟨.hbm, 129, rfl⟩
abbrev main_while1b_v111 : Ref sig .tc := ⟨.hbm, 130, rfl⟩
abbrev main_while1b_v112 : Ref sig .tc := ⟨.hbm, 131, rfl⟩
abbrev main_while1b_c_50 : Ref sig .tc := ⟨.hbm, 132, rfl⟩
abbrev main_while1b_v113 : Ref sig .tc := ⟨.hbm, 133, rfl⟩
abbrev main_while1b_v114 : Ref sig .tc := ⟨.hbm, 134, rfl⟩
abbrev main_while1b_c_51 : Ref sig .tc := ⟨.hbm, 135, rfl⟩
abbrev main_while1b_v115 : Ref sig .tc := ⟨.hbm, 136, rfl⟩
abbrev main_while1b_v116 : Ref sig .tc := ⟨.hbm, 137, rfl⟩
abbrev main_while1b_c_52 : Ref sig .tc := ⟨.hbm, 138, rfl⟩
abbrev main_while1b_v117 : Ref sig .tc := ⟨.hbm, 139, rfl⟩
abbrev main_while1b_v118 : Ref sig .tc := ⟨.hbm, 140, rfl⟩
abbrev main_while1b_v119 : Ref sig .tc := ⟨.hbm, 141, rfl⟩
abbrev main_while1b_c_53 : Ref sig .tc := ⟨.hbm, 142, rfl⟩
abbrev main_while1b_v120 : Ref sig .tc := ⟨.hbm, 143, rfl⟩
abbrev main_while1b_v121 : Ref sig .tc := ⟨.hbm, 144, rfl⟩
abbrev main_while1b_c_54 : Ref sig .tc := ⟨.hbm, 145, rfl⟩
abbrev main_while1b_v122 : Ref sig .tc := ⟨.hbm, 146, rfl⟩
abbrev main_while1b_v123 : Ref sig .tc := ⟨.hbm, 147, rfl⟩
abbrev main_while1b_v124 : Ref sig .tc := ⟨.hbm, 148, rfl⟩
abbrev main_while1b_c_55 : Ref sig .tc := ⟨.hbm, 149, rfl⟩
abbrev main_while1b_v125 : Ref sig .tc := ⟨.hbm, 150, rfl⟩
abbrev main_while1b_v126 : Ref sig .tc := ⟨.hbm, 151, rfl⟩
abbrev main_while1b_c_56 : Ref sig .tc := ⟨.hbm, 152, rfl⟩
abbrev main_while1b_v127 : Ref sig .tc := ⟨.hbm, 153, rfl⟩
abbrev main_while1b_v128 : Ref sig .tc := ⟨.hbm, 154, rfl⟩
abbrev main_while1b_v129 : Ref sig .tc := ⟨.hbm, 155, rfl⟩
abbrev main_while1b_v130 : Ref sig .tc := ⟨.hbm, 156, rfl⟩
abbrev main_while1b_v131 : Ref sig .tc := ⟨.hbm, 157, rfl⟩
abbrev main_while1b_v132 : Ref sig .tc := ⟨.hbm, 158, rfl⟩
abbrev main_while1b_v133 : Ref sig .tc := ⟨.hbm, 159, rfl⟩
abbrev main_while1b_v134 : Ref sig .tc := ⟨.hbm, 160, rfl⟩
abbrev main_while1b_c_57 : Ref sig .tc := ⟨.hbm, 161, rfl⟩
abbrev main_while1b_v135 : Ref sig .tc := ⟨.hbm, 162, rfl⟩
abbrev main_while1b_v136 : Ref sig .tc := ⟨.hbm, 163, rfl⟩
abbrev main_while1b_c_58 : Ref sig .tc := ⟨.hbm, 164, rfl⟩
abbrev main_while1b_v137 : Ref sig .tc := ⟨.hbm, 165, rfl⟩
abbrev main_while1b_v138 : Ref sig .tc := ⟨.hbm, 166, rfl⟩
abbrev main_while1b_c_59 : Ref sig .tc := ⟨.hbm, 167, rfl⟩
abbrev main_while1b_v139 : Ref sig .tc := ⟨.hbm, 168, rfl⟩
abbrev main_while1b_v140 : Ref sig .tc := ⟨.hbm, 169, rfl⟩
abbrev main_while1b_c_60 : Ref sig .tc := ⟨.hbm, 170, rfl⟩
abbrev main_while1b_v141 : Ref sig .tc := ⟨.hbm, 171, rfl⟩
abbrev main_while1b_v142 : Ref sig .tc := ⟨.hbm, 172, rfl⟩
abbrev main_while1b_v143 : Ref sig .tc := ⟨.hbm, 173, rfl⟩
abbrev main_while1b_c_61 : Ref sig .tc := ⟨.hbm, 174, rfl⟩
abbrev main_while1b_v144 : Ref sig .tc := ⟨.hbm, 175, rfl⟩
abbrev main_while1b_v145 : Ref sig .tc := ⟨.hbm, 176, rfl⟩
abbrev main_while1b_c_62 : Ref sig .tc := ⟨.hbm, 177, rfl⟩
abbrev main_while1b_v146 : Ref sig .tc := ⟨.hbm, 178, rfl⟩
abbrev main_while1b_v147 : Ref sig .tc := ⟨.hbm, 179, rfl⟩
abbrev main_while1b_v148 : Ref sig .tc := ⟨.hbm, 180, rfl⟩
abbrev main_while1b_c_63 : Ref sig .tc := ⟨.hbm, 181, rfl⟩
abbrev main_while1b_v149 : Ref sig .tc := ⟨.hbm, 182, rfl⟩
abbrev main_while1b_v150 : Ref sig .tc := ⟨.hbm, 183, rfl⟩
abbrev main_while1b_c_64 : Ref sig .tc := ⟨.hbm, 184, rfl⟩
abbrev main_while1b_v151 : Ref sig .tc := ⟨.hbm, 185, rfl⟩
abbrev main_while1b_v152 : Ref sig .tc := ⟨.hbm, 186, rfl⟩
abbrev main_while1b_v153 : Ref sig .tc := ⟨.hbm, 187, rfl⟩
abbrev main_while1b_v154 : Ref sig .tc := ⟨.hbm, 188, rfl⟩
abbrev main_while1b_v155 : Ref sig .tc := ⟨.hbm, 189, rfl⟩
abbrev main_while1b_v156 : Ref sig .tc := ⟨.hbm, 190, rfl⟩
abbrev main_while1b_v157 : Ref sig .tc := ⟨.hbm, 191, rfl⟩
abbrev main_while1b_v158 : Ref sig .tc := ⟨.hbm, 192, rfl⟩
abbrev main_while1b_c_65 : Ref sig .tc := ⟨.hbm, 193, rfl⟩
abbrev main_while1b_v159 : Ref sig .tc := ⟨.hbm, 194, rfl⟩
abbrev main_while1b_call9_c : Ref sig .tc := ⟨.hbm, 195, rfl⟩
abbrev main_while1b_call9_v0 : Ref sig .tc := ⟨.hbm, 196, rfl⟩
abbrev main_while1b_call9_c_0 : Ref sig .tc := ⟨.hbm, 197, rfl⟩
abbrev main_while1b_call9_v1 : Ref sig .tc := ⟨.hbm, 198, rfl⟩
abbrev main_while1b_call9_v2 : Ref sig .tc := ⟨.hbm, 199, rfl⟩
abbrev main_while1b_call9_v3 : Ref sig .tc := ⟨.hbm, 200, rfl⟩
abbrev main_while1b_call9_c_1 : Ref sig .tc := ⟨.hbm, 201, rfl⟩
abbrev main_while1b_call9_c_2 : Ref sig .tc := ⟨.hbm, 202, rfl⟩
abbrev main_while1b_call9_v4 : Ref sig .tc := ⟨.hbm, 203, rfl⟩
abbrev main_while1b_call9_v5 : Ref sig .tc := ⟨.hbm, 204, rfl⟩
abbrev main_while1b_call9_v6 : Ref sig .tc := ⟨.hbm, 205, rfl⟩
abbrev main_while1b_call9_v7 : Ref sig .tc := ⟨.hbm, 206, rfl⟩
abbrev main_while1b_call9_c_3 : Ref sig .tc := ⟨.hbm, 207, rfl⟩
abbrev main_while1b_call9_v8 : Ref sig .tc := ⟨.hbm, 208, rfl⟩
abbrev main_while1b_call9_v9 : Ref sig .tc := ⟨.hbm, 209, rfl⟩
abbrev main_while1b_call9_v10 : Ref sig .tc := ⟨.hbm, 210, rfl⟩
abbrev main_while1b_call9_cst : Ref sig .tc := ⟨.hbm, 211, rfl⟩
abbrev main_while1b_call9_v11 : Ref sig .tc := ⟨.hbm, 212, rfl⟩
abbrev main_while1b_v160 : Ref sig .tc := ⟨.hbm, 213, rfl⟩
abbrev main_while1b_v161 : Ref sig .tc := ⟨.hbm, 214, rfl⟩
abbrev main_while1b_v162 : Ref sig .tc := ⟨.hbm, 215, rfl⟩
abbrev main_while1b_cst_66 : Ref sig .tc := ⟨.hbm, 216, rfl⟩
abbrev main_while1b_v163 : Ref sig .tc := ⟨.hbm, 217, rfl⟩
abbrev main_while1b_v164 : Ref sig .tc := ⟨.hbm, 218, rfl⟩
abbrev main_while1b_cst_67 : Ref sig .tc := ⟨.hbm, 219, rfl⟩
abbrev main_while1b_v165 : Ref sig .tc := ⟨.hbm, 220, rfl⟩
abbrev main_while1b_v166 : Ref sig .tc := ⟨.hbm, 221, rfl⟩
abbrev main_while1b_cst_68 : Ref sig .tc := ⟨.hbm, 222, rfl⟩
abbrev main_while1b_call10_v0 : Ref sig .tc := ⟨.hbm, 223, rfl⟩
abbrev main_while1b_call10_v1 : Ref sig .tc := ⟨.hbm, 224, rfl⟩
abbrev main_while1b_v167 : Ref sig .tc := ⟨.hbm, 225, rfl⟩
abbrev main_while1b_cst_69 : Ref sig .tc := ⟨.hbm, 226, rfl⟩
abbrev main_while1b_call11_v0 : Ref sig .tc := ⟨.hbm, 227, rfl⟩
abbrev main_while1b_call11_v1 : Ref sig .tc := ⟨.hbm, 228, rfl⟩
abbrev main_while1b_v168 : Ref sig .tc := ⟨.hbm, 229, rfl⟩
abbrev main_while1b_v169 : Ref sig .tc := ⟨.hbm, 230, rfl⟩
abbrev main_while1b_v170 : Ref sig .tc := ⟨.hbm, 231, rfl⟩
abbrev main_while1b_v171 : Ref sig .tc := ⟨.hbm, 232, rfl⟩
abbrev main_while1b_v172 : Ref sig .tc := ⟨.hbm, 233, rfl⟩
abbrev main_while1b_v173 : Ref sig .tc := ⟨.hbm, 234, rfl⟩
abbrev main_while1b_v174 : Ref sig .tc := ⟨.hbm, 235, rfl⟩
abbrev main_while1b_v175 : Ref sig .tc := ⟨.hbm, 236, rfl⟩
abbrev main_while1b_v176 : Ref sig .tc := ⟨.hbm, 237, rfl⟩
abbrev main_while1b_v177 : Ref sig .tc := ⟨.hbm, 238, rfl⟩
abbrev main_while1b_v178 : Ref sig .tc := ⟨.hbm, 239, rfl⟩
abbrev main_while1b_cst_70 : Ref sig .tc := ⟨.hbm, 240, rfl⟩
abbrev main_while1b_v179 : Ref sig .tc := ⟨.hbm, 241, rfl⟩
abbrev main_while1b_v180 : Ref sig .tc := ⟨.hbm, 242, rfl⟩
abbrev main_while1b_cst_71 : Ref sig .tc := ⟨.hbm, 243, rfl⟩
abbrev main_while1b_v181 : Ref sig .tc := ⟨.hbm, 244, rfl⟩
abbrev main_while1b_v182 : Ref sig .tc := ⟨.hbm, 245, rfl⟩
abbrev main_while1b_v183 : Ref sig .tc := ⟨.hbm, 246, rfl⟩
abbrev main_while1b_v184 : Ref sig .tc := ⟨.hbm, 247, rfl⟩
abbrev main_while1b_c_72 : Ref sig .tc := ⟨.hbm, 248, rfl⟩
abbrev main_while1b_v185 : Ref sig .tc := ⟨.hbm, 249, rfl⟩
abbrev main_while1b_v186 : Ref sig .tc := ⟨.hbm, 250, rfl⟩
abbrev main_while1b_c_73 : Ref sig .tc := ⟨.hbm, 251, rfl⟩
abbrev main_while1b_v187 : Ref sig .tc := ⟨.hbm, 252, rfl⟩
abbrev main_while1b_v188 : Ref sig .tc := ⟨.hbm, 253, rfl⟩
abbrev main_while1b_v189 : Ref sig .tc := ⟨.hbm, 254, rfl⟩
abbrev main_while1b_call14_v0 : Ref sig .tc := ⟨.hbm, 255, rfl⟩
abbrev main_while1b_call14_c : Ref sig .tc := ⟨.hbm, 256, rfl⟩
abbrev main_while1b_v190 : Ref sig .tc := ⟨.hbm, 257, rfl⟩
abbrev main_while1b_c_74 : Ref sig .tc := ⟨.hbm, 258, rfl⟩
abbrev main_while1b_v191 : Ref sig .tc := ⟨.hbm, 259, rfl⟩
abbrev main_v35 : Ref sig .tc := ⟨.hbm, 260, rfl⟩
abbrev main_v36 : Ref sig .tc := ⟨.hbm, 261, rfl⟩
abbrev main_v37 : Ref sig .tc := ⟨.hbm, 262, rfl⟩
abbrev main_call16_v0 : Ref sig .tc := ⟨.hbm, 263, rfl⟩
abbrev main_call16_call0_cst : Ref sig .tc := ⟨.hbm, 264, rfl⟩
abbrev main_call16_call0_v0 : Ref sig .tc := ⟨.hbm, 265, rfl⟩
abbrev main_call16_call0_v1 : Ref sig .tc := ⟨.hbm, 266, rfl⟩
abbrev main_call16_call0_v2 : Ref sig .tc := ⟨.hbm, 267, rfl⟩
abbrev main_call16_call0_v3 : Ref sig .tc := ⟨.hbm, 268, rfl⟩
abbrev main_call16_call0_v4 : Ref sig .tc := ⟨.hbm, 269, rfl⟩
abbrev main_call16_call0_v5 : Ref sig .tc := ⟨.hbm, 270, rfl⟩
abbrev main_call16_call0_v6 : Ref sig .tc := ⟨.hbm, 271, rfl⟩
abbrev main_call16_call0_v7 : Ref sig .tc := ⟨.hbm, 272, rfl⟩
abbrev main_call16_call0_v8 : Ref sig .tc := ⟨.hbm, 273, rfl⟩
abbrev main_call16_call0_v9 : Ref sig .tc := ⟨.hbm, 274, rfl⟩
abbrev main_call16_call0_v10 : Ref sig .tc := ⟨.hbm, 275, rfl⟩
abbrev main_call16_call0_v11 : Ref sig .tc := ⟨.hbm, 276, rfl⟩
abbrev main_call16_v1 : Ref sig .tc := ⟨.hbm, 277, rfl⟩
abbrev main_v38 : Ref sig .tc := ⟨.hbm, 278, rfl⟩
abbrev main_cst_13 : Ref sig .tc := ⟨.hbm, 279, rfl⟩
abbrev main_v39 : Ref sig .tc := ⟨.hbm, 280, rfl⟩
abbrev main_v40 : Ref sig .tc := ⟨.hbm, 281, rfl⟩
abbrev main_cst_14 : Ref sig .tc := ⟨.hbm, 282, rfl⟩
abbrev main_v41 : Ref sig .tc := ⟨.hbm, 283, rfl⟩
abbrev main_v42 : Ref sig .tc := ⟨.hbm, 284, rfl⟩
abbrev main_cst_15 : Ref sig .tc := ⟨.hbm, 285, rfl⟩
abbrev main_call17_v0 : Ref sig .tc := ⟨.hbm, 286, rfl⟩
abbrev main_call17_v1 : Ref sig .tc := ⟨.hbm, 287, rfl⟩
abbrev main_v43_0 : Ref sig .tc := ⟨.hbm, 288, rfl⟩
abbrev main_call17_cst : Ref sig .tc := ⟨.hbm, 289, rfl⟩
abbrev main_v43_1 : Ref sig .tc := ⟨.hbm, 290, rfl⟩
abbrev main_cst_16 : Ref sig .tc := ⟨.hbm, 291, rfl⟩
abbrev main_call18_v0 : Ref sig .tc := ⟨.hbm, 292, rfl⟩
abbrev main_call18_v1 : Ref sig .tc := ⟨.hbm, 293, rfl⟩
abbrev main_v44_0 : Ref sig .tc := ⟨.hbm, 294, rfl⟩
abbrev main_call18_cst : Ref sig .tc := ⟨.hbm, 295, rfl⟩
abbrev main_v44_1 : Ref sig .tc := ⟨.hbm, 296, rfl⟩
abbrev main_v45 : Ref sig .tc := ⟨.hbm, 297, rfl⟩
abbrev main_v46 : Ref sig .tc := ⟨.hbm, 298, rfl⟩
abbrev main_v47 : Ref sig .tc := ⟨.hbm, 299, rfl⟩
abbrev main_v48 : Ref sig .tc := ⟨.hbm, 300, rfl⟩
abbrev main_v49 : Ref sig .tc := ⟨.hbm, 301, rfl⟩
abbrev main_v50 : Ref sig .tc := ⟨.hbm, 302, rfl⟩
abbrev main_v51 : Ref sig .tc := ⟨.hbm, 303, rfl⟩
abbrev main_cst_17 : Ref sig .tc := ⟨.hbm, 304, rfl⟩
abbrev main_v52 : Ref sig .tc := ⟨.hbm, 305, rfl⟩
abbrev main_v53 : Ref sig .tc := ⟨.hbm, 306, rfl⟩
abbrev main_v54 : Ref sig .tc := ⟨.hbm, 307, rfl⟩
abbrev main_cst_18 : Ref sig .tc := ⟨.hbm, 308, rfl⟩
abbrev main_v55 : Ref sig .tc := ⟨.hbm, 309, rfl⟩
abbrev main_c_19 : Ref sig .tc := ⟨.hbm, 310, rfl⟩
abbrev main_v56 : Ref sig .tc := ⟨.hbm, 311, rfl⟩
abbrev main_cst_20 : Ref sig .tc := ⟨.hbm, 312, rfl⟩
abbrev main_v57 : Ref sig .tc := ⟨.hbm, 313, rfl⟩
abbrev main_v58 : Ref sig .tc := ⟨.hbm, 314, rfl⟩
abbrev main_v59 : Ref sig .tc := ⟨.hbm, 315, rfl⟩
abbrev main_v60 : Ref sig .tc := ⟨.hbm, 316, rfl⟩
abbrev main_cst_21 : Ref sig .tc := ⟨.hbm, 317, rfl⟩
abbrev main_v61 : Ref sig .tc := ⟨.hbm, 318, rfl⟩
abbrev main_cst_22 : Ref sig .tc := ⟨.hbm, 319, rfl⟩
abbrev main_v62 : Ref sig .tc := ⟨.hbm, 320, rfl⟩
abbrev main_cst_23 : Ref sig .tc := ⟨.hbm, 321, rfl⟩
abbrev main_v63 : Ref sig .tc := ⟨.hbm, 322, rfl⟩
abbrev main_cst_24 : Ref sig .tc := ⟨.hbm, 323, rfl⟩
abbrev main_v64 : Ref sig .tc := ⟨.hbm, 324, rfl⟩
abbrev main_cst_25 : Ref sig .tc := ⟨.hbm, 325, rfl⟩
abbrev main_v65 : Ref sig .tc := ⟨.hbm, 326, rfl⟩
abbrev main_cst_26 : Ref sig .tc := ⟨.hbm, 327, rfl⟩
abbrev main_v66 : Ref sig .tc := ⟨.hbm, 328, rfl⟩
abbrev main_cst_27 : Ref sig .tc := ⟨.hbm, 329, rfl⟩
abbrev main_v67 : Ref sig .tc := ⟨.hbm, 330, rfl⟩
abbrev main_cst_28 : Ref sig .tc := ⟨.hbm, 331, rfl⟩
abbrev main_v68 : Ref sig .tc := ⟨.hbm, 332, rfl⟩
abbrev main_cst_29 : Ref sig .tc := ⟨.hbm, 333, rfl⟩
abbrev main_v69 : Ref sig .tc := ⟨.hbm, 334, rfl⟩
abbrev main_c_30 : Ref sig .tc := ⟨.hbm, 335, rfl⟩
abbrev main_v70_0 : Ref sig .tc := ⟨.hbm, 336, rfl⟩
abbrev main_v70_1 : Ref sig .tc := ⟨.hbm, 337, rfl⟩
abbrev main_v70_2 : Ref sig .tc := ⟨.hbm, 338, rfl⟩
abbrev main_v70_3 : Ref sig .tc := ⟨.hbm, 339, rfl⟩
abbrev main_v70_4 : Ref sig .tc := ⟨.hbm, 340, rfl⟩
abbrev main_v70_5 : Ref sig .tc := ⟨.hbm, 341, rfl⟩
abbrev main_v70_6 : Ref sig .tc := ⟨.hbm, 342, rfl⟩
abbrev main_v70_7 : Ref sig .tc := ⟨.hbm, 343, rfl⟩
abbrev main_v70_8 : Ref sig .tc := ⟨.hbm, 344, rfl⟩
abbrev main_v70_9 : Ref sig .tc := ⟨.hbm, 345, rfl⟩
abbrev main_v70_10 : Ref sig .tc := ⟨.hbm, 346, rfl⟩
abbrev main_v70_11 : Ref sig .tc := ⟨.hbm, 347, rfl⟩
abbrev main_while2c_c_51 : Ref sig .tc := ⟨.hbm, 348, rfl⟩
abbrev main_while2c_v105 : Ref sig .tc := ⟨.hbm, 349, rfl⟩
abbrev main_while2b_call20_c : Ref sig .tc := ⟨.hbm, 350, rfl⟩
abbrev main_while2b_call20_v0 : Ref sig .tc := ⟨.hbm, 351, rfl⟩
abbrev main_while2b_v105 : Ref sig .tc := ⟨.hbm, 352, rfl⟩
abbrev main_while2b_call21_c : Ref sig .tc := ⟨.hbm, 353, rfl⟩
abbrev main_while2b_call21_v0 : Ref sig .tc := ⟨.hbm, 354, rfl⟩
abbrev main_while2b_v106 : Ref sig .tc := ⟨.hbm, 355, rfl⟩
abbrev main_while2b_v107 : Ref sig .tc := ⟨.hbm, 356, rfl⟩
abbrev main_while2b_v108 : Ref sig .tc := ⟨.hbm, 357, rfl⟩
abbrev main_while2b_v109 : Ref sig .tc := ⟨.hbm, 358, rfl⟩
abbrev main_while2b_v110 : Ref sig .tc := ⟨.hbm, 359, rfl⟩
abbrev main_while2b_v111 : Ref sig .tc := ⟨.hbm, 360, rfl⟩
abbrev main_while2b_v112 : Ref sig .tc := ⟨.hbm, 361, rfl⟩
abbrev main_while2b_v113 : Ref sig .tc := ⟨.hbm, 362, rfl⟩
abbrev main_while2b_v114 : Ref sig .tc := ⟨.hbm, 363, rfl⟩
abbrev main_while2b_v115 : Ref sig .tc := ⟨.hbm, 364, rfl⟩
abbrev main_while2b_v116 : Ref sig .tc := ⟨.hbm, 365, rfl⟩
abbrev main_while2b_v117 : Ref sig .tc := ⟨.hbm, 366, rfl⟩
abbrev main_while2b_v118 : Ref sig .tc := ⟨.hbm, 367, rfl⟩
abbrev main_while2b_v119 : Ref sig .tc := ⟨.hbm, 368, rfl⟩
abbrev main_while2b_v120 : Ref sig .tc := ⟨.hbm, 369, rfl⟩
abbrev main_while2b_v121 : Ref sig .tc := ⟨.hbm, 370, rfl⟩
abbrev main_while2b_v122 : Ref sig .tc := ⟨.hbm, 371, rfl⟩
abbrev main_while2b_v123 : Ref sig .tc := ⟨.hbm, 372, rfl⟩
abbrev main_while2b_v124 : Ref sig .tc := ⟨.hbm, 373, rfl⟩
abbrev main_while2b_cst_51 : Ref sig .tc := ⟨.hbm, 374, rfl⟩
abbrev main_while2b_v125 : Ref sig .tc := ⟨.hbm, 375, rfl⟩
abbrev main_while2b_v126 : Ref sig .tc := ⟨.hbm, 376, rfl⟩
abbrev main_while2b_v127 : Ref sig .tc := ⟨.hbm, 377, rfl⟩
abbrev main_while2b_cst_52 : Ref sig .tc := ⟨.hbm, 378, rfl⟩
abbrev main_while2b_v128 : Ref sig .tc := ⟨.hbm, 379, rfl⟩
abbrev main_while2b_v129 : Ref sig .tc := ⟨.hbm, 380, rfl⟩
abbrev main_while2b_v130 : Ref sig .tc := ⟨.hbm, 381, rfl⟩
abbrev main_while2b_v131 : Ref sig .tc := ⟨.hbm, 382, rfl⟩
abbrev main_while2b_v132 : Ref sig .tc := ⟨.hbm, 383, rfl⟩
abbrev main_while2b_cst_53 : Ref sig .tc := ⟨.hbm, 384, rfl⟩
abbrev main_while2b_v133 : Ref sig .tc := ⟨.hbm, 385, rfl⟩
abbrev main_while2b_v134 : Ref sig .tc := ⟨.hbm, 386, rfl⟩
abbrev main_while2b_v135 : Ref sig .tc := ⟨.hbm, 387, rfl⟩
abbrev main_while2b_cst_54 : Ref sig .tc := ⟨.hbm, 388, rfl⟩
abbrev main_while2b_v136 : Ref sig .tc := ⟨.hbm, 389, rfl⟩
abbrev main_while2b_v137 : Ref sig .tc := ⟨.hbm, 390, rfl⟩
abbrev main_while2b_v138 : Ref sig .tc := ⟨.hbm, 391, rfl⟩
abbrev main_while2b_v139 : Ref sig .tc := ⟨.hbm, 392, rfl⟩
abbrev main_while2b_v140 : Ref sig .tc := ⟨.hbm, 393, rfl⟩
abbrev main_while2b_v141 : Ref sig .tc := ⟨.hbm, 394, rfl⟩
abbrev main_while2b_call22_v0 : Ref sig .tc := ⟨.hbm, 395, rfl⟩
abbrev main_while2b_call22_c : Ref sig .tc := ⟨.hbm, 396, rfl⟩
abbrev main_while2b_call22_c_0 : Ref sig .tc := ⟨.hbm, 397, rfl⟩
abbrev main_while2b_v142 : Ref sig .tc := ⟨.hbm, 398, rfl⟩
abbrev main_while2b_call23_v0 : Ref sig .tc := ⟨.hbm, 399, rfl⟩
abbrev main_while2b_call23_c : Ref sig .tc := ⟨.hbm, 400, rfl⟩
abbrev main_while2b_call23_c_0 : Ref sig .tc := ⟨.hbm, 401, rfl⟩
abbrev main_while2b_v143 : Ref sig .tc := ⟨.hbm, 402, rfl⟩
abbrev main_while2b_call24_v0 : Ref sig .tc := ⟨.hbm, 403, rfl⟩
abbrev main_while2b_call24_c : Ref sig .tc := ⟨.hbm, 404, rfl⟩
abbrev main_while2b_call24_c_0 : Ref sig .tc := ⟨.hbm, 405, rfl⟩
abbrev main_while2b_v144 : Ref sig .tc := ⟨.hbm, 406, rfl⟩
abbrev main_while2b_c_55 : Ref sig .tc := ⟨.hbm, 407, rfl⟩
abbrev main_while2b_v145 : Ref sig .tc := ⟨.hbm, 408, rfl⟩
abbrev main_v71 : Ref sig .tc := ⟨.hbm, 409, rfl⟩
abbrev main_v72 : Ref sig .tc := ⟨.hbm, 410, rfl⟩
abbrev main_v73 : Ref sig .tc := ⟨.hbm, 411, rfl⟩
abbrev main_cst_31 : Ref sig .tc := ⟨.hbm, 412, rfl⟩
abbrev main_v74 : Ref sig .tc := ⟨.hbm, 413, rfl⟩
abbrev main_v75 : Ref sig .tc := ⟨.hbm, 414, rfl⟩
abbrev main_v76 : Ref sig .tc := ⟨.hbm, 415, rfl⟩
abbrev main_cst_32 : Ref sig .tc := ⟨.hbm, 416, rfl⟩
abbrev main_v77 : Ref sig .tc := ⟨.hbm, 417, rfl⟩
abbrev main_cst_33 : Ref sig .tc := ⟨.hbm, 418, rfl⟩
abbrev main_v78 : Ref sig .tc := ⟨.hbm, 419, rfl⟩
abbrev main_cst_34 : Ref sig .tc := ⟨.hbm, 420, rfl⟩
abbrev main_v79 : Ref sig .tc := ⟨.hbm, 421, rfl⟩
abbrev main_v80 : Ref sig .tc := ⟨.hbm, 422, rfl⟩
abbrev main_cst_35 : Ref sig .tc := ⟨.hbm, 423, rfl⟩
abbrev main_v81 : Ref sig .tc := ⟨.hbm, 424, rfl⟩
abbrev main_v82 : Ref sig .tc := ⟨.hbm, 425, rfl⟩
abbrev main_v83 : Ref sig .tc := ⟨.hbm, 426, rfl⟩
abbrev main_v84 : Ref sig .tc := ⟨.hbm, 427, rfl⟩
abbrev main_cst_36 : Ref sig .tc := ⟨.hbm, 428, rfl⟩
abbrev main_v85 : Ref sig .tc := ⟨.hbm, 429, rfl⟩
abbrev main_cst_37 : Ref sig .tc := ⟨.hbm, 430, rfl⟩
abbrev main_v86 : Ref sig .tc := ⟨.hbm, 431, rfl⟩
abbrev main_cst_38 : Ref sig .tc := ⟨.hbm, 432, rfl⟩
abbrev main_v87 : Ref sig .tc := ⟨.hbm, 433, rfl⟩
abbrev main_c_39 : Ref sig .tc := ⟨.hbm, 434, rfl⟩
abbrev main_v88_0 : Ref sig .tc := ⟨.hbm, 435, rfl⟩
abbrev main_v88_1 : Ref sig .tc := ⟨.hbm, 436, rfl⟩
abbrev main_v88_2 : Ref sig .tc := ⟨.hbm, 437, rfl⟩
abbrev main_v88_3 : Ref sig .tc := ⟨.hbm, 438, rfl⟩
abbrev main_v88_4 : Ref sig .tc := ⟨.hbm, 439, rfl⟩
abbrev main_v88_5 : Ref sig .tc := ⟨.hbm, 440, rfl⟩
abbrev main_v88_6 : Ref sig .tc := ⟨.hbm, 441, rfl⟩
abbrev main_v88_7 : Ref sig .tc := ⟨.hbm, 442, rfl⟩
abbrev main_while3c_c_47 : Ref sig .tc := ⟨.hbm, 443, rfl⟩
abbrev main_while3c_v105 : Ref sig .tc := ⟨.hbm, 444, rfl⟩
abbrev main_while3b_c_47 : Ref sig .tc := ⟨.hbm, 445, rfl⟩
abbrev main_while3b_v105 : Ref sig .tc := ⟨.hbm, 446, rfl⟩
abbrev main_while3b_c_48 : Ref sig .tc := ⟨.hbm, 447, rfl⟩
abbrev main_while3b_v106 : Ref sig .tc := ⟨.hbm, 448, rfl⟩
abbrev main_while3b_call25_c : Ref sig .tc := ⟨.hbm, 449, rfl⟩
abbrev main_while3b_call25_c_0 : Ref sig .tc := ⟨.hbm, 450, rfl⟩
abbrev main_while3b_call25_v0 : Ref sig .tc := ⟨.hbm, 451, rfl⟩
abbrev main_while3b_v107 : Ref sig .tc := ⟨.hbm, 452, rfl⟩
abbrev main_while3b_call26_c : Ref sig .tc := ⟨.hbm, 453, rfl⟩
abbrev main_while3b_call26_c_0 : Ref sig .tc := ⟨.hbm, 454, rfl⟩
abbrev main_while3b_call26_v0 : Ref sig .tc := ⟨.hbm, 455, rfl⟩
abbrev main_while3b_v108 : Ref sig .tc := ⟨.hbm, 456, rfl⟩
abbrev main_while3b_call27_c : Ref sig .tc := ⟨.hbm, 457, rfl⟩
abbrev main_while3b_call27_c_0 : Ref sig .tc := ⟨.hbm, 458, rfl⟩
abbrev main_while3b_call27_v0 : Ref sig .tc := ⟨.hbm, 459, rfl⟩
abbrev main_while3b_v109 : Ref sig .tc := ⟨.hbm, 460, rfl⟩
abbrev main_while3b_v110 : Ref sig .tc := ⟨.hbm, 461, rfl⟩
abbrev main_while3b_v111 : Ref sig .tc := ⟨.hbm, 462, rfl⟩
abbrev main_while3b_v112 : Ref sig .tc := ⟨.hbm, 463, rfl⟩
abbrev main_while3b_v113 : Ref sig .tc := ⟨.hbm, 464, rfl⟩
abbrev main_while3b_v114 : Ref sig .tc := ⟨.hbm, 465, rfl⟩
abbrev main_while3b_cst_49 : Ref sig .tc := ⟨.hbm, 466, rfl⟩
abbrev main_while3b_v115 : Ref sig .tc := ⟨.hbm, 467, rfl⟩
abbrev main_while3b_v116 : Ref sig .tc := ⟨.hbm, 468, rfl⟩
abbrev main_while3b_cst_50 : Ref sig .tc := ⟨.hbm, 469, rfl⟩
abbrev main_while3b_v117 : Ref sig .tc := ⟨.hbm, 470, rfl⟩
abbrev main_while3b_cst_51 : Ref sig .tc := ⟨.hbm, 471, rfl⟩
abbrev main_while3b_v118 : Ref sig .tc := ⟨.hbm, 472, rfl⟩
abbrev main_while3b_cst_52 : Ref sig .tc := ⟨.hbm, 473, rfl⟩
abbrev main_while3b_v119 : Ref sig .tc := ⟨.hbm, 474, rfl⟩
abbrev main_while3b_v120 : Ref sig .tc := ⟨.hbm, 475, rfl⟩
abbrev main_while3b_cst_53 : Ref sig .tc := ⟨.hbm, 476, rfl⟩
abbrev main_while3b_v121 : Ref sig .tc := ⟨.hbm, 477, rfl⟩
abbrev main_while3b_cst_54 : Ref sig .tc := ⟨.hbm, 478, rfl⟩
abbrev main_while3b_v122 : Ref sig .tc := ⟨.hbm, 479, rfl⟩
abbrev main_while3b_v123 : Ref sig .tc := ⟨.hbm, 480, rfl⟩
abbrev main_while3b_call28_v0 : Ref sig .tc := ⟨.hbm, 481, rfl⟩
abbrev main_while3b_call28_c : Ref sig .tc := ⟨.hbm, 482, rfl⟩
abbrev main_while3b_v124 : Ref sig .tc := ⟨.hbm, 483, rfl⟩
abbrev main_while3b_call29_v0 : Ref sig .tc := ⟨.hbm, 484, rfl⟩
abbrev main_while3b_call29_c : Ref sig .tc := ⟨.hbm, 485, rfl⟩
abbrev main_while3b_v125 : Ref sig .tc := ⟨.hbm, 486, rfl⟩
abbrev main_while3b_c_55 : Ref sig .tc := ⟨.hbm, 487, rfl⟩
abbrev main_while3b_v126 : Ref sig .tc := ⟨.hbm, 488, rfl⟩
abbrev main_v89 : Ref sig .tc := ⟨.hbm, 489, rfl⟩
abbrev main_v90 : Ref sig .tc := ⟨.hbm, 490, rfl⟩
abbrev main_call30_cst : Ref sig .tc := ⟨.hbm, 491, rfl⟩
abbrev main_call30_v0 : Ref sig .tc := ⟨.hbm, 492, rfl⟩
abbrev main_v91_1 : Ref sig .tc := ⟨.hbm, 493, rfl⟩
abbrev main_v91_0 : Ref sig .tc := ⟨.hbm, 494, rfl⟩
abbrev main_v92 : Ref sig .tc := ⟨.hbm, 495, rfl⟩
abbrev main_v93 : Ref sig .tc := ⟨.hbm, 496, rfl⟩
abbrev main_v94 : Ref sig .tc := ⟨.hbm, 497, rfl⟩
abbrev main_v95 : Ref sig .tc := ⟨.hbm, 498, rfl⟩
abbrev main_v96 : Ref sig .tc := ⟨.hbm, 499, rfl⟩
abbrev main_v97 : Ref sig .tc := ⟨.hbm, 500, rfl⟩
abbrev main_call31_cst : Ref sig .tc := ⟨.hbm, 501, rfl⟩
abbrev main_call31_v0 : Ref sig .tc := ⟨.hbm, 502, rfl⟩
abbrev main_v98 : Ref sig .tc := ⟨.hbm, 503, rfl⟩
abbrev main_v99 : Ref sig .tc := ⟨.hbm, 504, rfl⟩
abbrev main_call32_cst : Ref sig .tc := ⟨.hbm, 505, rfl⟩
abbrev main_call32_v0 : Ref sig .tc := ⟨.hbm, 506, rfl⟩
abbrev main_v100 : Ref sig .tc := ⟨.hbm, 507, rfl⟩
abbrev main_v101 : Ref sig .tc := ⟨.hbm, 508, rfl⟩
abbrev main_v102 : Ref sig .tc := ⟨.hbm, 509, rfl⟩
abbrev main_v103 : Ref sig .tc := ⟨.hbm, 510, rfl⟩
abbrev main_v104 : Ref sig .tc := ⟨.hbm, 511, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩

abbrev main_while2_count : Scf.Loop 32 := ⟨0#32, 2048#32, 1#32⟩

abbrev main_while3_count : Scf.Loop 32 := ⟨0#32, 2048#32, 1#32⟩
-- ==== Proof.KIdealSpec.lean ====
/- What the kernel leaves in its output, row by row, as a recursion over the values its loops carry. -/
module

public import proofs.«01_k».proof.Proof.Gen.KernelIdeal.Skeleton
public import Idealize.ShloMosaic.Lib.VecWindow
public import Idealize.ShloMosaic.Lib.WholeRead

@[expose] public section

noncomputable section

namespace Cert.KernelIdeal.Gen

open Idealize.ShloMosaic Idealize.SL.Sem

variable {F : FTy → Type} [FloatOps F]

/-- The rows' positions within the buffers. -/
theorem inbRow {i : ℕ} (h : i < 2048) : ∀ a, (![i, 0] : Fin 2 → ℕ) a + S1x40.size a ≤ S2048x40.size a := by
  intro a; fin_cases a
  · show i + 1 ≤ 2048; omega
  · show 0 + 40 ≤ 40; omega

theorem inbPlane {i : ℕ} (h : i < 2049) : ∀ a, (![i, 0, 0] : Fin 3 → ℕ) a + S1x12x40.size a ≤ S2049x12x40.size a := by
  intro a; fin_cases a
  · show i + 1 ≤ 2049; omega
  · show 0 + 12 ≤ 12; omega
  · show 0 + 40 ≤ 40; omega

/-- Row `i` of a matrix. -/
def rowX (X : Vec F S2048x40 .f32) (i : ℕ) : Vec F S1x40 .f32 :=
  VecWindow.window X ![i % 2048, 0] S1x40.size (inbRow (Nat.mod_lt i (by decide)))

/-- The row numbers of a plane. -/
def rowIota : IVec S12x40 32 := iota .tc S12x40 32 [0] iota_S12x40_d0_w32

/-- The state carried before trip `i` of the first loop. -/
def stA (x0 : Vec F S2048x40 .f32) : ℕ → FVec F S12x40 .f32
  | 0 => k0_pay1 (F := F) rowIota 1#32
  | i + 1 => k0_pay3 (stA x0 i) (rowX (k0_pay14 x0) i) (rowX (k0_pay15 x0) i)

/-- Plane `i` of the table the first loop fills. -/
def planeA (x0 : Vec F S2048x40 .f32) : ℕ → Vec F S1x12x40 .f32
  | 0 => k0_pay2 (F := F) rowIota 1#32
  | i + 1 => k0_pay4 (stA x0 i) (rowX (k0_pay14 x0) i) (rowX (k0_pay15 x0) i)

/-- The four values one trip of the second loop derives, from the index it carries. -/
def praw (x0 : Vec F S2048x40 .f32) (t : ℕ) (j : IVec S1x40 32) : FVec F S1x40 .f32 :=
  k0_pay9 rowIota j (planeA x0 (2047 - t)) (planeA x0 (2048 - t)) (rowX (k0_pay14 x0) (2047 - t))
def pbig (x0 : Vec F S2048x40 .f32) (t : ℕ) (j : IVec S1x40 32) : IVec S1x40 1 :=
  k0_pay10 rowIota j (planeA x0 (2047 - t)) (planeA x0 (2048 - t)) (rowX (k0_pay14 x0) (2047 - t))
def psmall (x0 : Vec F S2048x40 .f32) (t : ℕ) (j : IVec S1x40 32) : FVec F S1x40 .f32 :=
  k0_pay11 rowIota j (planeA x0 (2047 - t)) (planeA x0 (2048 - t)) (rowX (k0_pay14 x0) (2047 - t))
def pexp (x0 : Vec F S2048x40 .f32) (t : ℕ) (j : IVec S1x40 32) : FVec F S1x40 .f32 :=
  k0_pay12 rowIota j (planeA x0 (2047 - t)) (planeA x0 (2048 - t)) (rowX (k0_pay14 x0) (2047 - t))

/-- The index carried before trip `t` of the second loop. -/
def stJ (x0 x1 : Vec F S2048x40 .f32) : ℕ → IVec S1x40 32
  | 0 => k0_pay5
  | t + 1 => k0_pay8 (stJ x0 x1 t) (praw x0 t (stJ x0 x1 t)) (pbig x0 t (stJ x0 x1 t)) (psmall x0 t (stJ x0 x1 t)) (pexp x0 t (stJ x0 x1 t))
      (rowX x1 (2047 - t))

/-- The row trip `t` of the second loop stores. -/
def outRow (x0 x1 : Vec F S2048x40 .f32) (t : ℕ) : FVec F S1x40 .f32 :=
  k0_pay7 (praw x0 t (stJ x0 x1 t)) (pbig x0 t (stJ x0 x1 t)) (psmall x0 t (stJ x0 x1 t)) (pexp x0 t (stJ x0 x1 t)) (rowX x1 (2047 - t))

/-- A position within a row. -/
def inRow (y : S2048x40.Idx) : S1x40.Idx := Fin.cons (0 : Fin 1) (Fin.cons (y 1) (fun a => a.elim0))

/-- The output. -/
def outOf (x0 x1 : Vec F S2048x40 .f32) : Vec F S2048x40 .f32 := fun y => outRow x0 x1 (2047 - (y 0).val) (inRow y)

/-- A matrix whose rows from the bottom up are those of the recursion is the output. -/
theorem eq_outOf {x0 x1 X : Vec F S2048x40 .f32}
    (h : ∀ t (ht : t < 2048), VecWindow.window X ![2047 - t, 0] S1x40.size (inbRow (by omega)) = outRow x0 x1 t) : X = outOf x0 x1 := by
  funext y
  have hy : (y 0).val < 2048 := (y 0).isLt
  unfold outOf
  rw [← h (2047 - (y 0).val) (by omega)]
  unfold VecWindow.window
  refine congrArg X (funext fun a => Fin.ext ?_)
  refine Fin.cases ?_ (fun a => Fin.cases ?_ (fun a => a.elim0) a) a
  · show (y 0).val = (2047 - (2047 - (y 0).val)) + 1 * 0
    omega
  · show (y 1).val = 0 + 1 * (y 1).val
    omega

end Cert.KernelIdeal.Gen

end
-- ==== Proof.KIdealRun.lean ====
/- The kernel's body run once over its two loops, each by its own invariant, and the launch around it. -/
module

public import proofs.«01_k».proof.Proof.Gen.KernelIdeal.Frame.Runs
public import proofs.«01_k».proof.Proof.KIdealSpec
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem trips1 : k0_t1_loop.trips = 2048 := by decide +kernel
theorem trips2 : k0_t2_loop.trips = 2048 := by decide +kernel

section Loops

variable (c : Dev nD) (arg0 : Memref sig .tc .vmem S2048x40 .f32) (harg0 : arg0.IsWhole)
  (arg1 : Memref sig .tc .vmem S2048x40 .f32) (harg1 : arg1.IsWhole) (arg2 : Memref sig .tc .vmem S2048x40 .f32) (harg2 : arg2.IsWhole)
  (arg3 : Memref sig .tc .vmem S2049x12x40 .f32) (harg3 : arg3.IsWhole) (arg4 : Memref sig .tc .vmem S2048x40 .f32) (harg4 : arg4.IsWhole)
  (arg5 : Memref sig .tc .vmem S2048x40 .f32) (harg5 : arg5.IsWhole) (x0 x1 : Vec F S2048x40 .f32)

/-- A whole memref of a matrix held at contents with a stated reading. -/
abbrev holds {s : Shape} (a : Memref sig .tc .vmem s .f32) (P : Vec F s .f32 → Prop) : sProp 𝕄 :=
  iprop(∃ f, (a.view.loc (c : Thread nD τ) ↦[a.view.set]{fullShare} f) ∗ ⌜P (a.view.read (Elt F) f)⌝)

/-- The table's planes up to `k` are those of the recursion. -/
def planesTo (k : ℕ) (A : Vec F S2049x12x40 .f32) : Prop :=
  ∀ i (hi : i < 2049), i ≤ k → VecWindow.window A ![i, 0, 0] S1x12x40.size (inbPlane hi) = planeA x0 i

/-- The output's rows of the first `k` trips are those of the recursion. -/
def rowsTo (k : ℕ) (A : Vec F S2048x40 .f32) : Prop :=
  ∀ t (ht : t < 2048), t < k → VecWindow.window A ![2047 - t, 0] S1x40.size (inbRow (by omega)) = outRow x0 x1 t

/-- Before trip `k` of the first loop. -/
def inv1 (k : ℕ) (acc : FVec F S12x40 .f32) : sProp 𝕄 :=
  iprop(holds c arg4 (fun X => X = k0_pay14 x0) ∗ holds c arg5 (fun X => X = k0_pay15 x0) ∗ holds c arg3 (planesTo x0 k) ∗ ⌜acc = stA x0 k⌝)

/-- Before trip `k` of the second loop. -/
def inv2 (k : ℕ) (acc : IVec S1x40 32) : sProp 𝕄 :=
  iprop(holds c arg1 (fun X => X = x1) ∗ holds c arg4 (fun X => X = k0_pay14 x0) ∗ holds c arg3 (planesTo x0 2048)
    ∗ holds c arg2 (rowsTo x0 x1 k) ∗ ⌜acc = stJ x0 x1 k⌝)

theorem rowX_eq (X : Vec F S2048x40 .f32) {i : ℕ} (h : i < 2048) : rowX X i = VecWindow.window X ![i, 0] S1x40.size (inbRow h) := by
  unfold rowX
  have e : ∀ j (hj : j < 2048), j = i → VecWindow.window X ![j, 0] S1x40.size (inbRow hj) = VecWindow.window X ![i, 0] S1x40.size (inbRow h) := by
    intro j hj hji; subst hji; rfl
  exact e _ (Nat.mod_lt i (by decide)) (Nat.mod_eq_of_lt h)

theorem planesTo_succ {k : ℕ} {A : Vec F S2049x12x40 .f32} (hA : planesTo x0 k A) {w : S1x12x40.Idx → Elt F .f32} (hw : w = planeA x0 (k + 1)) :
    planesTo x0 (k + 1) (VecWindow.put A ![k + 1, 0, 0] S1x12x40.size w) := by
  intro i hi hk
  rcases Nat.lt_or_ge i (k + 1) with h | h
  · rw [VecWindow.window_put_of_disjoint A _ _ _ _ (inbPlane hi) w (0 : Fin 3) (Or.inl (by show i + 1 ≤ k + 1; omega))]
    exact hA i hi (by omega)
  · obtain rfl : i = k + 1 := by omega
    rw [VecWindow.window_put_same]
    exact hw

theorem rowsTo_succ {k : ℕ} (hk : k < 2048) {A : Vec F S2048x40 .f32} (hA : rowsTo x0 x1 k A) {w : S1x40.Idx → Elt F .f32} (hw : w = outRow x0 x1 k) :
    rowsTo x0 x1 (k + 1) (VecWindow.put A ![2047 - k, 0] S1x40.size w) := by
  intro t ht hk
  rcases Nat.lt_or_ge t k with h | h
  · rw [VecWindow.window_put_of_disjoint A _ _ _ _ (inbRow (by omega)) w (0 : Fin 2) (Or.inr (by show 2047 - k + 1 ≤ 2047 - t; omega))]
    exact hA t ht h
  · obtain rfl : t = k := by omega
    rw [VecWindow.window_put_same]
    exact hw

theorem step1 (k : Fin k0_t1_loop.trips) (acc : FVec F S12x40 .f32) :
    inv1 c arg3 arg4 arg5 x0 k acc ⊢ wp frame (wpE (defs₀ (F := F)) Variants.none (c : Thread nD τ) none) Set.univ
      (k0_t1_body (F := F) arg0 harg0 arg1 harg1 arg2 harg2 arg3 harg3 arg4 harg4 arg5 harg5 k acc) (inv1 c arg3 arg4 arg5 x0 (k.val + 1)) := by
  have hk : k.val < 2048 := Nat.lt_of_lt_of_le k.isLt k0_t1_abs.2.1
  unfold inv1 k0_t1_body
  iintro ⟨⟨%f4, H4, %h4⟩, ⟨%f5, H5, %h5⟩, ⟨%f3, H3, %h3⟩, %hacc⟩
  subst hacc
  sl_exec
  sl_step
  have e4 : arg4.view.readAt (Elt F) (Rect.unit (s := S2048x40) (k0_off1 k) S1x40.size (k0_off1_inb k)).toLoadRect f4 = rowX (k0_pay14 x0) k := by
    rw [rowX_eq _ hk, ← h4]; exact View.readAt_unit arg4.view f4 _ (k0_off1_eq k) _
  have e5 : arg5.view.readAt (Elt F) (Rect.unit (s := S2048x40) (k0_off1 k) S1x40.size (k0_off1_inb k)).toLoadRect f5 = rowX (k0_pay15 x0) k := by
    rw [rowX_eq _ hk, ← h5]; exact View.readAt_unit arg5.view f5 _ (k0_off1_eq k) _
  isplitl [H4]; · iexists _; isplitl [H4]; · iexact H4
                  ipureintro; exact h4
  isplitl [H5]; · iexists _; isplitl [H5]; · iexact H5
                  ipureintro; exact h5
  isplitl [H3]
  · iexists _; isplitl [H3]; · iexact H3
    ipureintro
    rw [View.read_writes_cons_put _ _ _ _ _ (k0_off2_eq k), View.writes_nil]
    refine planesTo_succ x0 h3 ?_
    rw [e4, e5]; rfl
  ipureintro
  rw [e4, e5]; rfl

theorem step2 (k : Fin k0_t2_loop.trips) (acc : IVec S1x40 32) :
    inv2 c arg1 arg2 arg3 arg4 x0 x1 k acc ⊢ wp frame (wpE (defs₀ (F := F)) Variants.none (c : Thread nD τ) none) Set.univ
      (k0_t2_body (F := F) arg0 harg0 arg1 harg1 arg2 harg2 arg3 harg3 arg4 harg4 arg5 harg5 rowIota k acc)
      (inv2 c arg1 arg2 arg3 arg4 x0 x1 (k.val + 1)) := by
  have hk : k.val < 2048 := Nat.lt_of_lt_of_le k.isLt k0_t2_abs.2.1
  unfold inv2 k0_t2_body
  simp only [k0_part1_eq_skeleton]
  iintro ⟨⟨%f1, H1, %h1⟩, ⟨%f4, H4, %h4⟩, ⟨%f3, H3, %h3⟩, ⟨%f2, H2, %h2⟩, %hacc⟩
  subst hacc
  sl_exec
  sl_step
  have e1 : arg1.view.readAt (Elt F) (Rect.unit (s := S2048x40) (k0_off5 k) S1x40.size (k0_off5_inb k)).toLoadRect f1 = rowX x1 (2047 - k) := by
    rw [rowX_eq _ (by omega), ← h1]; exact View.readAt_unit arg1.view f1 _ (k0_off5_eq k) _
  have e4 : arg4.view.readAt (Elt F) (Rect.unit (s := S2048x40) (k0_off5 k) S1x40.size (k0_off5_inb k)).toLoadRect f4 = rowX (k0_pay14 x0) (2047 - k) := by
    rw [rowX_eq _ (by omega), ← h4]; exact View.readAt_unit arg4.view f4 _ (k0_off5_eq k) _
  have e3 : arg3.view.readAt (Elt F) (Rect.unit (s := S2049x12x40) (k0_off3 k) S1x12x40.size (k0_off3_inb k)).toLoadRect f3 = planeA x0 (2047 - k) := by
    rw [← h3 (2047 - k) (by omega) (by omega)]; exact View.readAt_unit arg3.view f3 _ (k0_off3_eq k) _
  have e3' : arg3.view.readAt (Elt F) (Rect.unit (s := S2049x12x40) (k0_off4 k) S1x12x40.size (k0_off4_inb k)).toLoadRect f3 = planeA x0 (2048 - k) := by
    rw [← h3 (2048 - k) (by omega) (by omega)]; exact View.readAt_unit arg3.view f3 _ (k0_off4_eq k) _
  isplitl [H1]; · iexists _; isplitl [H1]; · iexact H1
                  ipureintro; exact h1
  isplitl [H4]; · iexists _; isplitl [H4]; · iexact H4
                  ipureintro; exact h4
  isplitl [H3]; · iexists _; isplitl [H3]; · iexact H3
                  ipureintro; exact h3
  isplitl [H2]
  · iexists _; isplitl [H2]; · iexact H2
    ipureintro
    rw [View.read_writes_cons_put _ _ _ _ _ (k0_off5_eq k), View.writes_nil]
    refine rowsTo_succ x0 x1 hk h2 ?_
    unfold step2.sl.r step2.sl.r_1 step2.sl.r_2 step2.sl.r_3
    rw [e1, e3, e3', e4]; rfl
  ipureintro
  unfold step2.sl.r step2.sl.r_1 step2.sl.r_2 step2.sl.r_3
  rw [e1, e3, e3', e4]; rfl

/-- The lines before the loops, continued by `R`. -/
def headProg (R : Prog (TpuEff nD τ sig (Elt F) Λ₀ .tc) PUnit) : Prog (TpuEff nD τ sig (Elt F) Λ₀ .tc) PUnit := do
  let v0 : Vec F S2048x40 .f32 ← Prog.lift (.load arg0 (Rect.unit (s := S2048x40) ![0, 0] S2048x40.size inb_S2048x40_S2048x40_0_0).toLoadRect (View.loadsAt_vmem h_S2048x40))
  let _ : Vec F S2048x40 .f32 ← Prog.lift (.load arg4 (Rect.unit (s := S2048x40) ![0, 0] S2048x40.size inb_S2048x40_S2048x40_0_0).toLoadRect (View.loadsAt_vmem h_S2048x40))
  Prog.lift (.store arg4 (Rect.unit (s := S2048x40) ![0, 0] S2048x40.size inb_S2048x40_S2048x40_0_0) (k0_pay14 v0) Finset.univ (View.stores_vmem_bits_univ h_S2048x40 rfl) (.inl rfl))
  let _ : Vec F S2048x40 .f32 ← Prog.lift (.load arg5 (Rect.unit (s := S2048x40) ![0, 0] S2048x40.size inb_S2048x40_S2048x40_0_0).toLoadRect (View.loadsAt_vmem h_S2048x40))
  Prog.lift (.store arg5 (Rect.unit (s := S2048x40) ![0, 0] S2048x40.size inb_S2048x40_S2048x40_0_0) (k0_pay15 v0) Finset.univ (View.stores_vmem_bits_univ h_S2048x40 rfl) (.inl rfl))
  let _ : Vec F S1x12x40 .f32 ← Prog.lift (.load arg3 (Rect.unit (s := S2049x12x40) ![0, 0, 0] S1x12x40.size inb_S2049x12x40_S1x12x40_0_0_0).toLoadRect (View.loadsAt_vmem h_S1x12x40))
  Prog.lift (.store arg3 (Rect.unit (s := S2049x12x40) ![0, 0, 0] S1x12x40.size inb_S2049x12x40_S1x12x40_0_0_0) (k0_pay2 (F := F) rowIota 1#32) Finset.univ (View.stores_vmem_bits_univ h_S1x12x40 rfl) (.inl rfl))
  R

/-- The lines before the loops leave the two matrices in scratch and the first plane of the table. -/
theorem head_run (R : Prog (TpuEff nD τ sig (Elt F) Λ₀ .tc) PUnit) (K : PUnit → sProp 𝕄) :
    iprop(holds c arg0 (fun X => X = x0) ∗ holds c arg3 (fun _ => True) ∗ holds c arg4 (fun _ => True) ∗ holds c arg5 (fun _ => True)
        ∗ (iprop(holds c arg0 (fun X => X = x0) ∗ inv1 c arg3 arg4 arg5 x0 0 (stA x0 0))
          -∗ wp frame (wpE (defs₀ (F := F)) Variants.none c none) Set.univ R K))
      ⊢ wp frame (wpE (defs₀ (F := F)) Variants.none c none) Set.univ (headProg arg0 arg3 arg4 arg5 R) K := by
  unfold headProg inv1
  iintro ⟨⟨%f0, H0, %h0⟩, ⟨%f3, H3, -⟩, ⟨%f4, H4, -⟩, ⟨%f5, H5, -⟩, Hk⟩
  sl_exec
  have e0 : arg0.view.readAt (Elt F) (Rect.unit (s := S2048x40) ![0, 0] S2048x40.size inb_S2048x40_S2048x40_0_0).toLoadRect f0 = x0 := by
    rw [← h0]; exact View.readAt_full arg0.view f0 _
  iapply Hk
  isplitl [H0]; · iexists _; isplitl [H0]; · iexact H0
                  ipureintro; exact h0
  isplitl [H4]
  · iexists _; isplitl [H4]; · iexact H4
    ipureintro
    rw [e0]; exact View.read_writes_full arg4.view f4 _ _ _
  isplitl [H5]
  · iexists _; isplitl [H5]; · iexact H5
    ipureintro
    rw [e0]; exact View.read_writes_full arg5.view f5 _ _ _
  isplitl [H3]
  · iexists _; isplitl [H3]; · iexact H3
    ipureintro
    rw [View.read_writes_cons_put _ _ _ _ _ rfl, View.writes_nil]
    intro i hi hk
    obtain rfl : i = 0 := by omega
    exact VecWindow.window_put_same _ _ _ _ _
  ipureintro; rfl

theorem body_eq : cc0__body (F := F) arg0 harg0 arg1 harg1 arg2 harg2 arg3 harg3 arg4 harg4 arg5 harg5
    = headProg arg0 arg3 arg4 arg5 (Scf.Loop.for k0_t1_loop k0_t1_ok (stA x0 0) (k0_t1_body arg0 harg0 arg1 harg1 arg2 harg2 arg3 harg3 arg4 harg4 arg5 harg5)
      >>= fun _ => Scf.Loop.for k0_t2_loop k0_t2_ok (stJ x0 x1 0) (k0_t2_body arg0 harg0 arg1 harg1 arg2 harg2 arg3 harg3 arg4 harg4 arg5 harg5 rowIota)
      >>= fun _ => pure ⟨⟩) := by
  simp only [cc0__body_eq_skeleton]; unfold cc0__body_skel
  simp only [k0_part2_eq_skeleton]
  unfold headProg k0_part2_skel
  simp only [bind_assoc, pure_bind]
  rfl

/-- The body on whole staging memrefs: from the inputs at their contents it leaves the recursion's output. -/
theorem body_run (E : Set ℕ) (hE : E = Set.univ) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare (outOf x0 x1) ∗ (∃ d, owns (c : Thread nD τ) arg3 fullShare d) ∗ (∃ d, owns (c : Thread nD τ) arg4 fullShare d) ∗ (∃ d, owns (c : Thread nD τ) arg5 fullShare d)) -∗ K ⟨⟩))
      ⊢ wp frame (wpE (defs₀ (F := F)) Variants.none c none) E (cc0__body arg0 harg0 arg1 harg1 arg2 harg2 arg3 harg3 arg4 harg4 arg5 harg5) K := by
  subst hE
  rw [body_eq arg0 harg0 arg1 harg1 arg2 harg2 arg3 harg3 arg4 harg4 arg5 harg5 x0 x1]
  unfold owns
  iintro ⟨⟨%f0, %hf0, H0⟩, ⟨%f1, %hf1, H1⟩, ⟨%d2, %f2, -, H2⟩, ⟨%ds0, %fs0, -, H3⟩, ⟨%ds1, %fs1, -, H4⟩, ⟨%ds2, %fs2, -, H5⟩, Hk⟩
  iapply (head_run c arg0 arg3 arg4 arg5 x0)
  isplitl [H0]; · iexists _; isplitl [H0]; · iexact H0
                  ipureintro; exact hf0
  isplitl [H3]; · iexists _; isplitl [H3]; · iexact H3
                  ipureintro; trivial
  isplitl [H4]; · iexists _; isplitl [H4]; · iexact H4
                  ipureintro; trivial
  isplitl [H5]; · iexists _; isplitl [H5]; · iexact H5
                  ipureintro; trivial
  iintro ⟨H0, HI⟩
  iapply (Scf.wp_for_bind frame (wpE (defs₀ (F := F)) Variants.none c none) Set.univ _ _ _ _ (stA x0 0) _ (inv1 c arg3 arg4 arg5 x0)
    (step1 c arg0 harg0 arg1 harg1 arg2 harg2 arg3 harg3 arg4 harg4 arg5 harg5 x0)) $$ HI
  iintro %acc HI
  have ht : Scf.trips k0_t1_loop.lb k0_t1_loop.ub k0_t1_loop.st = 2048 := trips1
  rw [ht]
  unfold inv1
  icases HI with ⟨H4, ⟨%f5, H5, -⟩, H3, -⟩
  iapply (Scf.wp_for_bind frame (wpE (defs₀ (F := F)) Variants.none c none) Set.univ _ _ _ _ (stJ x0 x1 0) _ (inv2 c arg1 arg2 arg3 arg4 x0 x1)
    (step2 c arg0 harg0 arg1 harg1 arg2 harg2 arg3 harg3 arg4 harg4 arg5 harg5 x0 x1)) $$ [H1 H4 H3 H2]
  · unfold inv2
    isplitl [H1]; · iexists _; isplitl [H1]; · iexact H1
                    ipureintro; exact hf1
    isplitl [H4]; · iexact H4
    isplitl [H3]; · iexact H3
    isplitl [H2]
    · iexists _; isplitl [H2]; · iexact H2
      ipureintro
      intro t ht hk
      exact absurd hk (by omega)
    ipureintro; rfl
  iintro %acc HI
  have ht2 : Scf.trips k0_t2_loop.lb k0_t2_loop.ub k0_t2_loop.st = 2048 := trips2
  rw [ht2]
  unfold inv2
  icases HI with ⟨⟨%g1, H1, %k1⟩, ⟨%g4, H4, -⟩, ⟨%g3, H3, -⟩, ⟨%g2, H2, %k2⟩, -⟩
  icases H0 with ⟨%g0, H0, %k0⟩
  sl_step
  iapply Hk
  isplitl [H0]
  · iexists _; isplitr; swap; · iexact H0
    ipureintro; exact k0
  isplitl [H1]
  · iexists _; isplitr; swap; · iexact H1
    ipureintro; exact k1
  isplitl [H2]
  · iexists _; isplitr; swap; · iexact H2
    ipureintro; exact eq_outOf fun t ht => k2 t ht ht
  isplitl [H3]
  · iexists _, _; isplitr; swap; · iexact H3
    ipureintro; rfl
  isplitl [H4]
  · iexists _, _; isplitr; swap; · iexact H4
    ipureintro; rfl
  iexists _, _; isplitr; swap; · iexact H5
  ipureintro; rfl

end Loops

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at the recursion's output; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outOf (iblk m c 0 t) (iblk m c 1 t))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outOf (iblk m c 0 t) (iblk m c 1 t)) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩⟩
  iapply (body_run c _ (hs0_0 t) _ (hs0_1 t) _ (hs0_2 t) _ (Memref.isWhole_whole _) _ (Memref.isWhole_whole _) _ (Memref.isWhole_whole _) (iblk m c 0 t) (iblk m c 1 t) Set.univ rfl _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, H2, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Gen

end
-- ==== Proof.KIdealValue.lean ====
/- What the kernel's program returns, as a function of its argument. -/
module

public import proofs.«01_k».proof.Proof.KIdealRun
public import Idealize.ShloMosaic.Lib.Pipeline.ValueKit
public import Idealize.ShloMosaic.Lib.StableHlo.RunRead

@[expose] public section

set_option maxRecDepth 16384

noncomputable section

namespace Cert.KernelIdeal.Gen

open Idealize.ShloMosaic Idealize.ShloMosaic.TcCoe Idealize.ShloMosaic.StableHlo
open Idealize.SL.Sem

variable {F : FTy → Type} [FloatOps F]

/-- The logits as the kernel is given them. -/
def thetaOf (a : (⟨S40x2048x1, .f32⟩ : BufTy).Contents (Elt F)) : Vec F S2048x40 .f32 :=
  transpose S2048x40 [1, 0] (shapeCast S40x2048 a shapeCasts_S40x2048x1_S40x2048) transposes_S40x2048_S2048x40_1_0

/-- The table of uniforms. -/
def drawsOf : Vec F S2048x40 .f32 := fun i => FloatOps.ofBits .f32 (lit0 (S2048x40.rowMajor i))

/-- The program's result. -/
def resultOf (a : (⟨S40x2048x1, .f32⟩ : BufTy).Contents (Elt F)) : (⟨S40x2048x1, .f32⟩ : BufTy).Contents (Elt F) :=
  broadcastInDim S40x2048x1 ![0, 1] bcast_S40x2048_S40x2048x1_0_1
    (transpose S40x2048 [1, 0] (outOf (thetaOf a) (drawsOf (F := F))) transposes_S2048x40_S40x2048_1_0)

variable (m : (ℓ : Loc nD τ sig) → Buf (Elt F) ℓ) (ρ : Dev nD → PrngReg)

theorem V_v1 (c : Dev nD) : V m c main_v1 = thetaOf (m ((c.tc : Thread nD τ).loc main_arg0)) := by
  unfold V V0 hostOps0 thetaOf
  simp only [List.flatten_cons, List.flatten_nil, List.append_nil]
  after_reads_simp
  rfl

theorem V_cst (c : Dev nD) : V m c main_cst = drawsOf := by
  unfold V V0 hostOps0 drawsOf
  simp only [List.flatten_cons, List.flatten_nil, List.append_nil]
  after_reads_simp
  rfl

theorem iblk0_eq (c : Dev nD) (t : Fin cfg0.N) : (iblk m c 0 t : Vec F S2048x40 .f32) = thetaOf (m ((c.tc : Thread nD τ).loc main_arg0)) := by
  rw [← V_v1]
  obtain rfl := fin_N0 t
  funext y
  refine congrArg (V m c main_v1) ?_
  funext a
  refine Fin.cases ?_ (fun a => Fin.cases ?_ (fun a => a.elim0) a) a
  · exact Fin.ext (by show 0 * 2048 + 1 * (y 0).val = (y 0).val; omega)
  · exact Fin.ext (by show 0 * 40 + 1 * (y 1).val = (y 1).val; omega)

theorem iblk1_eq (c : Dev nD) (t : Fin cfg0.N) : (iblk m c 1 t : Vec F S2048x40 .f32) = drawsOf := by
  rw [← V_cst m c]
  obtain rfl := fin_N0 t
  funext y
  refine congrArg (V m c main_cst) ?_
  funext a
  refine Fin.cases ?_ (fun a => Fin.cases ?_ (fun a => a.elim0) a) a
  · exact Fin.ext (by show 0 * 2048 + 1 * (y 0).val = (y 0).val; omega)
  · exact Fin.ext (by show 0 * 40 + 1 * (y 1).val = (y 1).val; omega)

theorem arr_out (c : Dev nD) : (dats m 0 c).arrAt 2 cfg0.N = outOf (thetaOf (m ((c.tc : Thread nD τ).loc main_arg0))) drawsOf := by
  funext i
  refine ((dats m 0 c).arrAt_emb_eq_after_last 2 t0_0 (by decide +kernel) i).trans ?_
  rw [after0_2, iblk0_eq, iblk1_eq]
  rfl

theorem W_main_v4 (c : Dev nD) : Pipeline.afterTail₀ cfgs (dats m) 0 (V0 m) [hostOps1] c main_v4 = resultOf (m ((c.tc : Thread nD τ).loc main_arg0)) := by
  unfold Pipeline.afterTail₀ hostOps1 resultOf
  simp only [List.flatten_cons, List.flatten_nil, List.append_nil]
  after_reads_simp
  rw [← arr_out m c]
  exact congrArg (fun z => broadcastInDim S40x2048x1 ![0, 1] bcast_S40x2048_S40x2048x1_0_1
      (transpose S40x2048 [1, 0] z transposes_S2048x40_S40x2048_1_0))
    (Pipeline.withArrays_arr spec0 winFacts0.arr_inj c (V0 m c) (fun w => (dats m 0 c).arrAt w cfg0.N) 2)

theorem run_value : θ_run defs (onTc (τ := τ) (main (F := F))) ⟨m, fun _ => 0, ρ⟩ (fun r => ∀ c : Dev nD,
    r.2.mem ((c.tc : Thread nD τ).loc main_v4) = resultOf (m ((c.tc : Thread nD τ).loc main_arg0))
    ∧ r.2.mem ((c.tc : Thread nD τ).loc main_arg0) = m ((c.tc : Thread nD τ).loc main_arg0)) := by
  have hv : θ_run defs (onTc (τ := τ) (main (F := F))) ⟨m, fun _ => 0, ρ⟩ (fun r => ∀ c : Dev nD,
      r.2.mem ((c.tc : Thread nD τ).loc main_v4) = resultOf (m ((c.tc : Thread nD τ).loc main_arg0))) := by
    refine (θ_run defs _ _).mono ?_ (run_main m ρ)
    intro r h c
    rw [← W_main_v4]
    exact (h c).2 main_v4 (Pipeline.mem_restRefs_of main_v4 (by decide) (by decide))
  exact (θ_run defs _ _).mono (fun _ h c => ⟨h.1 c, h.2 c⟩) (θ_run_and hv (unchanged m ρ))

end Cert.KernelIdeal.Gen

end
-- ==== Proof.RunMany.lean ====
/-
  The run of a host program with no kernel whose @main is stretches of host operations and SEVERAL counted host loops, in
  any order: `run_many`. The contents of the buffers at the end are the fold `foldMany` of the items over the launch contents.
  Also `Chn`: small rules which check that a printed block is the chain of a list of such items.
-/
module

public import Idealize.ShloMosaic.Lib.StableHlo.RunLoop
public import Idealize.ShloMosaic.Lib.StableHlo.RunHlo

@[expose] public section

noncomputable section

namespace Cert.Proof.Many

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe
open Idealize.ShloMosaic.Pipeline (CSeg Ticket PCfg ucRefs unscopedBufs_held sub_ucRefs)

/-! ## Reading a printed block -/

section Chn

variable {nD : Nat} {τ : Topo} {sig : RefSig} {Val : EltTy → Type} {Λ : Labels}

/-- The printed block `p` is the chain of `items`. -/
def Chn (p : Prog (TpuEff nD τ sig Val Λ .tc) PUnit) (items : List (Prog (TpuEff nD τ sig Val Λ .tc) PUnit)) : Prop :=
  p = Pipeline.chain items

theorem Chn.nil : Chn (nD := nD) (τ := τ) (sig := sig) (Val := Val) (Λ := Λ) (pure ⟨⟩) [] := rfl

/-- One printed operation at the head of a stretch. -/
theorem Chn.op {op : HloOp τ sig Val} {k : Prog (TpuEff nD τ sig Val Λ .tc) PUnit} {ops : List (HloOp τ sig Val)}
    {r : List (Prog (TpuEff nD τ sig Val Λ .tc) PUnit)} (h : Chn k (seq ops :: r)) :
    Chn ((hlo rfl op fun _ => .ret (⟨⟩ : PUnit)) >>= fun _ => k) (seq (op :: ops) :: r) := by
  unfold Chn at h ⊢
  rw [h]
  rfl

/-- The end of a stretch. -/
theorem Chn.close {k : Prog (TpuEff nD τ sig Val Λ .tc) PUnit} {r : List (Prog (TpuEff nD τ sig Val Λ .tc) PUnit)} (h : Chn k r) :
    Chn k (seq [] :: r) := h

/-- A call of a straight-line function: a stretch of its own. -/
theorem Chn.call {p k : Prog (TpuEff nD τ sig Val Λ .tc) PUnit} {ops : List (HloOp τ sig Val)}
    {r : List (Prog (TpuEff nD τ sig Val Λ .tc) PUnit)} (hp : IsSeq p ops) (h : Chn k r) :
    Chn (p >>= fun _ => k) (seq ops :: r) := by
  unfold Chn at h ⊢
  unfold IsSeq at hp
  rw [h, hp]
  rfl

/-- Any other item, a loop's entry. -/
theorem Chn.item {p k : Prog (TpuEff nD τ sig Val Λ .tc) PUnit}
    {r : List (Prog (TpuEff nD τ sig Val Λ .tc) PUnit)} (h : Chn k r) :
    Chn (p >>= fun _ => k) (p :: r) := by
  unfold Chn at h ⊢
  rw [h]
  rfl

/-- A window before the rest of the block. -/
theorem Chn.assoc {p : Prog (TpuEff nD τ sig Val Λ .tc) PUnit} {k f : PUnit → Prog (TpuEff nD τ sig Val Λ .tc) PUnit}
    {r : List (Prog (TpuEff nD τ sig Val Λ .tc) PUnit)} (h : Chn (p >>= fun x => (k x >>= f)) r) :
    Chn ((p >>= k) >>= f) r := by
  unfold Chn at h ⊢
  rw [← h, bind_assoc]

theorem Chn.unit {f : PUnit → Prog (TpuEff nD τ sig Val Λ .tc) PUnit}
    {r : List (Prog (TpuEff nD τ sig Val Λ .tc) PUnit)} (h : Chn (f ⟨⟩) r) :
    Chn ((pure ⟨⟩ : Prog (TpuEff nD τ sig Val Λ .tc) PUnit) >>= f) r := h

/-- A block that ends in an item without a closing return. -/
theorem Chn.last {p : Prog (TpuEff nD τ sig Val Λ .tc) PUnit}
    {r : List (Prog (TpuEff nD τ sig Val Λ .tc) PUnit)} (h : Chn (p >>= fun _ => pure ⟨⟩) r) : Chn p r := by
  unfold Chn at h ⊢
  rw [← h, bind_pure_unit]

/-- A call of a straight-line function inside a straight-line function. -/
theorem isSeq_call {p k : Prog (TpuEff nD τ sig Val Λ .tc) PUnit} {o ops : List (HloOp τ sig Val)}
    (hp : IsSeq p o) (h : IsSeq k ops) : IsSeq (p >>= fun _ => k) (o ++ ops) := by
  unfold IsSeq at hp h ⊢
  rw [hp, h, ← seq_append]

end Chn

/-! ## The run -/

section Run

variable {nD : Nat} {τ : Topo} {sig : RefSig} {F : FTy → Type} {Λ₀ : Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

abbrev madm : (p : Fin 0) → (pcs p).Adm := fun p => p.elim0
abbrev mtk : Fin 0 → Ticket (Ix := Unit) (Name := ℕ) (U := Option PUnit) (Lvl := ℕ) (nD := nD) (τ := τ) pcs (madm pcs) := fun j => j.elim0
abbrev mL : GSem nD τ sig → Finset Unit := fun _ => ∅
abbrev mlv : GSem nD τ sig → Unit → ℕ := fun _ _ => 0

theorem mcell_inj : Function.Injective (Pipeline.cellOf (nD := nD) (τ := τ) (Pipeline.pin pcs (madm pcs))) :=
  fun k => k.1.elim0

/-- What rides beside the buffers. -/
abbrev Ride (c : Dev nD) : sProp 𝕄 := iprop(∃ W, owes (c : Thread nD τ) (0 : CellTallies nD τ sig Unit) W)

/-- One item of @main: a stretch, or a counted loop with what is known of it. -/
inductive Item where
  | ops (o : List (HloOp τ sig (Elt F)))
  | loop (l : Fin nL)
      (cond : Prog (TpuEff nD τ sig (Elt F) (HostLoop.Sig (Pipeline.Sig Λ₀ (Fin 0) fun p => (pcs p).Adm) nL) .tc) (Elt F .i1))
      (body : Prog (TpuEff nD τ sig (Elt F) (HostLoop.Sig (Pipeline.Sig Λ₀ (Fin 0) fun p => (pcs p).Adm) nL) .tc) PUnit)
      (condOps : List (HloOp τ sig (Elt F))) (bodyI : List (List (HloOp τ sig (Elt F)))) (n : ℕ)

variable {pcs}

/-- The item's program. -/
def Item.prog : Item (nD := nD) (τ := τ) (sig := sig) (F := F) (Λ₀ := Λ₀) (nL := nL) pcs →
    Prog (TpuEff nD τ sig (Elt F) (HostLoop.Sig (Pipeline.Sig Λ₀ (Fin 0) fun p => (pcs p).Adm) nL) .tc) PUnit
  | .ops o => seq o
  | .loop l _ _ _ _ _ => HostLoop.enter l

/-- The contents after the item from those before it. -/
def Item.next : Item (nD := nD) (τ := τ) (sig := sig) (F := F) (Λ₀ := Λ₀) (nL := nL) pcs →
    (Dev nD → Valuation τ sig (Elt F)) → Dev nD → Valuation τ sig (Elt F)
  | .ops o, V => fun c => after o (V c)
  | .loop _ _ _ condOps bodyI n, V => fun c => after condOps (atTrip condOps bodyI V n c)

/-- The contents after a list of items. -/
def foldMany : List (Item (nD := nD) (τ := τ) (sig := sig) (F := F) (Λ₀ := Λ₀) (nL := nL) pcs) →
    (Dev nD → Valuation τ sig (Elt F)) → Dev nD → Valuation τ sig (Elt F)
  | [], V => V
  | i :: r, V => foldMany r (i.next V)

/-- What is asked of an item entered at the contents `V`. -/
def Item.Ok : Item (nD := nD) (τ := τ) (sig := sig) (F := F) (Λ₀ := Λ₀) (nL := nL) pcs →
    (Dev nD → Valuation τ sig (Elt F)) → Prop
  | .ops o, _ => Plain [o]
  | .loop l cond body condOps bodyI n, V =>
    loops l = HostLoop.step l cond body ∧ Plain bodyI ∧ (body = Pipeline.chain (bodyI.map fun ops => (seq ops : Prog _ PUnit)))
      ∧ CondSpec pcs defs₀ loops cond condOps bodyI V n

/-- What is asked of a list of items. -/
def OkMany : List (Item (nD := nD) (τ := τ) (sig := sig) (F := F) (Λ₀ := Λ₀) (nL := nL) pcs) →
    (Dev nD → Valuation τ sig (Elt F)) → Prop
  | [], _ => True
  | i :: r, V => i.Ok defs₀ loops V ∧ OkMany r (i.next V)

variable {defs₀ loops}

/-- A condition's specification with what rides framed through it. -/
theorem ride_cond {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops (Ride (F := F)) cond condOps bodyI W₀ n := by
  intro k hk c bd
  refine BIBase.Entails.trans ?_ (((sep_mono_left (Q := Ride (F := F) c) (hcond k hk c bd)).trans (wp_frame_r _ _ _)).trans (wp_mono _ _ _ fun v => ?_))
  · iintro ⟨Ha, Hb, Hc⟩
    isplitl [Ha Hb]
    · isplitl [Ha] <;> iassumption
    · iexact Hc
  · iintro ⟨⟨%hv, Ha, Hb⟩, Hc⟩
    isplitr
    · ipureintro; exact hv
    isplitl [Ha]
    · iexact Ha
    isplitl [Hb] <;> iassumption

/-- The segments of one item. -/
def itemSegs : (i : Item (nD := nD) (τ := τ) (sig := sig) (F := F) (Λ₀ := Λ₀) (nL := nL) pcs) → (V : Dev nD → Valuation τ sig (Elt F)) →
    i.Ok defs₀ loops V → List (CSeg pcs (madm pcs) defs₀ Variants.none mL mlv loops (mtk pcs))
  | .ops o, V, h => segsOf _ _ _ _ _ _ _ _ (Ride (F := F)) [o] h V
  | .loop l cond body condOps bodyI n, V, h =>
    [loopSeg _ _ _ _ _ _ _ _ l cond body h.1 condOps bodyI h.2.1 h.2.2.1 n V (Ride (F := F)) (ride_cond h.2.2.2)]

/-- The segments of a list of items. -/
def manySegs : (is : List (Item (nD := nD) (τ := τ) (sig := sig) (F := F) (Λ₀ := Λ₀) (nL := nL) pcs)) → (V : Dev nD → Valuation τ sig (Elt F)) →
    OkMany defs₀ loops is V → List (CSeg pcs (madm pcs) defs₀ Variants.none mL mlv loops (mtk pcs))
  | [], _, _ => []
  | i :: r, V, h => itemSegs i V h.1 ++ manySegs r (i.next V) h.2

theorem itemSegs_prog (i : Item (nD := nD) (τ := τ) (sig := sig) (F := F) (Λ₀ := Λ₀) (nL := nL) pcs) (V : Dev nD → Valuation τ sig (Elt F))
    (h : i.Ok defs₀ loops V) : (itemSegs i V h).map CSeg.prog = [i.prog] := by
  cases i with
  | ops o => exact segsOf_prog _ _ _ _ _ _ _ _ (Ride (F := F)) [o] h V
  | loop l cond body condOps bodyI n => rfl

theorem manySegs_prog : ∀ (is : List (Item (nD := nD) (τ := τ) (sig := sig) (F := F) (Λ₀ := Λ₀) (nL := nL) pcs)) (V : Dev nD → Valuation τ sig (Elt F))
    (h : OkMany defs₀ loops is V), (manySegs is V h).map CSeg.prog = is.map Item.prog
  | [], _, _ => rfl
  | i :: r, V, h => by
    unfold manySegs
    rw [List.map_append, itemSegs_prog, manySegs_prog r, List.map_cons, List.singleton_append]

theorem itemSegs_chains (i : Item (nD := nD) (τ := τ) (sig := sig) (F := F) (Λ₀ := Λ₀) (nL := nL) pcs) (V : Dev nD → Valuation τ sig (Elt F))
    (h : i.Ok defs₀ loops V) :
    CSeg.Chains (fun c => iprop(held (c : Thread nD τ) (ucRefs τ sig) (V c) ∗ Ride (F := F) c)) (itemSegs i V h)
      (fun c => iprop(held (c : Thread nD τ) (ucRefs τ sig) (i.next V c) ∗ Ride (F := F) c)) := by
  cases i with
  | ops o => exact segsOf_chains _ _ _ _ _ _ _ _ (Ride (F := F)) [o] h V
  | loop l cond body condOps bodyI n => exact ⟨fun _ => .rfl, fun _ => .rfl⟩

theorem manySegs_chains : ∀ (is : List (Item (nD := nD) (τ := τ) (sig := sig) (F := F) (Λ₀ := Λ₀) (nL := nL) pcs)) (V : Dev nD → Valuation τ sig (Elt F))
    (h : OkMany defs₀ loops is V),
    CSeg.Chains (fun c => iprop(held (c : Thread nD τ) (ucRefs τ sig) (V c) ∗ Ride (F := F) c)) (manySegs is V h)
      (fun c => iprop(held (c : Thread nD τ) (ucRefs τ sig) (foldMany is V c) ∗ Ride (F := F) c))
  | [], _, _ => fun _ => .rfl
  | i :: r, V, h => CSeg.Chains.append (itemSegs_chains i V h.1) (manySegs_chains r (i.next V) h.2)

end Run

/-- The run: from any memory with zero counters every execution of @main terminates, and every unscoped buffer ends at the
    fold of the items over the launch contents. -/
theorem run_many {nD : Nat} {τ : Topo} {sig : RefSig} {F : FTy → Type} {Λ₀ : Labels} [∀ e, Nonempty (Elt F e)]
    (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (main : Dev nD → Prog (TpuEff nD τ sig (Elt F) (HostLoop.Sig (Pipeline.Sig Λ₀ (Fin 0) fun p => (pcs p).Adm) nL) .tc) PUnit)
    (is : List (Item (nD := nD) (τ := τ) (sig := sig) (F := F) (Λ₀ := Λ₀) (nL := nL) pcs))
    (hmain : ∀ c, main c = Pipeline.chain (is.map Item.prog))
    (m : (ℓ : Loc nD τ sig) → Buf (Elt F) ℓ) (ρ : Dev nD → PrngReg)
    (hok : OkMany defs₀ loops is (launchContents m)) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = foldMany is (launchContents m) c (Proc.devRef .tc b)) :=
  Pipeline.θ_run_regions_loop_kit (Ix := Unit) (Name := ℕ) (U := Option PUnit) (Lvl := ℕ) (J := Fin 0) (P := Fin 0) (Val := Elt F)
    pcs (madm pcs) (mcell_inj pcs) defs₀ Variants.none mL mlv loops (mtk pcs) m ρ main
    (manySegs is (launchContents m) hok)
    (fun c Q => by
      rw [hmain c]
      show wp _ _ _ (Pipeline.chain ((manySegs is (launchContents m) hok).map CSeg.prog)) Q ⊢ _
      rw [manySegs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ))
            ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Ride (F := F) c))
    (Tₙ := fun c => iprop(held (c : Thread nD τ) (ucRefs τ sig) (foldMany is (launchContents m) c)))
    (hch := manySegs_chains is (launchContents m) hok)
    (hinit := by
      refine Pipeline.initEach mL mlv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = foldMany is (launchContents m) c b)
    (hfin := fun c s' => by
      unfold held
      iintro ⟨Hh, HSI⟩
      ihave Hr := (pointsTo_read_all (ucRefs τ sig) (fun b => ((c : Dev nD), b)) (fun b => foldMany is (launchContents m) c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.Proof.Many

end
-- ==== Proof.RefOps.lean ====
/-
  The operation lists of the reference program, as printed: one list per module-local function, and for @main and the four
  loop bodies the stretches between calls. Each comes with the proof that the printed block is that line of operations.
-/
module

public import proofs.«01_k».proof.ReferenceIdeal
public import proofs.«01_k».proof.Proof.RunMany
public import Idealize.ShloMosaic.Lib.StableHlo.RunHlo

@[expose] public section

set_option maxRecDepth 100000

noncomputable section

namespace Cert.Proof.Ref

open Cert.ReferenceIdeal
open Idealize.ShloMosaic Idealize.SL.Sem Idealize.ShloMosaic.StableHlo
open Cert.Proof.Many
open TcCoe

variable {F : FTy → Type} [FloatOps F]

variable [Facts]
open Facts₀ Facts

abbrev fn_softplus_ops (arg0 : StableHlo.TRef sig ⟨S40x2048, .f32⟩) (φ : fn_softplus.Bufs) : List (HloOp τ sig (Elt F)) :=
    (StableHlo.TRef.nullary φ.cst (constant S_ .f32 0x00000000#32)) ::
    (StableHlo.TRef.unary φ.cst φ.v0 (broadcastInDim S40x2048 ![] bcast_S_S40x2048)) ::
    (StableHlo.TRef.binary arg0 φ.v0 φ.v1 maximumf) ::
    (StableHlo.TRef.unary φ.cst φ.v2 (broadcastInDim S40x2048 ![] bcast_S_S40x2048)) ::
    (StableHlo.TRef.binary arg0 φ.v2 φ.v3 subf) ::
    (StableHlo.TRef.binary φ.v3 φ.v3 φ.v4 (cmpf .une)) ::
    (StableHlo.TRef.unary φ.cst φ.v5 (broadcastInDim S40x2048 ![] bcast_S_S40x2048)) ::
    (StableHlo.TRef.binary arg0 φ.v5 φ.v6 addf) ::
    (StableHlo.TRef.unary φ.v3 φ.v7 Host.absf) ::
    (StableHlo.TRef.unary φ.v7 φ.v8 Host.negf) ::
    (StableHlo.TRef.unary φ.v8 φ.v9 Host.exp) ::
    (StableHlo.TRef.unary φ.v9 φ.v10 Host.log1p) ::
    (StableHlo.TRef.binary φ.v1 φ.v10 φ.v11 addf) ::
    (StableHlo.TRef.ternary φ.v4 φ.v6 φ.v11 φ.v12 select) ::
    []

theorem fn_softplus_seq (arg0 : StableHlo.TRef sig ⟨S40x2048, .f32⟩) (φ : fn_softplus.Bufs) : IsSeq (fn_softplus.body arg0 φ) (fn_softplus_ops (F := F) arg0 φ) := by
  unfold fn_softplus.body
  apply IsSeq.cons
  apply IsSeq.cons
  apply IsSeq.cons
  apply IsSeq.cons
  apply IsSeq.cons
  apply IsSeq.cons
  apply IsSeq.cons
  apply IsSeq.cons
  apply IsSeq.cons
  apply IsSeq.cons
  apply IsSeq.cons
  apply IsSeq.cons
  apply IsSeq.cons
  apply IsSeq.cons
  exact IsSeq.nil

abbrev fn_log_sigmoid_ops (arg0 : StableHlo.TRef sig ⟨S40x2048, .f32⟩) (φ : fn_log_sigmoid.Bufs) : List (HloOp τ sig (Elt F)) :=
    (StableHlo.TRef.unary arg0 φ.v0 Host.negf) ::
    (fn_softplus_ops φ.v0 φ.call0) ++ ((StableHlo.TRef.unary φ.call0.v12 φ.v2 Host.negf) ::
    [])

theorem fn_log_sigmoid_seq (arg0 : StableHlo.TRef sig ⟨S40x2048, .f32⟩) (φ : fn_log_sigmoid.Bufs) : IsSeq (fn_log_sigmoid.body arg0 φ) (fn_log_sigmoid_ops (F := F) arg0 φ) := by
  unfold fn_log_sigmoid.body
  apply IsSeq.cons
  refine isSeq_call (fn_softplus_seq ..) ?_
  apply IsSeq.cons
  exact IsSeq.nil

abbrev fn_where_ops (arg0 : StableHlo.TRef sig ⟨S40x2048, .i1⟩) (arg1 : StableHlo.TRef sig ⟨S40x2048, .f32⟩) (arg2 : StableHlo.TRef sig ⟨S_, .f32⟩) (φ : fn_where.Bufs) : List (HloOp τ sig (Elt F)) :=
    (StableHlo.TRef.unary arg2 φ.v0 id) ::
    (StableHlo.TRef.unary φ.v0 φ.v1 (broadcastInDim S40x2048 ![] bcast_S_S40x2048)) ::
    (StableHlo.TRef.ternary arg0 arg1 φ.v1 φ.v2 select) ::
    []

theorem fn_where_seq (arg0 : StableHlo.TRef sig ⟨S40x2048, .i1⟩) (arg1 : StableHlo.TRef sig ⟨S40x2048, .f32⟩) (arg2 : StableHlo.TRef sig ⟨S_, .f32⟩) (φ : fn_where.Bufs) : IsSeq (fn_where.body arg0 arg1 arg2 φ) (fn_where_ops (F := F) arg0 arg1 arg2 φ) := by
  unfold fn_where.body
  apply IsSeq.cons
  apply IsSeq.cons
  apply IsSeq.cons
  exact IsSeq.nil

abbrev fn_where_0_ops (arg0 : StableHlo.TRef sig ⟨S40x2048, .i1⟩) (arg1 : StableHlo.TRef sig ⟨S_, .f32⟩) (arg2 : StableHlo.TRef sig ⟨S40x2048, .f32⟩) (φ : fn_where_0.Bufs) : List (HloOp τ sig (Elt F)) :=
    (StableHlo.TRef.unary arg1 φ.v0 id) ::
    (StableHlo.TRef.unary φ.v0 φ.v1 (broadcastInDim S40x2048 ![] bcast_S_S40x2048)) ::
    (StableHlo.TRef.ternary arg0 φ.v1 arg2 φ.v2 select) ::
    []

theorem fn_where_0_seq (arg0 : StableHlo.TRef sig ⟨S40x2048, .i1⟩) (arg1 : StableHlo.TRef sig ⟨S_, .f32⟩) (arg2 : StableHlo.TRef sig ⟨S40x2048, .f32⟩) (φ : fn_where_0.Bufs) : IsSeq (fn_where_0.body arg0 arg1 arg2 φ) (fn_where_0_ops (F := F) arg0 arg1 arg2 φ) := by
  unfold fn_where_0.body
  apply IsSeq.cons
  apply IsSeq.cons
  apply IsSeq.cons
  exact IsSeq.nil

abbrev fn_where_1_ops (arg0 : StableHlo.TRef sig ⟨S40x2048, .i1⟩) (arg1 : StableHlo.TRef sig ⟨S40x2048, .f32⟩) (arg2 : StableHlo.TRef sig ⟨S40x2048, .f32⟩) (φ : fn_where_1.Bufs) : List (HloOp τ sig (Elt F)) :=
    (StableHlo.TRef.ternary arg0 arg1 arg2 φ.v0 select) ::
    []

theorem fn_where_1_seq (arg0 : StableHlo.TRef sig ⟨S40x2048, .i1⟩) (arg1 : StableHlo.TRef sig ⟨S40x2048, .f32⟩) (arg2 : StableHlo.TRef sig ⟨S40x2048, .f32⟩) (φ : fn_where_1.Bufs) : IsSeq (fn_where_1.body arg0 arg1 arg2 φ) (fn_where_1_ops (F := F) arg0 arg1 arg2 φ) := by
  unfold fn_where_1.body
  apply IsSeq.cons
  exact IsSeq.nil

abbrev fn_dynamic_index_in_dim_ops (arg0 : StableHlo.TRef sig ⟨S2048x40, .f32⟩) (arg1 : StableHlo.TRef sig ⟨S_, .i32⟩) (φ : fn_dynamic_index_in_dim.Bufs) : List (HloOp τ sig (Elt F)) :=
    (StableHlo.TRef.nullary φ.c (constantI S_ 32 0#32)) ::
    (StableHlo.TRef.unaryIndexed arg0 ![arg1, φ.c] φ.v0 (fun x i => Host.dynamicSlice S1x40 x (fun k => (i k (Shape.Idx.first h_S_)).toInt) sliceFits_S2048x40_S1x40)) ::
    (StableHlo.TRef.reshape φ.v0 φ.v1 (rfl : (.f32 : EltTy) = .f32) shapeCasts_S1x40_S40) ::
    []

theorem fn_dynamic_index_in_dim_seq (arg0 : StableHlo.TRef sig ⟨S2048x40, .f32⟩) (arg1 : StableHlo.TRef sig ⟨S_, .i32⟩) (φ : fn_dynamic_index_in_dim.Bufs) : IsSeq (fn_dynamic_index_in_dim.body arg0 arg1 φ) (fn_dynamic_index_in_dim_ops (F := F) arg0 arg1 φ) := by
  unfold fn_dynamic_index_in_dim.body
  apply IsSeq.cons
  apply IsSeq.cons
  apply IsSeq.cons
  exact IsSeq.nil

abbrev fn_dynamic_update_index_in_dim_ops (arg0 : StableHlo.TRef sig ⟨S2048x40x12, .f32⟩) (arg1 : StableHlo.TRef sig ⟨S40x12, .f32⟩) (arg2 : StableHlo.TRef sig ⟨S_, .i32⟩) (φ : fn_dynamic_update_index_in_dim.Bufs) : List (HloOp τ sig (Elt F)) :=
    (StableHlo.TRef.unary arg1 φ.v0 (broadcastInDim S1x40x12 ![1, 2] bcast_S40x12_S1x40x12_1_2)) ::
    (StableHlo.TRef.nullary φ.c (constantI S_ 32 0#32)) ::
    (StableHlo.TRef.nullary φ.c_0 (constantI S_ 32 0#32)) ::
    (StableHlo.TRef.binaryIndexed arg0 φ.v0 ![arg2, φ.c, φ.c_0] φ.v1 (fun x u i => Host.dynamicUpdateSlice x u (fun k => (i k (Shape.Idx.first h_S_)).toInt) updateFits_S2048x40x12_S1x40x12)) ::
    []

theorem fn_dynamic_update_index_in_dim_seq (arg0 : StableHlo.TRef sig ⟨S2048x40x12, .f32⟩) (arg1 : StableHlo.TRef sig ⟨S40x12, .f32⟩) (arg2 : StableHlo.TRef sig ⟨S_, .i32⟩) (φ : fn_dynamic_update_index_in_dim.Bufs) : IsSeq (fn_dynamic_update_index_in_dim.body arg0 arg1 arg2 φ) (fn_dynamic_update_index_in_dim_ops (F := F) arg0 arg1 arg2 φ) := by
  unfold fn_dynamic_update_index_in_dim.body
  apply IsSeq.cons
  apply IsSeq.cons
  apply IsSeq.cons
  apply IsSeq.cons
  exact IsSeq.nil

abbrev fn_dynamic_index_in_dim_2_ops (arg0 : StableHlo.TRef sig ⟨S2048, .i32⟩) (arg1 : StableHlo.TRef sig ⟨S_, .i32⟩) (φ : fn_dynamic_index_in_dim_2.Bufs) : List (HloOp τ sig (Elt F)) :=
    (StableHlo.TRef.unaryIndexed arg0 ![arg1] φ.v0 (fun x i => Host.dynamicSlice S1 x (fun k => (i k (Shape.Idx.first h_S_)).toInt) sliceFits_S2048_S1)) ::
    (StableHlo.TRef.reshape φ.v0 φ.v1 (rfl : (.i32 : EltTy) = .i32) shapeCasts_S1_S_) ::
    []

theorem fn_dynamic_index_in_dim_2_seq (arg0 : StableHlo.TRef sig ⟨S2048, .i32⟩) (arg1 : StableHlo.TRef sig ⟨S_, .i32⟩) (φ : fn_dynamic_index_in_dim_2.Bufs) : IsSeq (fn_dynamic_index_in_dim_2.body arg0 arg1 φ) (fn_dynamic_index_in_dim_2_ops (F := F) arg0 arg1 φ) := by
  unfold fn_dynamic_index_in_dim_2.body
  apply IsSeq.cons
  apply IsSeq.cons
  exact IsSeq.nil

abbrev fn_dynamic_index_in_dim_3_ops (arg0 : StableHlo.TRef sig ⟨S2048x40, .f32⟩) (arg1 : StableHlo.TRef sig ⟨S_, .i32⟩) (φ : fn_dynamic_index_in_dim_3.Bufs) : List (HloOp τ sig (Elt F)) :=
    (StableHlo.TRef.nullary φ.c (constantI S_ 32 0#32)) ::
    (StableHlo.TRef.unaryIndexed arg0 ![arg1, φ.c] φ.v0 (fun x i => Host.dynamicSlice S1x40 x (fun k => (i k (Shape.Idx.first h_S_)).toInt) sliceFits_S2048x40_S1x40)) ::
    (StableHlo.TRef.reshape φ.v0 φ.v1 (rfl : (.f32 : EltTy) = .f32) shapeCasts_S1x40_S40) ::
    []

theorem fn_dynamic_index_in_dim_3_seq (arg0 : StableHlo.TRef sig ⟨S2048x40, .f32⟩) (arg1 : StableHlo.TRef sig ⟨S_, .i32⟩) (φ : fn_dynamic_index_in_dim_3.Bufs) : IsSeq (fn_dynamic_index_in_dim_3.body arg0 arg1 φ) (fn_dynamic_index_in_dim_3_ops (F := F) arg0 arg1 φ) := by
  unfold fn_dynamic_index_in_dim_3.body
  apply IsSeq.cons
  apply IsSeq.cons
  apply IsSeq.cons
  exact IsSeq.nil

abbrev fn_where_4_ops (arg0 : StableHlo.TRef sig ⟨S_, .i1⟩) (arg1 : StableHlo.TRef sig ⟨S_, .i32⟩) (arg2 : StableHlo.TRef sig ⟨S_, .i32⟩) (φ : fn_where_4.Bufs) : List (HloOp τ sig (Elt F)) :=
    (StableHlo.TRef.ternary arg0 arg1 arg2 φ.v0 select) ::
    []

theorem fn_where_4_seq (arg0 : StableHlo.TRef sig ⟨S_, .i1⟩) (arg1 : StableHlo.TRef sig ⟨S_, .i32⟩) (arg2 : StableHlo.TRef sig ⟨S_, .i32⟩) (φ : fn_where_4.Bufs) : IsSeq (fn_where_4.body arg0 arg1 arg2 φ) (fn_where_4_ops (F := F) arg0 arg1 arg2 φ) := by
  unfold fn_where_4.body
  apply IsSeq.cons
  exact IsSeq.nil

abbrev fn_take_ops (arg0 : StableHlo.TRef sig ⟨S40x2048, .f32⟩) (arg1 : StableHlo.TRef sig ⟨S_, .i32⟩) (φ : fn_take.Bufs) : List (HloOp τ sig (Elt F)) :=
    (StableHlo.TRef.nullary φ.c (constantI S_ 32 0#32)) ::
    (StableHlo.TRef.binary arg1 φ.c φ.v0 (cmpi .slt)) ::
    (StableHlo.TRef.nullary φ.c_0 (constantI S_ 32 2048#32)) ::
    (StableHlo.TRef.binary arg1 φ.c_0 φ.v1 addi) ::
    (fn_where_4_ops φ.v0 φ.v1 arg1 φ.call0) ++ ((StableHlo.TRef.unary φ.call0.v0 φ.v3 (broadcastInDim S1 ![] bcast_S_S1)) ::
    (StableHlo.TRef.nullary φ.c_1 (constantI S1 32 2047#32)) ::
    (StableHlo.TRef.nullary φ.c_2 (constantI S_ 32 0#32)) ::
    (StableHlo.TRef.unary φ.c_2 φ.v4 (broadcastInDim S1 ![] bcast_S_S1)) ::
    (StableHlo.TRef.binary φ.v3 φ.v4 φ.v5 (cmpi .sge)) ::
    (StableHlo.TRef.binary φ.v3 φ.c_1 φ.v6 (cmpi .sle)) ::
    (StableHlo.TRef.binary φ.v5 φ.v6 φ.v7 andi) ::
    (StableHlo.TRef.nullary φ.c_3 (constantI S_ 1 1#1)) ::
    (StableHlo.TRef.binary φ.v7 φ.c_3 φ.v8 (fun x v => Host.reduce IntOp.andi x v reducesTo_S1_S_d0 h_S_)) ::
    (StableHlo.TRef.binary arg0 φ.v3 φ.v9 (fun x i => Host.gather gather_S40x2048_S1_S40_0_1_n_n_1_0_401 x i)) ::
    (StableHlo.TRef.unary φ.v8 φ.v10 (broadcastInDim S40 ![] bcast_S_S40)) ::
    (StableHlo.TRef.nullary φ.cst (constant S_ .f32 0x7FC00000#32)) ::
    (StableHlo.TRef.unary φ.cst φ.v11 (broadcastInDim S40 ![] bcast_S_S40)) ::
    (StableHlo.TRef.ternary φ.v10 φ.v9 φ.v11 φ.v12 select) ::
    [])

theorem fn_take_seq (arg0 : StableHlo.TRef sig ⟨S40x2048, .f32⟩) (arg1 : StableHlo.TRef sig ⟨S_, .i32⟩) (φ : fn_take.Bufs) : IsSeq (fn_take.body arg0 arg1 φ) (fn_take_ops (F := F) arg0 arg1 φ) := by
  unfold fn_take.body
  apply IsSeq.cons
  apply IsSeq.cons
  apply IsSeq.cons
  apply IsSeq.cons
  refine isSeq_call (fn_where_4_seq ..) ?_
  apply IsSeq.cons
  apply IsSeq.cons
  apply IsSeq.cons
  apply IsSeq.cons
  apply IsSeq.cons
  apply IsSeq.cons
  apply IsSeq.cons
  apply IsSeq.cons
  apply IsSeq.cons
  apply IsSeq.cons
  apply IsSeq.cons
  apply IsSeq.cons
  apply IsSeq.cons
  apply IsSeq.cons
  exact IsSeq.nil

abbrev fn_where_5_ops (arg0 : StableHlo.TRef sig ⟨S40, .i1⟩) (arg1 : StableHlo.TRef sig ⟨S40, .f32⟩) (arg2 : StableHlo.TRef sig ⟨S_, .f32⟩) (φ : fn_where_5.Bufs) : List (HloOp τ sig (Elt F)) :=
    (StableHlo.TRef.unary arg2 φ.v0 id) ::
    (StableHlo.TRef.unary φ.v0 φ.v1 (broadcastInDim S40 ![] bcast_S_S40)) ::
    (StableHlo.TRef.ternary arg0 arg1 φ.v1 φ.v2 select) ::
    []

theorem fn_where_5_seq (arg0 : StableHlo.TRef sig ⟨S40, .i1⟩) (arg1 : StableHlo.TRef sig ⟨S40, .f32⟩) (arg2 : StableHlo.TRef sig ⟨S_, .f32⟩) (φ : fn_where_5.Bufs) : IsSeq (fn_where_5.body arg0 arg1 arg2 φ) (fn_where_5_ops (F := F) arg0 arg1 arg2 φ) := by
  unfold fn_where_5.body
  apply IsSeq.cons
  apply IsSeq.cons
  apply IsSeq.cons
  exact IsSeq.nil

abbrev fn_where_6_ops (arg0 : StableHlo.TRef sig ⟨S40, .i1⟩) (arg1 : StableHlo.TRef sig ⟨S_, .f32⟩) (arg2 : StableHlo.TRef sig ⟨S40, .f32⟩) (φ : fn_where_6.Bufs) : List (HloOp τ sig (Elt F)) :=
    (StableHlo.TRef.unary arg1 φ.v0 id) ::
    (StableHlo.TRef.unary φ.v0 φ.v1 (broadcastInDim S40 ![] bcast_S_S40)) ::
    (StableHlo.TRef.ternary arg0 φ.v1 arg2 φ.v2 select) ::
    []

theorem fn_where_6_seq (arg0 : StableHlo.TRef sig ⟨S40, .i1⟩) (arg1 : StableHlo.TRef sig ⟨S_, .f32⟩) (arg2 : StableHlo.TRef sig ⟨S40, .f32⟩) (φ : fn_where_6.Bufs) : IsSeq (fn_where_6.body arg0 arg1 arg2 φ) (fn_where_6_ops (F := F) arg0 arg1 arg2 φ) := by
  unfold fn_where_6.body
  apply IsSeq.cons
  apply IsSeq.cons
  apply IsSeq.cons
  exact IsSeq.nil

abbrev fn_where_7_ops (arg0 : StableHlo.TRef sig ⟨S40, .i1⟩) (arg1 : StableHlo.TRef sig ⟨S40, .f32⟩) (arg2 : StableHlo.TRef sig ⟨S40, .f32⟩) (φ : fn_where_7.Bufs) : List (HloOp τ sig (Elt F)) :=
    (StableHlo.TRef.ternary arg0 arg1 arg2 φ.v0 select) ::
    []

theorem fn_where_7_seq (arg0 : StableHlo.TRef sig ⟨S40, .i1⟩) (arg1 : StableHlo.TRef sig ⟨S40, .f32⟩) (arg2 : StableHlo.TRef sig ⟨S40, .f32⟩) (φ : fn_where_7.Bufs) : IsSeq (fn_where_7.body arg0 arg1 arg2 φ) (fn_where_7_ops (F := F) arg0 arg1 arg2 φ) := by
  unfold fn_where_7.body
  apply IsSeq.cons
  exact IsSeq.nil

abbrev fn_where_8_ops (arg0 : StableHlo.TRef sig ⟨S40, .i1⟩) (arg1 : StableHlo.TRef sig ⟨S40, .i32⟩) (arg2 : StableHlo.TRef sig ⟨S40, .i32⟩) (φ : fn_where_8.Bufs) : List (HloOp τ sig (Elt F)) :=
    (StableHlo.TRef.ternary arg0 arg1 arg2 φ.v0 select) ::
    []

theorem fn_where_8_seq (arg0 : StableHlo.TRef sig ⟨S40, .i1⟩) (arg1 : StableHlo.TRef sig ⟨S40, .i32⟩) (arg2 : StableHlo.TRef sig ⟨S40, .i32⟩) (φ : fn_where_8.Bufs) : IsSeq (fn_where_8.body arg0 arg1 arg2 φ) (fn_where_8_ops (F := F) arg0 arg1 arg2 φ) := by
  unfold fn_where_8.body
  apply IsSeq.cons
  exact IsSeq.nil

abbrev fn_dynamic_update_index_in_dim_9_ops (arg0 : StableHlo.TRef sig ⟨S2048x40, .i32⟩) (arg1 : StableHlo.TRef sig ⟨S40, .i32⟩) (arg2 : StableHlo.TRef sig ⟨S_, .i32⟩) (φ : fn_dynamic_update_index_in_dim_9.Bufs) : List (HloOp τ sig (Elt F)) :=
    (StableHlo.TRef.unary arg1 φ.v0 (broadcastInDim S1x40 ![1] bcast_S40_S1x40_1)) ::
    (StableHlo.TRef.nullary φ.c (constantI S_ 32 0#32)) ::
    (StableHlo.TRef.binaryIndexed arg0 φ.v0 ![arg2, φ.c] φ.v1 (fun x u i => Host.dynamicUpdateSlice x u (fun k => (i k (Shape.Idx.first h_S_)).toInt) updateFits_S2048x40_S1x40)) ::
    []

theorem fn_dynamic_update_index_in_dim_9_seq (arg0 : StableHlo.TRef sig ⟨S2048x40, .i32⟩) (arg1 : StableHlo.TRef sig ⟨S40, .i32⟩) (arg2 : StableHlo.TRef sig ⟨S_, .i32⟩) (φ : fn_dynamic_update_index_in_dim_9.Bufs) : IsSeq (fn_dynamic_update_index_in_dim_9.body arg0 arg1 arg2 φ) (fn_dynamic_update_index_in_dim_9_ops (F := F) arg0 arg1 arg2 φ) := by
  unfold fn_dynamic_update_index_in_dim_9.body
  apply IsSeq.cons
  apply IsSeq.cons
  apply IsSeq.cons
  exact IsSeq.nil

abbrev fn_flip_ops (arg0 : StableHlo.TRef sig ⟨S2048x40, .i32⟩) (φ : fn_flip.Bufs) : List (HloOp τ sig (Elt F)) :=
    (StableHlo.TRef.unary arg0 φ.v0 (Host.reverse [0])) ::
    []

theorem fn_flip_seq (arg0 : StableHlo.TRef sig ⟨S2048x40, .i32⟩) (φ : fn_flip.Bufs) : IsSeq (fn_flip.body arg0 φ) (fn_flip_ops (F := F) arg0 φ) := by
  unfold fn_flip.body
  apply IsSeq.cons
  exact IsSeq.nil

abbrev fn_where_10_ops (arg0 : StableHlo.TRef sig ⟨S40x2048, .i1⟩) (arg1 : StableHlo.TRef sig ⟨S40x2048, .f32⟩) (arg2 : StableHlo.TRef sig ⟨S_, .f32⟩) (φ : fn_where_10.Bufs) : List (HloOp τ sig (Elt F)) :=
    (StableHlo.TRef.unary arg2 φ.v0 id) ::
    (StableHlo.TRef.unary φ.v0 φ.v1 (broadcastInDim S40x2048 ![] bcast_S_S40x2048)) ::
    (StableHlo.TRef.ternary arg0 arg1 φ.v1 φ.v2 select) ::
    (StableHlo.TRef.nullary φ.cst (constant S_ .f32 0x00000000#32)) ::
    (StableHlo.TRef.unary φ.cst φ.v3 (broadcastInDim S40x2048 ![] bcast_S_S40x2048)) ::
    []

theorem fn_where_10_seq (arg0 : StableHlo.TRef sig ⟨S40x2048, .i1⟩) (arg1 : StableHlo.TRef sig ⟨S40x2048, .f32⟩) (arg2 : StableHlo.TRef sig ⟨S_, .f32⟩) (φ : fn_where_10.Bufs) : IsSeq (fn_where_10.body arg0 arg1 arg2 φ) (fn_where_10_ops (F := F) arg0 arg1 arg2 φ) := by
  unfold fn_where_10.body
  apply IsSeq.cons
  apply IsSeq.cons
  apply IsSeq.cons
  apply IsSeq.cons
  apply IsSeq.cons
  exact IsSeq.nil

abbrev fn_where_11_ops (arg0 : StableHlo.TRef sig ⟨S40x2048, .i1⟩) (arg1 : StableHlo.TRef sig ⟨S_, .f32⟩) (arg2 : StableHlo.TRef sig ⟨S40x2048, .f32⟩) (φ : fn_where_11.Bufs) : List (HloOp τ sig (Elt F)) :=
    (StableHlo.TRef.unary arg1 φ.v0 id) ::
    (StableHlo.TRef.unary φ.v0 φ.v1 (broadcastInDim S40x2048 ![] bcast_S_S40x2048)) ::
    (StableHlo.TRef.ternary arg0 φ.v1 arg2 φ.v2 select) ::
    (StableHlo.TRef.nullary φ.cst (constant S_ .f32 0x00000000#32)) ::
    (StableHlo.TRef.unary φ.cst φ.v3 (broadcastInDim S40x2048 ![] bcast_S_S40x2048)) ::
    []

theorem fn_where_11_seq (arg0 : StableHlo.TRef sig ⟨S40x2048, .i1⟩) (arg1 : StableHlo.TRef sig ⟨S_, .f32⟩) (arg2 : StableHlo.TRef sig ⟨S40x2048, .f32⟩) (φ : fn_where_11.Bufs) : IsSeq (fn_where_11.body arg0 arg1 arg2 φ) (fn_where_11_ops (F := F) arg0 arg1 arg2 φ) := by
  unfold fn_where_11.body
  apply IsSeq.cons
  apply IsSeq.cons
  apply IsSeq.cons
  apply IsSeq.cons
  apply IsSeq.cons
  exact IsSeq.nil

abbrev fn_where_12_ops (arg0 : StableHlo.TRef sig ⟨S40x2048, .i1⟩) (arg1 : StableHlo.TRef sig ⟨S40x2048, .f32⟩) (arg2 : StableHlo.TRef sig ⟨S40x2048, .f32⟩) (φ : fn_where_12.Bufs) : List (HloOp τ sig (Elt F)) :=
    (StableHlo.TRef.ternary arg0 arg1 arg2 φ.v0 select) ::
    []

theorem fn_where_12_seq (arg0 : StableHlo.TRef sig ⟨S40x2048, .i1⟩) (arg1 : StableHlo.TRef sig ⟨S40x2048, .f32⟩) (arg2 : StableHlo.TRef sig ⟨S40x2048, .f32⟩) (φ : fn_where_12.Bufs) : IsSeq (fn_where_12.body arg0 arg1 arg2 φ) (fn_where_12_ops (F := F) arg0 arg1 arg2 φ) := by
  unfold fn_where_12.body
  apply IsSeq.cons
  exact IsSeq.nil

abbrev fn_dynamic_update_index_in_dim_13_ops (arg0 : StableHlo.TRef sig ⟨S2048x40x11, .f32⟩) (arg1 : StableHlo.TRef sig ⟨S40x11, .f32⟩) (arg2 : StableHlo.TRef sig ⟨S_, .i32⟩) (φ : fn_dynamic_update_index_in_dim_13.Bufs) : List (HloOp τ sig (Elt F)) :=
    (StableHlo.TRef.unary arg1 φ.v0 (broadcastInDim S1x40x11 ![1, 2] bcast_S40x11_S1x40x11_1_2)) ::
    (StableHlo.TRef.nullary φ.c (constantI S_ 32 0#32)) ::
    (StableHlo.TRef.nullary φ.c_0 (constantI S_ 32 0#32)) ::
    (StableHlo.TRef.binaryIndexed arg0 φ.v0 ![arg2, φ.c, φ.c_0] φ.v1 (fun x u i => Host.dynamicUpdateSlice x u (fun k => (i k (Shape.Idx.first h_S_)).toInt) updateFits_S2048x40x11_S1x40x11)) ::
    []

theorem fn_dynamic_update_index_in_dim_13_seq (arg0 : StableHlo.TRef sig ⟨S2048x40x11, .f32⟩) (arg1 : StableHlo.TRef sig ⟨S40x11, .f32⟩) (arg2 : StableHlo.TRef sig ⟨S_, .i32⟩) (φ : fn_dynamic_update_index_in_dim_13.Bufs) : IsSeq (fn_dynamic_update_index_in_dim_13.body arg0 arg1 arg2 φ) (fn_dynamic_update_index_in_dim_13_ops (F := F) arg0 arg1 arg2 φ) := by
  unfold fn_dynamic_update_index_in_dim_13.body
  apply IsSeq.cons
  apply IsSeq.cons
  apply IsSeq.cons
  apply IsSeq.cons
  exact IsSeq.nil

abbrev fn_dynamic_index_in_dim_14_ops (arg0 : StableHlo.TRef sig ⟨S2048x40x12, .f32⟩) (arg1 : StableHlo.TRef sig ⟨S_, .i32⟩) (φ : fn_dynamic_index_in_dim_14.Bufs) : List (HloOp τ sig (Elt F)) :=
    (StableHlo.TRef.nullary φ.c (constantI S_ 32 0#32)) ::
    (StableHlo.TRef.nullary φ.c_0 (constantI S_ 32 0#32)) ::
    (StableHlo.TRef.unaryIndexed arg0 ![arg1, φ.c, φ.c_0] φ.v0 (fun x i => Host.dynamicSlice S1x40x12 x (fun k => (i k (Shape.Idx.first h_S_)).toInt) sliceFits_S2048x40x12_S1x40x12)) ::
    (StableHlo.TRef.reshape φ.v0 φ.v1 (rfl : (.f32 : EltTy) = .f32) shapeCasts_S1x40x12_S40x12) ::
    []

theorem fn_dynamic_index_in_dim_14_seq (arg0 : StableHlo.TRef sig ⟨S2048x40x12, .f32⟩) (arg1 : StableHlo.TRef sig ⟨S_, .i32⟩) (φ : fn_dynamic_index_in_dim_14.Bufs) : IsSeq (fn_dynamic_index_in_dim_14.body arg0 arg1 φ) (fn_dynamic_index_in_dim_14_ops (F := F) arg0 arg1 φ) := by
  unfold fn_dynamic_index_in_dim_14.body
  apply IsSeq.cons
  apply IsSeq.cons
  apply IsSeq.cons
  apply IsSeq.cons
  exact IsSeq.nil

abbrev fn_dynamic_index_in_dim_15_ops (arg0 : StableHlo.TRef sig ⟨S2048x40x11, .f32⟩) (arg1 : StableHlo.TRef sig ⟨S_, .i32⟩) (φ : fn_dynamic_index_in_dim_15.Bufs) : List (HloOp τ sig (Elt F)) :=
    (StableHlo.TRef.nullary φ.c (constantI S_ 32 0#32)) ::
    (StableHlo.TRef.nullary φ.c_0 (constantI S_ 32 0#32)) ::
    (StableHlo.TRef.unaryIndexed arg0 ![arg1, φ.c, φ.c_0] φ.v0 (fun x i => Host.dynamicSlice S1x40x11 x (fun k => (i k (Shape.Idx.first h_S_)).toInt) sliceFits_S2048x40x11_S1x40x11)) ::
    (StableHlo.TRef.reshape φ.v0 φ.v1 (rfl : (.f32 : EltTy) = .f32) shapeCasts_S1x40x11_S40x11) ::
    []

theorem fn_dynamic_index_in_dim_15_seq (arg0 : StableHlo.TRef sig ⟨S2048x40x11, .f32⟩) (arg1 : StableHlo.TRef sig ⟨S_, .i32⟩) (φ : fn_dynamic_index_in_dim_15.Bufs) : IsSeq (fn_dynamic_index_in_dim_15.body arg0 arg1 φ) (fn_dynamic_index_in_dim_15_ops (F := F) arg0 arg1 φ) := by
  unfold fn_dynamic_index_in_dim_15.body
  apply IsSeq.cons
  apply IsSeq.cons
  apply IsSeq.cons
  apply IsSeq.cons
  exact IsSeq.nil

abbrev fn_dynamic_update_index_in_dim_16_ops (arg0 : StableHlo.TRef sig ⟨S2048x40, .f32⟩) (arg1 : StableHlo.TRef sig ⟨S40, .f32⟩) (arg2 : StableHlo.TRef sig ⟨S_, .i32⟩) (φ : fn_dynamic_update_index_in_dim_16.Bufs) : List (HloOp τ sig (Elt F)) :=
    (StableHlo.TRef.unary arg1 φ.v0 (broadcastInDim S1x40 ![1] bcast_S40_S1x40_1)) ::
    (StableHlo.TRef.nullary φ.c (constantI S_ 32 0#32)) ::
    (StableHlo.TRef.binaryIndexed arg0 φ.v0 ![arg2, φ.c] φ.v1 (fun x u i => Host.dynamicUpdateSlice x u (fun k => (i k (Shape.Idx.first h_S_)).toInt) updateFits_S2048x40_S1x40)) ::
    []

theorem fn_dynamic_update_index_in_dim_16_seq (arg0 : StableHlo.TRef sig ⟨S2048x40, .f32⟩) (arg1 : StableHlo.TRef sig ⟨S40, .f32⟩) (arg2 : StableHlo.TRef sig ⟨S_, .i32⟩) (φ : fn_dynamic_update_index_in_dim_16.Bufs) : IsSeq (fn_dynamic_update_index_in_dim_16.body arg0 arg1 arg2 φ) (fn_dynamic_update_index_in_dim_16_ops (F := F) arg0 arg1 arg2 φ) := by
  unfold fn_dynamic_update_index_in_dim_16.body
  apply IsSeq.cons
  apply IsSeq.cons
  apply IsSeq.cons
  exact IsSeq.nil

abbrev fn_where_17_ops (arg0 : StableHlo.TRef sig ⟨S40x2048, .i1⟩) (arg1 : StableHlo.TRef sig ⟨S40x2048, .f32⟩) (φ : fn_where_17.Bufs) : List (HloOp τ sig (Elt F)) :=
    (StableHlo.TRef.nullary φ.cst (constant S_ .f32 0x00000000#32)) ::
    (StableHlo.TRef.unary φ.cst φ.v0 (broadcastInDim S40x2048 ![] bcast_S_S40x2048)) ::
    (StableHlo.TRef.ternary arg0 φ.v0 arg1 φ.v1 select) ::
    (StableHlo.TRef.ternary arg0 arg1 φ.v0 φ.v2 select) ::
    []

theorem fn_where_17_seq (arg0 : StableHlo.TRef sig ⟨S40x2048, .i1⟩) (arg1 : StableHlo.TRef sig ⟨S40x2048, .f32⟩) (φ : fn_where_17.Bufs) : IsSeq (fn_where_17.body arg0 arg1 φ) (fn_where_17_ops (F := F) arg0 arg1 φ) := by
  unfold fn_where_17.body
  apply IsSeq.cons
  apply IsSeq.cons
  apply IsSeq.cons
  apply IsSeq.cons
  exact IsSeq.nil

abbrev fn_where_18_ops (arg0 : StableHlo.TRef sig ⟨S40x2048, .i1⟩) (arg1 : StableHlo.TRef sig ⟨S40x2048, .f32⟩) (arg2 : StableHlo.TRef sig ⟨S40x2048, .f32⟩) (φ : fn_where_18.Bufs) : List (HloOp τ sig (Elt F)) :=
    (StableHlo.TRef.nullary φ.cst (constant S_ .f32 0x00000000#32)) ::
    (StableHlo.TRef.unary φ.cst φ.v0 (broadcastInDim S40x2048 ![] bcast_S_S40x2048)) ::
    (StableHlo.TRef.ternary arg0 φ.v0 arg2 φ.v1 select) ::
    []

theorem fn_where_18_seq (arg0 : StableHlo.TRef sig ⟨S40x2048, .i1⟩) (arg1 : StableHlo.TRef sig ⟨S40x2048, .f32⟩) (arg2 : StableHlo.TRef sig ⟨S40x2048, .f32⟩) (φ : fn_where_18.Bufs) : IsSeq (fn_where_18.body arg0 arg1 arg2 φ) (fn_where_18_ops (F := F) arg0 arg1 arg2 φ) := by
  unfold fn_where_18.body
  apply IsSeq.cons
  apply IsSeq.cons
  apply IsSeq.cons
  exact IsSeq.nil

abbrev fn_where_19_ops (arg0 : StableHlo.TRef sig ⟨S40x2048, .i1⟩) (arg1 : StableHlo.TRef sig ⟨S40x2048, .f32⟩) (arg2 : StableHlo.TRef sig ⟨S40x2048, .f32⟩) (φ : fn_where_19.Bufs) : List (HloOp τ sig (Elt F)) :=
    (StableHlo.TRef.nullary φ.cst (constant S_ .f32 0x00000000#32)) ::
    (StableHlo.TRef.unary φ.cst φ.v0 (broadcastInDim S40x2048 ![] bcast_S_S40x2048)) ::
    (StableHlo.TRef.ternary arg0 arg2 φ.v0 φ.v1 select) ::
    []

theorem fn_where_19_seq (arg0 : StableHlo.TRef sig ⟨S40x2048, .i1⟩) (arg1 : StableHlo.TRef sig ⟨S40x2048, .f32⟩) (arg2 : StableHlo.TRef sig ⟨S40x2048, .f32⟩) (φ : fn_where_19.Bufs) : IsSeq (fn_where_19.body arg0 arg1 arg2 φ) (fn_where_19_ops (F := F) arg0 arg1 arg2 φ) := by
  unfold fn_where_19.body
  apply IsSeq.cons
  apply IsSeq.cons
  apply IsSeq.cons
  exact IsSeq.nil

def wa_0 : List (HloOp τ sig (Elt F)) :=
    fn_dynamic_index_in_dim_ops (.of main_v22_0) (.of main_v22_2) main_while0b_call4

def wa_1 : List (HloOp τ sig (Elt F)) :=
    fn_dynamic_index_in_dim_ops (.of main_v22_1) (.of main_v22_2) main_while0b_call5

def wa_2 : List (HloOp τ sig (Elt F)) :=
    [(StableHlo.unary main_v22_3 main_while0b_v107 ((extractStridedSlice S40x11 ![0, 0] · slices_S40x12_S40x11_0_0) : (⟨S40x12, .f32⟩ : BufTy).Contents (Elt F) → (⟨S40x11, .f32⟩ : BufTy).Contents (Elt F))),
     (StableHlo.unary main_while0b_v105 main_while0b_v108 (broadcastInDim S40x1 ![0] bcast_S40_S40x1_0 : (⟨S40, .f32⟩ : BufTy).Contents (Elt F) → (⟨S40x1, .f32⟩ : BufTy).Contents (Elt F))),
     (StableHlo.unary main_while0b_v108 main_while0b_v109 (broadcastInDim S40x11 ![0, 1] bcast_S40x1_S40x11_0_1 : (⟨S40x1, .f32⟩ : BufTy).Contents (Elt F) → (⟨S40x11, .f32⟩ : BufTy).Contents (Elt F))),
     (StableHlo.binary main_while0b_v107 main_while0b_v109 main_while0b_v110 (addf : (⟨S40x11, .f32⟩ : BufTy).Contents (Elt F) → (⟨S40x11, .f32⟩ : BufTy).Contents (Elt F) → (⟨S40x11, .f32⟩ : BufTy).Contents (Elt F))),
     (StableHlo.unary main_v22_3 main_while0b_v111 ((extractStridedSlice S40x11 ![0, 1] · slices_S40x12_S40x11_0_1) : (⟨S40x12, .f32⟩ : BufTy).Contents (Elt F) → (⟨S40x11, .f32⟩ : BufTy).Contents (Elt F))),
     (StableHlo.unary main_while0b_v106 main_while0b_v112 (broadcastInDim S40x1 ![0] bcast_S40_S40x1_0 : (⟨S40, .f32⟩ : BufTy).Contents (Elt F) → (⟨S40x1, .f32⟩ : BufTy).Contents (Elt F))),
     (StableHlo.unary main_while0b_v112 main_while0b_v113 (broadcastInDim S40x11 ![0, 1] bcast_S40x1_S40x11_0_1 : (⟨S40x1, .f32⟩ : BufTy).Contents (Elt F) → (⟨S40x11, .f32⟩ : BufTy).Contents (Elt F))),
     (StableHlo.binary main_while0b_v111 main_while0b_v113 main_while0b_v114 (addf : (⟨S40x11, .f32⟩ : BufTy).Contents (Elt F) → (⟨S40x11, .f32⟩ : BufTy).Contents (Elt F) → (⟨S40x11, .f32⟩ : BufTy).Contents (Elt F))),
     (StableHlo.binary main_while0b_v110 main_while0b_v114 main_while0b_v115 (maximumf : (⟨S40x11, .f32⟩ : BufTy).Contents (Elt F) → (⟨S40x11, .f32⟩ : BufTy).Contents (Elt F) → (⟨S40x11, .f32⟩ : BufTy).Contents (Elt F))),
     (StableHlo.binary main_while0b_v110 main_while0b_v114 main_while0b_v116 (subf : (⟨S40x11, .f32⟩ : BufTy).Contents (Elt F) → (⟨S40x11, .f32⟩ : BufTy).Contents (Elt F) → (⟨S40x11, .f32⟩ : BufTy).Contents (Elt F))),
     (StableHlo.binary main_while0b_v116 main_while0b_v116 main_while0b_v117 (cmpf .une : (⟨S40x11, .f32⟩ : BufTy).Contents (Elt F) → (⟨S40x11, .f32⟩ : BufTy).Contents (Elt F) → (⟨S40x11, .i1⟩ : BufTy).Contents (Elt F))),
     (StableHlo.binary main_while0b_v110 main_while0b_v114 main_while0b_v118 (addf : (⟨S40x11, .f32⟩ : BufTy).Contents (Elt F) → (⟨S40x11, .f32⟩ : BufTy).Contents (Elt F) → (⟨S40x11, .f32⟩ : BufTy).Contents (Elt F))),
     (StableHlo.unary main_while0b_v116 main_while0b_v119 (Host.absf : (⟨S40x11, .f32⟩ : BufTy).Contents (Elt F) → (⟨S40x11, .f32⟩ : BufTy).Contents (Elt F))),
     (StableHlo.unary main_while0b_v119 main_while0b_v120 (Host.negf : (⟨S40x11, .f32⟩ : BufTy).Contents (Elt F) → (⟨S40x11, .f32⟩ : BufTy).Contents (Elt F))),
     (StableHlo.unary main_while0b_v120 main_while0b_v121 (Host.exp : (⟨S40x11, .f32⟩ : BufTy).Contents (Elt F) → (⟨S40x11, .f32⟩ : BufTy).Contents (Elt F))),
     (StableHlo.unary main_while0b_v121 main_while0b_v122 (Host.log1p : (⟨S40x11, .f32⟩ : BufTy).Contents (Elt F) → (⟨S40x11, .f32⟩ : BufTy).Contents (Elt F))),
     (StableHlo.binary main_while0b_v115 main_while0b_v122 main_while0b_v123 (addf : (⟨S40x11, .f32⟩ : BufTy).Contents (Elt F) → (⟨S40x11, .f32⟩ : BufTy).Contents (Elt F) → (⟨S40x11, .f32⟩ : BufTy).Contents (Elt F))),
     (StableHlo.ternary main_while0b_v117 main_while0b_v118 main_while0b_v123 main_while0b_v124 (select : (⟨S40x11, .i1⟩ : BufTy).Contents (Elt F) → (⟨S40x11, .f32⟩ : BufTy).Contents (Elt F) → (⟨S40x11, .f32⟩ : BufTy).Contents (Elt F) → (⟨S40x11, .f32⟩ : BufTy).Contents (Elt F)))]

def wa_3 : List (HloOp τ sig (Elt F)) :=
    [(StableHlo.nullary main_while0b_cst_44 (constant S_ .f32 0xC3960000#32)),
     (StableHlo.unary main_while0b_cst_44 main_while0b_v125 (broadcastInDim S40x1 ![] bcast_S_S40x1 : (⟨S_, .f32⟩ : BufTy).Contents (Elt F) → (⟨S40x1, .f32⟩ : BufTy).Contents (Elt F)))]

def wa_4 : List (HloOp τ sig (Elt F)) :=
    [(StableHlo.binary main_while0b_v125 main_while0b_v124 main_while0b_v126 ((fun a b => concatenate S40x12 1 [⟨S40x1, a⟩, ⟨S40x11, b⟩] concatenates_S40x1_S40x11_S40x12_d1) : (⟨S40x1, .f32⟩ : BufTy).Contents (Elt F) → (⟨S40x11, .f32⟩ : BufTy).Contents (Elt F) → (⟨S40x12, .f32⟩ : BufTy).Contents (Elt F)))]

def wa_5 : List (HloOp τ sig (Elt F)) :=
    fn_dynamic_update_index_in_dim_ops (.of main_v22_4) (.of main_while0b_v126) (.of main_v22_2) main_while0b_call6

def wa_6 : List (HloOp τ sig (Elt F)) :=
    [(StableHlo.nullary main_while0b_c_45 (constantI S_ 32 1#32)),
     (StableHlo.binary main_v22_2 main_while0b_c_45 main_while0b_v128 (addi : (⟨S_, .i32⟩ : BufTy).Contents (Elt F) → (⟨S_, .i32⟩ : BufTy).Contents (Elt F) → (⟨S_, .i32⟩ : BufTy).Contents (Elt F))),
     (StableHlo.unary main_while0b_v128 main_v22_2 id),
     (StableHlo.unary main_while0b_v126 main_v22_3 id),
     (StableHlo.unary main_while0b_v127 main_v22_4 id)]

def wb_0 : List (HloOp τ sig (Elt F)) :=
    fn_dynamic_index_in_dim_2_ops (.of main_v34_0) (.of main_v34_5) main_while1b_call7

def wb_1 : List (HloOp τ sig (Elt F)) :=
    fn_dynamic_index_in_dim_3_ops (.of main_v34_1) (.of main_v34_5) main_while1b_call8

def wb_2 : List (HloOp τ sig (Elt F)) :=
    [(StableHlo.nullary main_while1b_c_47 (constantI S_ 32 0#32)),
     (StableHlo.unary main_while1b_c_47 main_while1b_v107 (broadcastInDim S40 ![] bcast_S_S40 : (⟨S_, .i32⟩ : BufTy).Contents (Elt F) → (⟨S40, .i32⟩ : BufTy).Contents (Elt F))),
     (StableHlo.nullary main_while1b_c_48 (constantI S_ 32 1#32)),
     (StableHlo.binary main_while1b_v105 main_while1b_c_48 main_while1b_v108 (subi : (⟨S_, .i32⟩ : BufTy).Contents (Elt F) → (⟨S_, .i32⟩ : BufTy).Contents (Elt F) → (⟨S_, .i32⟩ : BufTy).Contents (Elt F))),
     (StableHlo.unary main_while1b_v108 main_while1b_v109 (broadcastInDim S40 ![] bcast_S_S40 : (⟨S_, .i32⟩ : BufTy).Contents (Elt F) → (⟨S40, .i32⟩ : BufTy).Contents (Elt F))),
     (StableHlo.binary main_while1b_v107 main_while1b_v109 main_while1b_v110 (addi : (⟨S40, .i32⟩ : BufTy).Contents (Elt F) → (⟨S40, .i32⟩ : BufTy).Contents (Elt F) → (⟨S40, .i32⟩ : BufTy).Contents (Elt F)))]

def wb_3 : List (HloOp τ sig (Elt F)) :=
    [(StableHlo.nullary main_while1b_c_49 (constantI S_ 32 1#32)),
     (StableHlo.unary main_while1b_c_49 main_while1b_v111 (broadcastInDim S40 ![] bcast_S_S40 : (⟨S_, .i32⟩ : BufTy).Contents (Elt F) → (⟨S40, .i32⟩ : BufTy).Contents (Elt F))),
     (StableHlo.binary main_v34_6 main_while1b_v111 main_while1b_v112 (subi : (⟨S40, .i32⟩ : BufTy).Contents (Elt F) → (⟨S40, .i32⟩ : BufTy).Contents (Elt F) → (⟨S40, .i32⟩ : BufTy).Contents (Elt F))),
     (StableHlo.nullary main_while1b_c_50 (constantI S_ 32 0#32)),
     (StableHlo.unary main_while1b_c_50 main_while1b_v113 (broadcastInDim S40 ![] bcast_S_S40 : (⟨S_, .i32⟩ : BufTy).Contents (Elt F) → (⟨S40, .i32⟩ : BufTy).Contents (Elt F))),
     (StableHlo.binary main_while1b_v112 main_while1b_v113 main_while1b_v114 (maxsi : (⟨S40, .i32⟩ : BufTy).Contents (Elt F) → (⟨S40, .i32⟩ : BufTy).Contents (Elt F) → (⟨S40, .i32⟩ : BufTy).Contents (Elt F))),
     (StableHlo.nullary main_while1b_c_51 (constantI S_ 32 0#32)),
     (StableHlo.unary main_while1b_c_51 main_while1b_v115 (broadcastInDim S40 ![] bcast_S_S40 : (⟨S_, .i32⟩ : BufTy).Contents (Elt F) → (⟨S40, .i32⟩ : BufTy).Contents (Elt F))),
     (StableHlo.binary main_v34_2 main_while1b_v115 main_while1b_v116 (cmpi .slt : (⟨S40, .i32⟩ : BufTy).Contents (Elt F) → (⟨S40, .i32⟩ : BufTy).Contents (Elt F) → (⟨S40, .i1⟩ : BufTy).Contents (Elt F))),
     (StableHlo.nullary main_while1b_c_52 (constantI S_ 32 40#32)),
     (StableHlo.unary main_while1b_c_52 main_while1b_v117 (broadcastInDim S40 ![] bcast_S_S40 : (⟨S_, .i32⟩ : BufTy).Contents (Elt F) → (⟨S40, .i32⟩ : BufTy).Contents (Elt F))),
     (StableHlo.binary main_v34_2 main_while1b_v117 main_while1b_v118 (addi : (⟨S40, .i32⟩ : BufTy).Contents (Elt F) → (⟨S40, .i32⟩ : BufTy).Contents (Elt F) → (⟨S40, .i32⟩ : BufTy).Contents (Elt F))),
     (StableHlo.ternary main_while1b_v116 main_while1b_v118 main_v34_2 main_while1b_v119 (select : (⟨S40, .i1⟩ : BufTy).Contents (Elt F) → (⟨S40, .i32⟩ : BufTy).Contents (Elt F) → (⟨S40, .i32⟩ : BufTy).Contents (Elt F) → (⟨S40, .i32⟩ : BufTy).Contents (Elt F))),
     (StableHlo.nullary main_while1b_c_53 (constantI S_ 32 0#32)),
     (StableHlo.unary main_while1b_c_53 main_while1b_v120 (broadcastInDim S40 ![] bcast_S_S40 : (⟨S_, .i32⟩ : BufTy).Contents (Elt F) → (⟨S40, .i32⟩ : BufTy).Contents (Elt F))),
     (StableHlo.binary main_while1b_v110 main_while1b_v120 main_while1b_v121 (cmpi .slt : (⟨S40, .i32⟩ : BufTy).Contents (Elt F) → (⟨S40, .i32⟩ : BufTy).Contents (Elt F) → (⟨S40, .i1⟩ : BufTy).Contents (Elt F))),
     (StableHlo.nullary main_while1b_c_54 (constantI S_ 32 2049#32)),
     (StableHlo.unary main_while1b_c_54 main_while1b_v122 (broadcastInDim S40 ![] bcast_S_S40 : (⟨S_, .i32⟩ : BufTy).Contents (Elt F) → (⟨S40, .i32⟩ : BufTy).Contents (Elt F))),
     (StableHlo.binary main_while1b_v110 main_while1b_v122 main_while1b_v123 (addi : (⟨S40, .i32⟩ : BufTy).Contents (Elt F) → (⟨S40, .i32⟩ : BufTy).Contents (Elt F) → (⟨S40, .i32⟩ : BufTy).Contents (Elt F))),
     (StableHlo.ternary main_while1b_v121 main_while1b_v123 main_while1b_v110 main_while1b_v124 (select : (⟨S40, .i1⟩ : BufTy).Contents (Elt F) → (⟨S40, .i32⟩ : BufTy).Contents (Elt F) → (⟨S40, .i32⟩ : BufTy).Contents (Elt F) → (⟨S40, .i32⟩ : BufTy).Contents (Elt F))),
     (StableHlo.nullary main_while1b_c_55 (constantI S_ 32 0#32)),
     (StableHlo.unary main_while1b_c_55 main_while1b_v125 (broadcastInDim S40 ![] bcast_S_S40 : (⟨S_, .i32⟩ : BufTy).Contents (Elt F) → (⟨S40, .i32⟩ : BufTy).Contents (Elt F))),
     (StableHlo.binary main_while1b_v114 main_while1b_v125 main_while1b_v126 (cmpi .slt : (⟨S40, .i32⟩ : BufTy).Contents (Elt F) → (⟨S40, .i32⟩ : BufTy).Contents (Elt F) → (⟨S40, .i1⟩ : BufTy).Contents (Elt F))),
     (StableHlo.nullary main_while1b_c_56 (constantI S_ 32 12#32)),
     (StableHlo.unary main_while1b_c_56 main_while1b_v127 (broadcastInDim S40 ![] bcast_S_S40 : (⟨S_, .i32⟩ : BufTy).Contents (Elt F) → (⟨S40, .i32⟩ : BufTy).Contents (Elt F))),
     (StableHlo.binary main_while1b_v114 main_while1b_v127 main_while1b_v128 (addi : (⟨S40, .i32⟩ : BufTy).Contents (Elt F) → (⟨S40, .i32⟩ : BufTy).Contents (Elt F) → (⟨S40, .i32⟩ : BufTy).Contents (Elt F))),
     (StableHlo.ternary main_while1b_v126 main_while1b_v128 main_while1b_v114 main_while1b_v129 (select : (⟨S40, .i1⟩ : BufTy).Contents (Elt F) → (⟨S40, .i32⟩ : BufTy).Contents (Elt F) → (⟨S40, .i32⟩ : BufTy).Contents (Elt F) → (⟨S40, .i32⟩ : BufTy).Contents (Elt F))),
     (StableHlo.unary main_while1b_v119 main_while1b_v130 (broadcastInDim S40x1 ![0] bcast_S40_S40x1_0 : (⟨S40, .i32⟩ : BufTy).Contents (Elt F) → (⟨S40x1, .i32⟩ : BufTy).Contents (Elt F))),
     (StableHlo.unary main_while1b_v124 main_while1b_v131 (broadcastInDim S40x1 ![0] bcast_S40_S40x1_0 : (⟨S40, .i32⟩ : BufTy).Contents (Elt F) → (⟨S40x1, .i32⟩ : BufTy).Contents (Elt F))),
     (StableHlo.unary main_while1b_v129 main_while1b_v132 (broadcastInDim S40x1 ![0] bcast_S40_S40x1_0 : (⟨S40, .i32⟩ : BufTy).Contents (Elt F) → (⟨S40x1, .i32⟩ : BufTy).Contents (Elt F)))]

def wb_4 : List (HloOp τ sig (Elt F)) :=
    [(StableHlo.nary ![main_while1b_v130, main_while1b_v131, main_while1b_v132] main_while1b_v133 (fun u => (concatenate S40x3 1 [⟨S40x1, (u 0 : (⟨S40x1, .i32⟩ : BufTy).Contents (Elt F))⟩, ⟨S40x1, (u 1 : (⟨S40x1, .i32⟩ : BufTy).Contents (Elt F))⟩, ⟨S40x1, (u 2 : (⟨S40x1, .i32⟩ : BufTy).Contents (Elt F))⟩] concatenates_S40x1_S40x1_S40x1_S40x3_d1 : (⟨S40x3, .i32⟩ : BufTy).Contents (Elt F))))]

def wb_5 : List (HloOp τ sig (Elt F)) :=
    [(StableHlo.binary main_v34_3 main_while1b_v133 main_while1b_v134 ((fun x i => Host.gather gather_S40x2049x12_S40x3_S40_n_012_n_n_012_1_111 x i) : (⟨S40x2049x12, .f32⟩ : BufTy).Contents (Elt F) → (⟨S40x3, .i32⟩ : BufTy).Contents (Elt F) → (⟨S40, .f32⟩ : BufTy).Contents (Elt F)))]

def wb_6 : List (HloOp τ sig (Elt F)) :=
    [(StableHlo.nullary main_while1b_c_57 (constantI S_ 32 1#32)),
     (StableHlo.unary main_while1b_c_57 main_while1b_v135 (broadcastInDim S40 ![] bcast_S_S40 : (⟨S_, .i32⟩ : BufTy).Contents (Elt F) → (⟨S40, .i32⟩ : BufTy).Contents (Elt F))),
     (StableHlo.binary main_while1b_v110 main_while1b_v135 main_while1b_v136 (addi : (⟨S40, .i32⟩ : BufTy).Contents (Elt F) → (⟨S40, .i32⟩ : BufTy).Contents (Elt F) → (⟨S40, .i32⟩ : BufTy).Contents (Elt F))),
     (StableHlo.nullary main_while1b_c_58 (constantI S_ 32 0#32)),
     (StableHlo.unary main_while1b_c_58 main_while1b_v137 (broadcastInDim S40 ![] bcast_S_S40 : (⟨S_, .i32⟩ : BufTy).Contents (Elt F) → (⟨S40, .i32⟩ : BufTy).Contents (Elt F))),
     (StableHlo.binary main_v34_6 main_while1b_v137 main_while1b_v138 (maxsi : (⟨S40, .i32⟩ : BufTy).Contents (Elt F) → (⟨S40, .i32⟩ : BufTy).Contents (Elt F) → (⟨S40, .i32⟩ : BufTy).Contents (Elt F))),
     (StableHlo.nullary main_while1b_c_59 (constantI S_ 32 0#32)),
     (StableHlo.unary main_while1b_c_59 main_while1b_v139 (broadcastInDim S40 ![] bcast_S_S40 : (⟨S_, .i32⟩ : BufTy).Contents (Elt F) → (⟨S40, .i32⟩ : BufTy).Contents (Elt F))),
     (StableHlo.binary main_v34_2 main_while1b_v139 main_while1b_v140 (cmpi .slt : (⟨S40, .i32⟩ : BufTy).Contents (Elt F) → (⟨S40, .i32⟩ : BufTy).Contents (Elt F) → (⟨S40, .i1⟩ : BufTy).Contents (Elt F))),
     (StableHlo.nullary main_while1b_c_60 (constantI S_ 32 40#32)),
     (StableHlo.unary main_while1b_c_60 main_while1b_v141 (broadcastInDim S40 ![] bcast_S_S40 : (⟨S_, .i32⟩ : BufTy).Contents (Elt F) → (⟨S40, .i32⟩ : BufTy).Contents (Elt F))),
     (StableHlo.binary main_v34_2 main_while1b_v141 main_while1b_v142 (addi : (⟨S40, .i32⟩ : BufTy).Contents (Elt F) → (⟨S40, .i32⟩ : BufTy).Contents (Elt F) → (⟨S40, .i32⟩ : BufTy).Contents (Elt F))),
     (StableHlo.ternary main_while1b_v140 main_while1b_v142 main_v34_2 main_while1b_v143 (select : (⟨S40, .i1⟩ : BufTy).Contents (Elt F) → (⟨S40, .i32⟩ : BufTy).Contents (Elt F) → (⟨S40, .i32⟩ : BufTy).Contents (Elt F) → (⟨S40, .i32⟩ : BufTy).Contents (Elt F))),
     (StableHlo.nullary main_while1b_c_61 (constantI S_ 32 0#32)),
     (StableHlo.unary main_while1b_c_61 main_while1b_v144 (broadcastInDim S40 ![] bcast_S_S40 : (⟨S_, .i32⟩ : BufTy).Contents (Elt F) → (⟨S40, .i32⟩ : BufTy).Contents (Elt F))),
     (StableHlo.binary main_while1b_v136 main_while1b_v144 main_while1b_v145 (cmpi .slt : (⟨S40, .i32⟩ : BufTy).Contents (Elt F) → (⟨S40, .i32⟩ : BufTy).Contents (Elt F) → (⟨S40, .i1⟩ : BufTy).Contents (Elt F))),
     (StableHlo.nullary main_while1b_c_62 (constantI S_ 32 2049#32)),
     (StableHlo.unary main_while1b_c_62 main_while1b_v146 (broadcastInDim S40 ![] bcast_S_S40 : (⟨S_, .i32⟩ : BufTy).Contents (Elt F) → (⟨S40, .i32⟩ : BufTy).Contents (Elt F))),
     (StableHlo.binary main_while1b_v136 main_while1b_v146 main_while1b_v147 (addi : (⟨S40, .i32⟩ : BufTy).Contents (Elt F) → (⟨S40, .i32⟩ : BufTy).Contents (Elt F) → (⟨S40, .i32⟩ : BufTy).Contents (Elt F))),
     (StableHlo.ternary main_while1b_v145 main_while1b_v147 main_while1b_v136 main_while1b_v148 (select : (⟨S40, .i1⟩ : BufTy).Contents (Elt F) → (⟨S40, .i32⟩ : BufTy).Contents (Elt F) → (⟨S40, .i32⟩ : BufTy).Contents (Elt F) → (⟨S40, .i32⟩ : BufTy).Contents (Elt F))),
     (StableHlo.nullary main_while1b_c_63 (constantI S_ 32 0#32)),
     (StableHlo.unary main_while1b_c_63 main_while1b_v149 (broadcastInDim S40 ![] bcast_S_S40 : (⟨S_, .i32⟩ : BufTy).Contents (Elt F) → (⟨S40, .i32⟩ : BufTy).Contents (Elt F))),
     (StableHlo.binary main_while1b_v138 main_while1b_v149 main_while1b_v150 (cmpi .slt : (⟨S40, .i32⟩ : BufTy).Contents (Elt F) → (⟨S40, .i32⟩ : BufTy).Contents (Elt F) → (⟨S40, .i1⟩ : BufTy).Contents (Elt F))),
     (StableHlo.nullary main_while1b_c_64 (constantI S_ 32 12#32)),
     (StableHlo.unary main_while1b_c_64 main_while1b_v151 (broadcastInDim S40 ![] bcast_S_S40 : (⟨S_, .i32⟩ : BufTy).Contents (Elt F) → (⟨S40, .i32⟩ : BufTy).Contents (Elt F))),
     (StableHlo.binary main_while1b_v138 main_while1b_v151 main_while1b_v152 (addi : (⟨S40, .i32⟩ : BufTy).Contents (Elt F) → (⟨S40, .i32⟩ : BufTy).Contents (Elt F) → (⟨S40, .i32⟩ : BufTy).Contents (Elt F))),
     (StableHlo.ternary main_while1b_v150 main_while1b_v152 main_while1b_v138 main_while1b_v153 (select : (⟨S40, .i1⟩ : BufTy).Contents (Elt F) → (⟨S40, .i32⟩ : BufTy).Contents (Elt F) → (⟨S40, .i32⟩ : BufTy).Contents (Elt F) → (⟨S40, .i32⟩ : BufTy).Contents (Elt F))),
     (StableHlo.unary main_while1b_v143 main_while1b_v154 (broadcastInDim S40x1 ![0] bcast_S40_S40x1_0 : (⟨S40, .i32⟩ : BufTy).Contents (Elt F) → (⟨S40x1, .i32⟩ : BufTy).Contents (Elt F))),
     (StableHlo.unary main_while1b_v148 main_while1b_v155 (broadcastInDim S40x1 ![0] bcast_S40_S40x1_0 : (⟨S40, .i32⟩ : BufTy).Contents (Elt F) → (⟨S40x1, .i32⟩ : BufTy).Contents (Elt F))),
     (StableHlo.unary main_while1b_v153 main_while1b_v156 (broadcastInDim S40x1 ![0] bcast_S40_S40x1_0 : (⟨S40, .i32⟩ : BufTy).Contents (Elt F) → (⟨S40x1, .i32⟩ : BufTy).Contents (Elt F)))]

def wb_7 : List (HloOp τ sig (Elt F)) :=
    [(StableHlo.nary ![main_while1b_v154, main_while1b_v155, main_while1b_v156] main_while1b_v157 (fun u => (concatenate S40x3 1 [⟨S40x1, (u 0 : (⟨S40x1, .i32⟩ : BufTy).Contents (Elt F))⟩, ⟨S40x1, (u 1 : (⟨S40x1, .i32⟩ : BufTy).Contents (Elt F))⟩, ⟨S40x1, (u 2 : (⟨S40x1, .i32⟩ : BufTy).Contents (Elt F))⟩] concatenates_S40x1_S40x1_S40x1_S40x3_d1 : (⟨S40x3, .i32⟩ : BufTy).Contents (Elt F))))]

def wb_8 : List (HloOp τ sig (Elt F)) :=
    [(StableHlo.binary main_v34_3 main_while1b_v157 main_while1b_v158 ((fun x i => Host.gather gather_S40x2049x12_S40x3_S40_n_012_n_n_012_1_111 x i) : (⟨S40x2049x12, .f32⟩ : BufTy).Contents (Elt F) → (⟨S40x3, .i32⟩ : BufTy).Contents (Elt F) → (⟨S40, .f32⟩ : BufTy).Contents (Elt F)))]

def wb_9 : List (HloOp τ sig (Elt F)) :=
    [(StableHlo.nullary main_while1b_c_65 (constantI S_ 32 1#32)),
     (StableHlo.binary main_while1b_v105 main_while1b_c_65 main_while1b_v159 (subi : (⟨S_, .i32⟩ : BufTy).Contents (Elt F) → (⟨S_, .i32⟩ : BufTy).Contents (Elt F) → (⟨S_, .i32⟩ : BufTy).Contents (Elt F)))]

def wb_10 : List (HloOp τ sig (Elt F)) :=
    fn_take_ops (.of main_v34_4) (.of main_while1b_v159) main_while1b_call9

def wb_11 : List (HloOp τ sig (Elt F)) :=
    [(StableHlo.binary main_while1b_v134 main_while1b_v160 main_while1b_v161 (addf : (⟨S40, .f32⟩ : BufTy).Contents (Elt F) → (⟨S40, .f32⟩ : BufTy).Contents (Elt F) → (⟨S40, .f32⟩ : BufTy).Contents (Elt F))),
     (StableHlo.binary main_while1b_v161 main_while1b_v158 main_while1b_v162 (subf : (⟨S40, .f32⟩ : BufTy).Contents (Elt F) → (⟨S40, .f32⟩ : BufTy).Contents (Elt F) → (⟨S40, .f32⟩ : BufTy).Contents (Elt F))),
     (StableHlo.nullary main_while1b_cst_66 (constant S_ .f32 0xB3D6BF95#32)),
     (StableHlo.unary main_while1b_cst_66 main_while1b_v163 (broadcastInDim S40 ![] bcast_S_S40 : (⟨S_, .f32⟩ : BufTy).Contents (Elt F) → (⟨S40, .f32⟩ : BufTy).Contents (Elt F))),
     (StableHlo.binary main_while1b_v162 main_while1b_v163 main_while1b_v164 (minimumf : (⟨S40, .f32⟩ : BufTy).Contents (Elt F) → (⟨S40, .f32⟩ : BufTy).Contents (Elt F) → (⟨S40, .f32⟩ : BufTy).Contents (Elt F)))]

def wb_12 : List (HloOp τ sig (Elt F)) :=
    [(StableHlo.nullary main_while1b_cst_67 (constant S_ .f32 0xBF317218#32)),
     (StableHlo.unary main_while1b_cst_67 main_while1b_v165 (broadcastInDim S40 ![] bcast_S_S40 : (⟨S_, .f32⟩ : BufTy).Contents (Elt F) → (⟨S40, .f32⟩ : BufTy).Contents (Elt F))),
     (StableHlo.binary main_while1b_v164 main_while1b_v165 main_while1b_v166 (cmpf .ogt : (⟨S40, .f32⟩ : BufTy).Contents (Elt F) → (⟨S40, .f32⟩ : BufTy).Contents (Elt F) → (⟨S40, .i1⟩ : BufTy).Contents (Elt F))),
     (StableHlo.nullary main_while1b_cst_68 (constant S_ .f32 0xBF317218#32))]

def wb_13 : List (HloOp τ sig (Elt F)) :=
    fn_where_5_ops (.of main_while1b_v166) (.of main_while1b_v164) (.of main_while1b_cst_68) main_while1b_call10

def wb_14 : List (HloOp τ sig (Elt F)) :=
    [(StableHlo.nullary main_while1b_cst_69 (constant S_ .f32 0xBF317218#32))]

def wb_15 : List (HloOp τ sig (Elt F)) :=
    fn_where_6_ops (.of main_while1b_v166) (.of main_while1b_cst_69) (.of main_while1b_v164) main_while1b_call11

def wb_16 : List (HloOp τ sig (Elt F)) :=
    [(StableHlo.unary main_while1b_v167 main_while1b_v169 (Host.expm1 : (⟨S40, .f32⟩ : BufTy).Contents (Elt F) → (⟨S40, .f32⟩ : BufTy).Contents (Elt F))),
     (StableHlo.unary main_while1b_v169 main_while1b_v170 (Host.negf : (⟨S40, .f32⟩ : BufTy).Contents (Elt F) → (⟨S40, .f32⟩ : BufTy).Contents (Elt F))),
     (StableHlo.unary main_while1b_v170 main_while1b_v171 (Host.log : (⟨S40, .f32⟩ : BufTy).Contents (Elt F) → (⟨S40, .f32⟩ : BufTy).Contents (Elt F))),
     (StableHlo.unary main_while1b_v168 main_while1b_v172 (Host.exp : (⟨S40, .f32⟩ : BufTy).Contents (Elt F) → (⟨S40, .f32⟩ : BufTy).Contents (Elt F))),
     (StableHlo.unary main_while1b_v172 main_while1b_v173 (Host.negf : (⟨S40, .f32⟩ : BufTy).Contents (Elt F) → (⟨S40, .f32⟩ : BufTy).Contents (Elt F))),
     (StableHlo.unary main_while1b_v173 main_while1b_v174 (Host.log1p : (⟨S40, .f32⟩ : BufTy).Contents (Elt F) → (⟨S40, .f32⟩ : BufTy).Contents (Elt F)))]

def wb_17 : List (HloOp τ sig (Elt F)) :=
    fn_where_7_ops (.of main_while1b_v166) (.of main_while1b_v171) (.of main_while1b_v174) main_while1b_call12

def wb_18 : List (HloOp τ sig (Elt F)) :=
    [(StableHlo.binary main_while1b_v164 main_while1b_v175 main_while1b_v176 (subf : (⟨S40, .f32⟩ : BufTy).Contents (Elt F) → (⟨S40, .f32⟩ : BufTy).Contents (Elt F) → (⟨S40, .f32⟩ : BufTy).Contents (Elt F))),
     (StableHlo.unary main_while1b_v176 main_while1b_v177 (Host.negf : (⟨S40, .f32⟩ : BufTy).Contents (Elt F) → (⟨S40, .f32⟩ : BufTy).Contents (Elt F))),
     (StableHlo.unary main_while1b_v177 main_while1b_v178 (Host.exp : (⟨S40, .f32⟩ : BufTy).Contents (Elt F) → (⟨S40, .f32⟩ : BufTy).Contents (Elt F))),
     (StableHlo.nullary main_while1b_cst_70 (constant S_ .f32 0x3F800000#32)),
     (StableHlo.unary main_while1b_cst_70 main_while1b_v179 (broadcastInDim S40 ![] bcast_S_S40 : (⟨S_, .f32⟩ : BufTy).Contents (Elt F) → (⟨S40, .f32⟩ : BufTy).Contents (Elt F))),
     (StableHlo.binary main_while1b_v179 main_while1b_v178 main_while1b_v180 (addf : (⟨S40, .f32⟩ : BufTy).Contents (Elt F) → (⟨S40, .f32⟩ : BufTy).Contents (Elt F) → (⟨S40, .f32⟩ : BufTy).Contents (Elt F))),
     (StableHlo.nullary main_while1b_cst_71 (constant S_ .f32 0x3F800000#32)),
     (StableHlo.unary main_while1b_cst_71 main_while1b_v181 (broadcastInDim S40 ![] bcast_S_S40 : (⟨S_, .f32⟩ : BufTy).Contents (Elt F) → (⟨S40, .f32⟩ : BufTy).Contents (Elt F))),
     (StableHlo.binary main_while1b_v181 main_while1b_v180 main_while1b_v182 (Host.divf : (⟨S40, .f32⟩ : BufTy).Contents (Elt F) → (⟨S40, .f32⟩ : BufTy).Contents (Elt F) → (⟨S40, .f32⟩ : BufTy).Contents (Elt F)))]

def wb_19 : List (HloOp τ sig (Elt F)) :=
    [(StableHlo.binary main_while1b_v106 main_while1b_v182 main_while1b_v183 (cmpf .olt : (⟨S40, .f32⟩ : BufTy).Contents (Elt F) → (⟨S40, .f32⟩ : BufTy).Contents (Elt F) → (⟨S40, .i1⟩ : BufTy).Contents (Elt F))),
     (StableHlo.unary main_while1b_v183 main_while1b_v184 ((extui 32 · natLt_1_32) : (⟨S40, .i1⟩ : BufTy).Contents (Elt F) → (⟨S40, .i32⟩ : BufTy).Contents (Elt F))),
     (StableHlo.nullary main_while1b_c_72 (constantI S_ 32 0#32)),
     (StableHlo.unary main_while1b_c_72 main_while1b_v185 (broadcastInDim S40 ![] bcast_S_S40 : (⟨S_, .i32⟩ : BufTy).Contents (Elt F) → (⟨S40, .i32⟩ : BufTy).Contents (Elt F))),
     (StableHlo.binary main_while1b_v184 main_while1b_v185 main_while1b_v186 (cmpi .sgt : (⟨S40, .i32⟩ : BufTy).Contents (Elt F) → (⟨S40, .i32⟩ : BufTy).Contents (Elt F) → (⟨S40, .i1⟩ : BufTy).Contents (Elt F))),
     (StableHlo.nullary main_while1b_c_73 (constantI S_ 32 1#32)),
     (StableHlo.unary main_while1b_c_73 main_while1b_v187 (broadcastInDim S40 ![] bcast_S_S40 : (⟨S_, .i32⟩ : BufTy).Contents (Elt F) → (⟨S40, .i32⟩ : BufTy).Contents (Elt F))),
     (StableHlo.binary main_v34_6 main_while1b_v187 main_while1b_v188 (subi : (⟨S40, .i32⟩ : BufTy).Contents (Elt F) → (⟨S40, .i32⟩ : BufTy).Contents (Elt F) → (⟨S40, .i32⟩ : BufTy).Contents (Elt F)))]

def wb_20 : List (HloOp τ sig (Elt F)) :=
    fn_where_8_ops (.of main_while1b_v186) (.of main_while1b_v188) (.of main_v34_6) main_while1b_call13

def wb_21 : List (HloOp τ sig (Elt F)) :=
    fn_dynamic_update_index_in_dim_9_ops (.of main_v34_7) (.of main_while1b_v184) (.of main_v34_5) main_while1b_call14

def wb_22 : List (HloOp τ sig (Elt F)) :=
    [(StableHlo.nullary main_while1b_c_74 (constantI S_ 32 1#32)),
     (StableHlo.binary main_v34_5 main_while1b_c_74 main_while1b_v191 (addi : (⟨S_, .i32⟩ : BufTy).Contents (Elt F) → (⟨S_, .i32⟩ : BufTy).Contents (Elt F) → (⟨S_, .i32⟩ : BufTy).Contents (Elt F))),
     (StableHlo.unary main_while1b_v191 main_v34_5 id),
     (StableHlo.unary main_while1b_v189 main_v34_6 id),
     (StableHlo.unary main_while1b_v190 main_v34_7 id)]

def wc_0 : List (HloOp τ sig (Elt F)) :=
    fn_dynamic_index_in_dim_ops (.of main_v70_0) (.of main_v70_7) main_while2b_call20

def wc_1 : List (HloOp τ sig (Elt F)) :=
    fn_dynamic_index_in_dim_ops (.of main_v70_1) (.of main_v70_7) main_while2b_call21

def wc_2 : List (HloOp τ sig (Elt F)) :=
    [(StableHlo.unary main_v70_8 main_while2b_v107 ((extractStridedSlice S40x11 ![0, 0] · slices_S40x12_S40x11_0_0) : (⟨S40x12, .f32⟩ : BufTy).Contents (Elt F) → (⟨S40x11, .f32⟩ : BufTy).Contents (Elt F))),
     (StableHlo.unary main_while2b_v105 main_while2b_v108 (broadcastInDim S40x1 ![0] bcast_S40_S40x1_0 : (⟨S40, .f32⟩ : BufTy).Contents (Elt F) → (⟨S40x1, .f32⟩ : BufTy).Contents (Elt F))),
     (StableHlo.unary main_while2b_v108 main_while2b_v109 (broadcastInDim S40x11 ![0, 1] bcast_S40x1_S40x11_0_1 : (⟨S40x1, .f32⟩ : BufTy).Contents (Elt F) → (⟨S40x11, .f32⟩ : BufTy).Contents (Elt F))),
     (StableHlo.binary main_while2b_v107 main_while2b_v109 main_while2b_v110 (addf : (⟨S40x11, .f32⟩ : BufTy).Contents (Elt F) → (⟨S40x11, .f32⟩ : BufTy).Contents (Elt F) → (⟨S40x11, .f32⟩ : BufTy).Contents (Elt F)))]

def wc_3 : List (HloOp τ sig (Elt F)) :=
    [(StableHlo.unary main_v70_8 main_while2b_v111 ((extractStridedSlice S40x11 ![0, 1] · slices_S40x12_S40x11_0_1) : (⟨S40x12, .f32⟩ : BufTy).Contents (Elt F) → (⟨S40x11, .f32⟩ : BufTy).Contents (Elt F))),
     (StableHlo.unary main_while2b_v106 main_while2b_v112 (broadcastInDim S40x1 ![0] bcast_S40_S40x1_0 : (⟨S40, .f32⟩ : BufTy).Contents (Elt F) → (⟨S40x1, .f32⟩ : BufTy).Contents (Elt F))),
     (StableHlo.unary main_while2b_v112 main_while2b_v113 (broadcastInDim S40x11 ![0, 1] bcast_S40x1_S40x11_0_1 : (⟨S40x1, .f32⟩ : BufTy).Contents (Elt F) → (⟨S40x11, .f32⟩ : BufTy).Contents (Elt F))),
     (StableHlo.binary main_while2b_v111 main_while2b_v113 main_while2b_v114 (addf : (⟨S40x11, .f32⟩ : BufTy).Contents (Elt F) → (⟨S40x11, .f32⟩ : BufTy).Contents (Elt F) → (⟨S40x11, .f32⟩ : BufTy).Contents (Elt F)))]

def wc_4 : List (HloOp τ sig (Elt F)) :=
    [(StableHlo.binary main_while2b_v110 main_while2b_v114 main_while2b_v115 (maximumf : (⟨S40x11, .f32⟩ : BufTy).Contents (Elt F) → (⟨S40x11, .f32⟩ : BufTy).Contents (Elt F) → (⟨S40x11, .f32⟩ : BufTy).Contents (Elt F))),
     (StableHlo.binary main_while2b_v110 main_while2b_v114 main_while2b_v116 (subf : (⟨S40x11, .f32⟩ : BufTy).Contents (Elt F) → (⟨S40x11, .f32⟩ : BufTy).Contents (Elt F) → (⟨S40x11, .f32⟩ : BufTy).Contents (Elt F))),
     (StableHlo.binary main_while2b_v116 main_while2b_v116 main_while2b_v117 (cmpf .une : (⟨S40x11, .f32⟩ : BufTy).Contents (Elt F) → (⟨S40x11, .f32⟩ : BufTy).Contents (Elt F) → (⟨S40x11, .i1⟩ : BufTy).Contents (Elt F))),
     (StableHlo.binary main_while2b_v110 main_while2b_v114 main_while2b_v118 (addf : (⟨S40x11, .f32⟩ : BufTy).Contents (Elt F) → (⟨S40x11, .f32⟩ : BufTy).Contents (Elt F) → (⟨S40x11, .f32⟩ : BufTy).Contents (Elt F))),
     (StableHlo.unary main_while2b_v116 main_while2b_v119 (Host.absf : (⟨S40x11, .f32⟩ : BufTy).Contents (Elt F) → (⟨S40x11, .f32⟩ : BufTy).Contents (Elt F))),
     (StableHlo.unary main_while2b_v119 main_while2b_v120 (Host.negf : (⟨S40x11, .f32⟩ : BufTy).Contents (Elt F) → (⟨S40x11, .f32⟩ : BufTy).Contents (Elt F))),
     (StableHlo.unary main_while2b_v120 main_while2b_v121 (Host.exp : (⟨S40x11, .f32⟩ : BufTy).Contents (Elt F) → (⟨S40x11, .f32⟩ : BufTy).Contents (Elt F))),
     (StableHlo.unary main_while2b_v121 main_while2b_v122 (Host.log1p : (⟨S40x11, .f32⟩ : BufTy).Contents (Elt F) → (⟨S40x11, .f32⟩ : BufTy).Contents (Elt F))),
     (StableHlo.binary main_while2b_v115 main_while2b_v122 main_while2b_v123 (addf : (⟨S40x11, .f32⟩ : BufTy).Contents (Elt F) → (⟨S40x11, .f32⟩ : BufTy).Contents (Elt F) → (⟨S40x11, .f32⟩ : BufTy).Contents (Elt F))),
     (StableHlo.ternary main_while2b_v117 main_while2b_v118 main_while2b_v123 main_while2b_v124 (select : (⟨S40x11, .i1⟩ : BufTy).Contents (Elt F) → (⟨S40x11, .f32⟩ : BufTy).Contents (Elt F) → (⟨S40x11, .f32⟩ : BufTy).Contents (Elt F) → (⟨S40x11, .f32⟩ : BufTy).Contents (Elt F)))]

def wc_5 : List (HloOp τ sig (Elt F)) :=
    [(StableHlo.nullary main_while2b_cst_51 (constant S_ .f32 0x7F800000#32)),
     (StableHlo.unary main_while2b_cst_51 main_while2b_v125 (broadcastInDim S40x11 ![] bcast_S_S40x11 : (⟨S_, .f32⟩ : BufTy).Contents (Elt F) → (⟨S40x11, .f32⟩ : BufTy).Contents (Elt F))),
     (StableHlo.binary main_while2b_v110 main_while2b_v125 main_while2b_v126 (cmpf .oeq : (⟨S40x11, .f32⟩ : BufTy).Contents (Elt F) → (⟨S40x11, .f32⟩ : BufTy).Contents (Elt F) → (⟨S40x11, .i1⟩ : BufTy).Contents (Elt F))),
     (StableHlo.ternary main_while2b_v126 main_v70_3 main_while2b_v110 main_while2b_v127 (select : (⟨S40x11, .i1⟩ : BufTy).Contents (Elt F) → (⟨S40x11, .f32⟩ : BufTy).Contents (Elt F) → (⟨S40x11, .f32⟩ : BufTy).Contents (Elt F) → (⟨S40x11, .f32⟩ : BufTy).Contents (Elt F))),
     (StableHlo.nullary main_while2b_cst_52 (constant S_ .f32 0x7F800000#32)),
     (StableHlo.unary main_while2b_cst_52 main_while2b_v128 (broadcastInDim S40x11 ![] bcast_S_S40x11 : (⟨S_, .f32⟩ : BufTy).Contents (Elt F) → (⟨S40x11, .f32⟩ : BufTy).Contents (Elt F))),
     (StableHlo.binary main_while2b_v124 main_while2b_v128 main_while2b_v129 (cmpf .oeq : (⟨S40x11, .f32⟩ : BufTy).Contents (Elt F) → (⟨S40x11, .f32⟩ : BufTy).Contents (Elt F) → (⟨S40x11, .i1⟩ : BufTy).Contents (Elt F))),
     (StableHlo.ternary main_while2b_v129 main_v70_4 main_while2b_v124 main_while2b_v130 (select : (⟨S40x11, .i1⟩ : BufTy).Contents (Elt F) → (⟨S40x11, .f32⟩ : BufTy).Contents (Elt F) → (⟨S40x11, .f32⟩ : BufTy).Contents (Elt F) → (⟨S40x11, .f32⟩ : BufTy).Contents (Elt F))),
     (StableHlo.binary main_while2b_v127 main_while2b_v130 main_while2b_v131 (subf : (⟨S40x11, .f32⟩ : BufTy).Contents (Elt F) → (⟨S40x11, .f32⟩ : BufTy).Contents (Elt F) → (⟨S40x11, .f32⟩ : BufTy).Contents (Elt F))),
     (StableHlo.unary main_while2b_v131 main_while2b_v132 (Host.exp : (⟨S40x11, .f32⟩ : BufTy).Contents (Elt F) → (⟨S40x11, .f32⟩ : BufTy).Contents (Elt F)))]

def wc_6 : List (HloOp τ sig (Elt F)) :=
    [(StableHlo.nullary main_while2b_cst_53 (constant S_ .f32 0x7F800000#32)),
     (StableHlo.unary main_while2b_cst_53 main_while2b_v133 (broadcastInDim S40x11 ![] bcast_S_S40x11 : (⟨S_, .f32⟩ : BufTy).Contents (Elt F) → (⟨S40x11, .f32⟩ : BufTy).Contents (Elt F))),
     (StableHlo.binary main_while2b_v114 main_while2b_v133 main_while2b_v134 (cmpf .oeq : (⟨S40x11, .f32⟩ : BufTy).Contents (Elt F) → (⟨S40x11, .f32⟩ : BufTy).Contents (Elt F) → (⟨S40x11, .i1⟩ : BufTy).Contents (Elt F))),
     (StableHlo.ternary main_while2b_v134 main_v70_5 main_while2b_v114 main_while2b_v135 (select : (⟨S40x11, .i1⟩ : BufTy).Contents (Elt F) → (⟨S40x11, .f32⟩ : BufTy).Contents (Elt F) → (⟨S40x11, .f32⟩ : BufTy).Contents (Elt F) → (⟨S40x11, .f32⟩ : BufTy).Contents (Elt F))),
     (StableHlo.nullary main_while2b_cst_54 (constant S_ .f32 0x7F800000#32)),
     (StableHlo.unary main_while2b_cst_54 main_while2b_v136 (broadcastInDim S40x11 ![] bcast_S_S40x11 : (⟨S_, .f32⟩ : BufTy).Contents (Elt F) → (⟨S40x11, .f32⟩ : BufTy).Contents (Elt F))),
     (StableHlo.binary main_while2b_v124 main_while2b_v136 main_while2b_v137 (cmpf .oeq : (⟨S40x11, .f32⟩ : BufTy).Contents (Elt F) → (⟨S40x11, .f32⟩ : BufTy).Contents (Elt F) → (⟨S40x11, .i1⟩ : BufTy).Contents (Elt F))),
     (StableHlo.ternary main_while2b_v137 main_v70_6 main_while2b_v124 main_while2b_v138 (select : (⟨S40x11, .i1⟩ : BufTy).Contents (Elt F) → (⟨S40x11, .f32⟩ : BufTy).Contents (Elt F) → (⟨S40x11, .f32⟩ : BufTy).Contents (Elt F) → (⟨S40x11, .f32⟩ : BufTy).Contents (Elt F))),
     (StableHlo.binary main_while2b_v135 main_while2b_v138 main_while2b_v139 (subf : (⟨S40x11, .f32⟩ : BufTy).Contents (Elt F) → (⟨S40x11, .f32⟩ : BufTy).Contents (Elt F) → (⟨S40x11, .f32⟩ : BufTy).Contents (Elt F))),
     (StableHlo.unary main_while2b_v139 main_while2b_v140 (Host.exp : (⟨S40x11, .f32⟩ : BufTy).Contents (Elt F) → (⟨S40x11, .f32⟩ : BufTy).Contents (Elt F)))]

def wc_7 : List (HloOp τ sig (Elt F)) :=
    [(StableHlo.binary main_v70_2 main_while2b_v124 main_while2b_v141 ((fun a b => concatenate S40x12 1 [⟨S40x1, a⟩, ⟨S40x11, b⟩] concatenates_S40x1_S40x11_S40x12_d1) : (⟨S40x1, .f32⟩ : BufTy).Contents (Elt F) → (⟨S40x11, .f32⟩ : BufTy).Contents (Elt F) → (⟨S40x12, .f32⟩ : BufTy).Contents (Elt F)))]

def wc_8 : List (HloOp τ sig (Elt F)) :=
    fn_dynamic_update_index_in_dim_ops (.of main_v70_9) (.of main_while2b_v141) (.of main_v70_7) main_while2b_call22

def wc_9 : List (HloOp τ sig (Elt F)) :=
    fn_dynamic_update_index_in_dim_13_ops (.of main_v70_10) (.of main_while2b_v132) (.of main_v70_7) main_while2b_call23

def wc_10 : List (HloOp τ sig (Elt F)) :=
    fn_dynamic_update_index_in_dim_13_ops (.of main_v70_11) (.of main_while2b_v140) (.of main_v70_7) main_while2b_call24

def wc_11 : List (HloOp τ sig (Elt F)) :=
    [(StableHlo.nullary main_while2b_c_55 (constantI S_ 32 1#32)),
     (StableHlo.binary main_v70_7 main_while2b_c_55 main_while2b_v145 (addi : (⟨S_, .i32⟩ : BufTy).Contents (Elt F) → (⟨S_, .i32⟩ : BufTy).Contents (Elt F) → (⟨S_, .i32⟩ : BufTy).Contents (Elt F))),
     (StableHlo.unary main_while2b_v145 main_v70_7 id),
     (StableHlo.unary main_while2b_v141 main_v70_8 id),
     (StableHlo.unary main_while2b_v142 main_v70_9 id),
     (StableHlo.unary main_while2b_v143 main_v70_10 id),
     (StableHlo.unary main_while2b_v144 main_v70_11 id)]

def wd_0 : List (HloOp τ sig (Elt F)) :=
    [(StableHlo.nullary main_while3b_c_47 (constantI S_ 32 2048#32)),
     (StableHlo.binary main_while3b_c_47 main_v88_4 main_while3b_v105 (subi : (⟨S_, .i32⟩ : BufTy).Contents (Elt F) → (⟨S_, .i32⟩ : BufTy).Contents (Elt F) → (⟨S_, .i32⟩ : BufTy).Contents (Elt F))),
     (StableHlo.nullary main_while3b_c_48 (constantI S_ 32 1#32)),
     (StableHlo.binary main_while3b_v105 main_while3b_c_48 main_while3b_v106 (subi : (⟨S_, .i32⟩ : BufTy).Contents (Elt F) → (⟨S_, .i32⟩ : BufTy).Contents (Elt F) → (⟨S_, .i32⟩ : BufTy).Contents (Elt F)))]

def wd_1 : List (HloOp τ sig (Elt F)) :=
    fn_dynamic_index_in_dim_14_ops (.of main_v88_0) (.of main_while3b_v106) main_while3b_call25

def wd_2 : List (HloOp τ sig (Elt F)) :=
    fn_dynamic_index_in_dim_15_ops (.of main_v88_1) (.of main_while3b_v106) main_while3b_call26

def wd_3 : List (HloOp τ sig (Elt F)) :=
    fn_dynamic_index_in_dim_15_ops (.of main_v88_2) (.of main_while3b_v106) main_while3b_call27

def wd_4 : List (HloOp τ sig (Elt F)) :=
    [(StableHlo.binary main_v88_5 main_while3b_v107 main_while3b_v110 (addf : (⟨S40x12, .f32⟩ : BufTy).Contents (Elt F) → (⟨S40x12, .f32⟩ : BufTy).Contents (Elt F) → (⟨S40x12, .f32⟩ : BufTy).Contents (Elt F))),
     (StableHlo.unary main_while3b_v110 main_while3b_v111 ((extractStridedSlice S40x1 ![0, 0] · slices_S40x12_S40x1_0_0) : (⟨S40x12, .f32⟩ : BufTy).Contents (Elt F) → (⟨S40x1, .f32⟩ : BufTy).Contents (Elt F))),
     (StableHlo.unary main_while3b_v110 main_while3b_v112 ((extractStridedSlice S40x11 ![0, 1] · slices_S40x12_S40x11_0_1) : (⟨S40x12, .f32⟩ : BufTy).Contents (Elt F) → (⟨S40x11, .f32⟩ : BufTy).Contents (Elt F))),
     (StableHlo.binary main_while3b_v112 main_while3b_v109 main_while3b_v113 (mulf : (⟨S40x11, .f32⟩ : BufTy).Contents (Elt F) → (⟨S40x11, .f32⟩ : BufTy).Contents (Elt F) → (⟨S40x11, .f32⟩ : BufTy).Contents (Elt F))),
     (StableHlo.binary main_while3b_v112 main_while3b_v108 main_while3b_v114 (mulf : (⟨S40x11, .f32⟩ : BufTy).Contents (Elt F) → (⟨S40x11, .f32⟩ : BufTy).Contents (Elt F) → (⟨S40x11, .f32⟩ : BufTy).Contents (Elt F)))]

def wd_5 : List (HloOp τ sig (Elt F)) :=
    [(StableHlo.nullary main_while3b_cst_49 (constant S_ .f32 0x00000000#32)),
     (StableHlo.binary main_while3b_v113 main_while3b_cst_49 main_while3b_v115 ((fun x v => Host.reduceAdd x v reducesTo_S40x11_S40_d1 h_S_) : (⟨S40x11, .f32⟩ : BufTy).Contents (Elt F) → (⟨S_, .f32⟩ : BufTy).Contents (Elt F) → (⟨S40, .f32⟩ : BufTy).Contents (Elt F))),
     (StableHlo.reshape main_while3b_v115 main_while3b_v116 (rfl : (.f32 : EltTy) = .f32) shapeCasts_S40_S40x1),
     (StableHlo.nullary main_while3b_cst_50 (constant S_ .f32 0x00000000#32)),
     (StableHlo.binary main_while3b_v116 main_while3b_cst_50 main_while3b_v117 ((fun x v => Host.reduceAdd x v reducesTo_S40x1_S40_d1 h_S_) : (⟨S40x1, .f32⟩ : BufTy).Contents (Elt F) → (⟨S_, .f32⟩ : BufTy).Contents (Elt F) → (⟨S40, .f32⟩ : BufTy).Contents (Elt F)))]

def wd_6 : List (HloOp τ sig (Elt F)) :=
    [(StableHlo.nullary main_while3b_cst_51 (constant S_ .f32 0x00000000#32)),
     (StableHlo.binary main_while3b_v113 main_while3b_cst_51 main_while3b_v118 ((fun x v => pad S40x12 ![0, 1] ![0, 0] ![0, 0] x v pads_S40x11_S40x12_000_100 h_S_) : (⟨S40x11, .f32⟩ : BufTy).Contents (Elt F) → (⟨S_, .f32⟩ : BufTy).Contents (Elt F) → (⟨S40x12, .f32⟩ : BufTy).Contents (Elt F)))]

def wd_7 : List (HloOp τ sig (Elt F)) :=
    [(StableHlo.nullary main_while3b_cst_52 (constant S_ .f32 0x00000000#32)),
     (StableHlo.binary main_while3b_v114 main_while3b_cst_52 main_while3b_v119 ((fun x v => Host.reduceAdd x v reducesTo_S40x11_S40_d1 h_S_) : (⟨S40x11, .f32⟩ : BufTy).Contents (Elt F) → (⟨S_, .f32⟩ : BufTy).Contents (Elt F) → (⟨S40, .f32⟩ : BufTy).Contents (Elt F))),
     (StableHlo.reshape main_while3b_v119 main_while3b_v120 (rfl : (.f32 : EltTy) = .f32) shapeCasts_S40_S40x1),
     (StableHlo.nullary main_while3b_cst_53 (constant S_ .f32 0x00000000#32)),
     (StableHlo.binary main_while3b_v120 main_while3b_cst_53 main_while3b_v121 ((fun x v => Host.reduceAdd x v reducesTo_S40x1_S40_d1 h_S_) : (⟨S40x1, .f32⟩ : BufTy).Contents (Elt F) → (⟨S_, .f32⟩ : BufTy).Contents (Elt F) → (⟨S40, .f32⟩ : BufTy).Contents (Elt F)))]

def wd_8 : List (HloOp τ sig (Elt F)) :=
    [(StableHlo.nullary main_while3b_cst_54 (constant S_ .f32 0x00000000#32)),
     (StableHlo.binary main_while3b_v114 main_while3b_cst_54 main_while3b_v122 ((fun x v => pad S40x12 ![0, 0] ![0, 1] ![0, 0] x v pads_S40x11_S40x12_000_010 h_S_) : (⟨S40x11, .f32⟩ : BufTy).Contents (Elt F) → (⟨S_, .f32⟩ : BufTy).Contents (Elt F) → (⟨S40x12, .f32⟩ : BufTy).Contents (Elt F))),
     (StableHlo.binary main_while3b_v118 main_while3b_v122 main_while3b_v123 (addf : (⟨S40x12, .f32⟩ : BufTy).Contents (Elt F) → (⟨S40x12, .f32⟩ : BufTy).Contents (Elt F) → (⟨S40x12, .f32⟩ : BufTy).Contents (Elt F)))]

def wd_9 : List (HloOp τ sig (Elt F)) :=
    fn_dynamic_update_index_in_dim_16_ops (.of main_v88_6) (.of main_while3b_v121) (.of main_while3b_v106) main_while3b_call28

def wd_10 : List (HloOp τ sig (Elt F)) :=
    fn_dynamic_update_index_in_dim_16_ops (.of main_v88_7) (.of main_while3b_v117) (.of main_while3b_v106) main_while3b_call29

def wd_11 : List (HloOp τ sig (Elt F)) :=
    [(StableHlo.nullary main_while3b_c_55 (constantI S_ 32 1#32)),
     (StableHlo.binary main_v88_4 main_while3b_c_55 main_while3b_v126 (addi : (⟨S_, .i32⟩ : BufTy).Contents (Elt F) → (⟨S_, .i32⟩ : BufTy).Contents (Elt F) → (⟨S_, .i32⟩ : BufTy).Contents (Elt F))),
     (StableHlo.unary main_while3b_v126 main_v88_4 id),
     (StableHlo.unary main_while3b_v123 main_v88_5 id),
     (StableHlo.unary main_while3b_v124 main_v88_6 id),
     (StableHlo.unary main_while3b_v125 main_v88_7 id)]

def mn_0 : List (HloOp τ sig (Elt F)) :=
    [(StableHlo.nullary main_cst (fun i => FloatOps.ofBits .f32 (lit0 (S2048x40.rowMajor i)))),
     (StableHlo.reshape main_arg0 main_v0 (rfl : (.f32 : EltTy) = .f32) shapeCasts_S40x2048x1_S40x2048)]

def mn_1 : List (HloOp τ sig (Elt F)) :=
    fn_log_sigmoid_ops (.of main_v0) main_call0

def mn_2 : List (HloOp τ sig (Elt F)) :=
    [(StableHlo.nullary main_cst_0 (constant S_ .f32 0xB3D6BF95#32)),
     (StableHlo.unary main_cst_0 main_v2 (broadcastInDim S40x2048 ![] bcast_S_S40x2048 : (⟨S_, .f32⟩ : BufTy).Contents (Elt F) → (⟨S40x2048, .f32⟩ : BufTy).Contents (Elt F))),
     (StableHlo.binary main_v1 main_v2 main_v3 (minimumf : (⟨S40x2048, .f32⟩ : BufTy).Contents (Elt F) → (⟨S40x2048, .f32⟩ : BufTy).Contents (Elt F) → (⟨S40x2048, .f32⟩ : BufTy).Contents (Elt F)))]

def mn_3 : List (HloOp τ sig (Elt F)) :=
    [(StableHlo.nullary main_cst_1 (constant S_ .f32 0xBF317218#32)),
     (StableHlo.unary main_cst_1 main_v4 (broadcastInDim S40x2048 ![] bcast_S_S40x2048 : (⟨S_, .f32⟩ : BufTy).Contents (Elt F) → (⟨S40x2048, .f32⟩ : BufTy).Contents (Elt F))),
     (StableHlo.binary main_v3 main_v4 main_v5 (cmpf .ogt : (⟨S40x2048, .f32⟩ : BufTy).Contents (Elt F) → (⟨S40x2048, .f32⟩ : BufTy).Contents (Elt F) → (⟨S40x2048, .i1⟩ : BufTy).Contents (Elt F))),
     (StableHlo.nullary main_cst_2 (constant S_ .f32 0xBF317218#32))]

def mn_4 : List (HloOp τ sig (Elt F)) :=
    fn_where_ops (.of main_v5) (.of main_v3) (.of main_cst_2) main_call1

def mn_5 : List (HloOp τ sig (Elt F)) :=
    [(StableHlo.nullary main_cst_3 (constant S_ .f32 0xBF317218#32))]

def mn_6 : List (HloOp τ sig (Elt F)) :=
    fn_where_0_ops (.of main_v5) (.of main_cst_3) (.of main_v3) main_call2

def mn_7 : List (HloOp τ sig (Elt F)) :=
    [(StableHlo.unary main_v6 main_v8 (Host.expm1 : (⟨S40x2048, .f32⟩ : BufTy).Contents (Elt F) → (⟨S40x2048, .f32⟩ : BufTy).Contents (Elt F))),
     (StableHlo.unary main_v8 main_v9 (Host.negf : (⟨S40x2048, .f32⟩ : BufTy).Contents (Elt F) → (⟨S40x2048, .f32⟩ : BufTy).Contents (Elt F))),
     (StableHlo.unary main_v9 main_v10 (Host.log : (⟨S40x2048, .f32⟩ : BufTy).Contents (Elt F) → (⟨S40x2048, .f32⟩ : BufTy).Contents (Elt F))),
     (StableHlo.unary main_v7 main_v11 (Host.exp : (⟨S40x2048, .f32⟩ : BufTy).Contents (Elt F) → (⟨S40x2048, .f32⟩ : BufTy).Contents (Elt F))),
     (StableHlo.unary main_v11 main_v12 (Host.negf : (⟨S40x2048, .f32⟩ : BufTy).Contents (Elt F) → (⟨S40x2048, .f32⟩ : BufTy).Contents (Elt F))),
     (StableHlo.unary main_v12 main_v13 (Host.log1p : (⟨S40x2048, .f32⟩ : BufTy).Contents (Elt F) → (⟨S40x2048, .f32⟩ : BufTy).Contents (Elt F)))]

def mn_8 : List (HloOp τ sig (Elt F)) :=
    fn_where_1_ops (.of main_v5) (.of main_v10) (.of main_v13) main_call3

def mn_9 : List (HloOp τ sig (Elt F)) :=
    [(StableHlo.nullary main_cst_4 (constant S_ .f32 0xC3960000#32)),
     (StableHlo.unary main_cst_4 main_v15 (broadcastInDim S40x12 ![] bcast_S_S40x12 : (⟨S_, .f32⟩ : BufTy).Contents (Elt F) → (⟨S40x12, .f32⟩ : BufTy).Contents (Elt F))),
     (StableHlo.nullary main_c (constantI S_ 32 1#32)),
     (StableHlo.unary main_c main_v16 (broadcastInDim S1 ![] bcast_S_S1 : (⟨S_, .i32⟩ : BufTy).Contents (Elt F) → (⟨S1, .i32⟩ : BufTy).Contents (Elt F))),
     (StableHlo.nullary main_cst_5 (constant S_ .f32 0x00000000#32)),
     (StableHlo.unary main_cst_5 main_v17 (broadcastInDim S40 ![] bcast_S_S40 : (⟨S_, .f32⟩ : BufTy).Contents (Elt F) → (⟨S40, .f32⟩ : BufTy).Contents (Elt F))),
     (StableHlo.ternary main_v15 main_v16 main_v17 main_v18 ((fun x i u => Host.scatter scatter_S40x12_S1_S40_0_1_1_0 (fun _ b => b) x i u) : (⟨S40x12, .f32⟩ : BufTy).Contents (Elt F) → (⟨S1, .i32⟩ : BufTy).Contents (Elt F) → (⟨S40, .f32⟩ : BufTy).Contents (Elt F) → (⟨S40x12, .f32⟩ : BufTy).Contents (Elt F)))]

def mn_10 : List (HloOp τ sig (Elt F)) :=
    [(StableHlo.unary main_v3 main_v19 ((transpose S2048x40 [1, 0] · transposes_S40x2048_S2048x40_1_0) : (⟨S40x2048, .f32⟩ : BufTy).Contents (Elt F) → (⟨S2048x40, .f32⟩ : BufTy).Contents (Elt F))),
     (StableHlo.unary main_v14 main_v20 ((transpose S2048x40 [1, 0] · transposes_S40x2048_S2048x40_1_0) : (⟨S40x2048, .f32⟩ : BufTy).Contents (Elt F) → (⟨S2048x40, .f32⟩ : BufTy).Contents (Elt F))),
     (StableHlo.nullary main_cst_6 (constant S_ .f32 0x00000000#32)),
     (StableHlo.unary main_cst_6 main_v21 (broadcastInDim S2048x40x12 ![] bcast_S_S2048x40x12 : (⟨S_, .f32⟩ : BufTy).Contents (Elt F) → (⟨S2048x40x12, .f32⟩ : BufTy).Contents (Elt F))),
     (StableHlo.nullary main_c_7 (constantI S_ 32 0#32)),
     (StableHlo.unary main_v19 main_v22_0 id),
     (StableHlo.unary main_v20 main_v22_1 id),
     (StableHlo.unary main_c_7 main_v22_2 id),
     (StableHlo.unary main_v18 main_v22_3 id),
     (StableHlo.unary main_v21 main_v22_4 id)]

def mn_12 : List (HloOp τ sig (Elt F)) :=
    [(StableHlo.unary main_v18 main_v23 (broadcastInDim S40x1x12 ![0, 2] bcast_S40x12_S40x1x12_0_2 : (⟨S40x12, .f32⟩ : BufTy).Contents (Elt F) → (⟨S40x1x12, .f32⟩ : BufTy).Contents (Elt F))),
     (StableHlo.unary main_v22_4 main_v24 ((transpose S40x2048x12 [1, 0, 2] · transposes_S2048x40x12_S40x2048x12_1_0_2) : (⟨S2048x40x12, .f32⟩ : BufTy).Contents (Elt F) → (⟨S40x2048x12, .f32⟩ : BufTy).Contents (Elt F)))]

def mn_13 : List (HloOp τ sig (Elt F)) :=
    [(StableHlo.binary main_v23 main_v24 main_v25 ((fun a b => concatenate S40x2049x12 1 [⟨S40x1x12, a⟩, ⟨S40x2048x12, b⟩] concatenates_S40x1x12_S40x2048x12_S40x2049x12_d1) : (⟨S40x1x12, .f32⟩ : BufTy).Contents (Elt F) → (⟨S40x2048x12, .f32⟩ : BufTy).Contents (Elt F) → (⟨S40x2049x12, .f32⟩ : BufTy).Contents (Elt F)))]

def mn_14 : List (HloOp τ sig (Elt F)) :=
    [(StableHlo.nullary main_v26 (iotaInDim S40 32 0)),
     (StableHlo.nullary main_v27 (iotaInDim S2048 32 0)),
     (StableHlo.nullary main_c_8 (constantI S_ 32 4294967295#32)),
     (StableHlo.unary main_c_8 main_v28 (broadcastInDim S2048 ![] bcast_S_S2048 : (⟨S_, .i32⟩ : BufTy).Contents (Elt F) → (⟨S2048, .i32⟩ : BufTy).Contents (Elt F))),
     (StableHlo.binary main_v28 main_v27 main_v29 (muli : (⟨S2048, .i32⟩ : BufTy).Contents (Elt F) → (⟨S2048, .i32⟩ : BufTy).Contents (Elt F) → (⟨S2048, .i32⟩ : BufTy).Contents (Elt F))),
     (StableHlo.nullary main_c_9 (constantI S_ 32 2048#32)),
     (StableHlo.unary main_c_9 main_v30 (broadcastInDim S2048 ![] bcast_S_S2048 : (⟨S_, .i32⟩ : BufTy).Contents (Elt F) → (⟨S2048, .i32⟩ : BufTy).Contents (Elt F))),
     (StableHlo.binary main_v30 main_v29 main_v31 (addi : (⟨S2048, .i32⟩ : BufTy).Contents (Elt F) → (⟨S2048, .i32⟩ : BufTy).Contents (Elt F) → (⟨S2048, .i32⟩ : BufTy).Contents (Elt F)))]

def mn_15 : List (HloOp τ sig (Elt F)) :=
    [(StableHlo.nullary main_c_10 (constantI S_ 32 11#32)),
     (StableHlo.unary main_c_10 main_v32 (broadcastInDim S40 ![] bcast_S_S40 : (⟨S_, .i32⟩ : BufTy).Contents (Elt F) → (⟨S40, .i32⟩ : BufTy).Contents (Elt F))),
     (StableHlo.nullary main_c_11 (constantI S_ 32 0#32)),
     (StableHlo.unary main_c_11 main_v33 (broadcastInDim S2048x40 ![] bcast_S_S2048x40 : (⟨S_, .i32⟩ : BufTy).Contents (Elt F) → (⟨S2048x40, .i32⟩ : BufTy).Contents (Elt F))),
     (StableHlo.nullary main_c_12 (constantI S_ 32 0#32)),
     (StableHlo.unary main_v31 main_v34_0 id),
     (StableHlo.unary main_cst main_v34_1 id),
     (StableHlo.unary main_v26 main_v34_2 id),
     (StableHlo.unary main_v25 main_v34_3 id),
     (StableHlo.unary main_v3 main_v34_4 id),
     (StableHlo.unary main_c_12 main_v34_5 id),
     (StableHlo.unary main_v32 main_v34_6 id),
     (StableHlo.unary main_v33 main_v34_7 id)]

def mn_17 : List (HloOp τ sig (Elt F)) :=
    fn_flip_ops (.of main_v34_7) main_call15

def mn_18 : List (HloOp τ sig (Elt F)) :=
    [(StableHlo.unary main_v35 main_v36 ((transpose S40x2048 [1, 0] · transposes_S2048x40_S40x2048_1_0) : (⟨S2048x40, .i32⟩ : BufTy).Contents (Elt F) → (⟨S40x2048, .i32⟩ : BufTy).Contents (Elt F))),
     (StableHlo.unary main_v36 main_v37 (sitofp .f32 : (⟨S40x2048, .i32⟩ : BufTy).Contents (Elt F) → (⟨S40x2048, .f32⟩ : BufTy).Contents (Elt F)))]

def mn_19 : List (HloOp τ sig (Elt F)) :=
    fn_log_sigmoid_ops (.of main_v0) main_call16

def mn_20 : List (HloOp τ sig (Elt F)) :=
    [(StableHlo.nullary main_cst_13 (constant S_ .f32 0xB3D6BF95#32)),
     (StableHlo.unary main_cst_13 main_v39 (broadcastInDim S40x2048 ![] bcast_S_S40x2048 : (⟨S_, .f32⟩ : BufTy).Contents (Elt F) → (⟨S40x2048, .f32⟩ : BufTy).Contents (Elt F))),
     (StableHlo.binary main_v38 main_v39 main_v40 (minimumf : (⟨S40x2048, .f32⟩ : BufTy).Contents (Elt F) → (⟨S40x2048, .f32⟩ : BufTy).Contents (Elt F) → (⟨S40x2048, .f32⟩ : BufTy).Contents (Elt F))),
     (StableHlo.nullary main_cst_14 (constant S_ .f32 0xBF317218#32)),
     (StableHlo.unary main_cst_14 main_v41 (broadcastInDim S40x2048 ![] bcast_S_S40x2048 : (⟨S_, .f32⟩ : BufTy).Contents (Elt F) → (⟨S40x2048, .f32⟩ : BufTy).Contents (Elt F))),
     (StableHlo.binary main_v40 main_v41 main_v42 (cmpf .ogt : (⟨S40x2048, .f32⟩ : BufTy).Contents (Elt F) → (⟨S40x2048, .f32⟩ : BufTy).Contents (Elt F) → (⟨S40x2048, .i1⟩ : BufTy).Contents (Elt F))),
     (StableHlo.nullary main_cst_15 (constant S_ .f32 0xBF317218#32))]

def mn_21 : List (HloOp τ sig (Elt F)) :=
    fn_where_10_ops (.of main_v42) (.of main_v40) (.of main_cst_15) main_call17

def mn_22 : List (HloOp τ sig (Elt F)) :=
    [(StableHlo.nullary main_cst_16 (constant S_ .f32 0xBF317218#32))]

def mn_23 : List (HloOp τ sig (Elt F)) :=
    fn_where_11_ops (.of main_v42) (.of main_cst_16) (.of main_v40) main_call18

def mn_24 : List (HloOp τ sig (Elt F)) :=
    [(StableHlo.unary main_v43_0 main_v45 (Host.expm1 : (⟨S40x2048, .f32⟩ : BufTy).Contents (Elt F) → (⟨S40x2048, .f32⟩ : BufTy).Contents (Elt F))),
     (StableHlo.unary main_v43_0 main_v46 (Host.exp : (⟨S40x2048, .f32⟩ : BufTy).Contents (Elt F) → (⟨S40x2048, .f32⟩ : BufTy).Contents (Elt F))),
     (StableHlo.unary main_v45 main_v47 (Host.negf : (⟨S40x2048, .f32⟩ : BufTy).Contents (Elt F) → (⟨S40x2048, .f32⟩ : BufTy).Contents (Elt F))),
     (StableHlo.unary main_v47 main_v48 (Host.log : (⟨S40x2048, .f32⟩ : BufTy).Contents (Elt F) → (⟨S40x2048, .f32⟩ : BufTy).Contents (Elt F))),
     (StableHlo.unary main_v44_0 main_v49 (Host.exp : (⟨S40x2048, .f32⟩ : BufTy).Contents (Elt F) → (⟨S40x2048, .f32⟩ : BufTy).Contents (Elt F))),
     (StableHlo.unary main_v49 main_v50 (Host.negf : (⟨S40x2048, .f32⟩ : BufTy).Contents (Elt F) → (⟨S40x2048, .f32⟩ : BufTy).Contents (Elt F))),
     (StableHlo.unary main_v50 main_v51 (Host.log1p : (⟨S40x2048, .f32⟩ : BufTy).Contents (Elt F) → (⟨S40x2048, .f32⟩ : BufTy).Contents (Elt F))),
     (StableHlo.nullary main_cst_17 (constant S_ .f32 0x3F800000#32)),
     (StableHlo.unary main_cst_17 main_v52 (broadcastInDim S40x2048 ![] bcast_S_S40x2048 : (⟨S_, .f32⟩ : BufTy).Contents (Elt F) → (⟨S40x2048, .f32⟩ : BufTy).Contents (Elt F))),
     (StableHlo.binary main_v50 main_v52 main_v53 (addf : (⟨S40x2048, .f32⟩ : BufTy).Contents (Elt F) → (⟨S40x2048, .f32⟩ : BufTy).Contents (Elt F) → (⟨S40x2048, .f32⟩ : BufTy).Contents (Elt F)))]

def mn_25 : List (HloOp τ sig (Elt F)) :=
    fn_where_12_ops (.of main_v42) (.of main_v48) (.of main_v51) main_call19

def mn_26 : List (HloOp τ sig (Elt F)) :=
    [(StableHlo.nullary main_cst_18 (constant S_ .f32 0xC3960000#32)),
     (StableHlo.unary main_cst_18 main_v55 (broadcastInDim S40x12 ![] bcast_S_S40x12 : (⟨S_, .f32⟩ : BufTy).Contents (Elt F) → (⟨S40x12, .f32⟩ : BufTy).Contents (Elt F))),
     (StableHlo.nullary main_c_19 (constantI S_ 32 1#32)),
     (StableHlo.unary main_c_19 main_v56 (broadcastInDim S1 ![] bcast_S_S1 : (⟨S_, .i32⟩ : BufTy).Contents (Elt F) → (⟨S1, .i32⟩ : BufTy).Contents (Elt F))),
     (StableHlo.nullary main_cst_20 (constant S_ .f32 0x00000000#32)),
     (StableHlo.unary main_cst_20 main_v57 (broadcastInDim S40 ![] bcast_S_S40 : (⟨S_, .f32⟩ : BufTy).Contents (Elt F) → (⟨S40, .f32⟩ : BufTy).Contents (Elt F))),
     (StableHlo.ternary main_v55 main_v56 main_v57 main_v58 ((fun x i u => Host.scatter scatter_S40x12_S1_S40_0_1_1_0 (fun _ b => b) x i u) : (⟨S40x12, .f32⟩ : BufTy).Contents (Elt F) → (⟨S1, .i32⟩ : BufTy).Contents (Elt F) → (⟨S40, .f32⟩ : BufTy).Contents (Elt F) → (⟨S40x12, .f32⟩ : BufTy).Contents (Elt F)))]

def mn_27 : List (HloOp τ sig (Elt F)) :=
    [(StableHlo.unary main_v40 main_v59 ((transpose S2048x40 [1, 0] · transposes_S40x2048_S2048x40_1_0) : (⟨S40x2048, .f32⟩ : BufTy).Contents (Elt F) → (⟨S2048x40, .f32⟩ : BufTy).Contents (Elt F))),
     (StableHlo.unary main_v54 main_v60 ((transpose S2048x40 [1, 0] · transposes_S40x2048_S2048x40_1_0) : (⟨S40x2048, .f32⟩ : BufTy).Contents (Elt F) → (⟨S2048x40, .f32⟩ : BufTy).Contents (Elt F))),
     (StableHlo.nullary main_cst_21 (constant S_ .f32 0x00000000#32)),
     (StableHlo.unary main_cst_21 main_v61 (broadcastInDim S40x11 ![] bcast_S_S40x11 : (⟨S_, .f32⟩ : BufTy).Contents (Elt F) → (⟨S40x11, .f32⟩ : BufTy).Contents (Elt F))),
     (StableHlo.nullary main_cst_22 (constant S_ .f32 0x00000000#32)),
     (StableHlo.unary main_cst_22 main_v62 (broadcastInDim S40x11 ![] bcast_S_S40x11 : (⟨S_, .f32⟩ : BufTy).Contents (Elt F) → (⟨S40x11, .f32⟩ : BufTy).Contents (Elt F))),
     (StableHlo.nullary main_cst_23 (constant S_ .f32 0x00000000#32)),
     (StableHlo.unary main_cst_23 main_v63 (broadcastInDim S40x11 ![] bcast_S_S40x11 : (⟨S_, .f32⟩ : BufTy).Contents (Elt F) → (⟨S40x11, .f32⟩ : BufTy).Contents (Elt F))),
     (StableHlo.nullary main_cst_24 (constant S_ .f32 0x00000000#32)),
     (StableHlo.unary main_cst_24 main_v64 (broadcastInDim S40x11 ![] bcast_S_S40x11 : (⟨S_, .f32⟩ : BufTy).Contents (Elt F) → (⟨S40x11, .f32⟩ : BufTy).Contents (Elt F))),
     (StableHlo.nullary main_cst_25 (constant S_ .f32 0xC3960000#32)),
     (StableHlo.unary main_cst_25 main_v65 (broadcastInDim S40x1 ![] bcast_S_S40x1 : (⟨S_, .f32⟩ : BufTy).Contents (Elt F) → (⟨S40x1, .f32⟩ : BufTy).Contents (Elt F))),
     (StableHlo.nullary main_cst_26 (constant S_ .f32 0x00000000#32)),
     (StableHlo.unary main_cst_26 main_v66 (broadcastInDim S40x1 ![] bcast_S_S40x1 : (⟨S_, .f32⟩ : BufTy).Contents (Elt F) → (⟨S40x1, .f32⟩ : BufTy).Contents (Elt F))),
     (StableHlo.nullary main_cst_27 (constant S_ .f32 0x00000000#32)),
     (StableHlo.unary main_cst_27 main_v67 (broadcastInDim S2048x40x12 ![] bcast_S_S2048x40x12 : (⟨S_, .f32⟩ : BufTy).Contents (Elt F) → (⟨S2048x40x12, .f32⟩ : BufTy).Contents (Elt F))),
     (StableHlo.nullary main_cst_28 (constant S_ .f32 0x00000000#32)),
     (StableHlo.unary main_cst_28 main_v68 (broadcastInDim S2048x40x11 ![] bcast_S_S2048x40x11 : (⟨S_, .f32⟩ : BufTy).Contents (Elt F) → (⟨S2048x40x11, .f32⟩ : BufTy).Contents (Elt F))),
     (StableHlo.nullary main_cst_29 (constant S_ .f32 0x00000000#32)),
     (StableHlo.unary main_cst_29 main_v69 (broadcastInDim S2048x40x11 ![] bcast_S_S2048x40x11 : (⟨S_, .f32⟩ : BufTy).Contents (Elt F) → (⟨S2048x40x11, .f32⟩ : BufTy).Contents (Elt F)))]

def mn_28 : List (HloOp τ sig (Elt F)) :=
    [(StableHlo.nullary main_c_30 (constantI S_ 32 0#32)),
     (StableHlo.unary main_v59 main_v70_0 id),
     (StableHlo.unary main_v60 main_v70_1 id),
     (StableHlo.unary main_v65 main_v70_2 id),
     (StableHlo.unary main_v61 main_v70_3 id),
     (StableHlo.unary main_v62 main_v70_4 id),
     (StableHlo.unary main_v63 main_v70_5 id),
     (StableHlo.unary main_v64 main_v70_6 id),
     (StableHlo.unary main_c_30 main_v70_7 id),
     (StableHlo.unary main_v58 main_v70_8 id),
     (StableHlo.unary main_v67 main_v70_9 id),
     (StableHlo.unary main_v68 main_v70_10 id),
     (StableHlo.unary main_v69 main_v70_11 id)]

def mn_30 : List (HloOp τ sig (Elt F)) :=
    [(StableHlo.unary main_v58 main_v71 (broadcastInDim S40x1x12 ![0, 2] bcast_S40x12_S40x1x12_0_2 : (⟨S40x12, .f32⟩ : BufTy).Contents (Elt F) → (⟨S40x1x12, .f32⟩ : BufTy).Contents (Elt F))),
     (StableHlo.unary main_v70_9 main_v72 ((transpose S40x2048x12 [1, 0, 2] · transposes_S2048x40x12_S40x2048x12_1_0_2) : (⟨S2048x40x12, .f32⟩ : BufTy).Contents (Elt F) → (⟨S40x2048x12, .f32⟩ : BufTy).Contents (Elt F))),
     (StableHlo.binary main_v71 main_v72 main_v73 ((fun a b => concatenate S40x2049x12 1 [⟨S40x1x12, a⟩, ⟨S40x2048x12, b⟩] concatenates_S40x1x12_S40x2048x12_S40x2049x12_d1) : (⟨S40x1x12, .f32⟩ : BufTy).Contents (Elt F) → (⟨S40x2048x12, .f32⟩ : BufTy).Contents (Elt F) → (⟨S40x2049x12, .f32⟩ : BufTy).Contents (Elt F))),
     (StableHlo.nullary main_cst_31 (constant S_ .f32 0x00000000#32)),
     (StableHlo.unary main_cst_31 main_v74 (broadcastInDim S40x1x12 ![] bcast_S_S40x1x12 : (⟨S_, .f32⟩ : BufTy).Contents (Elt F) → (⟨S40x1x12, .f32⟩ : BufTy).Contents (Elt F))),
     (StableHlo.unary main_v73 main_v75 ((extractStridedSlice S40x1x1 ![0, 2048, 11] · slices_S40x2049x12_S40x1x1_0_2048_11) : (⟨S40x2049x12, .f32⟩ : BufTy).Contents (Elt F) → (⟨S40x1x1, .f32⟩ : BufTy).Contents (Elt F))),
     (StableHlo.reshape main_v75 main_v76 (rfl : (.f32 : EltTy) = .f32) shapeCasts_S40x1x1_S40),
     (StableHlo.nullary main_cst_32 (constant S_ .f32 0x00000000#32)),
     (StableHlo.binary main_v76 main_cst_32 main_v77 ((fun x v => Host.reduceAdd x v reducesTo_S40_S_d0 h_S_) : (⟨S40, .f32⟩ : BufTy).Contents (Elt F) → (⟨S_, .f32⟩ : BufTy).Contents (Elt F) → (⟨S_, .f32⟩ : BufTy).Contents (Elt F))),
     (StableHlo.nullary main_cst_33 (constant S_ .f32 0x00000000#32)),
     (StableHlo.unary main_cst_33 main_v78 (broadcastInDim S40x12 ![] bcast_S_S40x12 : (⟨S_, .f32⟩ : BufTy).Contents (Elt F) → (⟨S40x12, .f32⟩ : BufTy).Contents (Elt F))),
     (StableHlo.nullary main_cst_34 (constant S_ .f32 0x3F800000#32)),
     (StableHlo.unary main_cst_34 main_v79 (broadcastInDim S40 ![] bcast_S_S40 : (⟨S_, .f32⟩ : BufTy).Contents (Elt F) → (⟨S40, .f32⟩ : BufTy).Contents (Elt F))),
     (StableHlo.unary main_v79 main_v80 (broadcastInDim S40x1x1 ![0] bcast_S40_S40x1x1_0 : (⟨S40, .f32⟩ : BufTy).Contents (Elt F) → (⟨S40x1x1, .f32⟩ : BufTy).Contents (Elt F))),
     (StableHlo.nullary main_cst_35 (constant S_ .f32 0x00000000#32)),
     (StableHlo.binary main_v80 main_cst_35 main_v81 ((fun x v => pad S40x2049x12 ![0, 2048, 11] ![0, 0, 0] ![0, 0, 0] x v pads_S40x1x1_S40x2049x12_000_204800_1100 h_S_) : (⟨S40x1x1, .f32⟩ : BufTy).Contents (Elt F) → (⟨S_, .f32⟩ : BufTy).Contents (Elt F) → (⟨S40x2049x12, .f32⟩ : BufTy).Contents (Elt F))),
     (StableHlo.unary main_v81 main_v82 ((extractStridedSlice S40x1x12 ![0, 0, 0] · slices_S40x2049x12_S40x1x12_0_0_0) : (⟨S40x2049x12, .f32⟩ : BufTy).Contents (Elt F) → (⟨S40x1x12, .f32⟩ : BufTy).Contents (Elt F))),
     (StableHlo.unary main_v81 main_v83 ((extractStridedSlice S40x2048x12 ![0, 1, 0] · slices_S40x2049x12_S40x2048x12_0_1_0) : (⟨S40x2049x12, .f32⟩ : BufTy).Contents (Elt F) → (⟨S40x2048x12, .f32⟩ : BufTy).Contents (Elt F))),
     (StableHlo.unary main_v83 main_v84 ((transpose S2048x40x12 [1, 0, 2] · transposes_S40x2048x12_S2048x40x12_1_0_2) : (⟨S40x2048x12, .f32⟩ : BufTy).Contents (Elt F) → (⟨S2048x40x12, .f32⟩ : BufTy).Contents (Elt F)))]

def mn_31 : List (HloOp τ sig (Elt F)) :=
    [(StableHlo.nullary main_cst_36 (constant S_ .f32 0x00000000#32)),
     (StableHlo.unary main_cst_36 main_v85 (broadcastInDim S40x12 ![] bcast_S_S40x12 : (⟨S_, .f32⟩ : BufTy).Contents (Elt F) → (⟨S40x12, .f32⟩ : BufTy).Contents (Elt F))),
     (StableHlo.nullary main_cst_37 (constant S_ .f32 0x00000000#32)),
     (StableHlo.unary main_cst_37 main_v86 (broadcastInDim S2048x40 ![] bcast_S_S2048x40 : (⟨S_, .f32⟩ : BufTy).Contents (Elt F) → (⟨S2048x40, .f32⟩ : BufTy).Contents (Elt F))),
     (StableHlo.nullary main_cst_38 (constant S_ .f32 0x00000000#32)),
     (StableHlo.unary main_cst_38 main_v87 (broadcastInDim S2048x40 ![] bcast_S_S2048x40 : (⟨S_, .f32⟩ : BufTy).Contents (Elt F) → (⟨S2048x40, .f32⟩ : BufTy).Contents (Elt F))),
     (StableHlo.nullary main_c_39 (constantI S_ 32 0#32)),
     (StableHlo.unary main_v84 main_v88_0 id),
     (StableHlo.unary main_v70_10 main_v88_1 id),
     (StableHlo.unary main_v70_11 main_v88_2 id),
     (StableHlo.unary main_v66 main_v88_3 id),
     (StableHlo.unary main_c_39 main_v88_4 id),
     (StableHlo.unary main_v85 main_v88_5 id),
     (StableHlo.unary main_v86 main_v88_6 id),
     (StableHlo.unary main_v87 main_v88_7 id)]

def mn_33 : List (HloOp τ sig (Elt F)) :=
    [(StableHlo.unary main_v88_7 main_v89 ((transpose S40x2048 [1, 0] · transposes_S2048x40_S40x2048_1_0) : (⟨S2048x40, .f32⟩ : BufTy).Contents (Elt F) → (⟨S40x2048, .f32⟩ : BufTy).Contents (Elt F))),
     (StableHlo.unary main_v88_6 main_v90 ((transpose S40x2048 [1, 0] · transposes_S2048x40_S40x2048_1_0) : (⟨S2048x40, .f32⟩ : BufTy).Contents (Elt F) → (⟨S40x2048, .f32⟩ : BufTy).Contents (Elt F)))]

def mn_34 : List (HloOp τ sig (Elt F)) :=
    fn_where_17_ops (.of main_v42) (.of main_v89) main_call30

def mn_35 : List (HloOp τ sig (Elt F)) :=
    [(StableHlo.binary main_v91_1 main_v53 main_v92 (Host.divf : (⟨S40x2048, .f32⟩ : BufTy).Contents (Elt F) → (⟨S40x2048, .f32⟩ : BufTy).Contents (Elt F) → (⟨S40x2048, .f32⟩ : BufTy).Contents (Elt F))),
     (StableHlo.unary main_v92 main_v93 (Host.negf : (⟨S40x2048, .f32⟩ : BufTy).Contents (Elt F) → (⟨S40x2048, .f32⟩ : BufTy).Contents (Elt F))),
     (StableHlo.binary main_v93 main_v49 main_v94 (mulf : (⟨S40x2048, .f32⟩ : BufTy).Contents (Elt F) → (⟨S40x2048, .f32⟩ : BufTy).Contents (Elt F) → (⟨S40x2048, .f32⟩ : BufTy).Contents (Elt F))),
     (StableHlo.binary main_v91_0 main_v47 main_v95 (Host.divf : (⟨S40x2048, .f32⟩ : BufTy).Contents (Elt F) → (⟨S40x2048, .f32⟩ : BufTy).Contents (Elt F) → (⟨S40x2048, .f32⟩ : BufTy).Contents (Elt F))),
     (StableHlo.unary main_v95 main_v96 (Host.negf : (⟨S40x2048, .f32⟩ : BufTy).Contents (Elt F) → (⟨S40x2048, .f32⟩ : BufTy).Contents (Elt F))),
     (StableHlo.binary main_v96 main_v46 main_v97 (mulf : (⟨S40x2048, .f32⟩ : BufTy).Contents (Elt F) → (⟨S40x2048, .f32⟩ : BufTy).Contents (Elt F) → (⟨S40x2048, .f32⟩ : BufTy).Contents (Elt F)))]

def mn_36 : List (HloOp τ sig (Elt F)) :=
    fn_where_18_ops (.of main_v42) (.of main_v44_1) (.of main_v94) main_call31

def mn_37 : List (HloOp τ sig (Elt F)) :=
    [(StableHlo.binary main_v90 main_v98 main_v99 (addf : (⟨S40x2048, .f32⟩ : BufTy).Contents (Elt F) → (⟨S40x2048, .f32⟩ : BufTy).Contents (Elt F) → (⟨S40x2048, .f32⟩ : BufTy).Contents (Elt F)))]

def mn_38 : List (HloOp τ sig (Elt F)) :=
    fn_where_19_ops (.of main_v42) (.of main_v43_1) (.of main_v97) main_call32

def mn_39 : List (HloOp τ sig (Elt F)) :=
    [(StableHlo.binary main_v99 main_v100 main_v101 (addf : (⟨S40x2048, .f32⟩ : BufTy).Contents (Elt F) → (⟨S40x2048, .f32⟩ : BufTy).Contents (Elt F) → (⟨S40x2048, .f32⟩ : BufTy).Contents (Elt F)))]

def mn_40 : List (HloOp τ sig (Elt F)) :=
    [(StableHlo.binary main_v37 main_v101 main_v102 (subf : (⟨S40x2048, .f32⟩ : BufTy).Contents (Elt F) → (⟨S40x2048, .f32⟩ : BufTy).Contents (Elt F) → (⟨S40x2048, .f32⟩ : BufTy).Contents (Elt F))),
     (StableHlo.binary main_v102 main_v101 main_v103 (addf : (⟨S40x2048, .f32⟩ : BufTy).Contents (Elt F) → (⟨S40x2048, .f32⟩ : BufTy).Contents (Elt F) → (⟨S40x2048, .f32⟩ : BufTy).Contents (Elt F))),
     (StableHlo.unary main_v103 main_v104 (broadcastInDim S40x2048x1 ![0, 1] bcast_S40x2048_S40x2048x1_0_1 : (⟨S40x2048, .f32⟩ : BufTy).Contents (Elt F) → (⟨S40x2048x1, .f32⟩ : BufTy).Contents (Elt F)))]

theorem wa_chn : Chn (nD := nD) (Λ := HostLoop.Sig (Pipeline.Sig Λ₀ (Fin 0) fun p => (pcfgs (F := F) p).Adm) 4) (main_while0_body (F := F)) [seq wa_0, seq wa_1, seq wa_2, seq wa_3, seq wa_4, seq wa_5, seq wa_6] := by
  unfold main_while0_body
  refine Chn.call (fn_dynamic_index_in_dim_seq ..) ?_
  refine Chn.call (fn_dynamic_index_in_dim_seq ..) ?_
  refine Chn.op ?_
  refine Chn.op ?_
  refine Chn.op ?_
  refine Chn.op ?_
  refine Chn.op ?_
  refine Chn.op ?_
  refine Chn.op ?_
  refine Chn.op ?_
  refine Chn.op ?_
  refine Chn.op ?_
  refine Chn.op ?_
  refine Chn.op ?_
  refine Chn.op ?_
  refine Chn.op ?_
  refine Chn.op ?_
  refine Chn.op ?_
  refine Chn.op ?_
  refine Chn.op ?_
  refine Chn.close ?_
  refine Chn.op ?_
  refine Chn.op ?_
  refine Chn.close ?_
  refine Chn.op ?_
  refine Chn.close ?_
  refine Chn.call (fn_dynamic_update_index_in_dim_seq ..) ?_
  refine Chn.op ?_
  refine Chn.op ?_
  refine Chn.op ?_
  refine Chn.op ?_
  refine Chn.op ?_
  refine Chn.close ?_
  exact Chn.nil

/-- The stretches of the loop body. -/
abbrev waI : List (List (HloOp τ sig (Elt F))) := [wa_0, wa_1, wa_2, wa_3, wa_4, wa_5, wa_6]

theorem wb_chn : Chn (nD := nD) (Λ := HostLoop.Sig (Pipeline.Sig Λ₀ (Fin 0) fun p => (pcfgs (F := F) p).Adm) 4) (main_while1_body (F := F)) [seq wb_0, seq wb_1, seq wb_2, seq wb_3, seq wb_4, seq wb_5, seq wb_6, seq wb_7, seq wb_8, seq wb_9, seq wb_10, seq wb_11, seq wb_12, seq wb_13, seq wb_14, seq wb_15, seq wb_16, seq wb_17, seq wb_18, seq wb_19, seq wb_20, seq wb_21, seq wb_22] := by
  unfold main_while1_body main_while1_body_part0 main_while1_body_part1 main_while1_body_part2
  refine Chn.assoc ?_
  refine Chn.call (fn_dynamic_index_in_dim_2_seq ..) ?_
  refine Chn.assoc ?_
  refine Chn.call (fn_dynamic_index_in_dim_3_seq ..) ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.op ?_
  refine Chn.close ?_
  refine Chn.assoc ?_
  refine Chn.op ?_
  refine Chn.close ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.op ?_
  refine Chn.close ?_
  refine Chn.assoc ?_
  refine Chn.op ?_
  refine Chn.close ?_
  refine Chn.assoc ?_
  refine Chn.op ?_
  refine Chn.assoc ?_
  refine Chn.op ?_
  refine Chn.close ?_
  refine Chn.assoc ?_
  refine Chn.call (fn_take_seq ..) ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.call (fn_where_5_seq ..) ?_
  refine Chn.assoc ?_
  refine Chn.op ?_
  refine Chn.close ?_
  refine Chn.assoc ?_
  refine Chn.call (fn_where_6_seq ..) ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.call (fn_where_7_seq ..) ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.call (fn_where_8_seq ..) ?_
  refine Chn.assoc ?_
  refine Chn.call (fn_dynamic_update_index_in_dim_9_seq ..) ?_
  refine Chn.assoc ?_
  refine Chn.op ?_
  refine Chn.op ?_
  refine Chn.op ?_
  refine Chn.op ?_
  refine Chn.op ?_
  refine Chn.close ?_
  exact Chn.nil

/-- The stretches of the loop body. -/
abbrev wbI : List (List (HloOp τ sig (Elt F))) := [wb_0, wb_1, wb_2, wb_3, wb_4, wb_5, wb_6, wb_7, wb_8, wb_9, wb_10, wb_11, wb_12, wb_13, wb_14, wb_15, wb_16, wb_17, wb_18, wb_19, wb_20, wb_21, wb_22]

theorem wc_chn : Chn (nD := nD) (Λ := HostLoop.Sig (Pipeline.Sig Λ₀ (Fin 0) fun p => (pcfgs (F := F) p).Adm) 4) (main_while2_body (F := F)) [seq wc_0, seq wc_1, seq wc_2, seq wc_3, seq wc_4, seq wc_5, seq wc_6, seq wc_7, seq wc_8, seq wc_9, seq wc_10, seq wc_11] := by
  unfold main_while2_body
  refine Chn.call (fn_dynamic_index_in_dim_seq ..) ?_
  refine Chn.call (fn_dynamic_index_in_dim_seq ..) ?_
  refine Chn.op ?_
  refine Chn.op ?_
  refine Chn.op ?_
  refine Chn.op ?_
  refine Chn.close ?_
  refine Chn.op ?_
  refine Chn.op ?_
  refine Chn.op ?_
  refine Chn.op ?_
  refine Chn.close ?_
  refine Chn.op ?_
  refine Chn.op ?_
  refine Chn.op ?_
  refine Chn.op ?_
  refine Chn.op ?_
  refine Chn.op ?_
  refine Chn.op ?_
  refine Chn.op ?_
  refine Chn.op ?_
  refine Chn.op ?_
  refine Chn.close ?_
  refine Chn.op ?_
  refine Chn.op ?_
  refine Chn.op ?_
  refine Chn.op ?_
  refine Chn.op ?_
  refine Chn.op ?_
  refine Chn.op ?_
  refine Chn.op ?_
  refine Chn.op ?_
  refine Chn.op ?_
  refine Chn.close ?_
  refine Chn.op ?_
  refine Chn.op ?_
  refine Chn.op ?_
  refine Chn.op ?_
  refine Chn.op ?_
  refine Chn.op ?_
  refine Chn.op ?_
  refine Chn.op ?_
  refine Chn.op ?_
  refine Chn.op ?_
  refine Chn.close ?_
  refine Chn.op ?_
  refine Chn.close ?_
  refine Chn.call (fn_dynamic_update_index_in_dim_seq ..) ?_
  refine Chn.call (fn_dynamic_update_index_in_dim_13_seq ..) ?_
  refine Chn.call (fn_dynamic_update_index_in_dim_13_seq ..) ?_
  refine Chn.op ?_
  refine Chn.op ?_
  refine Chn.op ?_
  refine Chn.op ?_
  refine Chn.op ?_
  refine Chn.op ?_
  refine Chn.op ?_
  refine Chn.close ?_
  exact Chn.nil

/-- The stretches of the loop body. -/
abbrev wcI : List (List (HloOp τ sig (Elt F))) := [wc_0, wc_1, wc_2, wc_3, wc_4, wc_5, wc_6, wc_7, wc_8, wc_9, wc_10, wc_11]

theorem wd_chn : Chn (nD := nD) (Λ := HostLoop.Sig (Pipeline.Sig Λ₀ (Fin 0) fun p => (pcfgs (F := F) p).Adm) 4) (main_while3_body (F := F)) [seq wd_0, seq wd_1, seq wd_2, seq wd_3, seq wd_4, seq wd_5, seq wd_6, seq wd_7, seq wd_8, seq wd_9, seq wd_10, seq wd_11] := by
  unfold main_while3_body
  refine Chn.op ?_
  refine Chn.op ?_
  refine Chn.op ?_
  refine Chn.op ?_
  refine Chn.close ?_
  refine Chn.call (fn_dynamic_index_in_dim_14_seq ..) ?_
  refine Chn.call (fn_dynamic_index_in_dim_15_seq ..) ?_
  refine Chn.call (fn_dynamic_index_in_dim_15_seq ..) ?_
  refine Chn.op ?_
  refine Chn.op ?_
  refine Chn.op ?_
  refine Chn.op ?_
  refine Chn.op ?_
  refine Chn.close ?_
  refine Chn.op ?_
  refine Chn.op ?_
  refine Chn.op ?_
  refine Chn.op ?_
  refine Chn.op ?_
  refine Chn.close ?_
  refine Chn.op ?_
  refine Chn.op ?_
  refine Chn.close ?_
  refine Chn.op ?_
  refine Chn.op ?_
  refine Chn.op ?_
  refine Chn.op ?_
  refine Chn.op ?_
  refine Chn.close ?_
  refine Chn.op ?_
  refine Chn.op ?_
  refine Chn.op ?_
  refine Chn.close ?_
  refine Chn.call (fn_dynamic_update_index_in_dim_16_seq ..) ?_
  refine Chn.call (fn_dynamic_update_index_in_dim_16_seq ..) ?_
  refine Chn.op ?_
  refine Chn.op ?_
  refine Chn.op ?_
  refine Chn.op ?_
  refine Chn.op ?_
  refine Chn.op ?_
  refine Chn.close ?_
  exact Chn.nil

/-- The stretches of the loop body. -/
abbrev wdI : List (List (HloOp τ sig (Elt F))) := [wd_0, wd_1, wd_2, wd_3, wd_4, wd_5, wd_6, wd_7, wd_8, wd_9, wd_10, wd_11]

theorem mn_chn (d : Dev nD) : Chn (nD := nD) (Λ := HostLoop.Sig (Pipeline.Sig Λ₀ (Fin 0) fun p => (pcfgs (F := F) p).Adm) 4) (main (F := F) d) [seq mn_0, seq mn_1, seq mn_2, seq mn_3, seq mn_4, seq mn_5, seq mn_6, seq mn_7, seq mn_8, seq mn_9, seq mn_10, HostLoop.enter 0, seq mn_12, seq mn_13, seq mn_14, seq mn_15, HostLoop.enter 1, seq mn_17, seq mn_18, seq mn_19, seq mn_20, seq mn_21, seq mn_22, seq mn_23, seq mn_24, seq mn_25, seq mn_26, seq mn_27, seq mn_28, HostLoop.enter 2, seq mn_30, seq mn_31, HostLoop.enter 3, seq mn_33, seq mn_34, seq mn_35, seq mn_36, seq mn_37, seq mn_38, seq mn_39, seq mn_40] := by
  unfold main main_part0 main_part1 main_part2 main_part3
  refine Chn.assoc ?_
  refine Chn.op ?_
  refine Chn.assoc ?_
  refine Chn.op ?_
  refine Chn.close ?_
  refine Chn.assoc ?_
  refine Chn.call (fn_log_sigmoid_seq ..) ?_
  refine Chn.assoc ?_
  refine Chn.op ?_
  refine Chn.assoc ?_
  refine Chn.op ?_
  refine Chn.assoc ?_
  refine Chn.op ?_
  refine Chn.close ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.call (fn_where_seq ..) ?_
  refine Chn.assoc ?_
  refine Chn.op ?_
  refine Chn.close ?_
  refine Chn.assoc ?_
  refine Chn.call (fn_where_0_seq ..) ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.call (fn_where_1_seq ..) ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.item ?_
  refine Chn.assoc ?_
  refine Chn.op ?_
  refine Chn.assoc ?_
  refine Chn.op ?_
  refine Chn.close ?_
  refine Chn.assoc ?_
  refine Chn.op ?_
  refine Chn.close ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.op ?_
  refine Chn.assoc ?_
  refine Chn.op ?_
  refine Chn.assoc ?_
  refine Chn.op ?_
  refine Chn.close ?_
  refine Chn.assoc ?_
  refine Chn.item ?_
  refine Chn.assoc ?_
  refine Chn.call (fn_flip_seq ..) ?_
  refine Chn.assoc ?_
  refine Chn.op ?_
  refine Chn.assoc ?_
  refine Chn.op ?_
  refine Chn.close ?_
  refine Chn.assoc ?_
  refine Chn.call (fn_log_sigmoid_seq ..) ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.call (fn_where_10_seq ..) ?_
  refine Chn.assoc ?_
  refine Chn.op ?_
  refine Chn.close ?_
  refine Chn.assoc ?_
  refine Chn.call (fn_where_11_seq ..) ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.call (fn_where_12_seq ..) ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.op ?_
  refine Chn.assoc ?_
  refine Chn.op ?_
  refine Chn.assoc ?_
  refine Chn.op ?_
  refine Chn.assoc ?_
  refine Chn.op ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.item ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.item ?_
  refine Chn.assoc ?_
  refine Chn.op ?_
  refine Chn.assoc ?_
  refine Chn.op ?_
  refine Chn.close ?_
  refine Chn.assoc ?_
  refine Chn.call (fn_where_17_seq ..) ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.assoc ?_
  refine Chn.op ?_
  refine Chn.close ?_
  refine Chn.assoc ?_
  refine Chn.call (fn_where_18_seq ..) ?_
  refine Chn.assoc ?_
  refine Chn.op ?_
  refine Chn.close ?_
  refine Chn.assoc ?_
  refine Chn.call (fn_where_19_seq ..) ?_
  refine Chn.assoc ?_
  refine Chn.op ?_
  refine Chn.close ?_
  refine Chn.assoc ?_
  refine Chn.op ?_
  refine Chn.assoc ?_
  refine Chn.op ?_
  refine Chn.op ?_
  refine Chn.close ?_
  exact Chn.nil

end Cert.Proof.Ref

end
-- ==== Proof.RefFun.lean ====
/- The values the stretches of the reference program leave, as functions of what they read. -/
module

public import proofs.«01_k».proof.Proof.RefOps
public import Idealize.ShloMosaic.Lib.StableHlo.ReadAt

@[expose] public section

set_option maxRecDepth 100000

noncomputable section

namespace Cert.Proof.Ref

open Cert.ReferenceIdeal
open Idealize.ShloMosaic Idealize.SL.Sem Idealize.ShloMosaic.StableHlo
open Cert.Proof.Many
open TcCoe

variable {F : FTy → Type} [FloatOps F]
variable [Facts]
open Facts₀ Facts

/-- What `fn_softplus` returns. -/
def fn_softplus_f (arg0 : (⟨S40x2048, .f32⟩ : BufTy).Contents (Elt F)) : (⟨S40x2048, .f32⟩ : BufTy).Contents (Elt F) :=
  let cst : (⟨S_, .f32⟩ : BufTy).Contents (Elt F) := (constant S_ .f32 0x00000000#32)
  let v0 : (⟨S40x2048, .f32⟩ : BufTy).Contents (Elt F) := (broadcastInDim S40x2048 ![] bcast_S_S40x2048) cst
  let v1 : (⟨S40x2048, .f32⟩ : BufTy).Contents (Elt F) := maximumf arg0 v0
  let v2 : (⟨S40x2048, .f32⟩ : BufTy).Contents (Elt F) := (broadcastInDim S40x2048 ![] bcast_S_S40x2048) cst
  let v3 : (⟨S40x2048, .f32⟩ : BufTy).Contents (Elt F) := subf arg0 v2
  let v4 : (⟨S40x2048, .i1⟩ : BufTy).Contents (Elt F) := (cmpf .une) v3 v3
  let v5 : (⟨S40x2048, .f32⟩ : BufTy).Contents (Elt F) := (broadcastInDim S40x2048 ![] bcast_S_S40x2048) cst
  let v6 : (⟨S40x2048, .f32⟩ : BufTy).Contents (Elt F) := addf arg0 v5
  let v7 : (⟨S40x2048, .f32⟩ : BufTy).Contents (Elt F) := Host.absf v3
  let v8 : (⟨S40x2048, .f32⟩ : BufTy).Contents (Elt F) := Host.negf v7
  let v9 : (⟨S40x2048, .f32⟩ : BufTy).Contents (Elt F) := Host.exp v8
  let v10 : (⟨S40x2048, .f32⟩ : BufTy).Contents (Elt F) := Host.log1p v9
  let v11 : (⟨S40x2048, .f32⟩ : BufTy).Contents (Elt F) := addf v1 v10
  let v12 : (⟨S40x2048, .f32⟩ : BufTy).Contents (Elt F) := select v4 v6 v11
  v12

/-- What `fn_log_sigmoid` returns. -/
def fn_log_sigmoid_f (arg0 : (⟨S40x2048, .f32⟩ : BufTy).Contents (Elt F)) : (⟨S40x2048, .f32⟩ : BufTy).Contents (Elt F) :=
  let v0 : (⟨S40x2048, .f32⟩ : BufTy).Contents (Elt F) := Host.negf arg0
  let call0_v12 : (⟨S40x2048, .f32⟩ : BufTy).Contents (Elt F) := fn_softplus_f v0
  let v2 : (⟨S40x2048, .f32⟩ : BufTy).Contents (Elt F) := Host.negf call0_v12
  v2

/-- What `fn_where` returns. -/
def fn_where_f (arg0 : (⟨S40x2048, .i1⟩ : BufTy).Contents (Elt F)) (arg1 : (⟨S40x2048, .f32⟩ : BufTy).Contents (Elt F)) (arg2 : (⟨S_, .f32⟩ : BufTy).Contents (Elt F)) : (⟨S40x2048, .f32⟩ : BufTy).Contents (Elt F) :=
  let v0 : (⟨S_, .f32⟩ : BufTy).Contents (Elt F) := id arg2
  let v1 : (⟨S40x2048, .f32⟩ : BufTy).Contents (Elt F) := (broadcastInDim S40x2048 ![] bcast_S_S40x2048) v0
  let v2 : (⟨S40x2048, .f32⟩ : BufTy).Contents (Elt F) := select arg0 arg1 v1
  v2

/-- What `fn_where_0` returns. -/
def fn_where_0_f (arg0 : (⟨S40x2048, .i1⟩ : BufTy).Contents (Elt F)) (arg1 : (⟨S_, .f32⟩ : BufTy).Contents (Elt F)) (arg2 : (⟨S40x2048, .f32⟩ : BufTy).Contents (Elt F)) : (⟨S40x2048, .f32⟩ : BufTy).Contents (Elt F) :=
  let v0 : (⟨S_, .f32⟩ : BufTy).Contents (Elt F) := id arg1
  let v1 : (⟨S40x2048, .f32⟩ : BufTy).Contents (Elt F) := (broadcastInDim S40x2048 ![] bcast_S_S40x2048) v0
  let v2 : (⟨S40x2048, .f32⟩ : BufTy).Contents (Elt F) := select arg0 v1 arg2
  v2

/-- What `fn_where_1` returns. -/
def fn_where_1_f (arg0 : (⟨S40x2048, .i1⟩ : BufTy).Contents (Elt F)) (arg1 : (⟨S40x2048, .f32⟩ : BufTy).Contents (Elt F)) (arg2 : (⟨S40x2048, .f32⟩ : BufTy).Contents (Elt F)) : (⟨S40x2048, .f32⟩ : BufTy).Contents (Elt F) :=
  let v0 : (⟨S40x2048, .f32⟩ : BufTy).Contents (Elt F) := select arg0 arg1 arg2
  v0

/-- What `fn_dynamic_index_in_dim` returns. -/
def fn_dynamic_index_in_dim_f (arg0 : (⟨S2048x40, .f32⟩ : BufTy).Contents (Elt F)) (arg1 : (⟨S_, .i32⟩ : BufTy).Contents (Elt F)) : (⟨S40, .f32⟩ : BufTy).Contents (Elt F) :=
  let c : (⟨S_, .i32⟩ : BufTy).Contents (Elt F) := (constantI S_ 32 0#32)
  let v0 : (⟨S1x40, .f32⟩ : BufTy).Contents (Elt F) := (fun (x : (⟨S2048x40, .f32⟩ : BufTy).Contents (Elt F)) (i : Fin 2 → (⟨S_, .i32⟩ : BufTy).Contents (Elt F)) => Host.dynamicSlice S1x40 x (fun k => (i k (Shape.Idx.first h_S_)).toInt) sliceFits_S2048x40_S1x40) arg0 ![arg1, c]
  let v1 : (⟨S40, .f32⟩ : BufTy).Contents (Elt F) := shapeCast S40 v0 shapeCasts_S1x40_S40
  v1

/-- What `fn_dynamic_update_index_in_dim` returns. -/
def fn_dynamic_update_index_in_dim_f (arg0 : (⟨S2048x40x12, .f32⟩ : BufTy).Contents (Elt F)) (arg1 : (⟨S40x12, .f32⟩ : BufTy).Contents (Elt F)) (arg2 : (⟨S_, .i32⟩ : BufTy).Contents (Elt F)) : (⟨S2048x40x12, .f32⟩ : BufTy).Contents (Elt F) :=
  let v0 : (⟨S1x40x12, .f32⟩ : BufTy).Contents (Elt F) := (broadcastInDim S1x40x12 ![1, 2] bcast_S40x12_S1x40x12_1_2) arg1
  let c : (⟨S_, .i32⟩ : BufTy).Contents (Elt F) := (constantI S_ 32 0#32)
  let c_0 : (⟨S_, .i32⟩ : BufTy).Contents (Elt F) := (constantI S_ 32 0#32)
  let v1 : (⟨S2048x40x12, .f32⟩ : BufTy).Contents (Elt F) := (fun (x : (⟨S2048x40x12, .f32⟩ : BufTy).Contents (Elt F)) (u : (⟨S1x40x12, .f32⟩ : BufTy).Contents (Elt F)) (i : Fin 3 → (⟨S_, .i32⟩ : BufTy).Contents (Elt F)) => Host.dynamicUpdateSlice x u (fun k => (i k (Shape.Idx.first h_S_)).toInt) updateFits_S2048x40x12_S1x40x12) arg0 v0 ![arg2, c, c_0]
  v1

/-- What `fn_dynamic_index_in_dim_2` returns. -/
def fn_dynamic_index_in_dim_2_f (arg0 : (⟨S2048, .i32⟩ : BufTy).Contents (Elt F)) (arg1 : (⟨S_, .i32⟩ : BufTy).Contents (Elt F)) : (⟨S_, .i32⟩ : BufTy).Contents (Elt F) :=
  let v0 : (⟨S1, .i32⟩ : BufTy).Contents (Elt F) := (fun (x : (⟨S2048, .i32⟩ : BufTy).Contents (Elt F)) (i : Fin 1 → (⟨S_, .i32⟩ : BufTy).Contents (Elt F)) => Host.dynamicSlice S1 x (fun k => (i k (Shape.Idx.first h_S_)).toInt) sliceFits_S2048_S1) arg0 ![arg1]
  let v1 : (⟨S_, .i32⟩ : BufTy).Contents (Elt F) := shapeCast S_ v0 shapeCasts_S1_S_
  v1

/-- What `fn_dynamic_index_in_dim_3` returns. -/
def fn_dynamic_index_in_dim_3_f (arg0 : (⟨S2048x40, .f32⟩ : BufTy).Contents (Elt F)) (arg1 : (⟨S_, .i32⟩ : BufTy).Contents (Elt F)) : (⟨S40, .f32⟩ : BufTy).Contents (Elt F) :=
  let c : (⟨S_, .i32⟩ : BufTy).Contents (Elt F) := (constantI S_ 32 0#32)
  let v0 : (⟨S1x40, .f32⟩ : BufTy).Contents (Elt F) := (fun (x : (⟨S2048x40, .f32⟩ : BufTy).Contents (Elt F)) (i : Fin 2 → (⟨S_, .i32⟩ : BufTy).Contents (Elt F)) => Host.dynamicSlice S1x40 x (fun k => (i k (Shape.Idx.first h_S_)).toInt) sliceFits_S2048x40_S1x40) arg0 ![arg1, c]
  let v1 : (⟨S40, .f32⟩ : BufTy).Contents (Elt F) := shapeCast S40 v0 shapeCasts_S1x40_S40
  v1

/-- What `fn_where_4` returns. -/
def fn_where_4_f (arg0 : (⟨S_, .i1⟩ : BufTy).Contents (Elt F)) (arg1 : (⟨S_, .i32⟩ : BufTy).Contents (Elt F)) (arg2 : (⟨S_, .i32⟩ : BufTy).Contents (Elt F)) : (⟨S_, .i32⟩ : BufTy).Contents (Elt F) :=
  let v0 : (⟨S_, .i32⟩ : BufTy).Contents (Elt F) := select arg0 arg1 arg2
  v0

/-- What `fn_take` returns. -/
def fn_take_f (arg0 : (⟨S40x2048, .f32⟩ : BufTy).Contents (Elt F)) (arg1 : (⟨S_, .i32⟩ : BufTy).Contents (Elt F)) : (⟨S40, .f32⟩ : BufTy).Contents (Elt F) :=
  let c : (⟨S_, .i32⟩ : BufTy).Contents (Elt F) := (constantI S_ 32 0#32)
  let v0 : (⟨S_, .i1⟩ : BufTy).Contents (Elt F) := (cmpi .slt) arg1 c
  let c_0 : (⟨S_, .i32⟩ : BufTy).Contents (Elt F) := (constantI S_ 32 2048#32)
  let v1 : (⟨S_, .i32⟩ : BufTy).Contents (Elt F) := addi arg1 c_0
  let call0_v0 : (⟨S_, .i32⟩ : BufTy).Contents (Elt F) := fn_where_4_f v0 v1 arg1
  let v3 : (⟨S1, .i32⟩ : BufTy).Contents (Elt F) := (broadcastInDim S1 ![] bcast_S_S1) call0_v0
  let c_1 : (⟨S1, .i32⟩ : BufTy).Contents (Elt F) := (constantI S1 32 2047#32)
  let c_2 : (⟨S_, .i32⟩ : BufTy).Contents (Elt F) := (constantI S_ 32 0#32)
  let v4 : (⟨S1, .i32⟩ : BufTy).Contents (Elt F) := (broadcastInDim S1 ![] bcast_S_S1) c_2
  let v5 : (⟨S1, .i1⟩ : BufTy).Contents (Elt F) := (cmpi .sge) v3 v4
  let v6 : (⟨S1, .i1⟩ : BufTy).Contents (Elt F) := (cmpi .sle) v3 c_1
  let v7 : (⟨S1, .i1⟩ : BufTy).Contents (Elt F) := andi v5 v6
  let c_3 : (⟨S_, .i1⟩ : BufTy).Contents (Elt F) := (constantI S_ 1 1#1)
  let v8 : (⟨S_, .i1⟩ : BufTy).Contents (Elt F) := (fun (x : (⟨S1, .i1⟩ : BufTy).Contents (Elt F)) (v : (⟨S_, .i1⟩ : BufTy).Contents (Elt F)) => Host.reduce IntOp.andi x v reducesTo_S1_S_d0 h_S_) v7 c_3
  let v9 : (⟨S40, .f32⟩ : BufTy).Contents (Elt F) := (fun (x : (⟨S40x2048, .f32⟩ : BufTy).Contents (Elt F)) (i : (⟨S1, .i32⟩ : BufTy).Contents (Elt F)) => Host.gather gather_S40x2048_S1_S40_0_1_n_n_1_0_401 x i) arg0 v3
  let v10 : (⟨S40, .i1⟩ : BufTy).Contents (Elt F) := (broadcastInDim S40 ![] bcast_S_S40) v8
  let cst : (⟨S_, .f32⟩ : BufTy).Contents (Elt F) := (constant S_ .f32 0x7FC00000#32)
  let v11 : (⟨S40, .f32⟩ : BufTy).Contents (Elt F) := (broadcastInDim S40 ![] bcast_S_S40) cst
  let v12 : (⟨S40, .f32⟩ : BufTy).Contents (Elt F) := select v10 v9 v11
  v12

/-- What `fn_where_5` returns. -/
def fn_where_5_f (arg0 : (⟨S40, .i1⟩ : BufTy).Contents (Elt F)) (arg1 : (⟨S40, .f32⟩ : BufTy).Contents (Elt F)) (arg2 : (⟨S_, .f32⟩ : BufTy).Contents (Elt F)) : (⟨S40, .f32⟩ : BufTy).Contents (Elt F) :=
  let v0 : (⟨S_, .f32⟩ : BufTy).Contents (Elt F) := id arg2
  let v1 : (⟨S40, .f32⟩ : BufTy).Contents (Elt F) := (broadcastInDim S40 ![] bcast_S_S40) v0
  let v2 : (⟨S40, .f32⟩ : BufTy).Contents (Elt F) := select arg0 arg1 v1
  v2

/-- What `fn_where_6` returns. -/
def fn_where_6_f (arg0 : (⟨S40, .i1⟩ : BufTy).Contents (Elt F)) (arg1 : (⟨S_, .f32⟩ : BufTy).Contents (Elt F)) (arg2 : (⟨S40, .f32⟩ : BufTy).Contents (Elt F)) : (⟨S40, .f32⟩ : BufTy).Contents (Elt F) :=
  let v0 : (⟨S_, .f32⟩ : BufTy).Contents (Elt F) := id arg1
  let v1 : (⟨S40, .f32⟩ : BufTy).Contents (Elt F) := (broadcastInDim S40 ![] bcast_S_S40) v0
  let v2 : (⟨S40, .f32⟩ : BufTy).Contents (Elt F) := select arg0 v1 arg2
  v2

/-- What `fn_where_7` returns. -/
def fn_where_7_f (arg0 : (⟨S40, .i1⟩ : BufTy).Contents (Elt F)) (arg1 : (⟨S40, .f32⟩ : BufTy).Contents (Elt F)) (arg2 : (⟨S40, .f32⟩ : BufTy).Contents (Elt F)) : (⟨S40, .f32⟩ : BufTy).Contents (Elt F) :=
  let v0 : (⟨S40, .f32⟩ : BufTy).Contents (Elt F) := select arg0 arg1 arg2
  v0

/-- What `fn_where_8` returns. -/
def fn_where_8_f (arg0 : (⟨S40, .i1⟩ : BufTy).Contents (Elt F)) (arg1 : (⟨S40, .i32⟩ : BufTy).Contents (Elt F)) (arg2 : (⟨S40, .i32⟩ : BufTy).Contents (Elt F)) : (⟨S40, .i32⟩ : BufTy).Contents (Elt F) :=
  let v0 : (⟨S40, .i32⟩ : BufTy).Contents (Elt F) := select arg0 arg1 arg2
  v0

/-- What `fn_dynamic_update_index_in_dim_9` returns. -/
def fn_dynamic_update_index_in_dim_9_f (arg0 : (⟨S2048x40, .i32⟩ : BufTy).Contents (Elt F)) (arg1 : (⟨S40, .i32⟩ : BufTy).Contents (Elt F)) (arg2 : (⟨S_, .i32⟩ : BufTy).Contents (Elt F)) : (⟨S2048x40, .i32⟩ : BufTy).Contents (Elt F) :=
  let v0 : (⟨S1x40, .i32⟩ : BufTy).Contents (Elt F) := (broadcastInDim S1x40 ![1] bcast_S40_S1x40_1) arg1
  let c : (⟨S_, .i32⟩ : BufTy).Contents (Elt F) := (constantI S_ 32 0#32)
  let v1 : (⟨S2048x40, .i32⟩ : BufTy).Contents (Elt F) := (fun (x : (⟨S2048x40, .i32⟩ : BufTy).Contents (Elt F)) (u : (⟨S1x40, .i32⟩ : BufTy).Contents (Elt F)) (i : Fin 2 → (⟨S_, .i32⟩ : BufTy).Contents (Elt F)) => Host.dynamicUpdateSlice x u (fun k => (i k (Shape.Idx.first h_S_)).toInt) updateFits_S2048x40_S1x40) arg0 v0 ![arg2, c]
  v1

/-- What `fn_flip` returns. -/
def fn_flip_f (arg0 : (⟨S2048x40, .i32⟩ : BufTy).Contents (Elt F)) : (⟨S2048x40, .i32⟩ : BufTy).Contents (Elt F) :=
  let v0 : (⟨S2048x40, .i32⟩ : BufTy).Contents (Elt F) := (Host.reverse [0]) arg0
  v0

/-- Result 0 of `fn_where_10`. -/
def fn_where_10_f0 (arg0 : (⟨S40x2048, .i1⟩ : BufTy).Contents (Elt F)) (arg1 : (⟨S40x2048, .f32⟩ : BufTy).Contents (Elt F)) (arg2 : (⟨S_, .f32⟩ : BufTy).Contents (Elt F)) : (⟨S40x2048, .f32⟩ : BufTy).Contents (Elt F) :=
  let v0 : (⟨S_, .f32⟩ : BufTy).Contents (Elt F) := id arg2
  let v1 : (⟨S40x2048, .f32⟩ : BufTy).Contents (Elt F) := (broadcastInDim S40x2048 ![] bcast_S_S40x2048) v0
  let v2 : (⟨S40x2048, .f32⟩ : BufTy).Contents (Elt F) := select arg0 arg1 v1
  let cst : (⟨S_, .f32⟩ : BufTy).Contents (Elt F) := (constant S_ .f32 0x00000000#32)
  let v3 : (⟨S40x2048, .f32⟩ : BufTy).Contents (Elt F) := (broadcastInDim S40x2048 ![] bcast_S_S40x2048) cst
  v2

/-- Result 1 of `fn_where_10`. -/
def fn_where_10_f1 (arg0 : (⟨S40x2048, .i1⟩ : BufTy).Contents (Elt F)) (arg1 : (⟨S40x2048, .f32⟩ : BufTy).Contents (Elt F)) (arg2 : (⟨S_, .f32⟩ : BufTy).Contents (Elt F)) : (⟨S40x2048, .f32⟩ : BufTy).Contents (Elt F) :=
  let v0 : (⟨S_, .f32⟩ : BufTy).Contents (Elt F) := id arg2
  let v1 : (⟨S40x2048, .f32⟩ : BufTy).Contents (Elt F) := (broadcastInDim S40x2048 ![] bcast_S_S40x2048) v0
  let v2 : (⟨S40x2048, .f32⟩ : BufTy).Contents (Elt F) := select arg0 arg1 v1
  let cst : (⟨S_, .f32⟩ : BufTy).Contents (Elt F) := (constant S_ .f32 0x00000000#32)
  let v3 : (⟨S40x2048, .f32⟩ : BufTy).Contents (Elt F) := (broadcastInDim S40x2048 ![] bcast_S_S40x2048) cst
  v3

/-- Result 0 of `fn_where_11`. -/
def fn_where_11_f0 (arg0 : (⟨S40x2048, .i1⟩ : BufTy).Contents (Elt F)) (arg1 : (⟨S_, .f32⟩ : BufTy).Contents (Elt F)) (arg2 : (⟨S40x2048, .f32⟩ : BufTy).Contents (Elt F)) : (⟨S40x2048, .f32⟩ : BufTy).Contents (Elt F) :=
  let v0 : (⟨S_, .f32⟩ : BufTy).Contents (Elt F) := id arg1
  let v1 : (⟨S40x2048, .f32⟩ : BufTy).Contents (Elt F) := (broadcastInDim S40x2048 ![] bcast_S_S40x2048) v0
  let v2 : (⟨S40x2048, .f32⟩ : BufTy).Contents (Elt F) := select arg0 v1 arg2
  let cst : (⟨S_, .f32⟩ : BufTy).Contents (Elt F) := (constant S_ .f32 0x00000000#32)
  let v3 : (⟨S40x2048, .f32⟩ : BufTy).Contents (Elt F) := (broadcastInDim S40x2048 ![] bcast_S_S40x2048) cst
  v2

/-- Result 1 of `fn_where_11`. -/
def fn_where_11_f1 (arg0 : (⟨S40x2048, .i1⟩ : BufTy).Contents (Elt F)) (arg1 : (⟨S_, .f32⟩ : BufTy).Contents (Elt F)) (arg2 : (⟨S40x2048, .f32⟩ : BufTy).Contents (Elt F)) : (⟨S40x2048, .f32⟩ : BufTy).Contents (Elt F) :=
  let v0 : (⟨S_, .f32⟩ : BufTy).Contents (Elt F) := id arg1
  let v1 : (⟨S40x2048, .f32⟩ : BufTy).Contents (Elt F) := (broadcastInDim S40x2048 ![] bcast_S_S40x2048) v0
  let v2 : (⟨S40x2048, .f32⟩ : BufTy).Contents (Elt F) := select arg0 v1 arg2
  let cst : (⟨S_, .f32⟩ : BufTy).Contents (Elt F) := (constant S_ .f32 0x00000000#32)
  let v3 : (⟨S40x2048, .f32⟩ : BufTy).Contents (Elt F) := (broadcastInDim S40x2048 ![] bcast_S_S40x2048) cst
  v3

/-- What `fn_where_12` returns. -/
def fn_where_12_f (arg0 : (⟨S40x2048, .i1⟩ : BufTy).Contents (Elt F)) (arg1 : (⟨S40x2048, .f32⟩ : BufTy).Contents (Elt F)) (arg2 : (⟨S40x2048, .f32⟩ : BufTy).Contents (Elt F)) : (⟨S40x2048, .f32⟩ : BufTy).Contents (Elt F) :=
  let v0 : (⟨S40x2048, .f32⟩ : BufTy).Contents (Elt F) := select arg0 arg1 arg2
  v0

/-- What `fn_dynamic_update_index_in_dim_13` returns. -/
def fn_dynamic_update_index_in_dim_13_f (arg0 : (⟨S2048x40x11, .f32⟩ : BufTy).Contents (Elt F)) (arg1 : (⟨S40x11, .f32⟩ : BufTy).Contents (Elt F)) (arg2 : (⟨S_, .i32⟩ : BufTy).Contents (Elt F)) : (⟨S2048x40x11, .f32⟩ : BufTy).Contents (Elt F) :=
  let v0 : (⟨S1x40x11, .f32⟩ : BufTy).Contents (Elt F) := (broadcastInDim S1x40x11 ![1, 2] bcast_S40x11_S1x40x11_1_2) arg1
  let c : (⟨S_, .i32⟩ : BufTy).Contents (Elt F) := (constantI S_ 32 0#32)
  let c_0 : (⟨S_, .i32⟩ : BufTy).Contents (Elt F) := (constantI S_ 32 0#32)
  let v1 : (⟨S2048x40x11, .f32⟩ : BufTy).Contents (Elt F) := (fun (x : (⟨S2048x40x11, .f32⟩ : BufTy).Contents (Elt F)) (u : (⟨S1x40x11, .f32⟩ : BufTy).Contents (Elt F)) (i : Fin 3 → (⟨S_, .i32⟩ : BufTy).Contents (Elt F)) => Host.dynamicUpdateSlice x u (fun k => (i k (Shape.Idx.first h_S_)).toInt) updateFits_S2048x40x11_S1x40x11) arg0 v0 ![arg2, c, c_0]
  v1

/-- What `fn_dynamic_index_in_dim_14` returns. -/
def fn_dynamic_index_in_dim_14_f (arg0 : (⟨S2048x40x12, .f32⟩ : BufTy).Contents (Elt F)) (arg1 : (⟨S_, .i32⟩ : BufTy).Contents (Elt F)) : (⟨S40x12, .f32⟩ : BufTy).Contents (Elt F) :=
  let c : (⟨S_, .i32⟩ : BufTy).Contents (Elt F) := (constantI S_ 32 0#32)
  let c_0 : (⟨S_, .i32⟩ : BufTy).Contents (Elt F) := (constantI S_ 32 0#32)
  let v0 : (⟨S1x40x12, .f32⟩ : BufTy).Contents (Elt F) := (fun (x : (⟨S2048x40x12, .f32⟩ : BufTy).Contents (Elt F)) (i : Fin 3 → (⟨S_, .i32⟩ : BufTy).Contents (Elt F)) => Host.dynamicSlice S1x40x12 x (fun k => (i k (Shape.Idx.first h_S_)).toInt) sliceFits_S2048x40x12_S1x40x12) arg0 ![arg1, c, c_0]
  let v1 : (⟨S40x12, .f32⟩ : BufTy).Contents (Elt F) := shapeCast S40x12 v0 shapeCasts_S1x40x12_S40x12
  v1

/-- What `fn_dynamic_index_in_dim_15` returns. -/
def fn_dynamic_index_in_dim_15_f (arg0 : (⟨S2048x40x11, .f32⟩ : BufTy).Contents (Elt F)) (arg1 : (⟨S_, .i32⟩ : BufTy).Contents (Elt F)) : (⟨S40x11, .f32⟩ : BufTy).Contents (Elt F) :=
  let c : (⟨S_, .i32⟩ : BufTy).Contents (Elt F) := (constantI S_ 32 0#32)
  let c_0 : (⟨S_, .i32⟩ : BufTy).Contents (Elt F) := (constantI S_ 32 0#32)
  let v0 : (⟨S1x40x11, .f32⟩ : BufTy).Contents (Elt F) := (fun (x : (⟨S2048x40x11, .f32⟩ : BufTy).Contents (Elt F)) (i : Fin 3 → (⟨S_, .i32⟩ : BufTy).Contents (Elt F)) => Host.dynamicSlice S1x40x11 x (fun k => (i k (Shape.Idx.first h_S_)).toInt) sliceFits_S2048x40x11_S1x40x11) arg0 ![arg1, c, c_0]
  let v1 : (⟨S40x11, .f32⟩ : BufTy).Contents (Elt F) := shapeCast S40x11 v0 shapeCasts_S1x40x11_S40x11
  v1

/-- What `fn_dynamic_update_index_in_dim_16` returns. -/
def fn_dynamic_update_index_in_dim_16_f (arg0 : (⟨S2048x40, .f32⟩ : BufTy).Contents (Elt F)) (arg1 : (⟨S40, .f32⟩ : BufTy).Contents (Elt F)) (arg2 : (⟨S_, .i32⟩ : BufTy).Contents (Elt F)) : (⟨S2048x40, .f32⟩ : BufTy).Contents (Elt F) :=
  let v0 : (⟨S1x40, .f32⟩ : BufTy).Contents (Elt F) := (broadcastInDim S1x40 ![1] bcast_S40_S1x40_1) arg1
  let c : (⟨S_, .i32⟩ : BufTy).Contents (Elt F) := (constantI S_ 32 0#32)
  let v1 : (⟨S2048x40, .f32⟩ : BufTy).Contents (Elt F) := (fun (x : (⟨S2048x40, .f32⟩ : BufTy).Contents (Elt F)) (u : (⟨S1x40, .f32⟩ : BufTy).Contents (Elt F)) (i : Fin 2 → (⟨S_, .i32⟩ : BufTy).Contents (Elt F)) => Host.dynamicUpdateSlice x u (fun k => (i k (Shape.Idx.first h_S_)).toInt) updateFits_S2048x40_S1x40) arg0 v0 ![arg2, c]
  v1

/-- Result 0 of `fn_where_17`. -/
def fn_where_17_f0 (arg0 : (⟨S40x2048, .i1⟩ : BufTy).Contents (Elt F)) (arg1 : (⟨S40x2048, .f32⟩ : BufTy).Contents (Elt F)) : (⟨S40x2048, .f32⟩ : BufTy).Contents (Elt F) :=
  let cst : (⟨S_, .f32⟩ : BufTy).Contents (Elt F) := (constant S_ .f32 0x00000000#32)
  let v0 : (⟨S40x2048, .f32⟩ : BufTy).Contents (Elt F) := (broadcastInDim S40x2048 ![] bcast_S_S40x2048) cst
  let v1 : (⟨S40x2048, .f32⟩ : BufTy).Contents (Elt F) := select arg0 v0 arg1
  let v2 : (⟨S40x2048, .f32⟩ : BufTy).Contents (Elt F) := select arg0 arg1 v0
  v1

/-- Result 1 of `fn_where_17`. -/
def fn_where_17_f1 (arg0 : (⟨S40x2048, .i1⟩ : BufTy).Contents (Elt F)) (arg1 : (⟨S40x2048, .f32⟩ : BufTy).Contents (Elt F)) : (⟨S40x2048, .f32⟩ : BufTy).Contents (Elt F) :=
  let cst : (⟨S_, .f32⟩ : BufTy).Contents (Elt F) := (constant S_ .f32 0x00000000#32)
  let v0 : (⟨S40x2048, .f32⟩ : BufTy).Contents (Elt F) := (broadcastInDim S40x2048 ![] bcast_S_S40x2048) cst
  let v1 : (⟨S40x2048, .f32⟩ : BufTy).Contents (Elt F) := select arg0 v0 arg1
  let v2 : (⟨S40x2048, .f32⟩ : BufTy).Contents (Elt F) := select arg0 arg1 v0
  v2

/-- What `fn_where_18` returns. -/
def fn_where_18_f (arg0 : (⟨S40x2048, .i1⟩ : BufTy).Contents (Elt F)) (arg1 : (⟨S40x2048, .f32⟩ : BufTy).Contents (Elt F)) (arg2 : (⟨S40x2048, .f32⟩ : BufTy).Contents (Elt F)) : (⟨S40x2048, .f32⟩ : BufTy).Contents (Elt F) :=
  let cst : (⟨S_, .f32⟩ : BufTy).Contents (Elt F) := (constant S_ .f32 0x00000000#32)
  let v0 : (⟨S40x2048, .f32⟩ : BufTy).Contents (Elt F) := (broadcastInDim S40x2048 ![] bcast_S_S40x2048) cst
  let v1 : (⟨S40x2048, .f32⟩ : BufTy).Contents (Elt F) := select arg0 v0 arg2
  v1

/-- What `fn_where_19` returns. -/
def fn_where_19_f (arg0 : (⟨S40x2048, .i1⟩ : BufTy).Contents (Elt F)) (arg1 : (⟨S40x2048, .f32⟩ : BufTy).Contents (Elt F)) (arg2 : (⟨S40x2048, .f32⟩ : BufTy).Contents (Elt F)) : (⟨S40x2048, .f32⟩ : BufTy).Contents (Elt F) :=
  let cst : (⟨S_, .f32⟩ : BufTy).Contents (Elt F) := (constant S_ .f32 0x00000000#32)
  let v0 : (⟨S40x2048, .f32⟩ : BufTy).Contents (Elt F) := (broadcastInDim S40x2048 ![] bcast_S_S40x2048) cst
  let v1 : (⟨S40x2048, .f32⟩ : BufTy).Contents (Elt F) := select arg0 arg2 v0
  v1

def mn_0_cst  : (⟨S2048x40, .f32⟩ : BufTy).Contents (Elt F) :=
  (fun i => FloatOps.ofBits .f32 (lit0 (S2048x40.rowMajor i)))

def mn_0_v0 (arg0 : (⟨S40x2048x1, .f32⟩ : BufTy).Contents (Elt F)) : (⟨S40x2048, .f32⟩ : BufTy).Contents (Elt F) :=
  shapeCast S40x2048 arg0 shapeCasts_S40x2048x1_S40x2048

def mn_1_v1 (v0 : (⟨S40x2048, .f32⟩ : BufTy).Contents (Elt F)) : (⟨S40x2048, .f32⟩ : BufTy).Contents (Elt F) :=
  fn_log_sigmoid_f v0

def mn_2_v3 (v1 : (⟨S40x2048, .f32⟩ : BufTy).Contents (Elt F)) : (⟨S40x2048, .f32⟩ : BufTy).Contents (Elt F) :=
  let cst_0 : (⟨S_, .f32⟩ : BufTy).Contents (Elt F) := (constant S_ .f32 0xB3D6BF95#32)
  let v2 : (⟨S40x2048, .f32⟩ : BufTy).Contents (Elt F) := (broadcastInDim S40x2048 ![] bcast_S_S40x2048 : (⟨S_, .f32⟩ : BufTy).Contents (Elt F) → (⟨S40x2048, .f32⟩ : BufTy).Contents (Elt F)) cst_0
  (minimumf : (⟨S40x2048, .f32⟩ : BufTy).Contents (Elt F) → (⟨S40x2048, .f32⟩ : BufTy).Contents (Elt F) → (⟨S40x2048, .f32⟩ : BufTy).Contents (Elt F)) v1 v2

def mn_3_v5 (v3 : (⟨S40x2048, .f32⟩ : BufTy).Contents (Elt F)) : (⟨S40x2048, .i1⟩ : BufTy).Contents (Elt F) :=
  let cst_1 : (⟨S_, .f32⟩ : BufTy).Contents (Elt F) := (constant S_ .f32 0xBF317218#32)
  let v4 : (⟨S40x2048, .f32⟩ : BufTy).Contents (Elt F) := (broadcastInDim S40x2048 ![] bcast_S_S40x2048 : (⟨S_, .f32⟩ : BufTy).Contents (Elt F) → (⟨S40x2048, .f32⟩ : BufTy).Contents (Elt F)) cst_1
  (cmpf .ogt : (⟨S40x2048, .f32⟩ : BufTy).Contents (Elt F) → (⟨S40x2048, .f32⟩ : BufTy).Contents (Elt F) → (⟨S40x2048, .i1⟩ : BufTy).Contents (Elt F)) v3 v4

def mn_3_cst_2  : (⟨S_, .f32⟩ : BufTy).Contents (Elt F) :=
  (constant S_ .f32 0xBF317218#32)

def mn_4_v6 (v5 : (⟨S40x2048, .i1⟩ : BufTy).Contents (Elt F)) (v3 : (⟨S40x2048, .f32⟩ : BufTy).Contents (Elt F)) (cst_2 : (⟨S_, .f32⟩ : BufTy).Contents (Elt F)) : (⟨S40x2048, .f32⟩ : BufTy).Contents (Elt F) :=
  fn_where_f v5 v3 cst_2

def mn_5_cst_3  : (⟨S_, .f32⟩ : BufTy).Contents (Elt F) :=
  (constant S_ .f32 0xBF317218#32)

def mn_6_v7 (v5 : (⟨S40x2048, .i1⟩ : BufTy).Contents (Elt F)) (cst_3 : (⟨S_, .f32⟩ : BufTy).Contents (Elt F)) (v3 : (⟨S40x2048, .f32⟩ : BufTy).Contents (Elt F)) : (⟨S40x2048, .f32⟩ : BufTy).Contents (Elt F) :=
  fn_where_0_f v5 cst_3 v3

def mn_7_v10 (v6 : (⟨S40x2048, .f32⟩ : BufTy).Contents (Elt F)) : (⟨S40x2048, .f32⟩ : BufTy).Contents (Elt F) :=
  let v8 : (⟨S40x2048, .f32⟩ : BufTy).Contents (Elt F) := (Host.expm1 : (⟨S40x2048, .f32⟩ : BufTy).Contents (Elt F) → (⟨S40x2048, .f32⟩ : BufTy).Contents (Elt F)) v6
  let v9 : (⟨S40x2048, .f32⟩ : BufTy).Contents (Elt F) := (Host.negf : (⟨S40x2048, .f32⟩ : BufTy).Contents (Elt F) → (⟨S40x2048, .f32⟩ : BufTy).Contents (Elt F)) v8
  (Host.log : (⟨S40x2048, .f32⟩ : BufTy).Contents (Elt F) → (⟨S40x2048, .f32⟩ : BufTy).Contents (Elt F)) v9

def mn_7_v13 (v7 : (⟨S40x2048, .f32⟩ : BufTy).Contents (Elt F)) : (⟨S40x2048, .f32⟩ : BufTy).Contents (Elt F) :=
  let v11 : (⟨S40x2048, .f32⟩ : BufTy).Contents (Elt F) := (Host.exp : (⟨S40x2048, .f32⟩ : BufTy).Contents (Elt F) → (⟨S40x2048, .f32⟩ : BufTy).Contents (Elt F)) v7
  let v12 : (⟨S40x2048, .f32⟩ : BufTy).Contents (Elt F) := (Host.negf : (⟨S40x2048, .f32⟩ : BufTy).Contents (Elt F) → (⟨S40x2048, .f32⟩ : BufTy).Contents (Elt F)) v11
  (Host.log1p : (⟨S40x2048, .f32⟩ : BufTy).Contents (Elt F) → (⟨S40x2048, .f32⟩ : BufTy).Contents (Elt F)) v12

def mn_8_v14 (v5 : (⟨S40x2048, .i1⟩ : BufTy).Contents (Elt F)) (v10 : (⟨S40x2048, .f32⟩ : BufTy).Contents (Elt F)) (v13 : (⟨S40x2048, .f32⟩ : BufTy).Contents (Elt F)) : (⟨S40x2048, .f32⟩ : BufTy).Contents (Elt F) :=
  fn_where_1_f v5 v10 v13

def mn_9_v18  : (⟨S40x12, .f32⟩ : BufTy).Contents (Elt F) :=
  let cst_4 : (⟨S_, .f32⟩ : BufTy).Contents (Elt F) := (constant S_ .f32 0xC3960000#32)
  let v15 : (⟨S40x12, .f32⟩ : BufTy).Contents (Elt F) := (broadcastInDim S40x12 ![] bcast_S_S40x12 : (⟨S_, .f32⟩ : BufTy).Contents (Elt F) → (⟨S40x12, .f32⟩ : BufTy).Contents (Elt F)) cst_4
  let c : (⟨S_, .i32⟩ : BufTy).Contents (Elt F) := (constantI S_ 32 1#32)
  let v16 : (⟨S1, .i32⟩ : BufTy).Contents (Elt F) := (broadcastInDim S1 ![] bcast_S_S1 : (⟨S_, .i32⟩ : BufTy).Contents (Elt F) → (⟨S1, .i32⟩ : BufTy).Contents (Elt F)) c
  let cst_5 : (⟨S_, .f32⟩ : BufTy).Contents (Elt F) := (constant S_ .f32 0x00000000#32)
  let v17 : (⟨S40, .f32⟩ : BufTy).Contents (Elt F) := (broadcastInDim S40 ![] bcast_S_S40 : (⟨S_, .f32⟩ : BufTy).Contents (Elt F) → (⟨S40, .f32⟩ : BufTy).Contents (Elt F)) cst_5
  ((fun x i u => Host.scatter scatter_S40x12_S1_S40_0_1_1_0 (fun _ b => b) x i u) : (⟨S40x12, .f32⟩ : BufTy).Contents (Elt F) → (⟨S1, .i32⟩ : BufTy).Contents (Elt F) → (⟨S40, .f32⟩ : BufTy).Contents (Elt F) → (⟨S40x12, .f32⟩ : BufTy).Contents (Elt F)) v15 v16 v17

def mn_10_v22_0 (v3 : (⟨S40x2048, .f32⟩ : BufTy).Contents (Elt F)) : (⟨S2048x40, .f32⟩ : BufTy).Contents (Elt F) :=
  let v19 : (⟨S2048x40, .f32⟩ : BufTy).Contents (Elt F) := ((transpose S2048x40 [1, 0] · transposes_S40x2048_S2048x40_1_0) : (⟨S40x2048, .f32⟩ : BufTy).Contents (Elt F) → (⟨S2048x40, .f32⟩ : BufTy).Contents (Elt F)) v3
  id v19

def mn_10_v22_1 (v14 : (⟨S40x2048, .f32⟩ : BufTy).Contents (Elt F)) : (⟨S2048x40, .f32⟩ : BufTy).Contents (Elt F) :=
  let v20 : (⟨S2048x40, .f32⟩ : BufTy).Contents (Elt F) := ((transpose S2048x40 [1, 0] · transposes_S40x2048_S2048x40_1_0) : (⟨S40x2048, .f32⟩ : BufTy).Contents (Elt F) → (⟨S2048x40, .f32⟩ : BufTy).Contents (Elt F)) v14
  id v20

def mn_10_v22_2  : (⟨S_, .i32⟩ : BufTy).Contents (Elt F) :=
  let c_7 : (⟨S_, .i32⟩ : BufTy).Contents (Elt F) := (constantI S_ 32 0#32)
  id c_7

def mn_10_v22_3 (v18 : (⟨S40x12, .f32⟩ : BufTy).Contents (Elt F)) : (⟨S40x12, .f32⟩ : BufTy).Contents (Elt F) :=
  id v18

def mn_10_v22_4  : (⟨S2048x40x12, .f32⟩ : BufTy).Contents (Elt F) :=
  let cst_6 : (⟨S_, .f32⟩ : BufTy).Contents (Elt F) := (constant S_ .f32 0x00000000#32)
  let v21 : (⟨S2048x40x12, .f32⟩ : BufTy).Contents (Elt F) := (broadcastInDim S2048x40x12 ![] bcast_S_S2048x40x12 : (⟨S_, .f32⟩ : BufTy).Contents (Elt F) → (⟨S2048x40x12, .f32⟩ : BufTy).Contents (Elt F)) cst_6
  id v21

def mn_12_v23 (v18 : (⟨S40x12, .f32⟩ : BufTy).Contents (Elt F)) : (⟨S40x1x12, .f32⟩ : BufTy).Contents (Elt F) :=
  (broadcastInDim S40x1x12 ![0, 2] bcast_S40x12_S40x1x12_0_2 : (⟨S40x12, .f32⟩ : BufTy).Contents (Elt F) → (⟨S40x1x12, .f32⟩ : BufTy).Contents (Elt F)) v18

def mn_12_v24 (v22_4 : (⟨S2048x40x12, .f32⟩ : BufTy).Contents (Elt F)) : (⟨S40x2048x12, .f32⟩ : BufTy).Contents (Elt F) :=
  ((transpose S40x2048x12 [1, 0, 2] · transposes_S2048x40x12_S40x2048x12_1_0_2) : (⟨S2048x40x12, .f32⟩ : BufTy).Contents (Elt F) → (⟨S40x2048x12, .f32⟩ : BufTy).Contents (Elt F)) v22_4

def mn_13_v25 (v23 : (⟨S40x1x12, .f32⟩ : BufTy).Contents (Elt F)) (v24 : (⟨S40x2048x12, .f32⟩ : BufTy).Contents (Elt F)) : (⟨S40x2049x12, .f32⟩ : BufTy).Contents (Elt F) :=
  ((fun a b => concatenate S40x2049x12 1 [⟨S40x1x12, a⟩, ⟨S40x2048x12, b⟩] concatenates_S40x1x12_S40x2048x12_S40x2049x12_d1) : (⟨S40x1x12, .f32⟩ : BufTy).Contents (Elt F) → (⟨S40x2048x12, .f32⟩ : BufTy).Contents (Elt F) → (⟨S40x2049x12, .f32⟩ : BufTy).Contents (Elt F)) v23 v24

def mn_14_v26  : (⟨S40, .i32⟩ : BufTy).Contents (Elt F) :=
  (iotaInDim S40 32 0)

def mn_14_v31  : (⟨S2048, .i32⟩ : BufTy).Contents (Elt F) :=
  let v27 : (⟨S2048, .i32⟩ : BufTy).Contents (Elt F) := (iotaInDim S2048 32 0)
  let c_8 : (⟨S_, .i32⟩ : BufTy).Contents (Elt F) := (constantI S_ 32 4294967295#32)
  let v28 : (⟨S2048, .i32⟩ : BufTy).Contents (Elt F) := (broadcastInDim S2048 ![] bcast_S_S2048 : (⟨S_, .i32⟩ : BufTy).Contents (Elt F) → (⟨S2048, .i32⟩ : BufTy).Contents (Elt F)) c_8
  let v29 : (⟨S2048, .i32⟩ : BufTy).Contents (Elt F) := (muli : (⟨S2048, .i32⟩ : BufTy).Contents (Elt F) → (⟨S2048, .i32⟩ : BufTy).Contents (Elt F) → (⟨S2048, .i32⟩ : BufTy).Contents (Elt F)) v28 v27
  let c_9 : (⟨S_, .i32⟩ : BufTy).Contents (Elt F) := (constantI S_ 32 2048#32)
  let v30 : (⟨S2048, .i32⟩ : BufTy).Contents (Elt F) := (broadcastInDim S2048 ![] bcast_S_S2048 : (⟨S_, .i32⟩ : BufTy).Contents (Elt F) → (⟨S2048, .i32⟩ : BufTy).Contents (Elt F)) c_9
  (addi : (⟨S2048, .i32⟩ : BufTy).Contents (Elt F) → (⟨S2048, .i32⟩ : BufTy).Contents (Elt F) → (⟨S2048, .i32⟩ : BufTy).Contents (Elt F)) v30 v29

def mn_15_v34_0 (v31 : (⟨S2048, .i32⟩ : BufTy).Contents (Elt F)) : (⟨S2048, .i32⟩ : BufTy).Contents (Elt F) :=
  id v31

def mn_15_v34_1 (cst : (⟨S2048x40, .f32⟩ : BufTy).Contents (Elt F)) : (⟨S2048x40, .f32⟩ : BufTy).Contents (Elt F) :=
  id cst

def mn_15_v34_2 (v26 : (⟨S40, .i32⟩ : BufTy).Contents (Elt F)) : (⟨S40, .i32⟩ : BufTy).Contents (Elt F) :=
  id v26

def mn_15_v34_3 (v25 : (⟨S40x2049x12, .f32⟩ : BufTy).Contents (Elt F)) : (⟨S40x2049x12, .f32⟩ : BufTy).Contents (Elt F) :=
  id v25

def mn_15_v34_4 (v3 : (⟨S40x2048, .f32⟩ : BufTy).Contents (Elt F)) : (⟨S40x2048, .f32⟩ : BufTy).Contents (Elt F) :=
  id v3

def mn_15_v34_5  : (⟨S_, .i32⟩ : BufTy).Contents (Elt F) :=
  let c_12 : (⟨S_, .i32⟩ : BufTy).Contents (Elt F) := (constantI S_ 32 0#32)
  id c_12

def mn_15_v34_6  : (⟨S40, .i32⟩ : BufTy).Contents (Elt F) :=
  let c_10 : (⟨S_, .i32⟩ : BufTy).Contents (Elt F) := (constantI S_ 32 11#32)
  let v32 : (⟨S40, .i32⟩ : BufTy).Contents (Elt F) := (broadcastInDim S40 ![] bcast_S_S40 : (⟨S_, .i32⟩ : BufTy).Contents (Elt F) → (⟨S40, .i32⟩ : BufTy).Contents (Elt F)) c_10
  id v32

def mn_15_v34_7  : (⟨S2048x40, .i32⟩ : BufTy).Contents (Elt F) :=
  let c_11 : (⟨S_, .i32⟩ : BufTy).Contents (Elt F) := (constantI S_ 32 0#32)
  let v33 : (⟨S2048x40, .i32⟩ : BufTy).Contents (Elt F) := (broadcastInDim S2048x40 ![] bcast_S_S2048x40 : (⟨S_, .i32⟩ : BufTy).Contents (Elt F) → (⟨S2048x40, .i32⟩ : BufTy).Contents (Elt F)) c_11
  id v33

def mn_17_v35 (v34_7 : (⟨S2048x40, .i32⟩ : BufTy).Contents (Elt F)) : (⟨S2048x40, .i32⟩ : BufTy).Contents (Elt F) :=
  fn_flip_f v34_7

def mn_18_v37 (v35 : (⟨S2048x40, .i32⟩ : BufTy).Contents (Elt F)) : (⟨S40x2048, .f32⟩ : BufTy).Contents (Elt F) :=
  let v36 : (⟨S40x2048, .i32⟩ : BufTy).Contents (Elt F) := ((transpose S40x2048 [1, 0] · transposes_S2048x40_S40x2048_1_0) : (⟨S2048x40, .i32⟩ : BufTy).Contents (Elt F) → (⟨S40x2048, .i32⟩ : BufTy).Contents (Elt F)) v35
  (sitofp .f32 : (⟨S40x2048, .i32⟩ : BufTy).Contents (Elt F) → (⟨S40x2048, .f32⟩ : BufTy).Contents (Elt F)) v36

def mn_19_v38 (v0 : (⟨S40x2048, .f32⟩ : BufTy).Contents (Elt F)) : (⟨S40x2048, .f32⟩ : BufTy).Contents (Elt F) :=
  fn_log_sigmoid_f v0

def mn_20_v40 (v38 : (⟨S40x2048, .f32⟩ : BufTy).Contents (Elt F)) : (⟨S40x2048, .f32⟩ : BufTy).Contents (Elt F) :=
  let cst_13 : (⟨S_, .f32⟩ : BufTy).Contents (Elt F) := (constant S_ .f32 0xB3D6BF95#32)
  let v39 : (⟨S40x2048, .f32⟩ : BufTy).Contents (Elt F) := (broadcastInDim S40x2048 ![] bcast_S_S40x2048 : (⟨S_, .f32⟩ : BufTy).Contents (Elt F) → (⟨S40x2048, .f32⟩ : BufTy).Contents (Elt F)) cst_13
  (minimumf : (⟨S40x2048, .f32⟩ : BufTy).Contents (Elt F) → (⟨S40x2048, .f32⟩ : BufTy).Contents (Elt F) → (⟨S40x2048, .f32⟩ : BufTy).Contents (Elt F)) v38 v39

def mn_20_v42 (v38 : (⟨S40x2048, .f32⟩ : BufTy).Contents (Elt F)) : (⟨S40x2048, .i1⟩ : BufTy).Contents (Elt F) :=
  let cst_13 : (⟨S_, .f32⟩ : BufTy).Contents (Elt F) := (constant S_ .f32 0xB3D6BF95#32)
  let v39 : (⟨S40x2048, .f32⟩ : BufTy).Contents (Elt F) := (broadcastInDim S40x2048 ![] bcast_S_S40x2048 : (⟨S_, .f32⟩ : BufTy).Contents (Elt F) → (⟨S40x2048, .f32⟩ : BufTy).Contents (Elt F)) cst_13
  let v40 : (⟨S40x2048, .f32⟩ : BufTy).Contents (Elt F) := (minimumf : (⟨S40x2048, .f32⟩ : BufTy).Contents (Elt F) → (⟨S40x2048, .f32⟩ : BufTy).Contents (Elt F) → (⟨S40x2048, .f32⟩ : BufTy).Contents (Elt F)) v38 v39
  let cst_14 : (⟨S_, .f32⟩ : BufTy).Contents (Elt F) := (constant S_ .f32 0xBF317218#32)
  let v41 : (⟨S40x2048, .f32⟩ : BufTy).Contents (Elt F) := (broadcastInDim S40x2048 ![] bcast_S_S40x2048 : (⟨S_, .f32⟩ : BufTy).Contents (Elt F) → (⟨S40x2048, .f32⟩ : BufTy).Contents (Elt F)) cst_14
  (cmpf .ogt : (⟨S40x2048, .f32⟩ : BufTy).Contents (Elt F) → (⟨S40x2048, .f32⟩ : BufTy).Contents (Elt F) → (⟨S40x2048, .i1⟩ : BufTy).Contents (Elt F)) v40 v41

def mn_20_cst_15  : (⟨S_, .f32⟩ : BufTy).Contents (Elt F) :=
  (constant S_ .f32 0xBF317218#32)

def mn_21_v43_0 (v42 : (⟨S40x2048, .i1⟩ : BufTy).Contents (Elt F)) (v40 : (⟨S40x2048, .f32⟩ : BufTy).Contents (Elt F)) (cst_15 : (⟨S_, .f32⟩ : BufTy).Contents (Elt F)) : (⟨S40x2048, .f32⟩ : BufTy).Contents (Elt F) :=
  fn_where_10_f0 v42 v40 cst_15

def mn_21_v43_1 (v42 : (⟨S40x2048, .i1⟩ : BufTy).Contents (Elt F)) (v40 : (⟨S40x2048, .f32⟩ : BufTy).Contents (Elt F)) (cst_15 : (⟨S_, .f32⟩ : BufTy).Contents (Elt F)) : (⟨S40x2048, .f32⟩ : BufTy).Contents (Elt F) :=
  fn_where_10_f1 v42 v40 cst_15

def mn_22_cst_16  : (⟨S_, .f32⟩ : BufTy).Contents (Elt F) :=
  (constant S_ .f32 0xBF317218#32)

def mn_23_v44_0 (v42 : (⟨S40x2048, .i1⟩ : BufTy).Contents (Elt F)) (cst_16 : (⟨S_, .f32⟩ : BufTy).Contents (Elt F)) (v40 : (⟨S40x2048, .f32⟩ : BufTy).Contents (Elt F)) : (⟨S40x2048, .f32⟩ : BufTy).Contents (Elt F) :=
  fn_where_11_f0 v42 cst_16 v40

def mn_23_v44_1 (v42 : (⟨S40x2048, .i1⟩ : BufTy).Contents (Elt F)) (cst_16 : (⟨S_, .f32⟩ : BufTy).Contents (Elt F)) (v40 : (⟨S40x2048, .f32⟩ : BufTy).Contents (Elt F)) : (⟨S40x2048, .f32⟩ : BufTy).Contents (Elt F) :=
  fn_where_11_f1 v42 cst_16 v40

def mn_24_v46 (v43_0 : (⟨S40x2048, .f32⟩ : BufTy).Contents (Elt F)) : (⟨S40x2048, .f32⟩ : BufTy).Contents (Elt F) :=
  (Host.exp : (⟨S40x2048, .f32⟩ : BufTy).Contents (Elt F) → (⟨S40x2048, .f32⟩ : BufTy).Contents (Elt F)) v43_0

def mn_24_v47 (v43_0 : (⟨S40x2048, .f32⟩ : BufTy).Contents (Elt F)) : (⟨S40x2048, .f32⟩ : BufTy).Contents (Elt F) :=
  let v45 : (⟨S40x2048, .f32⟩ : BufTy).Contents (Elt F) := (Host.expm1 : (⟨S40x2048, .f32⟩ : BufTy).Contents (Elt F) → (⟨S40x2048, .f32⟩ : BufTy).Contents (Elt F)) v43_0
  (Host.negf : (⟨S40x2048, .f32⟩ : BufTy).Contents (Elt F) → (⟨S40x2048, .f32⟩ : BufTy).Contents (Elt F)) v45

def mn_24_v48 (v43_0 : (⟨S40x2048, .f32⟩ : BufTy).Contents (Elt F)) : (⟨S40x2048, .f32⟩ : BufTy).Contents (Elt F) :=
  let v45 : (⟨S40x2048, .f32⟩ : BufTy).Contents (Elt F) := (Host.expm1 : (⟨S40x2048, .f32⟩ : BufTy).Contents (Elt F) → (⟨S40x2048, .f32⟩ : BufTy).Contents (Elt F)) v43_0
  let v47 : (⟨S40x2048, .f32⟩ : BufTy).Contents (Elt F) := (Host.negf : (⟨S40x2048, .f32⟩ : BufTy).Contents (Elt F) → (⟨S40x2048, .f32⟩ : BufTy).Contents (Elt F)) v45
  (Host.log : (⟨S40x2048, .f32⟩ : BufTy).Contents (Elt F) → (⟨S40x2048, .f32⟩ : BufTy).Contents (Elt F)) v47

def mn_24_v49 (v44_0 : (⟨S40x2048, .f32⟩ : BufTy).Contents (Elt F)) : (⟨S40x2048, .f32⟩ : BufTy).Contents (Elt F) :=
  (Host.exp : (⟨S40x2048, .f32⟩ : BufTy).Contents (Elt F) → (⟨S40x2048, .f32⟩ : BufTy).Contents (Elt F)) v44_0

def mn_24_v51 (v44_0 : (⟨S40x2048, .f32⟩ : BufTy).Contents (Elt F)) : (⟨S40x2048, .f32⟩ : BufTy).Contents (Elt F) :=
  let v49 : (⟨S40x2048, .f32⟩ : BufTy).Contents (Elt F) := (Host.exp : (⟨S40x2048, .f32⟩ : BufTy).Contents (Elt F) → (⟨S40x2048, .f32⟩ : BufTy).Contents (Elt F)) v44_0
  let v50 : (⟨S40x2048, .f32⟩ : BufTy).Contents (Elt F) := (Host.negf : (⟨S40x2048, .f32⟩ : BufTy).Contents (Elt F) → (⟨S40x2048, .f32⟩ : BufTy).Contents (Elt F)) v49
  (Host.log1p : (⟨S40x2048, .f32⟩ : BufTy).Contents (Elt F) → (⟨S40x2048, .f32⟩ : BufTy).Contents (Elt F)) v50

def mn_24_v53 (v44_0 : (⟨S40x2048, .f32⟩ : BufTy).Contents (Elt F)) : (⟨S40x2048, .f32⟩ : BufTy).Contents (Elt F) :=
  let v49 : (⟨S40x2048, .f32⟩ : BufTy).Contents (Elt F) := (Host.exp : (⟨S40x2048, .f32⟩ : BufTy).Contents (Elt F) → (⟨S40x2048, .f32⟩ : BufTy).Contents (Elt F)) v44_0
  let v50 : (⟨S40x2048, .f32⟩ : BufTy).Contents (Elt F) := (Host.negf : (⟨S40x2048, .f32⟩ : BufTy).Contents (Elt F) → (⟨S40x2048, .f32⟩ : BufTy).Contents (Elt F)) v49
  let cst_17 : (⟨S_, .f32⟩ : BufTy).Contents (Elt F) := (constant S_ .f32 0x3F800000#32)
  let v52 : (⟨S40x2048, .f32⟩ : BufTy).Contents (Elt F) := (broadcastInDim S40x2048 ![] bcast_S_S40x2048 : (⟨S_, .f32⟩ : BufTy).Contents (Elt F) → (⟨S40x2048, .f32⟩ : BufTy).Contents (Elt F)) cst_17
  (addf : (⟨S40x2048, .f32⟩ : BufTy).Contents (Elt F) → (⟨S40x2048, .f32⟩ : BufTy).Contents (Elt F) → (⟨S40x2048, .f32⟩ : BufTy).Contents (Elt F)) v50 v52

def mn_25_v54 (v42 : (⟨S40x2048, .i1⟩ : BufTy).Contents (Elt F)) (v48 : (⟨S40x2048, .f32⟩ : BufTy).Contents (Elt F)) (v51 : (⟨S40x2048, .f32⟩ : BufTy).Contents (Elt F)) : (⟨S40x2048, .f32⟩ : BufTy).Contents (Elt F) :=
  fn_where_12_f v42 v48 v51

def mn_26_v58  : (⟨S40x12, .f32⟩ : BufTy).Contents (Elt F) :=
  let cst_18 : (⟨S_, .f32⟩ : BufTy).Contents (Elt F) := (constant S_ .f32 0xC3960000#32)
  let v55 : (⟨S40x12, .f32⟩ : BufTy).Contents (Elt F) := (broadcastInDim S40x12 ![] bcast_S_S40x12 : (⟨S_, .f32⟩ : BufTy).Contents (Elt F) → (⟨S40x12, .f32⟩ : BufTy).Contents (Elt F)) cst_18
  let c_19 : (⟨S_, .i32⟩ : BufTy).Contents (Elt F) := (constantI S_ 32 1#32)
  let v56 : (⟨S1, .i32⟩ : BufTy).Contents (Elt F) := (broadcastInDim S1 ![] bcast_S_S1 : (⟨S_, .i32⟩ : BufTy).Contents (Elt F) → (⟨S1, .i32⟩ : BufTy).Contents (Elt F)) c_19
  let cst_20 : (⟨S_, .f32⟩ : BufTy).Contents (Elt F) := (constant S_ .f32 0x00000000#32)
  let v57 : (⟨S40, .f32⟩ : BufTy).Contents (Elt F) := (broadcastInDim S40 ![] bcast_S_S40 : (⟨S_, .f32⟩ : BufTy).Contents (Elt F) → (⟨S40, .f32⟩ : BufTy).Contents (Elt F)) cst_20
  ((fun x i u => Host.scatter scatter_S40x12_S1_S40_0_1_1_0 (fun _ b => b) x i u) : (⟨S40x12, .f32⟩ : BufTy).Contents (Elt F) → (⟨S1, .i32⟩ : BufTy).Contents (Elt F) → (⟨S40, .f32⟩ : BufTy).Contents (Elt F) → (⟨S40x12, .f32⟩ : BufTy).Contents (Elt F)) v55 v56 v57

def mn_27_v59 (v40 : (⟨S40x2048, .f32⟩ : BufTy).Contents (Elt F)) : (⟨S2048x40, .f32⟩ : BufTy).Contents (Elt F) :=
  ((transpose S2048x40 [1, 0] · transposes_S40x2048_S2048x40_1_0) : (⟨S40x2048, .f32⟩ : BufTy).Contents (Elt F) → (⟨S2048x40, .f32⟩ : BufTy).Contents (Elt F)) v40

def mn_27_v60 (v54 : (⟨S40x2048, .f32⟩ : BufTy).Contents (Elt F)) : (⟨S2048x40, .f32⟩ : BufTy).Contents (Elt F) :=
  ((transpose S2048x40 [1, 0] · transposes_S40x2048_S2048x40_1_0) : (⟨S40x2048, .f32⟩ : BufTy).Contents (Elt F) → (⟨S2048x40, .f32⟩ : BufTy).Contents (Elt F)) v54

def mn_27_v61  : (⟨S40x11, .f32⟩ : BufTy).Contents (Elt F) :=
  let cst_21 : (⟨S_, .f32⟩ : BufTy).Contents (Elt F) := (constant S_ .f32 0x00000000#32)
  (broadcastInDim S40x11 ![] bcast_S_S40x11 : (⟨S_, .f32⟩ : BufTy).Contents (Elt F) → (⟨S40x11, .f32⟩ : BufTy).Contents (Elt F)) cst_21

def mn_27_v62  : (⟨S40x11, .f32⟩ : BufTy).Contents (Elt F) :=
  let cst_22 : (⟨S_, .f32⟩ : BufTy).Contents (Elt F) := (constant S_ .f32 0x00000000#32)
  (broadcastInDim S40x11 ![] bcast_S_S40x11 : (⟨S_, .f32⟩ : BufTy).Contents (Elt F) → (⟨S40x11, .f32⟩ : BufTy).Contents (Elt F)) cst_22

def mn_27_v63  : (⟨S40x11, .f32⟩ : BufTy).Contents (Elt F) :=
  let cst_23 : (⟨S_, .f32⟩ : BufTy).Contents (Elt F) := (constant S_ .f32 0x00000000#32)
  (broadcastInDim S40x11 ![] bcast_S_S40x11 : (⟨S_, .f32⟩ : BufTy).Contents (Elt F) → (⟨S40x11, .f32⟩ : BufTy).Contents (Elt F)) cst_23

def mn_27_v64  : (⟨S40x11, .f32⟩ : BufTy).Contents (Elt F) :=
  let cst_24 : (⟨S_, .f32⟩ : BufTy).Contents (Elt F) := (constant S_ .f32 0x00000000#32)
  (broadcastInDim S40x11 ![] bcast_S_S40x11 : (⟨S_, .f32⟩ : BufTy).Contents (Elt F) → (⟨S40x11, .f32⟩ : BufTy).Contents (Elt F)) cst_24

def mn_27_v65  : (⟨S40x1, .f32⟩ : BufTy).Contents (Elt F) :=
  let cst_25 : (⟨S_, .f32⟩ : BufTy).Contents (Elt F) := (constant S_ .f32 0xC3960000#32)
  (broadcastInDim S40x1 ![] bcast_S_S40x1 : (⟨S_, .f32⟩ : BufTy).Contents (Elt F) → (⟨S40x1, .f32⟩ : BufTy).Contents (Elt F)) cst_25

def mn_27_v66  : (⟨S40x1, .f32⟩ : BufTy).Contents (Elt F) :=
  let cst_26 : (⟨S_, .f32⟩ : BufTy).Contents (Elt F) := (constant S_ .f32 0x00000000#32)
  (broadcastInDim S40x1 ![] bcast_S_S40x1 : (⟨S_, .f32⟩ : BufTy).Contents (Elt F) → (⟨S40x1, .f32⟩ : BufTy).Contents (Elt F)) cst_26

def mn_27_v67  : (⟨S2048x40x12, .f32⟩ : BufTy).Contents (Elt F) :=
  let cst_27 : (⟨S_, .f32⟩ : BufTy).Contents (Elt F) := (constant S_ .f32 0x00000000#32)
  (broadcastInDim S2048x40x12 ![] bcast_S_S2048x40x12 : (⟨S_, .f32⟩ : BufTy).Contents (Elt F) → (⟨S2048x40x12, .f32⟩ : BufTy).Contents (Elt F)) cst_27

def mn_27_v68  : (⟨S2048x40x11, .f32⟩ : BufTy).Contents (Elt F) :=
  let cst_28 : (⟨S_, .f32⟩ : BufTy).Contents (Elt F) := (constant S_ .f32 0x00000000#32)
  (broadcastInDim S2048x40x11 ![] bcast_S_S2048x40x11 : (⟨S_, .f32⟩ : BufTy).Contents (Elt F) → (⟨S2048x40x11, .f32⟩ : BufTy).Contents (Elt F)) cst_28

def mn_27_v69  : (⟨S2048x40x11, .f32⟩ : BufTy).Contents (Elt F) :=
  let cst_29 : (⟨S_, .f32⟩ : BufTy).Contents (Elt F) := (constant S_ .f32 0x00000000#32)
  (broadcastInDim S2048x40x11 ![] bcast_S_S2048x40x11 : (⟨S_, .f32⟩ : BufTy).Contents (Elt F) → (⟨S2048x40x11, .f32⟩ : BufTy).Contents (Elt F)) cst_29

def mn_28_v70_0 (v59 : (⟨S2048x40, .f32⟩ : BufTy).Contents (Elt F)) : (⟨S2048x40, .f32⟩ : BufTy).Contents (Elt F) :=
  id v59

def mn_28_v70_1 (v60 : (⟨S2048x40, .f32⟩ : BufTy).Contents (Elt F)) : (⟨S2048x40, .f32⟩ : BufTy).Contents (Elt F) :=
  id v60

def mn_28_v70_2 (v65 : (⟨S40x1, .f32⟩ : BufTy).Contents (Elt F)) : (⟨S40x1, .f32⟩ : BufTy).Contents (Elt F) :=
  id v65

def mn_28_v70_3 (v61 : (⟨S40x11, .f32⟩ : BufTy).Contents (Elt F)) : (⟨S40x11, .f32⟩ : BufTy).Contents (Elt F) :=
  id v61

def mn_28_v70_4 (v62 : (⟨S40x11, .f32⟩ : BufTy).Contents (Elt F)) : (⟨S40x11, .f32⟩ : BufTy).Contents (Elt F) :=
  id v62

def mn_28_v70_5 (v63 : (⟨S40x11, .f32⟩ : BufTy).Contents (Elt F)) : (⟨S40x11, .f32⟩ : BufTy).Contents (Elt F) :=
  id v63

def mn_28_v70_6 (v64 : (⟨S40x11, .f32⟩ : BufTy).Contents (Elt F)) : (⟨S40x11, .f32⟩ : BufTy).Contents (Elt F) :=
  id v64

def mn_28_v70_7  : (⟨S_, .i32⟩ : BufTy).Contents (Elt F) :=
  let c_30 : (⟨S_, .i32⟩ : BufTy).Contents (Elt F) := (constantI S_ 32 0#32)
  id c_30

def mn_28_v70_8 (v58 : (⟨S40x12, .f32⟩ : BufTy).Contents (Elt F)) : (⟨S40x12, .f32⟩ : BufTy).Contents (Elt F) :=
  id v58

def mn_28_v70_9 (v67 : (⟨S2048x40x12, .f32⟩ : BufTy).Contents (Elt F)) : (⟨S2048x40x12, .f32⟩ : BufTy).Contents (Elt F) :=
  id v67

def mn_28_v70_10 (v68 : (⟨S2048x40x11, .f32⟩ : BufTy).Contents (Elt F)) : (⟨S2048x40x11, .f32⟩ : BufTy).Contents (Elt F) :=
  id v68

def mn_28_v70_11 (v69 : (⟨S2048x40x11, .f32⟩ : BufTy).Contents (Elt F)) : (⟨S2048x40x11, .f32⟩ : BufTy).Contents (Elt F) :=
  id v69

def mn_30_v84  : (⟨S2048x40x12, .f32⟩ : BufTy).Contents (Elt F) :=
  let cst_34 : (⟨S_, .f32⟩ : BufTy).Contents (Elt F) := (constant S_ .f32 0x3F800000#32)
  let v79 : (⟨S40, .f32⟩ : BufTy).Contents (Elt F) := (broadcastInDim S40 ![] bcast_S_S40 : (⟨S_, .f32⟩ : BufTy).Contents (Elt F) → (⟨S40, .f32⟩ : BufTy).Contents (Elt F)) cst_34
  let v80 : (⟨S40x1x1, .f32⟩ : BufTy).Contents (Elt F) := (broadcastInDim S40x1x1 ![0] bcast_S40_S40x1x1_0 : (⟨S40, .f32⟩ : BufTy).Contents (Elt F) → (⟨S40x1x1, .f32⟩ : BufTy).Contents (Elt F)) v79
  let cst_35 : (⟨S_, .f32⟩ : BufTy).Contents (Elt F) := (constant S_ .f32 0x00000000#32)
  let v81 : (⟨S40x2049x12, .f32⟩ : BufTy).Contents (Elt F) := ((fun x v => pad S40x2049x12 ![0, 2048, 11] ![0, 0, 0] ![0, 0, 0] x v pads_S40x1x1_S40x2049x12_000_204800_1100 h_S_) : (⟨S40x1x1, .f32⟩ : BufTy).Contents (Elt F) → (⟨S_, .f32⟩ : BufTy).Contents (Elt F) → (⟨S40x2049x12, .f32⟩ : BufTy).Contents (Elt F)) v80 cst_35
  let v83 : (⟨S40x2048x12, .f32⟩ : BufTy).Contents (Elt F) := ((extractStridedSlice S40x2048x12 ![0, 1, 0] · slices_S40x2049x12_S40x2048x12_0_1_0) : (⟨S40x2049x12, .f32⟩ : BufTy).Contents (Elt F) → (⟨S40x2048x12, .f32⟩ : BufTy).Contents (Elt F)) v81
  ((transpose S2048x40x12 [1, 0, 2] · transposes_S40x2048x12_S2048x40x12_1_0_2) : (⟨S40x2048x12, .f32⟩ : BufTy).Contents (Elt F) → (⟨S2048x40x12, .f32⟩ : BufTy).Contents (Elt F)) v83

def mn_31_v88_0 (v84 : (⟨S2048x40x12, .f32⟩ : BufTy).Contents (Elt F)) : (⟨S2048x40x12, .f32⟩ : BufTy).Contents (Elt F) :=
  id v84

def mn_31_v88_1 (v70_10 : (⟨S2048x40x11, .f32⟩ : BufTy).Contents (Elt F)) : (⟨S2048x40x11, .f32⟩ : BufTy).Contents (Elt F) :=
  id v70_10

def mn_31_v88_2 (v70_11 : (⟨S2048x40x11, .f32⟩ : BufTy).Contents (Elt F)) : (⟨S2048x40x11, .f32⟩ : BufTy).Contents (Elt F) :=
  id v70_11

def mn_31_v88_3 (v66 : (⟨S40x1, .f32⟩ : BufTy).Contents (Elt F)) : (⟨S40x1, .f32⟩ : BufTy).Contents (Elt F) :=
  id v66

def mn_31_v88_4  : (⟨S_, .i32⟩ : BufTy).Contents (Elt F) :=
  let c_39 : (⟨S_, .i32⟩ : BufTy).Contents (Elt F) := (constantI S_ 32 0#32)
  id c_39

def mn_31_v88_5  : (⟨S40x12, .f32⟩ : BufTy).Contents (Elt F) :=
  let cst_36 : (⟨S_, .f32⟩ : BufTy).Contents (Elt F) := (constant S_ .f32 0x00000000#32)
  let v85 : (⟨S40x12, .f32⟩ : BufTy).Contents (Elt F) := (broadcastInDim S40x12 ![] bcast_S_S40x12 : (⟨S_, .f32⟩ : BufTy).Contents (Elt F) → (⟨S40x12, .f32⟩ : BufTy).Contents (Elt F)) cst_36
  id v85

def mn_31_v88_6  : (⟨S2048x40, .f32⟩ : BufTy).Contents (Elt F) :=
  let cst_37 : (⟨S_, .f32⟩ : BufTy).Contents (Elt F) := (constant S_ .f32 0x00000000#32)
  let v86 : (⟨S2048x40, .f32⟩ : BufTy).Contents (Elt F) := (broadcastInDim S2048x40 ![] bcast_S_S2048x40 : (⟨S_, .f32⟩ : BufTy).Contents (Elt F) → (⟨S2048x40, .f32⟩ : BufTy).Contents (Elt F)) cst_37
  id v86

def mn_31_v88_7  : (⟨S2048x40, .f32⟩ : BufTy).Contents (Elt F) :=
  let cst_38 : (⟨S_, .f32⟩ : BufTy).Contents (Elt F) := (constant S_ .f32 0x00000000#32)
  let v87 : (⟨S2048x40, .f32⟩ : BufTy).Contents (Elt F) := (broadcastInDim S2048x40 ![] bcast_S_S2048x40 : (⟨S_, .f32⟩ : BufTy).Contents (Elt F) → (⟨S2048x40, .f32⟩ : BufTy).Contents (Elt F)) cst_38
  id v87

def mn_33_v89 (v88_7 : (⟨S2048x40, .f32⟩ : BufTy).Contents (Elt F)) : (⟨S40x2048, .f32⟩ : BufTy).Contents (Elt F) :=
  ((transpose S40x2048 [1, 0] · transposes_S2048x40_S40x2048_1_0) : (⟨S2048x40, .f32⟩ : BufTy).Contents (Elt F) → (⟨S40x2048, .f32⟩ : BufTy).Contents (Elt F)) v88_7

def mn_33_v90 (v88_6 : (⟨S2048x40, .f32⟩ : BufTy).Contents (Elt F)) : (⟨S40x2048, .f32⟩ : BufTy).Contents (Elt F) :=
  ((transpose S40x2048 [1, 0] · transposes_S2048x40_S40x2048_1_0) : (⟨S2048x40, .f32⟩ : BufTy).Contents (Elt F) → (⟨S40x2048, .f32⟩ : BufTy).Contents (Elt F)) v88_6

def mn_34_v91_1 (v42 : (⟨S40x2048, .i1⟩ : BufTy).Contents (Elt F)) (v89 : (⟨S40x2048, .f32⟩ : BufTy).Contents (Elt F)) : (⟨S40x2048, .f32⟩ : BufTy).Contents (Elt F) :=
  fn_where_17_f0 v42 v89

def mn_34_v91_0 (v42 : (⟨S40x2048, .i1⟩ : BufTy).Contents (Elt F)) (v89 : (⟨S40x2048, .f32⟩ : BufTy).Contents (Elt F)) : (⟨S40x2048, .f32⟩ : BufTy).Contents (Elt F) :=
  fn_where_17_f1 v42 v89

def mn_35_v94 (v91_1 : (⟨S40x2048, .f32⟩ : BufTy).Contents (Elt F)) (v53 : (⟨S40x2048, .f32⟩ : BufTy).Contents (Elt F)) (v49 : (⟨S40x2048, .f32⟩ : BufTy).Contents (Elt F)) : (⟨S40x2048, .f32⟩ : BufTy).Contents (Elt F) :=
  let v92 : (⟨S40x2048, .f32⟩ : BufTy).Contents (Elt F) := (Host.divf : (⟨S40x2048, .f32⟩ : BufTy).Contents (Elt F) → (⟨S40x2048, .f32⟩ : BufTy).Contents (Elt F) → (⟨S40x2048, .f32⟩ : BufTy).Contents (Elt F)) v91_1 v53
  let v93 : (⟨S40x2048, .f32⟩ : BufTy).Contents (Elt F) := (Host.negf : (⟨S40x2048, .f32⟩ : BufTy).Contents (Elt F) → (⟨S40x2048, .f32⟩ : BufTy).Contents (Elt F)) v92
  (mulf : (⟨S40x2048, .f32⟩ : BufTy).Contents (Elt F) → (⟨S40x2048, .f32⟩ : BufTy).Contents (Elt F) → (⟨S40x2048, .f32⟩ : BufTy).Contents (Elt F)) v93 v49

def mn_35_v97 (v91_0 : (⟨S40x2048, .f32⟩ : BufTy).Contents (Elt F)) (v47 : (⟨S40x2048, .f32⟩ : BufTy).Contents (Elt F)) (v46 : (⟨S40x2048, .f32⟩ : BufTy).Contents (Elt F)) : (⟨S40x2048, .f32⟩ : BufTy).Contents (Elt F) :=
  let v95 : (⟨S40x2048, .f32⟩ : BufTy).Contents (Elt F) := (Host.divf : (⟨S40x2048, .f32⟩ : BufTy).Contents (Elt F) → (⟨S40x2048, .f32⟩ : BufTy).Contents (Elt F) → (⟨S40x2048, .f32⟩ : BufTy).Contents (Elt F)) v91_0 v47
  let v96 : (⟨S40x2048, .f32⟩ : BufTy).Contents (Elt F) := (Host.negf : (⟨S40x2048, .f32⟩ : BufTy).Contents (Elt F) → (⟨S40x2048, .f32⟩ : BufTy).Contents (Elt F)) v95
  (mulf : (⟨S40x2048, .f32⟩ : BufTy).Contents (Elt F) → (⟨S40x2048, .f32⟩ : BufTy).Contents (Elt F) → (⟨S40x2048, .f32⟩ : BufTy).Contents (Elt F)) v96 v46

def mn_36_v98 (v42 : (⟨S40x2048, .i1⟩ : BufTy).Contents (Elt F)) (v44_1 : (⟨S40x2048, .f32⟩ : BufTy).Contents (Elt F)) (v94 : (⟨S40x2048, .f32⟩ : BufTy).Contents (Elt F)) : (⟨S40x2048, .f32⟩ : BufTy).Contents (Elt F) :=
  fn_where_18_f v42 v44_1 v94

def mn_37_v99 (v90 : (⟨S40x2048, .f32⟩ : BufTy).Contents (Elt F)) (v98 : (⟨S40x2048, .f32⟩ : BufTy).Contents (Elt F)) : (⟨S40x2048, .f32⟩ : BufTy).Contents (Elt F) :=
  (addf : (⟨S40x2048, .f32⟩ : BufTy).Contents (Elt F) → (⟨S40x2048, .f32⟩ : BufTy).Contents (Elt F) → (⟨S40x2048, .f32⟩ : BufTy).Contents (Elt F)) v90 v98

def mn_38_v100 (v42 : (⟨S40x2048, .i1⟩ : BufTy).Contents (Elt F)) (v43_1 : (⟨S40x2048, .f32⟩ : BufTy).Contents (Elt F)) (v97 : (⟨S40x2048, .f32⟩ : BufTy).Contents (Elt F)) : (⟨S40x2048, .f32⟩ : BufTy).Contents (Elt F) :=
  fn_where_19_f v42 v43_1 v97

def mn_39_v101 (v99 : (⟨S40x2048, .f32⟩ : BufTy).Contents (Elt F)) (v100 : (⟨S40x2048, .f32⟩ : BufTy).Contents (Elt F)) : (⟨S40x2048, .f32⟩ : BufTy).Contents (Elt F) :=
  (addf : (⟨S40x2048, .f32⟩ : BufTy).Contents (Elt F) → (⟨S40x2048, .f32⟩ : BufTy).Contents (Elt F) → (⟨S40x2048, .f32⟩ : BufTy).Contents (Elt F)) v99 v100

def mn_40_v104 (v37 : (⟨S40x2048, .f32⟩ : BufTy).Contents (Elt F)) (v101 : (⟨S40x2048, .f32⟩ : BufTy).Contents (Elt F)) : (⟨S40x2048x1, .f32⟩ : BufTy).Contents (Elt F) :=
  let v102 : (⟨S40x2048, .f32⟩ : BufTy).Contents (Elt F) := (subf : (⟨S40x2048, .f32⟩ : BufTy).Contents (Elt F) → (⟨S40x2048, .f32⟩ : BufTy).Contents (Elt F) → (⟨S40x2048, .f32⟩ : BufTy).Contents (Elt F)) v37 v101
  let v103 : (⟨S40x2048, .f32⟩ : BufTy).Contents (Elt F) := (addf : (⟨S40x2048, .f32⟩ : BufTy).Contents (Elt F) → (⟨S40x2048, .f32⟩ : BufTy).Contents (Elt F) → (⟨S40x2048, .f32⟩ : BufTy).Contents (Elt F)) v102 v101
  (broadcastInDim S40x2048x1 ![0, 1] bcast_S40x2048_S40x2048x1_0_1 : (⟨S40x2048, .f32⟩ : BufTy).Contents (Elt F) → (⟨S40x2048x1, .f32⟩ : BufTy).Contents (Elt F)) v103

def wa_0_v39 (v22_0 : (⟨S2048x40, .f32⟩ : BufTy).Contents (Elt F)) (v22_2 : (⟨S_, .i32⟩ : BufTy).Contents (Elt F)) : (⟨S40, .f32⟩ : BufTy).Contents (Elt F) :=
  fn_dynamic_index_in_dim_f v22_0 v22_2

def wa_1_v40 (v22_1 : (⟨S2048x40, .f32⟩ : BufTy).Contents (Elt F)) (v22_2 : (⟨S_, .i32⟩ : BufTy).Contents (Elt F)) : (⟨S40, .f32⟩ : BufTy).Contents (Elt F) :=
  fn_dynamic_index_in_dim_f v22_1 v22_2

def wa_2_v58 (v22_3 : (⟨S40x12, .f32⟩ : BufTy).Contents (Elt F)) (v39 : (⟨S40, .f32⟩ : BufTy).Contents (Elt F)) (v40 : (⟨S40, .f32⟩ : BufTy).Contents (Elt F)) : (⟨S40x11, .f32⟩ : BufTy).Contents (Elt F) :=
  let v41 : (⟨S40x11, .f32⟩ : BufTy).Contents (Elt F) := ((extractStridedSlice S40x11 ![0, 0] · slices_S40x12_S40x11_0_0) : (⟨S40x12, .f32⟩ : BufTy).Contents (Elt F) → (⟨S40x11, .f32⟩ : BufTy).Contents (Elt F)) v22_3
  let v42 : (⟨S40x1, .f32⟩ : BufTy).Contents (Elt F) := (broadcastInDim S40x1 ![0] bcast_S40_S40x1_0 : (⟨S40, .f32⟩ : BufTy).Contents (Elt F) → (⟨S40x1, .f32⟩ : BufTy).Contents (Elt F)) v39
  let v43 : (⟨S40x11, .f32⟩ : BufTy).Contents (Elt F) := (broadcastInDim S40x11 ![0, 1] bcast_S40x1_S40x11_0_1 : (⟨S40x1, .f32⟩ : BufTy).Contents (Elt F) → (⟨S40x11, .f32⟩ : BufTy).Contents (Elt F)) v42
  let v44 : (⟨S40x11, .f32⟩ : BufTy).Contents (Elt F) := (addf : (⟨S40x11, .f32⟩ : BufTy).Contents (Elt F) → (⟨S40x11, .f32⟩ : BufTy).Contents (Elt F) → (⟨S40x11, .f32⟩ : BufTy).Contents (Elt F)) v41 v43
  let v45 : (⟨S40x11, .f32⟩ : BufTy).Contents (Elt F) := ((extractStridedSlice S40x11 ![0, 1] · slices_S40x12_S40x11_0_1) : (⟨S40x12, .f32⟩ : BufTy).Contents (Elt F) → (⟨S40x11, .f32⟩ : BufTy).Contents (Elt F)) v22_3
  let v46 : (⟨S40x1, .f32⟩ : BufTy).Contents (Elt F) := (broadcastInDim S40x1 ![0] bcast_S40_S40x1_0 : (⟨S40, .f32⟩ : BufTy).Contents (Elt F) → (⟨S40x1, .f32⟩ : BufTy).Contents (Elt F)) v40
  let v47 : (⟨S40x11, .f32⟩ : BufTy).Contents (Elt F) := (broadcastInDim S40x11 ![0, 1] bcast_S40x1_S40x11_0_1 : (⟨S40x1, .f32⟩ : BufTy).Contents (Elt F) → (⟨S40x11, .f32⟩ : BufTy).Contents (Elt F)) v46
  let v48 : (⟨S40x11, .f32⟩ : BufTy).Contents (Elt F) := (addf : (⟨S40x11, .f32⟩ : BufTy).Contents (Elt F) → (⟨S40x11, .f32⟩ : BufTy).Contents (Elt F) → (⟨S40x11, .f32⟩ : BufTy).Contents (Elt F)) v45 v47
  let v49 : (⟨S40x11, .f32⟩ : BufTy).Contents (Elt F) := (maximumf : (⟨S40x11, .f32⟩ : BufTy).Contents (Elt F) → (⟨S40x11, .f32⟩ : BufTy).Contents (Elt F) → (⟨S40x11, .f32⟩ : BufTy).Contents (Elt F)) v44 v48
  let v50 : (⟨S40x11, .f32⟩ : BufTy).Contents (Elt F) := (subf : (⟨S40x11, .f32⟩ : BufTy).Contents (Elt F) → (⟨S40x11, .f32⟩ : BufTy).Contents (Elt F) → (⟨S40x11, .f32⟩ : BufTy).Contents (Elt F)) v44 v48
  let v51 : (⟨S40x11, .i1⟩ : BufTy).Contents (Elt F) := (cmpf .une : (⟨S40x11, .f32⟩ : BufTy).Contents (Elt F) → (⟨S40x11, .f32⟩ : BufTy).Contents (Elt F) → (⟨S40x11, .i1⟩ : BufTy).Contents (Elt F)) v50 v50
  let v52 : (⟨S40x11, .f32⟩ : BufTy).Contents (Elt F) := (addf : (⟨S40x11, .f32⟩ : BufTy).Contents (Elt F) → (⟨S40x11, .f32⟩ : BufTy).Contents (Elt F) → (⟨S40x11, .f32⟩ : BufTy).Contents (Elt F)) v44 v48
  let v53 : (⟨S40x11, .f32⟩ : BufTy).Contents (Elt F) := (Host.absf : (⟨S40x11, .f32⟩ : BufTy).Contents (Elt F) → (⟨S40x11, .f32⟩ : BufTy).Contents (Elt F)) v50
  let v54 : (⟨S40x11, .f32⟩ : BufTy).Contents (Elt F) := (Host.negf : (⟨S40x11, .f32⟩ : BufTy).Contents (Elt F) → (⟨S40x11, .f32⟩ : BufTy).Contents (Elt F)) v53
  let v55 : (⟨S40x11, .f32⟩ : BufTy).Contents (Elt F) := (Host.exp : (⟨S40x11, .f32⟩ : BufTy).Contents (Elt F) → (⟨S40x11, .f32⟩ : BufTy).Contents (Elt F)) v54
  let v56 : (⟨S40x11, .f32⟩ : BufTy).Contents (Elt F) := (Host.log1p : (⟨S40x11, .f32⟩ : BufTy).Contents (Elt F) → (⟨S40x11, .f32⟩ : BufTy).Contents (Elt F)) v55
  let v57 : (⟨S40x11, .f32⟩ : BufTy).Contents (Elt F) := (addf : (⟨S40x11, .f32⟩ : BufTy).Contents (Elt F) → (⟨S40x11, .f32⟩ : BufTy).Contents (Elt F) → (⟨S40x11, .f32⟩ : BufTy).Contents (Elt F)) v49 v56
  (select : (⟨S40x11, .i1⟩ : BufTy).Contents (Elt F) → (⟨S40x11, .f32⟩ : BufTy).Contents (Elt F) → (⟨S40x11, .f32⟩ : BufTy).Contents (Elt F) → (⟨S40x11, .f32⟩ : BufTy).Contents (Elt F)) v51 v52 v57

def wa_3_v59  : (⟨S40x1, .f32⟩ : BufTy).Contents (Elt F) :=
  let cst_17 : (⟨S_, .f32⟩ : BufTy).Contents (Elt F) := (constant S_ .f32 0xC3960000#32)
  (broadcastInDim S40x1 ![] bcast_S_S40x1 : (⟨S_, .f32⟩ : BufTy).Contents (Elt F) → (⟨S40x1, .f32⟩ : BufTy).Contents (Elt F)) cst_17

def wa_4_v60 (v59 : (⟨S40x1, .f32⟩ : BufTy).Contents (Elt F)) (v58 : (⟨S40x11, .f32⟩ : BufTy).Contents (Elt F)) : (⟨S40x12, .f32⟩ : BufTy).Contents (Elt F) :=
  ((fun a b => concatenate S40x12 1 [⟨S40x1, a⟩, ⟨S40x11, b⟩] concatenates_S40x1_S40x11_S40x12_d1) : (⟨S40x1, .f32⟩ : BufTy).Contents (Elt F) → (⟨S40x11, .f32⟩ : BufTy).Contents (Elt F) → (⟨S40x12, .f32⟩ : BufTy).Contents (Elt F)) v59 v58

def wa_5_v61 (v22_4 : (⟨S2048x40x12, .f32⟩ : BufTy).Contents (Elt F)) (v60 : (⟨S40x12, .f32⟩ : BufTy).Contents (Elt F)) (v22_2 : (⟨S_, .i32⟩ : BufTy).Contents (Elt F)) : (⟨S2048x40x12, .f32⟩ : BufTy).Contents (Elt F) :=
  fn_dynamic_update_index_in_dim_f v22_4 v60 v22_2

def wa_6_v22_2 (v22_2 : (⟨S_, .i32⟩ : BufTy).Contents (Elt F)) : (⟨S_, .i32⟩ : BufTy).Contents (Elt F) :=
  let c_18 : (⟨S_, .i32⟩ : BufTy).Contents (Elt F) := (constantI S_ 32 1#32)
  let v62 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) v22_2 c_18
  id v62

def wa_6_v22_3 (v60 : (⟨S40x12, .f32⟩ : BufTy).Contents (Elt F)) : (⟨S40x12, .f32⟩ : BufTy).Contents (Elt F) :=
  id v60

def wa_6_v22_4 (v61 : (⟨S2048x40x12, .f32⟩ : BufTy).Contents (Elt F)) : (⟨S2048x40x12, .f32⟩ : BufTy).Contents (Elt F) :=
  id v61

def wb_0_v39 (v34_0 : (⟨S2048, .i32⟩ : BufTy).Contents (Elt F)) (v34_5 : (⟨S_, .i32⟩ : BufTy).Contents (Elt F)) : (⟨S_, .i32⟩ : BufTy).Contents (Elt F) :=
  fn_dynamic_index_in_dim_2_f v34_0 v34_5

def wb_1_v40 (v34_1 : (⟨S2048x40, .f32⟩ : BufTy).Contents (Elt F)) (v34_5 : (⟨S_, .i32⟩ : BufTy).Contents (Elt F)) : (⟨S40, .f32⟩ : BufTy).Contents (Elt F) :=
  fn_dynamic_index_in_dim_3_f v34_1 v34_5

def wb_2_v44 (v39 : (⟨S_, .i32⟩ : BufTy).Contents (Elt F)) : (⟨S40, .i32⟩ : BufTy).Contents (Elt F) :=
  let c_20 : (⟨S_, .i32⟩ : BufTy).Contents (Elt F) := (constantI S_ 32 0#32)
  let v41 : (⟨S40, .i32⟩ : BufTy).Contents (Elt F) := (broadcastInDim S40 ![] bcast_S_S40 : (⟨S_, .i32⟩ : BufTy).Contents (Elt F) → (⟨S40, .i32⟩ : BufTy).Contents (Elt F)) c_20
  let c_21 : (⟨S_, .i32⟩ : BufTy).Contents (Elt F) := (constantI S_ 32 1#32)
  let v42 : (⟨S_, .i32⟩ : BufTy).Contents (Elt F) := (subi : (⟨S_, .i32⟩ : BufTy).Contents (Elt F) → (⟨S_, .i32⟩ : BufTy).Contents (Elt F) → (⟨S_, .i32⟩ : BufTy).Contents (Elt F)) v39 c_21
  let v43 : (⟨S40, .i32⟩ : BufTy).Contents (Elt F) := (broadcastInDim S40 ![] bcast_S_S40 : (⟨S_, .i32⟩ : BufTy).Contents (Elt F) → (⟨S40, .i32⟩ : BufTy).Contents (Elt F)) v42
  (addi : (⟨S40, .i32⟩ : BufTy).Contents (Elt F) → (⟨S40, .i32⟩ : BufTy).Contents (Elt F) → (⟨S40, .i32⟩ : BufTy).Contents (Elt F)) v41 v43

def wb_3_v64 (v34_2 : (⟨S40, .i32⟩ : BufTy).Contents (Elt F)) : (⟨S40x1, .i32⟩ : BufTy).Contents (Elt F) :=
  let c_24 : (⟨S_, .i32⟩ : BufTy).Contents (Elt F) := (constantI S_ 32 0#32)
  let v49 : (⟨S40, .i32⟩ : BufTy).Contents (Elt F) := (broadcastInDim S40 ![] bcast_S_S40 : (⟨S_, .i32⟩ : BufTy).Contents (Elt F) → (⟨S40, .i32⟩ : BufTy).Contents (Elt F)) c_24
  let v50 : (⟨S40, .i1⟩ : BufTy).Contents (Elt F) := (cmpi .slt : (⟨S40, .i32⟩ : BufTy).Contents (Elt F) → (⟨S40, .i32⟩ : BufTy).Contents (Elt F) → (⟨S40, .i1⟩ : BufTy).Contents (Elt F)) v34_2 v49
  let c_25 : (⟨S_, .i32⟩ : BufTy).Contents (Elt F) := (constantI S_ 32 40#32)
  let v51 : (⟨S40, .i32⟩ : BufTy).Contents (Elt F) := (broadcastInDim S40 ![] bcast_S_S40 : (⟨S_, .i32⟩ : BufTy).Contents (Elt F) → (⟨S40, .i32⟩ : BufTy).Contents (Elt F)) c_25
  let v52 : (⟨S40, .i32⟩ : BufTy).Contents (Elt F) := (addi : (⟨S40, .i32⟩ : BufTy).Contents (Elt F) → (⟨S40, .i32⟩ : BufTy).Contents (Elt F) → (⟨S40, .i32⟩ : BufTy).Contents (Elt F)) v34_2 v51
  let v53 : (⟨S40, .i32⟩ : BufTy).Contents (Elt F) := (select : (⟨S40, .i1⟩ : BufTy).Contents (Elt F) → (⟨S40, .i32⟩ : BufTy).Contents (Elt F) → (⟨S40, .i32⟩ : BufTy).Contents (Elt F) → (⟨S40, .i32⟩ : BufTy).Contents (Elt F)) v50 v52 v34_2
  (broadcastInDim S40x1 ![0] bcast_S40_S40x1_0 : (⟨S40, .i32⟩ : BufTy).Contents (Elt F) → (⟨S40x1, .i32⟩ : BufTy).Contents (Elt F)) v53

def wb_3_v65 (v44 : (⟨S40, .i32⟩ : BufTy).Contents (Elt F)) : (⟨S40x1, .i32⟩ : BufTy).Contents (Elt F) :=
  let c_26 : (⟨S_, .i32⟩ : BufTy).Contents (Elt F) := (constantI S_ 32 0#32)
  let v54 : (⟨S40, .i32⟩ : BufTy).Contents (Elt F) := (broadcastInDim S40 ![] bcast_S_S40 : (⟨S_, .i32⟩ : BufTy).Contents (Elt F) → (⟨S40, .i32⟩ : BufTy).Contents (Elt F)) c_26
  let v55 : (⟨S40, .i1⟩ : BufTy).Contents (Elt F) := (cmpi .slt : (⟨S40, .i32⟩ : BufTy).Contents (Elt F) → (⟨S40, .i32⟩ : BufTy).Contents (Elt F) → (⟨S40, .i1⟩ : BufTy).Contents (Elt F)) v44 v54
  let c_27 : (⟨S_, .i32⟩ : BufTy).Contents (Elt F) := (constantI S_ 32 2049#32)
  let v56 : (⟨S40, .i32⟩ : BufTy).Contents (Elt F) := (broadcastInDim S40 ![] bcast_S_S40 : (⟨S_, .i32⟩ : BufTy).Contents (Elt F) → (⟨S40, .i32⟩ : BufTy).Contents (Elt F)) c_27
  let v57 : (⟨S40, .i32⟩ : BufTy).Contents (Elt F) := (addi : (⟨S40, .i32⟩ : BufTy).Contents (Elt F) → (⟨S40, .i32⟩ : BufTy).Contents (Elt F) → (⟨S40, .i32⟩ : BufTy).Contents (Elt F)) v44 v56
  let v58 : (⟨S40, .i32⟩ : BufTy).Contents (Elt F) := (select : (⟨S40, .i1⟩ : BufTy).Contents (Elt F) → (⟨S40, .i32⟩ : BufTy).Contents (Elt F) → (⟨S40, .i32⟩ : BufTy).Contents (Elt F) → (⟨S40, .i32⟩ : BufTy).Contents (Elt F)) v55 v57 v44
  (broadcastInDim S40x1 ![0] bcast_S40_S40x1_0 : (⟨S40, .i32⟩ : BufTy).Contents (Elt F) → (⟨S40x1, .i32⟩ : BufTy).Contents (Elt F)) v58

def wb_3_v66 (v34_6 : (⟨S40, .i32⟩ : BufTy).Contents (Elt F)) : (⟨S40x1, .i32⟩ : BufTy).Contents (Elt F) :=
  let c_22 : (⟨S_, .i32⟩ : BufTy).Contents (Elt F) := (constantI S_ 32 1#32)
  let v45 : (⟨S40, .i32⟩ : BufTy).Contents (Elt F) := (broadcastInDim S40 ![] bcast_S_S40 : (⟨S_, .i32⟩ : BufTy).Contents (Elt F) → (⟨S40, .i32⟩ : BufTy).Contents (Elt F)) c_22
  let v46 : (⟨S40, .i32⟩ : BufTy).Contents (Elt F) := (subi : (⟨S40, .i32⟩ : BufTy).Contents (Elt F) → (⟨S40, .i32⟩ : BufTy).Contents (Elt F) → (⟨S40, .i32⟩ : BufTy).Contents (Elt F)) v34_6 v45
  let c_23 : (⟨S_, .i32⟩ : BufTy).Contents (Elt F) := (constantI S_ 32 0#32)
  let v47 : (⟨S40, .i32⟩ : BufTy).Contents (Elt F) := (broadcastInDim S40 ![] bcast_S_S40 : (⟨S_, .i32⟩ : BufTy).Contents (Elt F) → (⟨S40, .i32⟩ : BufTy).Contents (Elt F)) c_23
  let v48 : (⟨S40, .i32⟩ : BufTy).Contents (Elt F) := (maxsi : (⟨S40, .i32⟩ : BufTy).Contents (Elt F) → (⟨S40, .i32⟩ : BufTy).Contents (Elt F) → (⟨S40, .i32⟩ : BufTy).Contents (Elt F)) v46 v47
  let c_28 : (⟨S_, .i32⟩ : BufTy).Contents (Elt F) := (constantI S_ 32 0#32)
  let v59 : (⟨S40, .i32⟩ : BufTy).Contents (Elt F) := (broadcastInDim S40 ![] bcast_S_S40 : (⟨S_, .i32⟩ : BufTy).Contents (Elt F) → (⟨S40, .i32⟩ : BufTy).Contents (Elt F)) c_28
  let v60 : (⟨S40, .i1⟩ : BufTy).Contents (Elt F) := (cmpi .slt : (⟨S40, .i32⟩ : BufTy).Contents (Elt F) → (⟨S40, .i32⟩ : BufTy).Contents (Elt F) → (⟨S40, .i1⟩ : BufTy).Contents (Elt F)) v48 v59
  let c_29 : (⟨S_, .i32⟩ : BufTy).Contents (Elt F) := (constantI S_ 32 12#32)
  let v61 : (⟨S40, .i32⟩ : BufTy).Contents (Elt F) := (broadcastInDim S40 ![] bcast_S_S40 : (⟨S_, .i32⟩ : BufTy).Contents (Elt F) → (⟨S40, .i32⟩ : BufTy).Contents (Elt F)) c_29
  let v62 : (⟨S40, .i32⟩ : BufTy).Contents (Elt F) := (addi : (⟨S40, .i32⟩ : BufTy).Contents (Elt F) → (⟨S40, .i32⟩ : BufTy).Contents (Elt F) → (⟨S40, .i32⟩ : BufTy).Contents (Elt F)) v48 v61
  let v63 : (⟨S40, .i32⟩ : BufTy).Contents (Elt F) := (select : (⟨S40, .i1⟩ : BufTy).Contents (Elt F) → (⟨S40, .i32⟩ : BufTy).Contents (Elt F) → (⟨S40, .i32⟩ : BufTy).Contents (Elt F) → (⟨S40, .i32⟩ : BufTy).Contents (Elt F)) v60 v62 v48
  (broadcastInDim S40x1 ![0] bcast_S40_S40x1_0 : (⟨S40, .i32⟩ : BufTy).Contents (Elt F) → (⟨S40x1, .i32⟩ : BufTy).Contents (Elt F)) v63

def wb_4_v67 (v64 : (⟨S40x1, .i32⟩ : BufTy).Contents (Elt F)) (v65 : (⟨S40x1, .i32⟩ : BufTy).Contents (Elt F)) (v66 : (⟨S40x1, .i32⟩ : BufTy).Contents (Elt F)) : (⟨S40x3, .i32⟩ : BufTy).Contents (Elt F) :=
  concatenate S40x3 1 [⟨S40x1, v64⟩, ⟨S40x1, v65⟩, ⟨S40x1, v66⟩] concatenates_S40x1_S40x1_S40x1_S40x3_d1

def wb_5_v68 (v34_3 : (⟨S40x2049x12, .f32⟩ : BufTy).Contents (Elt F)) (v67 : (⟨S40x3, .i32⟩ : BufTy).Contents (Elt F)) : (⟨S40, .f32⟩ : BufTy).Contents (Elt F) :=
  ((fun x i => Host.gather gather_S40x2049x12_S40x3_S40_n_012_n_n_012_1_111 x i) : (⟨S40x2049x12, .f32⟩ : BufTy).Contents (Elt F) → (⟨S40x3, .i32⟩ : BufTy).Contents (Elt F) → (⟨S40, .f32⟩ : BufTy).Contents (Elt F)) v34_3 v67

def wb_6_v88 (v34_2 : (⟨S40, .i32⟩ : BufTy).Contents (Elt F)) : (⟨S40x1, .i32⟩ : BufTy).Contents (Elt F) :=
  let c_32 : (⟨S_, .i32⟩ : BufTy).Contents (Elt F) := (constantI S_ 32 0#32)
  let v73 : (⟨S40, .i32⟩ : BufTy).Contents (Elt F) := (broadcastInDim S40 ![] bcast_S_S40 : (⟨S_, .i32⟩ : BufTy).Contents (Elt F) → (⟨S40, .i32⟩ : BufTy).Contents (Elt F)) c_32
  let v74 : (⟨S40, .i1⟩ : BufTy).Contents (Elt F) := (cmpi .slt : (⟨S40, .i32⟩ : BufTy).Contents (Elt F) → (⟨S40, .i32⟩ : BufTy).Contents (Elt F) → (⟨S40, .i1⟩ : BufTy).Contents (Elt F)) v34_2 v73
  let c_33 : (⟨S_, .i32⟩ : BufTy).Contents (Elt F) := (constantI S_ 32 40#32)
  let v75 : (⟨S40, .i32⟩ : BufTy).Contents (Elt F) := (broadcastInDim S40 ![] bcast_S_S40 : (⟨S_, .i32⟩ : BufTy).Contents (Elt F) → (⟨S40, .i32⟩ : BufTy).Contents (Elt F)) c_33
  let v76 : (⟨S40, .i32⟩ : BufTy).Contents (Elt F) := (addi : (⟨S40, .i32⟩ : BufTy).Contents (Elt F) → (⟨S40, .i32⟩ : BufTy).Contents (Elt F) → (⟨S40, .i32⟩ : BufTy).Contents (Elt F)) v34_2 v75
  let v77 : (⟨S40, .i32⟩ : BufTy).Contents (Elt F) := (select : (⟨S40, .i1⟩ : BufTy).Contents (Elt F) → (⟨S40, .i32⟩ : BufTy).Contents (Elt F) → (⟨S40, .i32⟩ : BufTy).Contents (Elt F) → (⟨S40, .i32⟩ : BufTy).Contents (Elt F)) v74 v76 v34_2
  (broadcastInDim S40x1 ![0] bcast_S40_S40x1_0 : (⟨S40, .i32⟩ : BufTy).Contents (Elt F) → (⟨S40x1, .i32⟩ : BufTy).Contents (Elt F)) v77

def wb_6_v89 (v44 : (⟨S40, .i32⟩ : BufTy).Contents (Elt F)) : (⟨S40x1, .i32⟩ : BufTy).Contents (Elt F) :=
  let c_30 : (⟨S_, .i32⟩ : BufTy).Contents (Elt F) := (constantI S_ 32 1#32)
  let v69 : (⟨S40, .i32⟩ : BufTy).Contents (Elt F) := (broadcastInDim S40 ![] bcast_S_S40 : (⟨S_, .i32⟩ : BufTy).Contents (Elt F) → (⟨S40, .i32⟩ : BufTy).Contents (Elt F)) c_30
  let v70 : (⟨S40, .i32⟩ : BufTy).Contents (Elt F) := (addi : (⟨S40, .i32⟩ : BufTy).Contents (Elt F) → (⟨S40, .i32⟩ : BufTy).Contents (Elt F) → (⟨S40, .i32⟩ : BufTy).Contents (Elt F)) v44 v69
  let c_34 : (⟨S_, .i32⟩ : BufTy).Contents (Elt F) := (constantI S_ 32 0#32)
  let v78 : (⟨S40, .i32⟩ : BufTy).Contents (Elt F) := (broadcastInDim S40 ![] bcast_S_S40 : (⟨S_, .i32⟩ : BufTy).Contents (Elt F) → (⟨S40, .i32⟩ : BufTy).Contents (Elt F)) c_34
  let v79 : (⟨S40, .i1⟩ : BufTy).Contents (Elt F) := (cmpi .slt : (⟨S40, .i32⟩ : BufTy).Contents (Elt F) → (⟨S40, .i32⟩ : BufTy).Contents (Elt F) → (⟨S40, .i1⟩ : BufTy).Contents (Elt F)) v70 v78
  let c_35 : (⟨S_, .i32⟩ : BufTy).Contents (Elt F) := (constantI S_ 32 2049#32)
  let v80 : (⟨S40, .i32⟩ : BufTy).Contents (Elt F) := (broadcastInDim S40 ![] bcast_S_S40 : (⟨S_, .i32⟩ : BufTy).Contents (Elt F) → (⟨S40, .i32⟩ : BufTy).Contents (Elt F)) c_35
  let v81 : (⟨S40, .i32⟩ : BufTy).Contents (Elt F) := (addi : (⟨S40, .i32⟩ : BufTy).Contents (Elt F) → (⟨S40, .i32⟩ : BufTy).Contents (Elt F) → (⟨S40, .i32⟩ : BufTy).Contents (Elt F)) v70 v80
  let v82 : (⟨S40, .i32⟩ : BufTy).Contents (Elt F) := (select : (⟨S40, .i1⟩ : BufTy).Contents (Elt F) → (⟨S40, .i32⟩ : BufTy).Contents (Elt F) → (⟨S40, .i32⟩ : BufTy).Contents (Elt F) → (⟨S40, .i32⟩ : BufTy).Contents (Elt F)) v79 v81 v70
  (broadcastInDim S40x1 ![0] bcast_S40_S40x1_0 : (⟨S40, .i32⟩ : BufTy).Contents (Elt F) → (⟨S40x1, .i32⟩ : BufTy).Contents (Elt F)) v82

def wb_6_v90 (v34_6 : (⟨S40, .i32⟩ : BufTy).Contents (Elt F)) : (⟨S40x1, .i32⟩ : BufTy).Contents (Elt F) :=
  let c_31 : (⟨S_, .i32⟩ : BufTy).Contents (Elt F) := (constantI S_ 32 0#32)
  let v71 : (⟨S40, .i32⟩ : BufTy).Contents (Elt F) := (broadcastInDim S40 ![] bcast_S_S40 : (⟨S_, .i32⟩ : BufTy).Contents (Elt F) → (⟨S40, .i32⟩ : BufTy).Contents (Elt F)) c_31
  let v72 : (⟨S40, .i32⟩ : BufTy).Contents (Elt F) := (maxsi : (⟨S40, .i32⟩ : BufTy).Contents (Elt F) → (⟨S40, .i32⟩ : BufTy).Contents (Elt F) → (⟨S40, .i32⟩ : BufTy).Contents (Elt F)) v34_6 v71
  let c_36 : (⟨S_, .i32⟩ : BufTy).Contents (Elt F) := (constantI S_ 32 0#32)
  let v83 : (⟨S40, .i32⟩ : BufTy).Contents (Elt F) := (broadcastInDim S40 ![] bcast_S_S40 : (⟨S_, .i32⟩ : BufTy).Contents (Elt F) → (⟨S40, .i32⟩ : BufTy).Contents (Elt F)) c_36
  let v84 : (⟨S40, .i1⟩ : BufTy).Contents (Elt F) := (cmpi .slt : (⟨S40, .i32⟩ : BufTy).Contents (Elt F) → (⟨S40, .i32⟩ : BufTy).Contents (Elt F) → (⟨S40, .i1⟩ : BufTy).Contents (Elt F)) v72 v83
  let c_37 : (⟨S_, .i32⟩ : BufTy).Contents (Elt F) := (constantI S_ 32 12#32)
  let v85 : (⟨S40, .i32⟩ : BufTy).Contents (Elt F) := (broadcastInDim S40 ![] bcast_S_S40 : (⟨S_, .i32⟩ : BufTy).Contents (Elt F) → (⟨S40, .i32⟩ : BufTy).Contents (Elt F)) c_37
  let v86 : (⟨S40, .i32⟩ : BufTy).Contents (Elt F) := (addi : (⟨S40, .i32⟩ : BufTy).Contents (Elt F) → (⟨S40, .i32⟩ : BufTy).Contents (Elt F) → (⟨S40, .i32⟩ : BufTy).Contents (Elt F)) v72 v85
  let v87 : (⟨S40, .i32⟩ : BufTy).Contents (Elt F) := (select : (⟨S40, .i1⟩ : BufTy).Contents (Elt F) → (⟨S40, .i32⟩ : BufTy).Contents (Elt F) → (⟨S40, .i32⟩ : BufTy).Contents (Elt F) → (⟨S40, .i32⟩ : BufTy).Contents (Elt F)) v84 v86 v72
  (broadcastInDim S40x1 ![0] bcast_S40_S40x1_0 : (⟨S40, .i32⟩ : BufTy).Contents (Elt F) → (⟨S40x1, .i32⟩ : BufTy).Contents (Elt F)) v87

def wb_7_v91 (v88 : (⟨S40x1, .i32⟩ : BufTy).Contents (Elt F)) (v89 : (⟨S40x1, .i32⟩ : BufTy).Contents (Elt F)) (v90 : (⟨S40x1, .i32⟩ : BufTy).Contents (Elt F)) : (⟨S40x3, .i32⟩ : BufTy).Contents (Elt F) :=
  concatenate S40x3 1 [⟨S40x1, v88⟩, ⟨S40x1, v89⟩, ⟨S40x1, v90⟩] concatenates_S40x1_S40x1_S40x1_S40x3_d1

def wb_8_v92 (v34_3 : (⟨S40x2049x12, .f32⟩ : BufTy).Contents (Elt F)) (v91 : (⟨S40x3, .i32⟩ : BufTy).Contents (Elt F)) : (⟨S40, .f32⟩ : BufTy).Contents (Elt F) :=
  ((fun x i => Host.gather gather_S40x2049x12_S40x3_S40_n_012_n_n_012_1_111 x i) : (⟨S40x2049x12, .f32⟩ : BufTy).Contents (Elt F) → (⟨S40x3, .i32⟩ : BufTy).Contents (Elt F) → (⟨S40, .f32⟩ : BufTy).Contents (Elt F)) v34_3 v91

def wb_9_v93 (v39 : (⟨S_, .i32⟩ : BufTy).Contents (Elt F)) : (⟨S_, .i32⟩ : BufTy).Contents (Elt F) :=
  let c_38 : (⟨S_, .i32⟩ : BufTy).Contents (Elt F) := (constantI S_ 32 1#32)
  (subi : (⟨S_, .i32⟩ : BufTy).Contents (Elt F) → (⟨S_, .i32⟩ : BufTy).Contents (Elt F) → (⟨S_, .i32⟩ : BufTy).Contents (Elt F)) v39 c_38

def wb_10_v94 (v34_4 : (⟨S40x2048, .f32⟩ : BufTy).Contents (Elt F)) (v93 : (⟨S_, .i32⟩ : BufTy).Contents (Elt F)) : (⟨S40, .f32⟩ : BufTy).Contents (Elt F) :=
  fn_take_f v34_4 v93

def wb_11_v98 (v68 : (⟨S40, .f32⟩ : BufTy).Contents (Elt F)) (v94 : (⟨S40, .f32⟩ : BufTy).Contents (Elt F)) (v92 : (⟨S40, .f32⟩ : BufTy).Contents (Elt F)) : (⟨S40, .f32⟩ : BufTy).Contents (Elt F) :=
  let v95 : (⟨S40, .f32⟩ : BufTy).Contents (Elt F) := (addf : (⟨S40, .f32⟩ : BufTy).Contents (Elt F) → (⟨S40, .f32⟩ : BufTy).Contents (Elt F) → (⟨S40, .f32⟩ : BufTy).Contents (Elt F)) v68 v94
  let v96 : (⟨S40, .f32⟩ : BufTy).Contents (Elt F) := (subf : (⟨S40, .f32⟩ : BufTy).Contents (Elt F) → (⟨S40, .f32⟩ : BufTy).Contents (Elt F) → (⟨S40, .f32⟩ : BufTy).Contents (Elt F)) v95 v92
  let cst_39 : (⟨S_, .f32⟩ : BufTy).Contents (Elt F) := (constant S_ .f32 0xB3D6BF95#32)
  let v97 : (⟨S40, .f32⟩ : BufTy).Contents (Elt F) := (broadcastInDim S40 ![] bcast_S_S40 : (⟨S_, .f32⟩ : BufTy).Contents (Elt F) → (⟨S40, .f32⟩ : BufTy).Contents (Elt F)) cst_39
  (minimumf : (⟨S40, .f32⟩ : BufTy).Contents (Elt F) → (⟨S40, .f32⟩ : BufTy).Contents (Elt F) → (⟨S40, .f32⟩ : BufTy).Contents (Elt F)) v96 v97

def wb_12_v100 (v98 : (⟨S40, .f32⟩ : BufTy).Contents (Elt F)) : (⟨S40, .i1⟩ : BufTy).Contents (Elt F) :=
  let cst_40 : (⟨S_, .f32⟩ : BufTy).Contents (Elt F) := (constant S_ .f32 0xBF317218#32)
  let v99 : (⟨S40, .f32⟩ : BufTy).Contents (Elt F) := (broadcastInDim S40 ![] bcast_S_S40 : (⟨S_, .f32⟩ : BufTy).Contents (Elt F) → (⟨S40, .f32⟩ : BufTy).Contents (Elt F)) cst_40
  (cmpf .ogt : (⟨S40, .f32⟩ : BufTy).Contents (Elt F) → (⟨S40, .f32⟩ : BufTy).Contents (Elt F) → (⟨S40, .i1⟩ : BufTy).Contents (Elt F)) v98 v99

def wb_12_cst_41  : (⟨S_, .f32⟩ : BufTy).Contents (Elt F) :=
  (constant S_ .f32 0xBF317218#32)

def wb_13_v101 (v100 : (⟨S40, .i1⟩ : BufTy).Contents (Elt F)) (v98 : (⟨S40, .f32⟩ : BufTy).Contents (Elt F)) (cst_41 : (⟨S_, .f32⟩ : BufTy).Contents (Elt F)) : (⟨S40, .f32⟩ : BufTy).Contents (Elt F) :=
  fn_where_5_f v100 v98 cst_41

def wb_14_cst_42  : (⟨S_, .f32⟩ : BufTy).Contents (Elt F) :=
  (constant S_ .f32 0xBF317218#32)

def wb_15_v102 (v100 : (⟨S40, .i1⟩ : BufTy).Contents (Elt F)) (cst_42 : (⟨S_, .f32⟩ : BufTy).Contents (Elt F)) (v98 : (⟨S40, .f32⟩ : BufTy).Contents (Elt F)) : (⟨S40, .f32⟩ : BufTy).Contents (Elt F) :=
  fn_where_6_f v100 cst_42 v98

def wb_16_v105 (v101 : (⟨S40, .f32⟩ : BufTy).Contents (Elt F)) : (⟨S40, .f32⟩ : BufTy).Contents (Elt F) :=
  let v103 : (⟨S40, .f32⟩ : BufTy).Contents (Elt F) := (Host.expm1 : (⟨S40, .f32⟩ : BufTy).Contents (Elt F) → (⟨S40, .f32⟩ : BufTy).Contents (Elt F)) v101
  let v104 : (⟨S40, .f32⟩ : BufTy).Contents (Elt F) := (Host.negf : (⟨S40, .f32⟩ : BufTy).Contents (Elt F) → (⟨S40, .f32⟩ : BufTy).Contents (Elt F)) v103
  (Host.log : (⟨S40, .f32⟩ : BufTy).Contents (Elt F) → (⟨S40, .f32⟩ : BufTy).Contents (Elt F)) v104

def wb_16_v108 (v102 : (⟨S40, .f32⟩ : BufTy).Contents (Elt F)) : (⟨S40, .f32⟩ : BufTy).Contents (Elt F) :=
  let v106 : (⟨S40, .f32⟩ : BufTy).Contents (Elt F) := (Host.exp : (⟨S40, .f32⟩ : BufTy).Contents (Elt F) → (⟨S40, .f32⟩ : BufTy).Contents (Elt F)) v102
  let v107 : (⟨S40, .f32⟩ : BufTy).Contents (Elt F) := (Host.negf : (⟨S40, .f32⟩ : BufTy).Contents (Elt F) → (⟨S40, .f32⟩ : BufTy).Contents (Elt F)) v106
  (Host.log1p : (⟨S40, .f32⟩ : BufTy).Contents (Elt F) → (⟨S40, .f32⟩ : BufTy).Contents (Elt F)) v107

def wb_17_v109 (v100 : (⟨S40, .i1⟩ : BufTy).Contents (Elt F)) (v105 : (⟨S40, .f32⟩ : BufTy).Contents (Elt F)) (v108 : (⟨S40, .f32⟩ : BufTy).Contents (Elt F)) : (⟨S40, .f32⟩ : BufTy).Contents (Elt F) :=
  fn_where_7_f v100 v105 v108

def wb_18_v116 (v98 : (⟨S40, .f32⟩ : BufTy).Contents (Elt F)) (v109 : (⟨S40, .f32⟩ : BufTy).Contents (Elt F)) : (⟨S40, .f32⟩ : BufTy).Contents (Elt F) :=
  let v110 : (⟨S40, .f32⟩ : BufTy).Contents (Elt F) := (subf : (⟨S40, .f32⟩ : BufTy).Contents (Elt F) → (⟨S40, .f32⟩ : BufTy).Contents (Elt F) → (⟨S40, .f32⟩ : BufTy).Contents (Elt F)) v98 v109
  let v111 : (⟨S40, .f32⟩ : BufTy).Contents (Elt F) := (Host.negf : (⟨S40, .f32⟩ : BufTy).Contents (Elt F) → (⟨S40, .f32⟩ : BufTy).Contents (Elt F)) v110
  let v112 : (⟨S40, .f32⟩ : BufTy).Contents (Elt F) := (Host.exp : (⟨S40, .f32⟩ : BufTy).Contents (Elt F) → (⟨S40, .f32⟩ : BufTy).Contents (Elt F)) v111
  let cst_43 : (⟨S_, .f32⟩ : BufTy).Contents (Elt F) := (constant S_ .f32 0x3F800000#32)
  let v113 : (⟨S40, .f32⟩ : BufTy).Contents (Elt F) := (broadcastInDim S40 ![] bcast_S_S40 : (⟨S_, .f32⟩ : BufTy).Contents (Elt F) → (⟨S40, .f32⟩ : BufTy).Contents (Elt F)) cst_43
  let v114 : (⟨S40, .f32⟩ : BufTy).Contents (Elt F) := (addf : (⟨S40, .f32⟩ : BufTy).Contents (Elt F) → (⟨S40, .f32⟩ : BufTy).Contents (Elt F) → (⟨S40, .f32⟩ : BufTy).Contents (Elt F)) v113 v112
  let cst_44 : (⟨S_, .f32⟩ : BufTy).Contents (Elt F) := (constant S_ .f32 0x3F800000#32)
  let v115 : (⟨S40, .f32⟩ : BufTy).Contents (Elt F) := (broadcastInDim S40 ![] bcast_S_S40 : (⟨S_, .f32⟩ : BufTy).Contents (Elt F) → (⟨S40, .f32⟩ : BufTy).Contents (Elt F)) cst_44
  (Host.divf : (⟨S40, .f32⟩ : BufTy).Contents (Elt F) → (⟨S40, .f32⟩ : BufTy).Contents (Elt F) → (⟨S40, .f32⟩ : BufTy).Contents (Elt F)) v115 v114

def wb_19_v118 (v40 : (⟨S40, .f32⟩ : BufTy).Contents (Elt F)) (v116 : (⟨S40, .f32⟩ : BufTy).Contents (Elt F)) : (⟨S40, .i32⟩ : BufTy).Contents (Elt F) :=
  let v117 : (⟨S40, .i1⟩ : BufTy).Contents (Elt F) := (cmpf .olt : (⟨S40, .f32⟩ : BufTy).Contents (Elt F) → (⟨S40, .f32⟩ : BufTy).Contents (Elt F) → (⟨S40, .i1⟩ : BufTy).Contents (Elt F)) v40 v116
  ((extui 32 · natLt_1_32) : (⟨S40, .i1⟩ : BufTy).Contents (Elt F) → (⟨S40, .i32⟩ : BufTy).Contents (Elt F)) v117

def wb_19_v120 (v40 : (⟨S40, .f32⟩ : BufTy).Contents (Elt F)) (v116 : (⟨S40, .f32⟩ : BufTy).Contents (Elt F)) : (⟨S40, .i1⟩ : BufTy).Contents (Elt F) :=
  let v117 : (⟨S40, .i1⟩ : BufTy).Contents (Elt F) := (cmpf .olt : (⟨S40, .f32⟩ : BufTy).Contents (Elt F) → (⟨S40, .f32⟩ : BufTy).Contents (Elt F) → (⟨S40, .i1⟩ : BufTy).Contents (Elt F)) v40 v116
  let v118 : (⟨S40, .i32⟩ : BufTy).Contents (Elt F) := ((extui 32 · natLt_1_32) : (⟨S40, .i1⟩ : BufTy).Contents (Elt F) → (⟨S40, .i32⟩ : BufTy).Contents (Elt F)) v117
  let c_45 : (⟨S_, .i32⟩ : BufTy).Contents (Elt F) := (constantI S_ 32 0#32)
  let v119 : (⟨S40, .i32⟩ : BufTy).Contents (Elt F) := (broadcastInDim S40 ![] bcast_S_S40 : (⟨S_, .i32⟩ : BufTy).Contents (Elt F) → (⟨S40, .i32⟩ : BufTy).Contents (Elt F)) c_45
  (cmpi .sgt : (⟨S40, .i32⟩ : BufTy).Contents (Elt F) → (⟨S40, .i32⟩ : BufTy).Contents (Elt F) → (⟨S40, .i1⟩ : BufTy).Contents (Elt F)) v118 v119

def wb_19_v122 (v34_6 : (⟨S40, .i32⟩ : BufTy).Contents (Elt F)) : (⟨S40, .i32⟩ : BufTy).Contents (Elt F) :=
  let c_46 : (⟨S_, .i32⟩ : BufTy).Contents (Elt F) := (constantI S_ 32 1#32)
  let v121 : (⟨S40, .i32⟩ : BufTy).Contents (Elt F) := (broadcastInDim S40 ![] bcast_S_S40 : (⟨S_, .i32⟩ : BufTy).Contents (Elt F) → (⟨S40, .i32⟩ : BufTy).Contents (Elt F)) c_46
  (subi : (⟨S40, .i32⟩ : BufTy).Contents (Elt F) → (⟨S40, .i32⟩ : BufTy).Contents (Elt F) → (⟨S40, .i32⟩ : BufTy).Contents (Elt F)) v34_6 v121

def wb_20_v123 (v120 : (⟨S40, .i1⟩ : BufTy).Contents (Elt F)) (v122 : (⟨S40, .i32⟩ : BufTy).Contents (Elt F)) (v34_6 : (⟨S40, .i32⟩ : BufTy).Contents (Elt F)) : (⟨S40, .i32⟩ : BufTy).Contents (Elt F) :=
  fn_where_8_f v120 v122 v34_6

def wb_21_v124 (v34_7 : (⟨S2048x40, .i32⟩ : BufTy).Contents (Elt F)) (v118 : (⟨S40, .i32⟩ : BufTy).Contents (Elt F)) (v34_5 : (⟨S_, .i32⟩ : BufTy).Contents (Elt F)) : (⟨S2048x40, .i32⟩ : BufTy).Contents (Elt F) :=
  fn_dynamic_update_index_in_dim_9_f v34_7 v118 v34_5

def wb_22_v34_5 (v34_5 : (⟨S_, .i32⟩ : BufTy).Contents (Elt F)) : (⟨S_, .i32⟩ : BufTy).Contents (Elt F) :=
  let c_47 : (⟨S_, .i32⟩ : BufTy).Contents (Elt F) := (constantI S_ 32 1#32)
  let v125 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) v34_5 c_47
  id v125

def wb_22_v34_6 (v123 : (⟨S40, .i32⟩ : BufTy).Contents (Elt F)) : (⟨S40, .i32⟩ : BufTy).Contents (Elt F) :=
  id v123

def wb_22_v34_7 (v124 : (⟨S2048x40, .i32⟩ : BufTy).Contents (Elt F)) : (⟨S2048x40, .i32⟩ : BufTy).Contents (Elt F) :=
  id v124

def wc_0_v105 (v70_0 : (⟨S2048x40, .f32⟩ : BufTy).Contents (Elt F)) (v70_7 : (⟨S_, .i32⟩ : BufTy).Contents (Elt F)) : (⟨S40, .f32⟩ : BufTy).Contents (Elt F) :=
  fn_dynamic_index_in_dim_f v70_0 v70_7

def wc_1_v106 (v70_1 : (⟨S2048x40, .f32⟩ : BufTy).Contents (Elt F)) (v70_7 : (⟨S_, .i32⟩ : BufTy).Contents (Elt F)) : (⟨S40, .f32⟩ : BufTy).Contents (Elt F) :=
  fn_dynamic_index_in_dim_f v70_1 v70_7

def wc_2_v110 (v70_8 : (⟨S40x12, .f32⟩ : BufTy).Contents (Elt F)) (v105 : (⟨S40, .f32⟩ : BufTy).Contents (Elt F)) : (⟨S40x11, .f32⟩ : BufTy).Contents (Elt F) :=
  let v107 : (⟨S40x11, .f32⟩ : BufTy).Contents (Elt F) := ((extractStridedSlice S40x11 ![0, 0] · slices_S40x12_S40x11_0_0) : (⟨S40x12, .f32⟩ : BufTy).Contents (Elt F) → (⟨S40x11, .f32⟩ : BufTy).Contents (Elt F)) v70_8
  let v108 : (⟨S40x1, .f32⟩ : BufTy).Contents (Elt F) := (broadcastInDim S40x1 ![0] bcast_S40_S40x1_0 : (⟨S40, .f32⟩ : BufTy).Contents (Elt F) → (⟨S40x1, .f32⟩ : BufTy).Contents (Elt F)) v105
  let v109 : (⟨S40x11, .f32⟩ : BufTy).Contents (Elt F) := (broadcastInDim S40x11 ![0, 1] bcast_S40x1_S40x11_0_1 : (⟨S40x1, .f32⟩ : BufTy).Contents (Elt F) → (⟨S40x11, .f32⟩ : BufTy).Contents (Elt F)) v108
  (addf : (⟨S40x11, .f32⟩ : BufTy).Contents (Elt F) → (⟨S40x11, .f32⟩ : BufTy).Contents (Elt F) → (⟨S40x11, .f32⟩ : BufTy).Contents (Elt F)) v107 v109

def wc_3_v114 (v70_8 : (⟨S40x12, .f32⟩ : BufTy).Contents (Elt F)) (v106 : (⟨S40, .f32⟩ : BufTy).Contents (Elt F)) : (⟨S40x11, .f32⟩ : BufTy).Contents (Elt F) :=
  let v111 : (⟨S40x11, .f32⟩ : BufTy).Contents (Elt F) := ((extractStridedSlice S40x11 ![0, 1] · slices_S40x12_S40x11_0_1) : (⟨S40x12, .f32⟩ : BufTy).Contents (Elt F) → (⟨S40x11, .f32⟩ : BufTy).Contents (Elt F)) v70_8
  let v112 : (⟨S40x1, .f32⟩ : BufTy).Contents (Elt F) := (broadcastInDim S40x1 ![0] bcast_S40_S40x1_0 : (⟨S40, .f32⟩ : BufTy).Contents (Elt F) → (⟨S40x1, .f32⟩ : BufTy).Contents (Elt F)) v106
  let v113 : (⟨S40x11, .f32⟩ : BufTy).Contents (Elt F) := (broadcastInDim S40x11 ![0, 1] bcast_S40x1_S40x11_0_1 : (⟨S40x1, .f32⟩ : BufTy).Contents (Elt F) → (⟨S40x11, .f32⟩ : BufTy).Contents (Elt F)) v112
  (addf : (⟨S40x11, .f32⟩ : BufTy).Contents (Elt F) → (⟨S40x11, .f32⟩ : BufTy).Contents (Elt F) → (⟨S40x11, .f32⟩ : BufTy).Contents (Elt F)) v111 v113

def wc_4_v124 (v110 : (⟨S40x11, .f32⟩ : BufTy).Contents (Elt F)) (v114 : (⟨S40x11, .f32⟩ : BufTy).Contents (Elt F)) : (⟨S40x11, .f32⟩ : BufTy).Contents (Elt F) :=
  let v115 : (⟨S40x11, .f32⟩ : BufTy).Contents (Elt F) := (maximumf : (⟨S40x11, .f32⟩ : BufTy).Contents (Elt F) → (⟨S40x11, .f32⟩ : BufTy).Contents (Elt F) → (⟨S40x11, .f32⟩ : BufTy).Contents (Elt F)) v110 v114
  let v116 : (⟨S40x11, .f32⟩ : BufTy).Contents (Elt F) := (subf : (⟨S40x11, .f32⟩ : BufTy).Contents (Elt F) → (⟨S40x11, .f32⟩ : BufTy).Contents (Elt F) → (⟨S40x11, .f32⟩ : BufTy).Contents (Elt F)) v110 v114
  let v117 : (⟨S40x11, .i1⟩ : BufTy).Contents (Elt F) := (cmpf .une : (⟨S40x11, .f32⟩ : BufTy).Contents (Elt F) → (⟨S40x11, .f32⟩ : BufTy).Contents (Elt F) → (⟨S40x11, .i1⟩ : BufTy).Contents (Elt F)) v116 v116
  let v118 : (⟨S40x11, .f32⟩ : BufTy).Contents (Elt F) := (addf : (⟨S40x11, .f32⟩ : BufTy).Contents (Elt F) → (⟨S40x11, .f32⟩ : BufTy).Contents (Elt F) → (⟨S40x11, .f32⟩ : BufTy).Contents (Elt F)) v110 v114
  let v119 : (⟨S40x11, .f32⟩ : BufTy).Contents (Elt F) := (Host.absf : (⟨S40x11, .f32⟩ : BufTy).Contents (Elt F) → (⟨S40x11, .f32⟩ : BufTy).Contents (Elt F)) v116
  let v120 : (⟨S40x11, .f32⟩ : BufTy).Contents (Elt F) := (Host.negf : (⟨S40x11, .f32⟩ : BufTy).Contents (Elt F) → (⟨S40x11, .f32⟩ : BufTy).Contents (Elt F)) v119
  let v121 : (⟨S40x11, .f32⟩ : BufTy).Contents (Elt F) := (Host.exp : (⟨S40x11, .f32⟩ : BufTy).Contents (Elt F) → (⟨S40x11, .f32⟩ : BufTy).Contents (Elt F)) v120
  let v122 : (⟨S40x11, .f32⟩ : BufTy).Contents (Elt F) := (Host.log1p : (⟨S40x11, .f32⟩ : BufTy).Contents (Elt F) → (⟨S40x11, .f32⟩ : BufTy).Contents (Elt F)) v121
  let v123 : (⟨S40x11, .f32⟩ : BufTy).Contents (Elt F) := (addf : (⟨S40x11, .f32⟩ : BufTy).Contents (Elt F) → (⟨S40x11, .f32⟩ : BufTy).Contents (Elt F) → (⟨S40x11, .f32⟩ : BufTy).Contents (Elt F)) v115 v122
  (select : (⟨S40x11, .i1⟩ : BufTy).Contents (Elt F) → (⟨S40x11, .f32⟩ : BufTy).Contents (Elt F) → (⟨S40x11, .f32⟩ : BufTy).Contents (Elt F) → (⟨S40x11, .f32⟩ : BufTy).Contents (Elt F)) v117 v118 v123

def wc_5_v132 (v110 : (⟨S40x11, .f32⟩ : BufTy).Contents (Elt F)) (v70_3 : (⟨S40x11, .f32⟩ : BufTy).Contents (Elt F)) (v124 : (⟨S40x11, .f32⟩ : BufTy).Contents (Elt F)) (v70_4 : (⟨S40x11, .f32⟩ : BufTy).Contents (Elt F)) : (⟨S40x11, .f32⟩ : BufTy).Contents (Elt F) :=
  let cst_51 : (⟨S_, .f32⟩ : BufTy).Contents (Elt F) := (constant S_ .f32 0x7F800000#32)
  let v125 : (⟨S40x11, .f32⟩ : BufTy).Contents (Elt F) := (broadcastInDim S40x11 ![] bcast_S_S40x11 : (⟨S_, .f32⟩ : BufTy).Contents (Elt F) → (⟨S40x11, .f32⟩ : BufTy).Contents (Elt F)) cst_51
  let v126 : (⟨S40x11, .i1⟩ : BufTy).Contents (Elt F) := (cmpf .oeq : (⟨S40x11, .f32⟩ : BufTy).Contents (Elt F) → (⟨S40x11, .f32⟩ : BufTy).Contents (Elt F) → (⟨S40x11, .i1⟩ : BufTy).Contents (Elt F)) v110 v125
  let v127 : (⟨S40x11, .f32⟩ : BufTy).Contents (Elt F) := (select : (⟨S40x11, .i1⟩ : BufTy).Contents (Elt F) → (⟨S40x11, .f32⟩ : BufTy).Contents (Elt F) → (⟨S40x11, .f32⟩ : BufTy).Contents (Elt F) → (⟨S40x11, .f32⟩ : BufTy).Contents (Elt F)) v126 v70_3 v110
  let cst_52 : (⟨S_, .f32⟩ : BufTy).Contents (Elt F) := (constant S_ .f32 0x7F800000#32)
  let v128 : (⟨S40x11, .f32⟩ : BufTy).Contents (Elt F) := (broadcastInDim S40x11 ![] bcast_S_S40x11 : (⟨S_, .f32⟩ : BufTy).Contents (Elt F) → (⟨S40x11, .f32⟩ : BufTy).Contents (Elt F)) cst_52
  let v129 : (⟨S40x11, .i1⟩ : BufTy).Contents (Elt F) := (cmpf .oeq : (⟨S40x11, .f32⟩ : BufTy).Contents (Elt F) → (⟨S40x11, .f32⟩ : BufTy).Contents (Elt F) → (⟨S40x11, .i1⟩ : BufTy).Contents (Elt F)) v124 v128
  let v130 : (⟨S40x11, .f32⟩ : BufTy).Contents (Elt F) := (select : (⟨S40x11, .i1⟩ : BufTy).Contents (Elt F) → (⟨S40x11, .f32⟩ : BufTy).Contents (Elt F) → (⟨S40x11, .f32⟩ : BufTy).Contents (Elt F) → (⟨S40x11, .f32⟩ : BufTy).Contents (Elt F)) v129 v70_4 v124
  let v131 : (⟨S40x11, .f32⟩ : BufTy).Contents (Elt F) := (subf : (⟨S40x11, .f32⟩ : BufTy).Contents (Elt F) → (⟨S40x11, .f32⟩ : BufTy).Contents (Elt F) → (⟨S40x11, .f32⟩ : BufTy).Contents (Elt F)) v127 v130
  (Host.exp : (⟨S40x11, .f32⟩ : BufTy).Contents (Elt F) → (⟨S40x11, .f32⟩ : BufTy).Contents (Elt F)) v131

def wc_6_v140 (v114 : (⟨S40x11, .f32⟩ : BufTy).Contents (Elt F)) (v70_5 : (⟨S40x11, .f32⟩ : BufTy).Contents (Elt F)) (v124 : (⟨S40x11, .f32⟩ : BufTy).Contents (Elt F)) (v70_6 : (⟨S40x11, .f32⟩ : BufTy).Contents (Elt F)) : (⟨S40x11, .f32⟩ : BufTy).Contents (Elt F) :=
  let cst_53 : (⟨S_, .f32⟩ : BufTy).Contents (Elt F) := (constant S_ .f32 0x7F800000#32)
  let v133 : (⟨S40x11, .f32⟩ : BufTy).Contents (Elt F) := (broadcastInDim S40x11 ![] bcast_S_S40x11 : (⟨S_, .f32⟩ : BufTy).Contents (Elt F) → (⟨S40x11, .f32⟩ : BufTy).Contents (Elt F)) cst_53
  let v134 : (⟨S40x11, .i1⟩ : BufTy).Contents (Elt F) := (cmpf .oeq : (⟨S40x11, .f32⟩ : BufTy).Contents (Elt F) → (⟨S40x11, .f32⟩ : BufTy).Contents (Elt F) → (⟨S40x11, .i1⟩ : BufTy).Contents (Elt F)) v114 v133
  let v135 : (⟨S40x11, .f32⟩ : BufTy).Contents (Elt F) := (select : (⟨S40x11, .i1⟩ : BufTy).Contents (Elt F) → (⟨S40x11, .f32⟩ : BufTy).Contents (Elt F) → (⟨S40x11, .f32⟩ : BufTy).Contents (Elt F) → (⟨S40x11, .f32⟩ : BufTy).Contents (Elt F)) v134 v70_5 v114
  let cst_54 : (⟨S_, .f32⟩ : BufTy).Contents (Elt F) := (constant S_ .f32 0x7F800000#32)
  let v136 : (⟨S40x11, .f32⟩ : BufTy).Contents (Elt F) := (broadcastInDim S40x11 ![] bcast_S_S40x11 : (⟨S_, .f32⟩ : BufTy).Contents (Elt F) → (⟨S40x11, .f32⟩ : BufTy).Contents (Elt F)) cst_54
  let v137 : (⟨S40x11, .i1⟩ : BufTy).Contents (Elt F) := (cmpf .oeq : (⟨S40x11, .f32⟩ : BufTy).Contents (Elt F) → (⟨S40x11, .f32⟩ : BufTy).Contents (Elt F) → (⟨S40x11, .i1⟩ : BufTy).Contents (Elt F)) v124 v136
  let v138 : (⟨S40x11, .f32⟩ : BufTy).Contents (Elt F) := (select : (⟨S40x11, .i1⟩ : BufTy).Contents (Elt F) → (⟨S40x11, .f32⟩ : BufTy).Contents (Elt F) → (⟨S40x11, .f32⟩ : BufTy).Contents (Elt F) → (⟨S40x11, .f32⟩ : BufTy).Contents (Elt F)) v137 v70_6 v124
  let v139 : (⟨S40x11, .f32⟩ : BufTy).Contents (Elt F) := (subf : (⟨S40x11, .f32⟩ : BufTy).Contents (Elt F) → (⟨S40x11, .f32⟩ : BufTy).Contents (Elt F) → (⟨S40x11, .f32⟩ : BufTy).Contents (Elt F)) v135 v138
  (Host.exp : (⟨S40x11, .f32⟩ : BufTy).Contents (Elt F) → (⟨S40x11, .f32⟩ : BufTy).Contents (Elt F)) v139

def wc_7_v141 (v70_2 : (⟨S40x1, .f32⟩ : BufTy).Contents (Elt F)) (v124 : (⟨S40x11, .f32⟩ : BufTy).Contents (Elt F)) : (⟨S40x12, .f32⟩ : BufTy).Contents (Elt F) :=
  ((fun a b => concatenate S40x12 1 [⟨S40x1, a⟩, ⟨S40x11, b⟩] concatenates_S40x1_S40x11_S40x12_d1) : (⟨S40x1, .f32⟩ : BufTy).Contents (Elt F) → (⟨S40x11, .f32⟩ : BufTy).Contents (Elt F) → (⟨S40x12, .f32⟩ : BufTy).Contents (Elt F)) v70_2 v124

def wc_8_v142 (v70_9 : (⟨S2048x40x12, .f32⟩ : BufTy).Contents (Elt F)) (v141 : (⟨S40x12, .f32⟩ : BufTy).Contents (Elt F)) (v70_7 : (⟨S_, .i32⟩ : BufTy).Contents (Elt F)) : (⟨S2048x40x12, .f32⟩ : BufTy).Contents (Elt F) :=
  fn_dynamic_update_index_in_dim_f v70_9 v141 v70_7

def wc_9_v143 (v70_10 : (⟨S2048x40x11, .f32⟩ : BufTy).Contents (Elt F)) (v132 : (⟨S40x11, .f32⟩ : BufTy).Contents (Elt F)) (v70_7 : (⟨S_, .i32⟩ : BufTy).Contents (Elt F)) : (⟨S2048x40x11, .f32⟩ : BufTy).Contents (Elt F) :=
  fn_dynamic_update_index_in_dim_13_f v70_10 v132 v70_7

def wc_10_v144 (v70_11 : (⟨S2048x40x11, .f32⟩ : BufTy).Contents (Elt F)) (v140 : (⟨S40x11, .f32⟩ : BufTy).Contents (Elt F)) (v70_7 : (⟨S_, .i32⟩ : BufTy).Contents (Elt F)) : (⟨S2048x40x11, .f32⟩ : BufTy).Contents (Elt F) :=
  fn_dynamic_update_index_in_dim_13_f v70_11 v140 v70_7

def wc_11_v70_7 (v70_7 : (⟨S_, .i32⟩ : BufTy).Contents (Elt F)) : (⟨S_, .i32⟩ : BufTy).Contents (Elt F) :=
  let c_55 : (⟨S_, .i32⟩ : BufTy).Contents (Elt F) := (constantI S_ 32 1#32)
  let v145 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) v70_7 c_55
  id v145

def wc_11_v70_8 (v141 : (⟨S40x12, .f32⟩ : BufTy).Contents (Elt F)) : (⟨S40x12, .f32⟩ : BufTy).Contents (Elt F) :=
  id v141

def wc_11_v70_9 (v142 : (⟨S2048x40x12, .f32⟩ : BufTy).Contents (Elt F)) : (⟨S2048x40x12, .f32⟩ : BufTy).Contents (Elt F) :=
  id v142

def wc_11_v70_10 (v143 : (⟨S2048x40x11, .f32⟩ : BufTy).Contents (Elt F)) : (⟨S2048x40x11, .f32⟩ : BufTy).Contents (Elt F) :=
  id v143

def wc_11_v70_11 (v144 : (⟨S2048x40x11, .f32⟩ : BufTy).Contents (Elt F)) : (⟨S2048x40x11, .f32⟩ : BufTy).Contents (Elt F) :=
  id v144

def wd_0_v106 (v88_4 : (⟨S_, .i32⟩ : BufTy).Contents (Elt F)) : (⟨S_, .i32⟩ : BufTy).Contents (Elt F) :=
  let c_47 : (⟨S_, .i32⟩ : BufTy).Contents (Elt F) := (constantI S_ 32 2048#32)
  let v105 : (⟨S_, .i32⟩ : BufTy).Contents (Elt F) := (subi : (⟨S_, .i32⟩ : BufTy).Contents (Elt F) → (⟨S_, .i32⟩ : BufTy).Contents (Elt F) → (⟨S_, .i32⟩ : BufTy).Contents (Elt F)) c_47 v88_4
  let c_48 : (⟨S_, .i32⟩ : BufTy).Contents (Elt F) := (constantI S_ 32 1#32)
  (subi : (⟨S_, .i32⟩ : BufTy).Contents (Elt F) → (⟨S_, .i32⟩ : BufTy).Contents (Elt F) → (⟨S_, .i32⟩ : BufTy).Contents (Elt F)) v105 c_48

def wd_1_v107 (v88_0 : (⟨S2048x40x12, .f32⟩ : BufTy).Contents (Elt F)) (v106 : (⟨S_, .i32⟩ : BufTy).Contents (Elt F)) : (⟨S40x12, .f32⟩ : BufTy).Contents (Elt F) :=
  fn_dynamic_index_in_dim_14_f v88_0 v106

def wd_2_v108 (v88_1 : (⟨S2048x40x11, .f32⟩ : BufTy).Contents (Elt F)) (v106 : (⟨S_, .i32⟩ : BufTy).Contents (Elt F)) : (⟨S40x11, .f32⟩ : BufTy).Contents (Elt F) :=
  fn_dynamic_index_in_dim_15_f v88_1 v106

def wd_3_v109 (v88_2 : (⟨S2048x40x11, .f32⟩ : BufTy).Contents (Elt F)) (v106 : (⟨S_, .i32⟩ : BufTy).Contents (Elt F)) : (⟨S40x11, .f32⟩ : BufTy).Contents (Elt F) :=
  fn_dynamic_index_in_dim_15_f v88_2 v106

def wd_4_v113 (v88_5 : (⟨S40x12, .f32⟩ : BufTy).Contents (Elt F)) (v107 : (⟨S40x12, .f32⟩ : BufTy).Contents (Elt F)) (v109 : (⟨S40x11, .f32⟩ : BufTy).Contents (Elt F)) : (⟨S40x11, .f32⟩ : BufTy).Contents (Elt F) :=
  let v110 : (⟨S40x12, .f32⟩ : BufTy).Contents (Elt F) := (addf : (⟨S40x12, .f32⟩ : BufTy).Contents (Elt F) → (⟨S40x12, .f32⟩ : BufTy).Contents (Elt F) → (⟨S40x12, .f32⟩ : BufTy).Contents (Elt F)) v88_5 v107
  let v112 : (⟨S40x11, .f32⟩ : BufTy).Contents (Elt F) := ((extractStridedSlice S40x11 ![0, 1] · slices_S40x12_S40x11_0_1) : (⟨S40x12, .f32⟩ : BufTy).Contents (Elt F) → (⟨S40x11, .f32⟩ : BufTy).Contents (Elt F)) v110
  (mulf : (⟨S40x11, .f32⟩ : BufTy).Contents (Elt F) → (⟨S40x11, .f32⟩ : BufTy).Contents (Elt F) → (⟨S40x11, .f32⟩ : BufTy).Contents (Elt F)) v112 v109

def wd_4_v114 (v88_5 : (⟨S40x12, .f32⟩ : BufTy).Contents (Elt F)) (v107 : (⟨S40x12, .f32⟩ : BufTy).Contents (Elt F)) (v108 : (⟨S40x11, .f32⟩ : BufTy).Contents (Elt F)) : (⟨S40x11, .f32⟩ : BufTy).Contents (Elt F) :=
  let v110 : (⟨S40x12, .f32⟩ : BufTy).Contents (Elt F) := (addf : (⟨S40x12, .f32⟩ : BufTy).Contents (Elt F) → (⟨S40x12, .f32⟩ : BufTy).Contents (Elt F) → (⟨S40x12, .f32⟩ : BufTy).Contents (Elt F)) v88_5 v107
  let v112 : (⟨S40x11, .f32⟩ : BufTy).Contents (Elt F) := ((extractStridedSlice S40x11 ![0, 1] · slices_S40x12_S40x11_0_1) : (⟨S40x12, .f32⟩ : BufTy).Contents (Elt F) → (⟨S40x11, .f32⟩ : BufTy).Contents (Elt F)) v110
  (mulf : (⟨S40x11, .f32⟩ : BufTy).Contents (Elt F) → (⟨S40x11, .f32⟩ : BufTy).Contents (Elt F) → (⟨S40x11, .f32⟩ : BufTy).Contents (Elt F)) v112 v108

def wd_5_v117 (v113 : (⟨S40x11, .f32⟩ : BufTy).Contents (Elt F)) : (⟨S40, .f32⟩ : BufTy).Contents (Elt F) :=
  let cst_49 : (⟨S_, .f32⟩ : BufTy).Contents (Elt F) := (constant S_ .f32 0x00000000#32)
  let v115 : (⟨S40, .f32⟩ : BufTy).Contents (Elt F) := ((fun x v => Host.reduceAdd x v reducesTo_S40x11_S40_d1 h_S_) : (⟨S40x11, .f32⟩ : BufTy).Contents (Elt F) → (⟨S_, .f32⟩ : BufTy).Contents (Elt F) → (⟨S40, .f32⟩ : BufTy).Contents (Elt F)) v113 cst_49
  let v116 : (⟨S40x1, .f32⟩ : BufTy).Contents (Elt F) := shapeCast S40x1 v115 shapeCasts_S40_S40x1
  let cst_50 : (⟨S_, .f32⟩ : BufTy).Contents (Elt F) := (constant S_ .f32 0x00000000#32)
  ((fun x v => Host.reduceAdd x v reducesTo_S40x1_S40_d1 h_S_) : (⟨S40x1, .f32⟩ : BufTy).Contents (Elt F) → (⟨S_, .f32⟩ : BufTy).Contents (Elt F) → (⟨S40, .f32⟩ : BufTy).Contents (Elt F)) v116 cst_50

def wd_6_v118 (v113 : (⟨S40x11, .f32⟩ : BufTy).Contents (Elt F)) : (⟨S40x12, .f32⟩ : BufTy).Contents (Elt F) :=
  let cst_51 : (⟨S_, .f32⟩ : BufTy).Contents (Elt F) := (constant S_ .f32 0x00000000#32)
  ((fun x v => pad S40x12 ![0, 1] ![0, 0] ![0, 0] x v pads_S40x11_S40x12_000_100 h_S_) : (⟨S40x11, .f32⟩ : BufTy).Contents (Elt F) → (⟨S_, .f32⟩ : BufTy).Contents (Elt F) → (⟨S40x12, .f32⟩ : BufTy).Contents (Elt F)) v113 cst_51

def wd_7_v121 (v114 : (⟨S40x11, .f32⟩ : BufTy).Contents (Elt F)) : (⟨S40, .f32⟩ : BufTy).Contents (Elt F) :=
  let cst_52 : (⟨S_, .f32⟩ : BufTy).Contents (Elt F) := (constant S_ .f32 0x00000000#32)
  let v119 : (⟨S40, .f32⟩ : BufTy).Contents (Elt F) := ((fun x v => Host.reduceAdd x v reducesTo_S40x11_S40_d1 h_S_) : (⟨S40x11, .f32⟩ : BufTy).Contents (Elt F) → (⟨S_, .f32⟩ : BufTy).Contents (Elt F) → (⟨S40, .f32⟩ : BufTy).Contents (Elt F)) v114 cst_52
  let v120 : (⟨S40x1, .f32⟩ : BufTy).Contents (Elt F) := shapeCast S40x1 v119 shapeCasts_S40_S40x1
  let cst_53 : (⟨S_, .f32⟩ : BufTy).Contents (Elt F) := (constant S_ .f32 0x00000000#32)
  ((fun x v => Host.reduceAdd x v reducesTo_S40x1_S40_d1 h_S_) : (⟨S40x1, .f32⟩ : BufTy).Contents (Elt F) → (⟨S_, .f32⟩ : BufTy).Contents (Elt F) → (⟨S40, .f32⟩ : BufTy).Contents (Elt F)) v120 cst_53

def wd_8_v123 (v114 : (⟨S40x11, .f32⟩ : BufTy).Contents (Elt F)) (v118 : (⟨S40x12, .f32⟩ : BufTy).Contents (Elt F)) : (⟨S40x12, .f32⟩ : BufTy).Contents (Elt F) :=
  let cst_54 : (⟨S_, .f32⟩ : BufTy).Contents (Elt F) := (constant S_ .f32 0x00000000#32)
  let v122 : (⟨S40x12, .f32⟩ : BufTy).Contents (Elt F) := ((fun x v => pad S40x12 ![0, 0] ![0, 1] ![0, 0] x v pads_S40x11_S40x12_000_010 h_S_) : (⟨S40x11, .f32⟩ : BufTy).Contents (Elt F) → (⟨S_, .f32⟩ : BufTy).Contents (Elt F) → (⟨S40x12, .f32⟩ : BufTy).Contents (Elt F)) v114 cst_54
  (addf : (⟨S40x12, .f32⟩ : BufTy).Contents (Elt F) → (⟨S40x12, .f32⟩ : BufTy).Contents (Elt F) → (⟨S40x12, .f32⟩ : BufTy).Contents (Elt F)) v118 v122

def wd_9_v124 (v88_6 : (⟨S2048x40, .f32⟩ : BufTy).Contents (Elt F)) (v121 : (⟨S40, .f32⟩ : BufTy).Contents (Elt F)) (v106 : (⟨S_, .i32⟩ : BufTy).Contents (Elt F)) : (⟨S2048x40, .f32⟩ : BufTy).Contents (Elt F) :=
  fn_dynamic_update_index_in_dim_16_f v88_6 v121 v106

def wd_10_v125 (v88_7 : (⟨S2048x40, .f32⟩ : BufTy).Contents (Elt F)) (v117 : (⟨S40, .f32⟩ : BufTy).Contents (Elt F)) (v106 : (⟨S_, .i32⟩ : BufTy).Contents (Elt F)) : (⟨S2048x40, .f32⟩ : BufTy).Contents (Elt F) :=
  fn_dynamic_update_index_in_dim_16_f v88_7 v117 v106

def wd_11_v88_4 (v88_4 : (⟨S_, .i32⟩ : BufTy).Contents (Elt F)) : (⟨S_, .i32⟩ : BufTy).Contents (Elt F) :=
  let c_55 : (⟨S_, .i32⟩ : BufTy).Contents (Elt F) := (constantI S_ 32 1#32)
  let v126 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) v88_4 c_55
  id v126

def wd_11_v88_5 (v123 : (⟨S40x12, .f32⟩ : BufTy).Contents (Elt F)) : (⟨S40x12, .f32⟩ : BufTy).Contents (Elt F) :=
  id v123

def wd_11_v88_6 (v124 : (⟨S2048x40, .f32⟩ : BufTy).Contents (Elt F)) : (⟨S2048x40, .f32⟩ : BufTy).Contents (Elt F) :=
  id v124

def wd_11_v88_7 (v125 : (⟨S2048x40, .f32⟩ : BufTy).Contents (Elt F)) : (⟨S2048x40, .f32⟩ : BufTy).Contents (Elt F) :=
  id v125

end Cert.Proof.Ref

end
-- ==== Proof.RefRead.lean ====
/- Each stretch of the reference program read: what it writes, and what it leaves. -/
module

public import proofs.«01_k».proof.Proof.RefFun
public import Idealize.ShloMosaic.Lib.StableHlo.ReadAt

@[expose] public section

set_option maxRecDepth 100000

noncomputable section

namespace Cert.Proof.Ref

open Cert.ReferenceIdeal
open Idealize.ShloMosaic Idealize.SL.Sem Idealize.ShloMosaic.StableHlo
open Cert.Proof.Many
open TcCoe

variable {F : FTy → Type} [FloatOps F]
variable [Facts]
open Facts₀ Facts

variable (V : Valuation τ sig (Elt F))

theorem mn_0_cst_read : after mn_0 V (Proc.tc.devRef main_cst) = mn_0_cst (F := F) := by
  unfold mn_0
  after_reads_simp [unaryIndexed_result_read, binaryIndexed_result_read, indexContents_tref_cons, indexContents_tref_empty, TRef.ofBuf_toBuf]
  try rfl

theorem mn_0_v0_read : after mn_0 V (Proc.tc.devRef main_v0) = mn_0_v0 (F := F) (V (Proc.tc.devRef main_arg0)) := by
  unfold mn_0
  after_reads_simp [unaryIndexed_result_read, binaryIndexed_result_read, indexContents_tref_cons, indexContents_tref_empty, TRef.ofBuf_toBuf]
  try rfl

theorem mn_1_v1_read : after mn_1 V (Proc.tc.devRef main_v1) = mn_1_v1 (F := F) (V (Proc.tc.devRef main_v0)) := by
  unfold mn_1
  after_reads_simp [unaryIndexed_result_read, binaryIndexed_result_read, indexContents_tref_cons, indexContents_tref_empty, TRef.ofBuf_toBuf]
  try rfl

theorem mn_2_v3_read : after mn_2 V (Proc.tc.devRef main_v3) = mn_2_v3 (F := F) (V (Proc.tc.devRef main_v1)) := by
  unfold mn_2
  after_reads_simp [unaryIndexed_result_read, binaryIndexed_result_read, indexContents_tref_cons, indexContents_tref_empty, TRef.ofBuf_toBuf]
  try rfl

theorem mn_3_v5_read : after mn_3 V (Proc.tc.devRef main_v5) = mn_3_v5 (F := F) (V (Proc.tc.devRef main_v3)) := by
  unfold mn_3
  after_reads_simp [unaryIndexed_result_read, binaryIndexed_result_read, indexContents_tref_cons, indexContents_tref_empty, TRef.ofBuf_toBuf]
  try rfl

theorem mn_3_cst_2_read : after mn_3 V (Proc.tc.devRef main_cst_2) = mn_3_cst_2 (F := F) := by
  unfold mn_3
  after_reads_simp [unaryIndexed_result_read, binaryIndexed_result_read, indexContents_tref_cons, indexContents_tref_empty, TRef.ofBuf_toBuf]
  try rfl

theorem mn_4_v6_read : after mn_4 V (Proc.tc.devRef main_v6) = mn_4_v6 (F := F) (V (Proc.tc.devRef main_v5)) (V (Proc.tc.devRef main_v3)) (V (Proc.tc.devRef main_cst_2)) := by
  unfold mn_4
  after_reads_simp [unaryIndexed_result_read, binaryIndexed_result_read, indexContents_tref_cons, indexContents_tref_empty, TRef.ofBuf_toBuf]
  try rfl

theorem mn_5_cst_3_read : after mn_5 V (Proc.tc.devRef main_cst_3) = mn_5_cst_3 (F := F) := by
  unfold mn_5
  after_reads_simp [unaryIndexed_result_read, binaryIndexed_result_read, indexContents_tref_cons, indexContents_tref_empty, TRef.ofBuf_toBuf]
  try rfl

theorem mn_6_v7_read : after mn_6 V (Proc.tc.devRef main_v7) = mn_6_v7 (F := F) (V (Proc.tc.devRef main_v5)) (V (Proc.tc.devRef main_cst_3)) (V (Proc.tc.devRef main_v3)) := by
  unfold mn_6
  after_reads_simp [unaryIndexed_result_read, binaryIndexed_result_read, indexContents_tref_cons, indexContents_tref_empty, TRef.ofBuf_toBuf]
  try rfl

theorem mn_7_v10_read : after mn_7 V (Proc.tc.devRef main_v10) = mn_7_v10 (F := F) (V (Proc.tc.devRef main_v6)) := by
  unfold mn_7
  after_reads_simp [unaryIndexed_result_read, binaryIndexed_result_read, indexContents_tref_cons, indexContents_tref_empty, TRef.ofBuf_toBuf]
  try rfl

theorem mn_7_v13_read : after mn_7 V (Proc.tc.devRef main_v13) = mn_7_v13 (F := F) (V (Proc.tc.devRef main_v7)) := by
  unfold mn_7
  after_reads_simp [unaryIndexed_result_read, binaryIndexed_result_read, indexContents_tref_cons, indexContents_tref_empty, TRef.ofBuf_toBuf]
  try rfl

theorem mn_8_v14_read : after mn_8 V (Proc.tc.devRef main_v14) = mn_8_v14 (F := F) (V (Proc.tc.devRef main_v5)) (V (Proc.tc.devRef main_v10)) (V (Proc.tc.devRef main_v13)) := by
  unfold mn_8
  after_reads_simp [unaryIndexed_result_read, binaryIndexed_result_read, indexContents_tref_cons, indexContents_tref_empty, TRef.ofBuf_toBuf]
  try rfl

theorem mn_9_v18_read : after mn_9 V (Proc.tc.devRef main_v18) = mn_9_v18 (F := F) := by
  unfold mn_9
  after_reads_simp [unaryIndexed_result_read, binaryIndexed_result_read, indexContents_tref_cons, indexContents_tref_empty, TRef.ofBuf_toBuf]
  try rfl

theorem mn_10_v22_0_read : after mn_10 V (Proc.tc.devRef main_v22_0) = mn_10_v22_0 (F := F) (V (Proc.tc.devRef main_v3)) := by
  unfold mn_10
  after_reads_simp [unaryIndexed_result_read, binaryIndexed_result_read, indexContents_tref_cons, indexContents_tref_empty, TRef.ofBuf_toBuf]
  try rfl

theorem mn_10_v22_1_read : after mn_10 V (Proc.tc.devRef main_v22_1) = mn_10_v22_1 (F := F) (V (Proc.tc.devRef main_v14)) := by
  unfold mn_10
  after_reads_simp [unaryIndexed_result_read, binaryIndexed_result_read, indexContents_tref_cons, indexContents_tref_empty, TRef.ofBuf_toBuf]
  try rfl

theorem mn_10_v22_2_read : after mn_10 V (Proc.tc.devRef main_v22_2) = mn_10_v22_2 (F := F) := by
  unfold mn_10
  after_reads_simp [unaryIndexed_result_read, binaryIndexed_result_read, indexContents_tref_cons, indexContents_tref_empty, TRef.ofBuf_toBuf]
  try rfl

theorem mn_10_v22_3_read : after mn_10 V (Proc.tc.devRef main_v22_3) = mn_10_v22_3 (F := F) (V (Proc.tc.devRef main_v18)) := by
  unfold mn_10
  after_reads_simp [unaryIndexed_result_read, binaryIndexed_result_read, indexContents_tref_cons, indexContents_tref_empty, TRef.ofBuf_toBuf]
  try rfl

theorem mn_10_v22_4_read : after mn_10 V (Proc.tc.devRef main_v22_4) = mn_10_v22_4 (F := F) := by
  unfold mn_10
  after_reads_simp [unaryIndexed_result_read, binaryIndexed_result_read, indexContents_tref_cons, indexContents_tref_empty, TRef.ofBuf_toBuf]
  try rfl

theorem mn_12_v23_read : after mn_12 V (Proc.tc.devRef main_v23) = mn_12_v23 (F := F) (V (Proc.tc.devRef main_v18)) := by
  unfold mn_12
  after_reads_simp [unaryIndexed_result_read, binaryIndexed_result_read, indexContents_tref_cons, indexContents_tref_empty, TRef.ofBuf_toBuf]
  try rfl

theorem mn_12_v24_read : after mn_12 V (Proc.tc.devRef main_v24) = mn_12_v24 (F := F) (V (Proc.tc.devRef main_v22_4)) := by
  unfold mn_12
  after_reads_simp [unaryIndexed_result_read, binaryIndexed_result_read, indexContents_tref_cons, indexContents_tref_empty, TRef.ofBuf_toBuf]
  try rfl

theorem mn_13_v25_read : after mn_13 V (Proc.tc.devRef main_v25) = mn_13_v25 (F := F) (V (Proc.tc.devRef main_v23)) (V (Proc.tc.devRef main_v24)) := by
  unfold mn_13
  after_reads_simp [unaryIndexed_result_read, binaryIndexed_result_read, indexContents_tref_cons, indexContents_tref_empty, TRef.ofBuf_toBuf]
  try rfl

theorem mn_14_v26_read : after mn_14 V (Proc.tc.devRef main_v26) = mn_14_v26 (F := F) := by
  unfold mn_14
  after_reads_simp [unaryIndexed_result_read, binaryIndexed_result_read, indexContents_tref_cons, indexContents_tref_empty, TRef.ofBuf_toBuf]
  try rfl

theorem mn_14_v31_read : after mn_14 V (Proc.tc.devRef main_v31) = mn_14_v31 (F := F) := by
  unfold mn_14
  after_reads_simp [unaryIndexed_result_read, binaryIndexed_result_read, indexContents_tref_cons, indexContents_tref_empty, TRef.ofBuf_toBuf]
  try rfl

theorem mn_15_v34_0_read : after mn_15 V (Proc.tc.devRef main_v34_0) = mn_15_v34_0 (F := F) (V (Proc.tc.devRef main_v31)) := by
  unfold mn_15
  after_reads_simp [unaryIndexed_result_read, binaryIndexed_result_read, indexContents_tref_cons, indexContents_tref_empty, TRef.ofBuf_toBuf]
  try rfl

theorem mn_15_v34_1_read : after mn_15 V (Proc.tc.devRef main_v34_1) = mn_15_v34_1 (F := F) (V (Proc.tc.devRef main_cst)) := by
  unfold mn_15
  after_reads_simp [unaryIndexed_result_read, binaryIndexed_result_read, indexContents_tref_cons, indexContents_tref_empty, TRef.ofBuf_toBuf]
  try rfl

theorem mn_15_v34_2_read : after mn_15 V (Proc.tc.devRef main_v34_2) = mn_15_v34_2 (F := F) (V (Proc.tc.devRef main_v26)) := by
  unfold mn_15
  after_reads_simp [unaryIndexed_result_read, binaryIndexed_result_read, indexContents_tref_cons, indexContents_tref_empty, TRef.ofBuf_toBuf]
  try rfl

theorem mn_15_v34_3_read : after mn_15 V (Proc.tc.devRef main_v34_3) = mn_15_v34_3 (F := F) (V (Proc.tc.devRef main_v25)) := by
  unfold mn_15
  after_reads_simp [unaryIndexed_result_read, binaryIndexed_result_read, indexContents_tref_cons, indexContents_tref_empty, TRef.ofBuf_toBuf]
  try rfl

theorem mn_15_v34_4_read : after mn_15 V (Proc.tc.devRef main_v34_4) = mn_15_v34_4 (F := F) (V (Proc.tc.devRef main_v3)) := by
  unfold mn_15
  after_reads_simp [unaryIndexed_result_read, binaryIndexed_result_read, indexContents_tref_cons, indexContents_tref_empty, TRef.ofBuf_toBuf]
  try rfl

theorem mn_15_v34_5_read : after mn_15 V (Proc.tc.devRef main_v34_5) = mn_15_v34_5 (F := F) := by
  unfold mn_15
  after_reads_simp [unaryIndexed_result_read, binaryIndexed_result_read, indexContents_tref_cons, indexContents_tref_empty, TRef.ofBuf_toBuf]
  try rfl

theorem mn_15_v34_6_read : after mn_15 V (Proc.tc.devRef main_v34_6) = mn_15_v34_6 (F := F) := by
  unfold mn_15
  after_reads_simp [unaryIndexed_result_read, binaryIndexed_result_read, indexContents_tref_cons, indexContents_tref_empty, TRef.ofBuf_toBuf]
  try rfl

theorem mn_15_v34_7_read : after mn_15 V (Proc.tc.devRef main_v34_7) = mn_15_v34_7 (F := F) := by
  unfold mn_15
  after_reads_simp [unaryIndexed_result_read, binaryIndexed_result_read, indexContents_tref_cons, indexContents_tref_empty, TRef.ofBuf_toBuf]
  try rfl

theorem mn_17_v35_read : after mn_17 V (Proc.tc.devRef main_v35) = mn_17_v35 (F := F) (V (Proc.tc.devRef main_v34_7)) := by
  unfold mn_17
  after_reads_simp [unaryIndexed_result_read, binaryIndexed_result_read, indexContents_tref_cons, indexContents_tref_empty, TRef.ofBuf_toBuf]
  try rfl

theorem mn_18_v37_read : after mn_18 V (Proc.tc.devRef main_v37) = mn_18_v37 (F := F) (V (Proc.tc.devRef main_v35)) := by
  unfold mn_18
  after_reads_simp [unaryIndexed_result_read, binaryIndexed_result_read, indexContents_tref_cons, indexContents_tref_empty, TRef.ofBuf_toBuf]
  try rfl

theorem mn_19_v38_read : after mn_19 V (Proc.tc.devRef main_v38) = mn_19_v38 (F := F) (V (Proc.tc.devRef main_v0)) := by
  unfold mn_19
  after_reads_simp [unaryIndexed_result_read, binaryIndexed_result_read, indexContents_tref_cons, indexContents_tref_empty, TRef.ofBuf_toBuf]
  try rfl

theorem mn_20_v40_read : after mn_20 V (Proc.tc.devRef main_v40) = mn_20_v40 (F := F) (V (Proc.tc.devRef main_v38)) := by
  unfold mn_20
  after_reads_simp [unaryIndexed_result_read, binaryIndexed_result_read, indexContents_tref_cons, indexContents_tref_empty, TRef.ofBuf_toBuf]
  try rfl

theorem mn_20_v42_read : after mn_20 V (Proc.tc.devRef main_v42) = mn_20_v42 (F := F) (V (Proc.tc.devRef main_v38)) := by
  unfold mn_20
  after_reads_simp [unaryIndexed_result_read, binaryIndexed_result_read, indexContents_tref_cons, indexContents_tref_empty, TRef.ofBuf_toBuf]
  try rfl

theorem mn_20_cst_15_read : after mn_20 V (Proc.tc.devRef main_cst_15) = mn_20_cst_15 (F := F) := by
  unfold mn_20
  after_reads_simp [unaryIndexed_result_read, binaryIndexed_result_read, indexContents_tref_cons, indexContents_tref_empty, TRef.ofBuf_toBuf]
  try rfl

theorem mn_21_v43_0_read : after mn_21 V (Proc.tc.devRef main_v43_0) = mn_21_v43_0 (F := F) (V (Proc.tc.devRef main_v42)) (V (Proc.tc.devRef main_v40)) (V (Proc.tc.devRef main_cst_15)) := by
  unfold mn_21
  after_reads_simp [unaryIndexed_result_read, binaryIndexed_result_read, indexContents_tref_cons, indexContents_tref_empty, TRef.ofBuf_toBuf]
  try rfl

theorem mn_21_v43_1_read : after mn_21 V (Proc.tc.devRef main_v43_1) = mn_21_v43_1 (F := F) (V (Proc.tc.devRef main_v42)) (V (Proc.tc.devRef main_v40)) (V (Proc.tc.devRef main_cst_15)) := by
  unfold mn_21
  after_reads_simp [unaryIndexed_result_read, binaryIndexed_result_read, indexContents_tref_cons, indexContents_tref_empty, TRef.ofBuf_toBuf]
  try rfl

theorem mn_22_cst_16_read : after mn_22 V (Proc.tc.devRef main_cst_16) = mn_22_cst_16 (F := F) := by
  unfold mn_22
  after_reads_simp [unaryIndexed_result_read, binaryIndexed_result_read, indexContents_tref_cons, indexContents_tref_empty, TRef.ofBuf_toBuf]
  try rfl

theorem mn_23_v44_0_read : after mn_23 V (Proc.tc.devRef main_v44_0) = mn_23_v44_0 (F := F) (V (Proc.tc.devRef main_v42)) (V (Proc.tc.devRef main_cst_16)) (V (Proc.tc.devRef main_v40)) := by
  unfold mn_23
  after_reads_simp [unaryIndexed_result_read, binaryIndexed_result_read, indexContents_tref_cons, indexContents_tref_empty, TRef.ofBuf_toBuf]
  try rfl

theorem mn_23_v44_1_read : after mn_23 V (Proc.tc.devRef main_v44_1) = mn_23_v44_1 (F := F) (V (Proc.tc.devRef main_v42)) (V (Proc.tc.devRef main_cst_16)) (V (Proc.tc.devRef main_v40)) := by
  unfold mn_23
  after_reads_simp [unaryIndexed_result_read, binaryIndexed_result_read, indexContents_tref_cons, indexContents_tref_empty, TRef.ofBuf_toBuf]
  try rfl

theorem mn_24_v46_read : after mn_24 V (Proc.tc.devRef main_v46) = mn_24_v46 (F := F) (V (Proc.tc.devRef main_v43_0)) := by
  unfold mn_24
  after_reads_simp [unaryIndexed_result_read, binaryIndexed_result_read, indexContents_tref_cons, indexContents_tref_empty, TRef.ofBuf_toBuf]
  try rfl

theorem mn_24_v47_read : after mn_24 V (Proc.tc.devRef main_v47) = mn_24_v47 (F := F) (V (Proc.tc.devRef main_v43_0)) := by
  unfold mn_24
  after_reads_simp [unaryIndexed_result_read, binaryIndexed_result_read, indexContents_tref_cons, indexContents_tref_empty, TRef.ofBuf_toBuf]
  try rfl

theorem mn_24_v48_read : after mn_24 V (Proc.tc.devRef main_v48) = mn_24_v48 (F := F) (V (Proc.tc.devRef main_v43_0)) := by
  unfold mn_24
  after_reads_simp [unaryIndexed_result_read, binaryIndexed_result_read, indexContents_tref_cons, indexContents_tref_empty, TRef.ofBuf_toBuf]
  try rfl

theorem mn_24_v49_read : after mn_24 V (Proc.tc.devRef main_v49) = mn_24_v49 (F := F) (V (Proc.tc.devRef main_v44_0)) := by
  unfold mn_24
  after_reads_simp [unaryIndexed_result_read, binaryIndexed_result_read, indexContents_tref_cons, indexContents_tref_empty, TRef.ofBuf_toBuf]
  try rfl

theorem mn_24_v51_read : after mn_24 V (Proc.tc.devRef main_v51) = mn_24_v51 (F := F) (V (Proc.tc.devRef main_v44_0)) := by
  unfold mn_24
  after_reads_simp [unaryIndexed_result_read, binaryIndexed_result_read, indexContents_tref_cons, indexContents_tref_empty, TRef.ofBuf_toBuf]
  try rfl

theorem mn_24_v53_read : after mn_24 V (Proc.tc.devRef main_v53) = mn_24_v53 (F := F) (V (Proc.tc.devRef main_v44_0)) := by
  unfold mn_24
  after_reads_simp [unaryIndexed_result_read, binaryIndexed_result_read, indexContents_tref_cons, indexContents_tref_empty, TRef.ofBuf_toBuf]
  try rfl

theorem mn_25_v54_read : after mn_25 V (Proc.tc.devRef main_v54) = mn_25_v54 (F := F) (V (Proc.tc.devRef main_v42)) (V (Proc.tc.devRef main_v48)) (V (Proc.tc.devRef main_v51)) := by
  unfold mn_25
  after_reads_simp [unaryIndexed_result_read, binaryIndexed_result_read, indexContents_tref_cons, indexContents_tref_empty, TRef.ofBuf_toBuf]
  try rfl

theorem mn_26_v58_read : after mn_26 V (Proc.tc.devRef main_v58) = mn_26_v58 (F := F) := by
  unfold mn_26
  after_reads_simp [unaryIndexed_result_read, binaryIndexed_result_read, indexContents_tref_cons, indexContents_tref_empty, TRef.ofBuf_toBuf]
  try rfl

theorem mn_27_v59_read : after mn_27 V (Proc.tc.devRef main_v59) = mn_27_v59 (F := F) (V (Proc.tc.devRef main_v40)) := by
  unfold mn_27
  after_reads_simp [unaryIndexed_result_read, binaryIndexed_result_read, indexContents_tref_cons, indexContents_tref_empty, TRef.ofBuf_toBuf]
  try rfl

theorem mn_27_v60_read : after mn_27 V (Proc.tc.devRef main_v60) = mn_27_v60 (F := F) (V (Proc.tc.devRef main_v54)) := by
  unfold mn_27
  after_reads_simp [unaryIndexed_result_read, binaryIndexed_result_read, indexContents_tref_cons, indexContents_tref_empty, TRef.ofBuf_toBuf]
  try rfl

theorem mn_27_v61_read : after mn_27 V (Proc.tc.devRef main_v61) = mn_27_v61 (F := F) := by
  unfold mn_27
  after_reads_simp [unaryIndexed_result_read, binaryIndexed_result_read, indexContents_tref_cons, indexContents_tref_empty, TRef.ofBuf_toBuf]
  try rfl

theorem mn_27_v62_read : after mn_27 V (Proc.tc.devRef main_v62) = mn_27_v62 (F := F) := by
  unfold mn_27
  after_reads_simp [unaryIndexed_result_read, binaryIndexed_result_read, indexContents_tref_cons, indexContents_tref_empty, TRef.ofBuf_toBuf]
  try rfl

theorem mn_27_v63_read : after mn_27 V (Proc.tc.devRef main_v63) = mn_27_v63 (F := F) := by
  unfold mn_27
  after_reads_simp [unaryIndexed_result_read, binaryIndexed_result_read, indexContents_tref_cons, indexContents_tref_empty, TRef.ofBuf_toBuf]
  try rfl

theorem mn_27_v64_read : after mn_27 V (Proc.tc.devRef main_v64) = mn_27_v64 (F := F) := by
  unfold mn_27
  after_reads_simp [unaryIndexed_result_read, binaryIndexed_result_read, indexContents_tref_cons, indexContents_tref_empty, TRef.ofBuf_toBuf]
  try rfl

theorem mn_27_v65_read : after mn_27 V (Proc.tc.devRef main_v65) = mn_27_v65 (F := F) := by
  unfold mn_27
  after_reads_simp [unaryIndexed_result_read, binaryIndexed_result_read, indexContents_tref_cons, indexContents_tref_empty, TRef.ofBuf_toBuf]
  try rfl

theorem mn_27_v66_read : after mn_27 V (Proc.tc.devRef main_v66) = mn_27_v66 (F := F) := by
  unfold mn_27
  after_reads_simp [unaryIndexed_result_read, binaryIndexed_result_read, indexContents_tref_cons, indexContents_tref_empty, TRef.ofBuf_toBuf]
  try rfl

theorem mn_27_v67_read : after mn_27 V (Proc.tc.devRef main_v67) = mn_27_v67 (F := F) := by
  unfold mn_27
  after_reads_simp [unaryIndexed_result_read, binaryIndexed_result_read, indexContents_tref_cons, indexContents_tref_empty, TRef.ofBuf_toBuf]
  try rfl

theorem mn_27_v68_read : after mn_27 V (Proc.tc.devRef main_v68) = mn_27_v68 (F := F) := by
  unfold mn_27
  after_reads_simp [unaryIndexed_result_read, binaryIndexed_result_read, indexContents_tref_cons, indexContents_tref_empty, TRef.ofBuf_toBuf]
  try rfl

theorem mn_27_v69_read : after mn_27 V (Proc.tc.devRef main_v69) = mn_27_v69 (F := F) := by
  unfold mn_27
  after_reads_simp [unaryIndexed_result_read, binaryIndexed_result_read, indexContents_tref_cons, indexContents_tref_empty, TRef.ofBuf_toBuf]
  try rfl

theorem mn_28_v70_0_read : after mn_28 V (Proc.tc.devRef main_v70_0) = mn_28_v70_0 (F := F) (V (Proc.tc.devRef main_v59)) := by
  unfold mn_28
  after_reads_simp [unaryIndexed_result_read, binaryIndexed_result_read, indexContents_tref_cons, indexContents_tref_empty, TRef.ofBuf_toBuf]
  try rfl

theorem mn_28_v70_1_read : after mn_28 V (Proc.tc.devRef main_v70_1) = mn_28_v70_1 (F := F) (V (Proc.tc.devRef main_v60)) := by
  unfold mn_28
  after_reads_simp [unaryIndexed_result_read, binaryIndexed_result_read, indexContents_tref_cons, indexContents_tref_empty, TRef.ofBuf_toBuf]
  try rfl

theorem mn_28_v70_2_read : after mn_28 V (Proc.tc.devRef main_v70_2) = mn_28_v70_2 (F := F) (V (Proc.tc.devRef main_v65)) := by
  unfold mn_28
  after_reads_simp [unaryIndexed_result_read, binaryIndexed_result_read, indexContents_tref_cons, indexContents_tref_empty, TRef.ofBuf_toBuf]
  try rfl

theorem mn_28_v70_3_read : after mn_28 V (Proc.tc.devRef main_v70_3) = mn_28_v70_3 (F := F) (V (Proc.tc.devRef main_v61)) := by
  unfold mn_28
  after_reads_simp [unaryIndexed_result_read, binaryIndexed_result_read, indexContents_tref_cons, indexContents_tref_empty, TRef.ofBuf_toBuf]
  try rfl

theorem mn_28_v70_4_read : after mn_28 V (Proc.tc.devRef main_v70_4) = mn_28_v70_4 (F := F) (V (Proc.tc.devRef main_v62)) := by
  unfold mn_28
  after_reads_simp [unaryIndexed_result_read, binaryIndexed_result_read, indexContents_tref_cons, indexContents_tref_empty, TRef.ofBuf_toBuf]
  try rfl

theorem mn_28_v70_5_read : after mn_28 V (Proc.tc.devRef main_v70_5) = mn_28_v70_5 (F := F) (V (Proc.tc.devRef main_v63)) := by
  unfold mn_28
  after_reads_simp [unaryIndexed_result_read, binaryIndexed_result_read, indexContents_tref_cons, indexContents_tref_empty, TRef.ofBuf_toBuf]
  try rfl

theorem mn_28_v70_6_read : after mn_28 V (Proc.tc.devRef main_v70_6) = mn_28_v70_6 (F := F) (V (Proc.tc.devRef main_v64)) := by
  unfold mn_28
  after_reads_simp [unaryIndexed_result_read, binaryIndexed_result_read, indexContents_tref_cons, indexContents_tref_empty, TRef.ofBuf_toBuf]
  try rfl

theorem mn_28_v70_7_read : after mn_28 V (Proc.tc.devRef main_v70_7) = mn_28_v70_7 (F := F) := by
  unfold mn_28
  after_reads_simp [unaryIndexed_result_read, binaryIndexed_result_read, indexContents_tref_cons, indexContents_tref_empty, TRef.ofBuf_toBuf]
  try rfl

theorem mn_28_v70_8_read : after mn_28 V (Proc.tc.devRef main_v70_8) = mn_28_v70_8 (F := F) (V (Proc.tc.devRef main_v58)) := by
  unfold mn_28
  after_reads_simp [unaryIndexed_result_read, binaryIndexed_result_read, indexContents_tref_cons, indexContents_tref_empty, TRef.ofBuf_toBuf]
  try rfl

theorem mn_28_v70_9_read : after mn_28 V (Proc.tc.devRef main_v70_9) = mn_28_v70_9 (F := F) (V (Proc.tc.devRef main_v67)) := by
  unfold mn_28
  after_reads_simp [unaryIndexed_result_read, binaryIndexed_result_read, indexContents_tref_cons, indexContents_tref_empty, TRef.ofBuf_toBuf]
  try rfl

theorem mn_28_v70_10_read : after mn_28 V (Proc.tc.devRef main_v70_10) = mn_28_v70_10 (F := F) (V (Proc.tc.devRef main_v68)) := by
  unfold mn_28
  after_reads_simp [unaryIndexed_result_read, binaryIndexed_result_read, indexContents_tref_cons, indexContents_tref_empty, TRef.ofBuf_toBuf]
  try rfl

theorem mn_28_v70_11_read : after mn_28 V (Proc.tc.devRef main_v70_11) = mn_28_v70_11 (F := F) (V (Proc.tc.devRef main_v69)) := by
  unfold mn_28
  after_reads_simp [unaryIndexed_result_read, binaryIndexed_result_read, indexContents_tref_cons, indexContents_tref_empty, TRef.ofBuf_toBuf]
  try rfl

theorem mn_30_v84_read : after mn_30 V (Proc.tc.devRef main_v84) = mn_30_v84 (F := F) := by
  unfold mn_30
  after_reads_simp [unaryIndexed_result_read, binaryIndexed_result_read, indexContents_tref_cons, indexContents_tref_empty, TRef.ofBuf_toBuf]
  try rfl

theorem mn_31_v88_0_read : after mn_31 V (Proc.tc.devRef main_v88_0) = mn_31_v88_0 (F := F) (V (Proc.tc.devRef main_v84)) := by
  unfold mn_31
  after_reads_simp [unaryIndexed_result_read, binaryIndexed_result_read, indexContents_tref_cons, indexContents_tref_empty, TRef.ofBuf_toBuf]
  try rfl

theorem mn_31_v88_1_read : after mn_31 V (Proc.tc.devRef main_v88_1) = mn_31_v88_1 (F := F) (V (Proc.tc.devRef main_v70_10)) := by
  unfold mn_31
  after_reads_simp [unaryIndexed_result_read, binaryIndexed_result_read, indexContents_tref_cons, indexContents_tref_empty, TRef.ofBuf_toBuf]
  try rfl

theorem mn_31_v88_2_read : after mn_31 V (Proc.tc.devRef main_v88_2) = mn_31_v88_2 (F := F) (V (Proc.tc.devRef main_v70_11)) := by
  unfold mn_31
  after_reads_simp [unaryIndexed_result_read, binaryIndexed_result_read, indexContents_tref_cons, indexContents_tref_empty, TRef.ofBuf_toBuf]
  try rfl

theorem mn_31_v88_3_read : after mn_31 V (Proc.tc.devRef main_v88_3) = mn_31_v88_3 (F := F) (V (Proc.tc.devRef main_v66)) := by
  unfold mn_31
  after_reads_simp [unaryIndexed_result_read, binaryIndexed_result_read, indexContents_tref_cons, indexContents_tref_empty, TRef.ofBuf_toBuf]
  try rfl

theorem mn_31_v88_4_read : after mn_31 V (Proc.tc.devRef main_v88_4) = mn_31_v88_4 (F := F) := by
  unfold mn_31
  after_reads_simp [unaryIndexed_result_read, binaryIndexed_result_read, indexContents_tref_cons, indexContents_tref_empty, TRef.ofBuf_toBuf]
  try rfl

theorem mn_31_v88_5_read : after mn_31 V (Proc.tc.devRef main_v88_5) = mn_31_v88_5 (F := F) := by
  unfold mn_31
  after_reads_simp [unaryIndexed_result_read, binaryIndexed_result_read, indexContents_tref_cons, indexContents_tref_empty, TRef.ofBuf_toBuf]
  try rfl

theorem mn_31_v88_6_read : after mn_31 V (Proc.tc.devRef main_v88_6) = mn_31_v88_6 (F := F) := by
  unfold mn_31
  after_reads_simp [unaryIndexed_result_read, binaryIndexed_result_read, indexContents_tref_cons, indexContents_tref_empty, TRef.ofBuf_toBuf]
  try rfl

theorem mn_31_v88_7_read : after mn_31 V (Proc.tc.devRef main_v88_7) = mn_31_v88_7 (F := F) := by
  unfold mn_31
  after_reads_simp [unaryIndexed_result_read, binaryIndexed_result_read, indexContents_tref_cons, indexContents_tref_empty, TRef.ofBuf_toBuf]
  try rfl

theorem mn_33_v89_read : after mn_33 V (Proc.tc.devRef main_v89) = mn_33_v89 (F := F) (V (Proc.tc.devRef main_v88_7)) := by
  unfold mn_33
  after_reads_simp [unaryIndexed_result_read, binaryIndexed_result_read, indexContents_tref_cons, indexContents_tref_empty, TRef.ofBuf_toBuf]
  try rfl

theorem mn_33_v90_read : after mn_33 V (Proc.tc.devRef main_v90) = mn_33_v90 (F := F) (V (Proc.tc.devRef main_v88_6)) := by
  unfold mn_33
  after_reads_simp [unaryIndexed_result_read, binaryIndexed_result_read, indexContents_tref_cons, indexContents_tref_empty, TRef.ofBuf_toBuf]
  try rfl

theorem mn_34_v91_1_read : after mn_34 V (Proc.tc.devRef main_v91_1) = mn_34_v91_1 (F := F) (V (Proc.tc.devRef main_v42)) (V (Proc.tc.devRef main_v89)) := by
  unfold mn_34
  after_reads_simp [unaryIndexed_result_read, binaryIndexed_result_read, indexContents_tref_cons, indexContents_tref_empty, TRef.ofBuf_toBuf]
  try rfl

theorem mn_34_v91_0_read : after mn_34 V (Proc.tc.devRef main_v91_0) = mn_34_v91_0 (F := F) (V (Proc.tc.devRef main_v42)) (V (Proc.tc.devRef main_v89)) := by
  unfold mn_34
  after_reads_simp [unaryIndexed_result_read, binaryIndexed_result_read, indexContents_tref_cons, indexContents_tref_empty, TRef.ofBuf_toBuf]
  try rfl

theorem mn_35_v94_read : after mn_35 V (Proc.tc.devRef main_v94) = mn_35_v94 (F := F) (V (Proc.tc.devRef main_v91_1)) (V (Proc.tc.devRef main_v53)) (V (Proc.tc.devRef main_v49)) := by
  unfold mn_35
  after_reads_simp [unaryIndexed_result_read, binaryIndexed_result_read, indexContents_tref_cons, indexContents_tref_empty, TRef.ofBuf_toBuf]
  try rfl

theorem mn_35_v97_read : after mn_35 V (Proc.tc.devRef main_v97) = mn_35_v97 (F := F) (V (Proc.tc.devRef main_v91_0)) (V (Proc.tc.devRef main_v47)) (V (Proc.tc.devRef main_v46)) := by
  unfold mn_35
  after_reads_simp [unaryIndexed_result_read, binaryIndexed_result_read, indexContents_tref_cons, indexContents_tref_empty, TRef.ofBuf_toBuf]
  try rfl

theorem mn_36_v98_read : after mn_36 V (Proc.tc.devRef main_v98) = mn_36_v98 (F := F) (V (Proc.tc.devRef main_v42)) (V (Proc.tc.devRef main_v44_1)) (V (Proc.tc.devRef main_v94)) := by
  unfold mn_36
  after_reads_simp [unaryIndexed_result_read, binaryIndexed_result_read, indexContents_tref_cons, indexContents_tref_empty, TRef.ofBuf_toBuf]
  try rfl

theorem mn_37_v99_read : after mn_37 V (Proc.tc.devRef main_v99) = mn_37_v99 (F := F) (V (Proc.tc.devRef main_v90)) (V (Proc.tc.devRef main_v98)) := by
  unfold mn_37
  after_reads_simp [unaryIndexed_result_read, binaryIndexed_result_read, indexContents_tref_cons, indexContents_tref_empty, TRef.ofBuf_toBuf]
  try rfl

theorem mn_38_v100_read : after mn_38 V (Proc.tc.devRef main_v100) = mn_38_v100 (F := F) (V (Proc.tc.devRef main_v42)) (V (Proc.tc.devRef main_v43_1)) (V (Proc.tc.devRef main_v97)) := by
  unfold mn_38
  after_reads_simp [unaryIndexed_result_read, binaryIndexed_result_read, indexContents_tref_cons, indexContents_tref_empty, TRef.ofBuf_toBuf]
  try rfl

theorem mn_39_v101_read : after mn_39 V (Proc.tc.devRef main_v101) = mn_39_v101 (F := F) (V (Proc.tc.devRef main_v99)) (V (Proc.tc.devRef main_v100)) := by
  unfold mn_39
  after_reads_simp [unaryIndexed_result_read, binaryIndexed_result_read, indexContents_tref_cons, indexContents_tref_empty, TRef.ofBuf_toBuf]
  try rfl

theorem mn_40_v104_read : after mn_40 V (Proc.tc.devRef main_v104) = mn_40_v104 (F := F) (V (Proc.tc.devRef main_v37)) (V (Proc.tc.devRef main_v101)) := by
  unfold mn_40
  after_reads_simp [unaryIndexed_result_read, binaryIndexed_result_read, indexContents_tref_cons, indexContents_tref_empty, TRef.ofBuf_toBuf]
  try rfl

theorem wa_0_v39_read : after wa_0 V (Proc.tc.devRef main_while0b_v105) = wa_0_v39 (F := F) (V (Proc.tc.devRef main_v22_0)) (V (Proc.tc.devRef main_v22_2)) := by
  unfold wa_0
  after_reads_simp [unaryIndexed_result_read, binaryIndexed_result_read, indexContents_tref_cons, indexContents_tref_empty, TRef.ofBuf_toBuf]
  try rfl

theorem wa_1_v40_read : after wa_1 V (Proc.tc.devRef main_while0b_v106) = wa_1_v40 (F := F) (V (Proc.tc.devRef main_v22_1)) (V (Proc.tc.devRef main_v22_2)) := by
  unfold wa_1
  after_reads_simp [unaryIndexed_result_read, binaryIndexed_result_read, indexContents_tref_cons, indexContents_tref_empty, TRef.ofBuf_toBuf]
  try rfl

theorem wa_2_v58_read : after wa_2 V (Proc.tc.devRef main_while0b_v124) = wa_2_v58 (F := F) (V (Proc.tc.devRef main_v22_3)) (V (Proc.tc.devRef main_while0b_v105)) (V (Proc.tc.devRef main_while0b_v106)) := by
  unfold wa_2
  after_reads_simp [unaryIndexed_result_read, binaryIndexed_result_read, indexContents_tref_cons, indexContents_tref_empty, TRef.ofBuf_toBuf]
  try rfl

theorem wa_3_v59_read : after wa_3 V (Proc.tc.devRef main_while0b_v125) = wa_3_v59 (F := F) := by
  unfold wa_3
  after_reads_simp [unaryIndexed_result_read, binaryIndexed_result_read, indexContents_tref_cons, indexContents_tref_empty, TRef.ofBuf_toBuf]
  try rfl

theorem wa_4_v60_read : after wa_4 V (Proc.tc.devRef main_while0b_v126) = wa_4_v60 (F := F) (V (Proc.tc.devRef main_while0b_v125)) (V (Proc.tc.devRef main_while0b_v124)) := by
  unfold wa_4
  after_reads_simp [unaryIndexed_result_read, binaryIndexed_result_read, indexContents_tref_cons, indexContents_tref_empty, TRef.ofBuf_toBuf]
  try rfl

theorem wa_5_v61_read : after wa_5 V (Proc.tc.devRef main_while0b_v127) = wa_5_v61 (F := F) (V (Proc.tc.devRef main_v22_4)) (V (Proc.tc.devRef main_while0b_v126)) (V (Proc.tc.devRef main_v22_2)) := by
  unfold wa_5
  after_reads_simp [unaryIndexed_result_read, binaryIndexed_result_read, indexContents_tref_cons, indexContents_tref_empty, TRef.ofBuf_toBuf]
  try rfl

theorem wa_6_v22_2_read : after wa_6 V (Proc.tc.devRef main_v22_2) = wa_6_v22_2 (F := F) (V (Proc.tc.devRef main_v22_2)) := by
  unfold wa_6
  after_reads_simp [unaryIndexed_result_read, binaryIndexed_result_read, indexContents_tref_cons, indexContents_tref_empty, TRef.ofBuf_toBuf]
  try rfl

theorem wa_6_v22_3_read : after wa_6 V (Proc.tc.devRef main_v22_3) = wa_6_v22_3 (F := F) (V (Proc.tc.devRef main_while0b_v126)) := by
  unfold wa_6
  after_reads_simp [unaryIndexed_result_read, binaryIndexed_result_read, indexContents_tref_cons, indexContents_tref_empty, TRef.ofBuf_toBuf]
  try rfl

theorem wa_6_v22_4_read : after wa_6 V (Proc.tc.devRef main_v22_4) = wa_6_v22_4 (F := F) (V (Proc.tc.devRef main_while0b_v127)) := by
  unfold wa_6
  after_reads_simp [unaryIndexed_result_read, binaryIndexed_result_read, indexContents_tref_cons, indexContents_tref_empty, TRef.ofBuf_toBuf]
  try rfl

theorem wb_0_v39_read : after wb_0 V (Proc.tc.devRef main_while1b_v105) = wb_0_v39 (F := F) (V (Proc.tc.devRef main_v34_0)) (V (Proc.tc.devRef main_v34_5)) := by
  unfold wb_0
  after_reads_simp [unaryIndexed_result_read, binaryIndexed_result_read, indexContents_tref_cons, indexContents_tref_empty, TRef.ofBuf_toBuf]
  try rfl

theorem wb_1_v40_read : after wb_1 V (Proc.tc.devRef main_while1b_v106) = wb_1_v40 (F := F) (V (Proc.tc.devRef main_v34_1)) (V (Proc.tc.devRef main_v34_5)) := by
  unfold wb_1
  after_reads_simp [unaryIndexed_result_read, binaryIndexed_result_read, indexContents_tref_cons, indexContents_tref_empty, TRef.ofBuf_toBuf]
  try rfl

theorem wb_2_v44_read : after wb_2 V (Proc.tc.devRef main_while1b_v110) = wb_2_v44 (F := F) (V (Proc.tc.devRef main_while1b_v105)) := by
  unfold wb_2
  after_reads_simp [unaryIndexed_result_read, binaryIndexed_result_read, indexContents_tref_cons, indexContents_tref_empty, TRef.ofBuf_toBuf]
  try rfl

theorem wb_3_v64_read : after wb_3 V (Proc.tc.devRef main_while1b_v130) = wb_3_v64 (F := F) (V (Proc.tc.devRef main_v34_2)) := by
  unfold wb_3
  after_reads_simp [unaryIndexed_result_read, binaryIndexed_result_read, indexContents_tref_cons, indexContents_tref_empty, TRef.ofBuf_toBuf]
  try rfl

theorem wb_3_v65_read : after wb_3 V (Proc.tc.devRef main_while1b_v131) = wb_3_v65 (F := F) (V (Proc.tc.devRef main_while1b_v110)) := by
  unfold wb_3
  after_reads_simp [unaryIndexed_result_read, binaryIndexed_result_read, indexContents_tref_cons, indexContents_tref_empty, TRef.ofBuf_toBuf]
  try rfl

theorem wb_3_v66_read : after wb_3 V (Proc.tc.devRef main_while1b_v132) = wb_3_v66 (F := F) (V (Proc.tc.devRef main_v34_6)) := by
  unfold wb_3
  after_reads_simp [unaryIndexed_result_read, binaryIndexed_result_read, indexContents_tref_cons, indexContents_tref_empty, TRef.ofBuf_toBuf]
  try rfl

theorem wb_4_v67_read : after wb_4 V (Proc.tc.devRef main_while1b_v133) = wb_4_v67 (F := F) (V (Proc.tc.devRef main_while1b_v130)) (V (Proc.tc.devRef main_while1b_v131)) (V (Proc.tc.devRef main_while1b_v132)) := by
  unfold wb_4
  after_reads_simp [unaryIndexed_result_read, binaryIndexed_result_read, indexContents_tref_cons, indexContents_tref_empty, TRef.ofBuf_toBuf]
  try rfl

theorem wb_5_v68_read : after wb_5 V (Proc.tc.devRef main_while1b_v134) = wb_5_v68 (F := F) (V (Proc.tc.devRef main_v34_3)) (V (Proc.tc.devRef main_while1b_v133)) := by
  unfold wb_5
  after_reads_simp [unaryIndexed_result_read, binaryIndexed_result_read, indexContents_tref_cons, indexContents_tref_empty, TRef.ofBuf_toBuf]
  try rfl

theorem wb_6_v88_read : after wb_6 V (Proc.tc.devRef main_while1b_v154) = wb_6_v88 (F := F) (V (Proc.tc.devRef main_v34_2)) := by
  unfold wb_6
  after_reads_simp [unaryIndexed_result_read, binaryIndexed_result_read, indexContents_tref_cons, indexContents_tref_empty, TRef.ofBuf_toBuf]
  try rfl

theorem wb_6_v89_read : after wb_6 V (Proc.tc.devRef main_while1b_v155) = wb_6_v89 (F := F) (V (Proc.tc.devRef main_while1b_v110)) := by
  unfold wb_6
  after_reads_simp [unaryIndexed_result_read, binaryIndexed_result_read, indexContents_tref_cons, indexContents_tref_empty, TRef.ofBuf_toBuf]
  try rfl

theorem wb_6_v90_read : after wb_6 V (Proc.tc.devRef main_while1b_v156) = wb_6_v90 (F := F) (V (Proc.tc.devRef main_v34_6)) := by
  unfold wb_6
  after_reads_simp [unaryIndexed_result_read, binaryIndexed_result_read, indexContents_tref_cons, indexContents_tref_empty, TRef.ofBuf_toBuf]
  try rfl

theorem wb_7_v91_read : after wb_7 V (Proc.tc.devRef main_while1b_v157) = wb_7_v91 (F := F) (V (Proc.tc.devRef main_while1b_v154)) (V (Proc.tc.devRef main_while1b_v155)) (V (Proc.tc.devRef main_while1b_v156)) := by
  unfold wb_7
  after_reads_simp [unaryIndexed_result_read, binaryIndexed_result_read, indexContents_tref_cons, indexContents_tref_empty, TRef.ofBuf_toBuf]
  try rfl

theorem wb_8_v92_read : after wb_8 V (Proc.tc.devRef main_while1b_v158) = wb_8_v92 (F := F) (V (Proc.tc.devRef main_v34_3)) (V (Proc.tc.devRef main_while1b_v157)) := by
  unfold wb_8
  after_reads_simp [unaryIndexed_result_read, binaryIndexed_result_read, indexContents_tref_cons, indexContents_tref_empty, TRef.ofBuf_toBuf]
  try rfl

theorem wb_9_v93_read : after wb_9 V (Proc.tc.devRef main_while1b_v159) = wb_9_v93 (F := F) (V (Proc.tc.devRef main_while1b_v105)) := by
  unfold wb_9
  after_reads_simp [unaryIndexed_result_read, binaryIndexed_result_read, indexContents_tref_cons, indexContents_tref_empty, TRef.ofBuf_toBuf]
  try rfl

theorem wb_10_v94_read : after wb_10 V (Proc.tc.devRef main_while1b_v160) = wb_10_v94 (F := F) (V (Proc.tc.devRef main_v34_4)) (V (Proc.tc.devRef main_while1b_v159)) := by
  unfold wb_10
  after_reads_simp [unaryIndexed_result_read, binaryIndexed_result_read, indexContents_tref_cons, indexContents_tref_empty, TRef.ofBuf_toBuf]
  try rfl

theorem wb_11_v98_read : after wb_11 V (Proc.tc.devRef main_while1b_v164) = wb_11_v98 (F := F) (V (Proc.tc.devRef main_while1b_v134)) (V (Proc.tc.devRef main_while1b_v160)) (V (Proc.tc.devRef main_while1b_v158)) := by
  unfold wb_11
  after_reads_simp [unaryIndexed_result_read, binaryIndexed_result_read, indexContents_tref_cons, indexContents_tref_empty, TRef.ofBuf_toBuf]
  try rfl

theorem wb_12_v100_read : after wb_12 V (Proc.tc.devRef main_while1b_v166) = wb_12_v100 (F := F) (V (Proc.tc.devRef main_while1b_v164)) := by
  unfold wb_12
  after_reads_simp [unaryIndexed_result_read, binaryIndexed_result_read, indexContents_tref_cons, indexContents_tref_empty, TRef.ofBuf_toBuf]
  try rfl

theorem wb_12_cst_41_read : after wb_12 V (Proc.tc.devRef main_while1b_cst_68) = wb_12_cst_41 (F := F) := by
  unfold wb_12
  after_reads_simp [unaryIndexed_result_read, binaryIndexed_result_read, indexContents_tref_cons, indexContents_tref_empty, TRef.ofBuf_toBuf]
  try rfl

theorem wb_13_v101_read : after wb_13 V (Proc.tc.devRef main_while1b_v167) = wb_13_v101 (F := F) (V (Proc.tc.devRef main_while1b_v166)) (V (Proc.tc.devRef main_while1b_v164)) (V (Proc.tc.devRef main_while1b_cst_68)) := by
  unfold wb_13
  after_reads_simp [unaryIndexed_result_read, binaryIndexed_result_read, indexContents_tref_cons, indexContents_tref_empty, TRef.ofBuf_toBuf]
  try rfl

theorem wb_14_cst_42_read : after wb_14 V (Proc.tc.devRef main_while1b_cst_69) = wb_14_cst_42 (F := F) := by
  unfold wb_14
  after_reads_simp [unaryIndexed_result_read, binaryIndexed_result_read, indexContents_tref_cons, indexContents_tref_empty, TRef.ofBuf_toBuf]
  try rfl

theorem wb_15_v102_read : after wb_15 V (Proc.tc.devRef main_while1b_v168) = wb_15_v102 (F := F) (V (Proc.tc.devRef main_while1b_v166)) (V (Proc.tc.devRef main_while1b_cst_69)) (V (Proc.tc.devRef main_while1b_v164)) := by
  unfold wb_15
  after_reads_simp [unaryIndexed_result_read, binaryIndexed_result_read, indexContents_tref_cons, indexContents_tref_empty, TRef.ofBuf_toBuf]
  try rfl

theorem wb_16_v105_read : after wb_16 V (Proc.tc.devRef main_while1b_v171) = wb_16_v105 (F := F) (V (Proc.tc.devRef main_while1b_v167)) := by
  unfold wb_16
  after_reads_simp [unaryIndexed_result_read, binaryIndexed_result_read, indexContents_tref_cons, indexContents_tref_empty, TRef.ofBuf_toBuf]
  try rfl

theorem wb_16_v108_read : after wb_16 V (Proc.tc.devRef main_while1b_v174) = wb_16_v108 (F := F) (V (Proc.tc.devRef main_while1b_v168)) := by
  unfold wb_16
  after_reads_simp [unaryIndexed_result_read, binaryIndexed_result_read, indexContents_tref_cons, indexContents_tref_empty, TRef.ofBuf_toBuf]
  try rfl

theorem wb_17_v109_read : after wb_17 V (Proc.tc.devRef main_while1b_v175) = wb_17_v109 (F := F) (V (Proc.tc.devRef main_while1b_v166)) (V (Proc.tc.devRef main_while1b_v171)) (V (Proc.tc.devRef main_while1b_v174)) := by
  unfold wb_17
  after_reads_simp [unaryIndexed_result_read, binaryIndexed_result_read, indexContents_tref_cons, indexContents_tref_empty, TRef.ofBuf_toBuf]
  try rfl

theorem wb_18_v116_read : after wb_18 V (Proc.tc.devRef main_while1b_v182) = wb_18_v116 (F := F) (V (Proc.tc.devRef main_while1b_v164)) (V (Proc.tc.devRef main_while1b_v175)) := by
  unfold wb_18
  after_reads_simp [unaryIndexed_result_read, binaryIndexed_result_read, indexContents_tref_cons, indexContents_tref_empty, TRef.ofBuf_toBuf]
  try rfl

theorem wb_19_v118_read : after wb_19 V (Proc.tc.devRef main_while1b_v184) = wb_19_v118 (F := F) (V (Proc.tc.devRef main_while1b_v106)) (V (Proc.tc.devRef main_while1b_v182)) := by
  unfold wb_19
  after_reads_simp [unaryIndexed_result_read, binaryIndexed_result_read, indexContents_tref_cons, indexContents_tref_empty, TRef.ofBuf_toBuf]
  try rfl

theorem wb_19_v120_read : after wb_19 V (Proc.tc.devRef main_while1b_v186) = wb_19_v120 (F := F) (V (Proc.tc.devRef main_while1b_v106)) (V (Proc.tc.devRef main_while1b_v182)) := by
  unfold wb_19
  after_reads_simp [unaryIndexed_result_read, binaryIndexed_result_read, indexContents_tref_cons, indexContents_tref_empty, TRef.ofBuf_toBuf]
  try rfl

theorem wb_19_v122_read : after wb_19 V (Proc.tc.devRef main_while1b_v188) = wb_19_v122 (F := F) (V (Proc.tc.devRef main_v34_6)) := by
  unfold wb_19
  after_reads_simp [unaryIndexed_result_read, binaryIndexed_result_read, indexContents_tref_cons, indexContents_tref_empty, TRef.ofBuf_toBuf]
  try rfl

theorem wb_20_v123_read : after wb_20 V (Proc.tc.devRef main_while1b_v189) = wb_20_v123 (F := F) (V (Proc.tc.devRef main_while1b_v186)) (V (Proc.tc.devRef main_while1b_v188)) (V (Proc.tc.devRef main_v34_6)) := by
  unfold wb_20
  after_reads_simp [unaryIndexed_result_read, binaryIndexed_result_read, indexContents_tref_cons, indexContents_tref_empty, TRef.ofBuf_toBuf]
  try rfl

theorem wb_21_v124_read : after wb_21 V (Proc.tc.devRef main_while1b_v190) = wb_21_v124 (F := F) (V (Proc.tc.devRef main_v34_7)) (V (Proc.tc.devRef main_while1b_v184)) (V (Proc.tc.devRef main_v34_5)) := by
  unfold wb_21
  after_reads_simp [unaryIndexed_result_read, binaryIndexed_result_read, indexContents_tref_cons, indexContents_tref_empty, TRef.ofBuf_toBuf]
  try rfl

theorem wb_22_v34_5_read : after wb_22 V (Proc.tc.devRef main_v34_5) = wb_22_v34_5 (F := F) (V (Proc.tc.devRef main_v34_5)) := by
  unfold wb_22
  after_reads_simp [unaryIndexed_result_read, binaryIndexed_result_read, indexContents_tref_cons, indexContents_tref_empty, TRef.ofBuf_toBuf]
  try rfl

theorem wb_22_v34_6_read : after wb_22 V (Proc.tc.devRef main_v34_6) = wb_22_v34_6 (F := F) (V (Proc.tc.devRef main_while1b_v189)) := by
  unfold wb_22
  after_reads_simp [unaryIndexed_result_read, binaryIndexed_result_read, indexContents_tref_cons, indexContents_tref_empty, TRef.ofBuf_toBuf]
  try rfl

theorem wb_22_v34_7_read : after wb_22 V (Proc.tc.devRef main_v34_7) = wb_22_v34_7 (F := F) (V (Proc.tc.devRef main_while1b_v190)) := by
  unfold wb_22
  after_reads_simp [unaryIndexed_result_read, binaryIndexed_result_read, indexContents_tref_cons, indexContents_tref_empty, TRef.ofBuf_toBuf]
  try rfl

theorem wc_0_v105_read : after wc_0 V (Proc.tc.devRef main_while2b_v105) = wc_0_v105 (F := F) (V (Proc.tc.devRef main_v70_0)) (V (Proc.tc.devRef main_v70_7)) := by
  unfold wc_0
  after_reads_simp [unaryIndexed_result_read, binaryIndexed_result_read, indexContents_tref_cons, indexContents_tref_empty, TRef.ofBuf_toBuf]
  try rfl

theorem wc_1_v106_read : after wc_1 V (Proc.tc.devRef main_while2b_v106) = wc_1_v106 (F := F) (V (Proc.tc.devRef main_v70_1)) (V (Proc.tc.devRef main_v70_7)) := by
  unfold wc_1
  after_reads_simp [unaryIndexed_result_read, binaryIndexed_result_read, indexContents_tref_cons, indexContents_tref_empty, TRef.ofBuf_toBuf]
  try rfl

theorem wc_2_v110_read : after wc_2 V (Proc.tc.devRef main_while2b_v110) = wc_2_v110 (F := F) (V (Proc.tc.devRef main_v70_8)) (V (Proc.tc.devRef main_while2b_v105)) := by
  unfold wc_2
  after_reads_simp [unaryIndexed_result_read, binaryIndexed_result_read, indexContents_tref_cons, indexContents_tref_empty, TRef.ofBuf_toBuf]
  try rfl

theorem wc_3_v114_read : after wc_3 V (Proc.tc.devRef main_while2b_v114) = wc_3_v114 (F := F) (V (Proc.tc.devRef main_v70_8)) (V (Proc.tc.devRef main_while2b_v106)) := by
  unfold wc_3
  after_reads_simp [unaryIndexed_result_read, binaryIndexed_result_read, indexContents_tref_cons, indexContents_tref_empty, TRef.ofBuf_toBuf]
  try rfl

theorem wc_4_v124_read : after wc_4 V (Proc.tc.devRef main_while2b_v124) = wc_4_v124 (F := F) (V (Proc.tc.devRef main_while2b_v110)) (V (Proc.tc.devRef main_while2b_v114)) := by
  unfold wc_4
  after_reads_simp [unaryIndexed_result_read, binaryIndexed_result_read, indexContents_tref_cons, indexContents_tref_empty, TRef.ofBuf_toBuf]
  try rfl

theorem wc_5_v132_read : after wc_5 V (Proc.tc.devRef main_while2b_v132) = wc_5_v132 (F := F) (V (Proc.tc.devRef main_while2b_v110)) (V (Proc.tc.devRef main_v70_3)) (V (Proc.tc.devRef main_while2b_v124)) (V (Proc.tc.devRef main_v70_4)) := by
  unfold wc_5
  after_reads_simp [unaryIndexed_result_read, binaryIndexed_result_read, indexContents_tref_cons, indexContents_tref_empty, TRef.ofBuf_toBuf]
  try rfl

theorem wc_6_v140_read : after wc_6 V (Proc.tc.devRef main_while2b_v140) = wc_6_v140 (F := F) (V (Proc.tc.devRef main_while2b_v114)) (V (Proc.tc.devRef main_v70_5)) (V (Proc.tc.devRef main_while2b_v124)) (V (Proc.tc.devRef main_v70_6)) := by
  unfold wc_6
  after_reads_simp [unaryIndexed_result_read, binaryIndexed_result_read, indexContents_tref_cons, indexContents_tref_empty, TRef.ofBuf_toBuf]
  try rfl

theorem wc_7_v141_read : after wc_7 V (Proc.tc.devRef main_while2b_v141) = wc_7_v141 (F := F) (V (Proc.tc.devRef main_v70_2)) (V (Proc.tc.devRef main_while2b_v124)) := by
  unfold wc_7
  after_reads_simp [unaryIndexed_result_read, binaryIndexed_result_read, indexContents_tref_cons, indexContents_tref_empty, TRef.ofBuf_toBuf]
  try rfl

theorem wc_8_v142_read : after wc_8 V (Proc.tc.devRef main_while2b_v142) = wc_8_v142 (F := F) (V (Proc.tc.devRef main_v70_9)) (V (Proc.tc.devRef main_while2b_v141)) (V (Proc.tc.devRef main_v70_7)) := by
  unfold wc_8
  after_reads_simp [unaryIndexed_result_read, binaryIndexed_result_read, indexContents_tref_cons, indexContents_tref_empty, TRef.ofBuf_toBuf]
  try rfl

theorem wc_9_v143_read : after wc_9 V (Proc.tc.devRef main_while2b_v143) = wc_9_v143 (F := F) (V (Proc.tc.devRef main_v70_10)) (V (Proc.tc.devRef main_while2b_v132)) (V (Proc.tc.devRef main_v70_7)) := by
  unfold wc_9
  after_reads_simp [unaryIndexed_result_read, binaryIndexed_result_read, indexContents_tref_cons, indexContents_tref_empty, TRef.ofBuf_toBuf]
  try rfl

theorem wc_10_v144_read : after wc_10 V (Proc.tc.devRef main_while2b_v144) = wc_10_v144 (F := F) (V (Proc.tc.devRef main_v70_11)) (V (Proc.tc.devRef main_while2b_v140)) (V (Proc.tc.devRef main_v70_7)) := by
  unfold wc_10
  after_reads_simp [unaryIndexed_result_read, binaryIndexed_result_read, indexContents_tref_cons, indexContents_tref_empty, TRef.ofBuf_toBuf]
  try rfl

theorem wc_11_v70_7_read : after wc_11 V (Proc.tc.devRef main_v70_7) = wc_11_v70_7 (F := F) (V (Proc.tc.devRef main_v70_7)) := by
  unfold wc_11
  after_reads_simp [unaryIndexed_result_read, binaryIndexed_result_read, indexContents_tref_cons, indexContents_tref_empty, TRef.ofBuf_toBuf]
  try rfl

theorem wc_11_v70_8_read : after wc_11 V (Proc.tc.devRef main_v70_8) = wc_11_v70_8 (F := F) (V (Proc.tc.devRef main_while2b_v141)) := by
  unfold wc_11
  after_reads_simp [unaryIndexed_result_read, binaryIndexed_result_read, indexContents_tref_cons, indexContents_tref_empty, TRef.ofBuf_toBuf]
  try rfl

theorem wc_11_v70_9_read : after wc_11 V (Proc.tc.devRef main_v70_9) = wc_11_v70_9 (F := F) (V (Proc.tc.devRef main_while2b_v142)) := by
  unfold wc_11
  after_reads_simp [unaryIndexed_result_read, binaryIndexed_result_read, indexContents_tref_cons, indexContents_tref_empty, TRef.ofBuf_toBuf]
  try rfl

theorem wc_11_v70_10_read : after wc_11 V (Proc.tc.devRef main_v70_10) = wc_11_v70_10 (F := F) (V (Proc.tc.devRef main_while2b_v143)) := by
  unfold wc_11
  after_reads_simp [unaryIndexed_result_read, binaryIndexed_result_read, indexContents_tref_cons, indexContents_tref_empty, TRef.ofBuf_toBuf]
  try rfl

theorem wc_11_v70_11_read : after wc_11 V (Proc.tc.devRef main_v70_11) = wc_11_v70_11 (F := F) (V (Proc.tc.devRef main_while2b_v144)) := by
  unfold wc_11
  after_reads_simp [unaryIndexed_result_read, binaryIndexed_result_read, indexContents_tref_cons, indexContents_tref_empty, TRef.ofBuf_toBuf]
  try rfl

theorem wd_0_v106_read : after wd_0 V (Proc.tc.devRef main_while3b_v106) = wd_0_v106 (F := F) (V (Proc.tc.devRef main_v88_4)) := by
  unfold wd_0
  after_reads_simp [unaryIndexed_result_read, binaryIndexed_result_read, indexContents_tref_cons, indexContents_tref_empty, TRef.ofBuf_toBuf]
  try rfl

theorem wd_1_v107_read : after wd_1 V (Proc.tc.devRef main_while3b_v107) = wd_1_v107 (F := F) (V (Proc.tc.devRef main_v88_0)) (V (Proc.tc.devRef main_while3b_v106)) := by
  unfold wd_1
  after_reads_simp [unaryIndexed_result_read, binaryIndexed_result_read, indexContents_tref_cons, indexContents_tref_empty, TRef.ofBuf_toBuf]
  try rfl

theorem wd_2_v108_read : after wd_2 V (Proc.tc.devRef main_while3b_v108) = wd_2_v108 (F := F) (V (Proc.tc.devRef main_v88_1)) (V (Proc.tc.devRef main_while3b_v106)) := by
  unfold wd_2
  after_reads_simp [unaryIndexed_result_read, binaryIndexed_result_read, indexContents_tref_cons, indexContents_tref_empty, TRef.ofBuf_toBuf]
  try rfl

theorem wd_3_v109_read : after wd_3 V (Proc.tc.devRef main_while3b_v109) = wd_3_v109 (F := F) (V (Proc.tc.devRef main_v88_2)) (V (Proc.tc.devRef main_while3b_v106)) := by
  unfold wd_3
  after_reads_simp [unaryIndexed_result_read, binaryIndexed_result_read, indexContents_tref_cons, indexContents_tref_empty, TRef.ofBuf_toBuf]
  try rfl

theorem wd_4_v113_read : after wd_4 V (Proc.tc.devRef main_while3b_v113) = wd_4_v113 (F := F) (V (Proc.tc.devRef main_v88_5)) (V (Proc.tc.devRef main_while3b_v107)) (V (Proc.tc.devRef main_while3b_v109)) := by
  unfold wd_4
  after_reads_simp [unaryIndexed_result_read, binaryIndexed_result_read, indexContents_tref_cons, indexContents_tref_empty, TRef.ofBuf_toBuf]
  try rfl

theorem wd_4_v114_read : after wd_4 V (Proc.tc.devRef main_while3b_v114) = wd_4_v114 (F := F) (V (Proc.tc.devRef main_v88_5)) (V (Proc.tc.devRef main_while3b_v107)) (V (Proc.tc.devRef main_while3b_v108)) := by
  unfold wd_4
  after_reads_simp [unaryIndexed_result_read, binaryIndexed_result_read, indexContents_tref_cons, indexContents_tref_empty, TRef.ofBuf_toBuf]
  try rfl

theorem wd_5_v117_read : after wd_5 V (Proc.tc.devRef main_while3b_v117) = wd_5_v117 (F := F) (V (Proc.tc.devRef main_while3b_v113)) := by
  unfold wd_5
  after_reads_simp [unaryIndexed_result_read, binaryIndexed_result_read, indexContents_tref_cons, indexContents_tref_empty, TRef.ofBuf_toBuf]
  try rfl

theorem wd_6_v118_read : after wd_6 V (Proc.tc.devRef main_while3b_v118) = wd_6_v118 (F := F) (V (Proc.tc.devRef main_while3b_v113)) := by
  unfold wd_6
  after_reads_simp [unaryIndexed_result_read, binaryIndexed_result_read, indexContents_tref_cons, indexContents_tref_empty, TRef.ofBuf_toBuf]
  try rfl

theorem wd_7_v121_read : after wd_7 V (Proc.tc.devRef main_while3b_v121) = wd_7_v121 (F := F) (V (Proc.tc.devRef main_while3b_v114)) := by
  unfold wd_7
  after_reads_simp [unaryIndexed_result_read, binaryIndexed_result_read, indexContents_tref_cons, indexContents_tref_empty, TRef.ofBuf_toBuf]
  try rfl

theorem wd_8_v123_read : after wd_8 V (Proc.tc.devRef main_while3b_v123) = wd_8_v123 (F := F) (V (Proc.tc.devRef main_while3b_v114)) (V (Proc.tc.devRef main_while3b_v118)) := by
  unfold wd_8
  after_reads_simp [unaryIndexed_result_read, binaryIndexed_result_read, indexContents_tref_cons, indexContents_tref_empty, TRef.ofBuf_toBuf]
  try rfl

theorem wd_9_v124_read : after wd_9 V (Proc.tc.devRef main_while3b_v124) = wd_9_v124 (F := F) (V (Proc.tc.devRef main_v88_6)) (V (Proc.tc.devRef main_while3b_v121)) (V (Proc.tc.devRef main_while3b_v106)) := by
  unfold wd_9
  after_reads_simp [unaryIndexed_result_read, binaryIndexed_result_read, indexContents_tref_cons, indexContents_tref_empty, TRef.ofBuf_toBuf]
  try rfl

theorem wd_10_v125_read : after wd_10 V (Proc.tc.devRef main_while3b_v125) = wd_10_v125 (F := F) (V (Proc.tc.devRef main_v88_7)) (V (Proc.tc.devRef main_while3b_v117)) (V (Proc.tc.devRef main_while3b_v106)) := by
  unfold wd_10
  after_reads_simp [unaryIndexed_result_read, binaryIndexed_result_read, indexContents_tref_cons, indexContents_tref_empty, TRef.ofBuf_toBuf]
  try rfl

theorem wd_11_v88_4_read : after wd_11 V (Proc.tc.devRef main_v88_4) = wd_11_v88_4 (F := F) (V (Proc.tc.devRef main_v88_4)) := by
  unfold wd_11
  after_reads_simp [unaryIndexed_result_read, binaryIndexed_result_read, indexContents_tref_cons, indexContents_tref_empty, TRef.ofBuf_toBuf]
  try rfl

theorem wd_11_v88_5_read : after wd_11 V (Proc.tc.devRef main_v88_5) = wd_11_v88_5 (F := F) (V (Proc.tc.devRef main_while3b_v123)) := by
  unfold wd_11
  after_reads_simp [unaryIndexed_result_read, binaryIndexed_result_read, indexContents_tref_cons, indexContents_tref_empty, TRef.ofBuf_toBuf]
  try rfl

theorem wd_11_v88_6_read : after wd_11 V (Proc.tc.devRef main_v88_6) = wd_11_v88_6 (F := F) (V (Proc.tc.devRef main_while3b_v124)) := by
  unfold wd_11
  after_reads_simp [unaryIndexed_result_read, binaryIndexed_result_read, indexContents_tref_cons, indexContents_tref_empty, TRef.ofBuf_toBuf]
  try rfl

theorem wd_11_v88_7_read : after wd_11 V (Proc.tc.devRef main_v88_7) = wd_11_v88_7 (F := F) (V (Proc.tc.devRef main_while3b_v125)) := by
  unfold wd_11
  after_reads_simp [unaryIndexed_result_read, binaryIndexed_result_read, indexContents_tref_cons, indexContents_tref_empty, TRef.ofBuf_toBuf]
  try rfl

theorem mn_0_keep {r : Ref sig .tc} (h : r ∉ [main_cst, main_v0]) : after mn_0 V (Proc.tc.devRef r) = V (Proc.tc.devRef r) :=
  after_unwritten _ rfl h V

theorem mn_1_keep {r : Ref sig .tc} (h : r ∉ [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v1]) : after mn_1 V (Proc.tc.devRef r) = V (Proc.tc.devRef r) :=
  after_unwritten _ rfl h V

theorem mn_2_keep {r : Ref sig .tc} (h : r ∉ [main_cst_0, main_v2, main_v3]) : after mn_2 V (Proc.tc.devRef r) = V (Proc.tc.devRef r) :=
  after_unwritten _ rfl h V

theorem mn_3_keep {r : Ref sig .tc} (h : r ∉ [main_cst_1, main_v4, main_v5, main_cst_2]) : after mn_3 V (Proc.tc.devRef r) = V (Proc.tc.devRef r) :=
  after_unwritten _ rfl h V

theorem mn_4_keep {r : Ref sig .tc} (h : r ∉ [main_call1_v0, main_call1_v1, main_v6]) : after mn_4 V (Proc.tc.devRef r) = V (Proc.tc.devRef r) :=
  after_unwritten _ rfl h V

theorem mn_5_keep {r : Ref sig .tc} (h : r ∉ [main_cst_3]) : after mn_5 V (Proc.tc.devRef r) = V (Proc.tc.devRef r) :=
  after_unwritten _ rfl h V

theorem mn_6_keep {r : Ref sig .tc} (h : r ∉ [main_call2_v0, main_call2_v1, main_v7]) : after mn_6 V (Proc.tc.devRef r) = V (Proc.tc.devRef r) :=
  after_unwritten _ rfl h V

theorem mn_7_keep {r : Ref sig .tc} (h : r ∉ [main_v8, main_v9, main_v10, main_v11, main_v12, main_v13]) : after mn_7 V (Proc.tc.devRef r) = V (Proc.tc.devRef r) :=
  after_unwritten _ rfl h V

theorem mn_8_keep {r : Ref sig .tc} (h : r ∉ [main_v14]) : after mn_8 V (Proc.tc.devRef r) = V (Proc.tc.devRef r) :=
  after_unwritten _ rfl h V

theorem mn_9_keep {r : Ref sig .tc} (h : r ∉ [main_cst_4, main_v15, main_c, main_v16, main_cst_5, main_v17, main_v18]) : after mn_9 V (Proc.tc.devRef r) = V (Proc.tc.devRef r) :=
  after_unwritten _ rfl h V

theorem mn_10_keep {r : Ref sig .tc} (h : r ∉ [main_v19, main_v20, main_cst_6, main_v21, main_c_7, main_v22_0, main_v22_1, main_v22_2, main_v22_3, main_v22_4]) : after mn_10 V (Proc.tc.devRef r) = V (Proc.tc.devRef r) :=
  after_unwritten _ rfl h V

theorem mn_12_keep {r : Ref sig .tc} (h : r ∉ [main_v23, main_v24]) : after mn_12 V (Proc.tc.devRef r) = V (Proc.tc.devRef r) :=
  after_unwritten _ rfl h V

theorem mn_13_keep {r : Ref sig .tc} (h : r ∉ [main_v25]) : after mn_13 V (Proc.tc.devRef r) = V (Proc.tc.devRef r) :=
  after_unwritten _ rfl h V

theorem mn_14_keep {r : Ref sig .tc} (h : r ∉ [main_v26, main_v27, main_c_8, main_v28, main_v29, main_c_9, main_v30, main_v31]) : after mn_14 V (Proc.tc.devRef r) = V (Proc.tc.devRef r) :=
  after_unwritten _ rfl h V

theorem mn_15_keep {r : Ref sig .tc} (h : r ∉ [main_c_10, main_v32, main_c_11, main_v33, main_c_12, main_v34_0, main_v34_1, main_v34_2, main_v34_3, main_v34_4, main_v34_5, main_v34_6, main_v34_7]) : after mn_15 V (Proc.tc.devRef r) = V (Proc.tc.devRef r) :=
  after_unwritten _ rfl h V

theorem mn_17_keep {r : Ref sig .tc} (h : r ∉ [main_v35]) : after mn_17 V (Proc.tc.devRef r) = V (Proc.tc.devRef r) :=
  after_unwritten _ rfl h V

theorem mn_18_keep {r : Ref sig .tc} (h : r ∉ [main_v36, main_v37]) : after mn_18 V (Proc.tc.devRef r) = V (Proc.tc.devRef r) :=
  after_unwritten _ rfl h V

theorem mn_19_keep {r : Ref sig .tc} (h : r ∉ [main_call16_v0, main_call16_call0_cst, main_call16_call0_v0, main_call16_call0_v1, main_call16_call0_v2, main_call16_call0_v3, main_call16_call0_v4, main_call16_call0_v5, main_call16_call0_v6, main_call16_call0_v7, main_call16_call0_v8, main_call16_call0_v9, main_call16_call0_v10, main_call16_call0_v11, main_call16_v1, main_v38]) : after mn_19 V (Proc.tc.devRef r) = V (Proc.tc.devRef r) :=
  after_unwritten _ rfl h V

theorem mn_20_keep {r : Ref sig .tc} (h : r ∉ [main_cst_13, main_v39, main_v40, main_cst_14, main_v41, main_v42, main_cst_15]) : after mn_20 V (Proc.tc.devRef r) = V (Proc.tc.devRef r) :=
  after_unwritten _ rfl h V

theorem mn_21_keep {r : Ref sig .tc} (h : r ∉ [main_call17_v0, main_call17_v1, main_v43_0, main_call17_cst, main_v43_1]) : after mn_21 V (Proc.tc.devRef r) = V (Proc.tc.devRef r) :=
  after_unwritten _ rfl h V

theorem mn_22_keep {r : Ref sig .tc} (h : r ∉ [main_cst_16]) : after mn_22 V (Proc.tc.devRef r) = V (Proc.tc.devRef r) :=
  after_unwritten _ rfl h V

theorem mn_23_keep {r : Ref sig .tc} (h : r ∉ [main_call18_v0, main_call18_v1, main_v44_0, main_call18_cst, main_v44_1]) : after mn_23 V (Proc.tc.devRef r) = V (Proc.tc.devRef r) :=
  after_unwritten _ rfl h V

theorem mn_24_keep {r : Ref sig .tc} (h : r ∉ [main_v45, main_v46, main_v47, main_v48, main_v49, main_v50, main_v51, main_cst_17, main_v52, main_v53]) : after mn_24 V (Proc.tc.devRef r) = V (Proc.tc.devRef r) :=
  after_unwritten _ rfl h V

theorem mn_25_keep {r : Ref sig .tc} (h : r ∉ [main_v54]) : after mn_25 V (Proc.tc.devRef r) = V (Proc.tc.devRef r) :=
  after_unwritten _ rfl h V

theorem mn_26_keep {r : Ref sig .tc} (h : r ∉ [main_cst_18, main_v55, main_c_19, main_v56, main_cst_20, main_v57, main_v58]) : after mn_26 V (Proc.tc.devRef r) = V (Proc.tc.devRef r) :=
  after_unwritten _ rfl h V

theorem mn_27_keep {r : Ref sig .tc} (h : r ∉ [main_v59, main_v60, main_cst_21, main_v61, main_cst_22, main_v62, main_cst_23, main_v63, main_cst_24, main_v64, main_cst_25, main_v65, main_cst_26, main_v66, main_cst_27, main_v67, main_cst_28, main_v68, main_cst_29, main_v69]) : after mn_27 V (Proc.tc.devRef r) = V (Proc.tc.devRef r) :=
  after_unwritten _ rfl h V

theorem mn_28_keep {r : Ref sig .tc} (h : r ∉ [main_c_30, main_v70_0, main_v70_1, main_v70_2, main_v70_3, main_v70_4, main_v70_5, main_v70_6, main_v70_7, main_v70_8, main_v70_9, main_v70_10, main_v70_11]) : after mn_28 V (Proc.tc.devRef r) = V (Proc.tc.devRef r) :=
  after_unwritten _ rfl h V

theorem mn_30_keep {r : Ref sig .tc} (h : r ∉ [main_v71, main_v72, main_v73, main_cst_31, main_v74, main_v75, main_v76, main_cst_32, main_v77, main_cst_33, main_v78, main_cst_34, main_v79, main_v80, main_cst_35, main_v81, main_v82, main_v83, main_v84]) : after mn_30 V (Proc.tc.devRef r) = V (Proc.tc.devRef r) :=
  after_unwritten _ rfl h V

theorem mn_31_keep {r : Ref sig .tc} (h : r ∉ [main_cst_36, main_v85, main_cst_37, main_v86, main_cst_38, main_v87, main_c_39, main_v88_0, main_v88_1, main_v88_2, main_v88_3, main_v88_4, main_v88_5, main_v88_6, main_v88_7]) : after mn_31 V (Proc.tc.devRef r) = V (Proc.tc.devRef r) :=
  after_unwritten _ rfl h V

theorem mn_33_keep {r : Ref sig .tc} (h : r ∉ [main_v89, main_v90]) : after mn_33 V (Proc.tc.devRef r) = V (Proc.tc.devRef r) :=
  after_unwritten _ rfl h V

theorem mn_34_keep {r : Ref sig .tc} (h : r ∉ [main_call30_cst, main_call30_v0, main_v91_1, main_v91_0]) : after mn_34 V (Proc.tc.devRef r) = V (Proc.tc.devRef r) :=
  after_unwritten _ rfl h V

theorem mn_35_keep {r : Ref sig .tc} (h : r ∉ [main_v92, main_v93, main_v94, main_v95, main_v96, main_v97]) : after mn_35 V (Proc.tc.devRef r) = V (Proc.tc.devRef r) :=
  after_unwritten _ rfl h V

theorem mn_36_keep {r : Ref sig .tc} (h : r ∉ [main_call31_cst, main_call31_v0, main_v98]) : after mn_36 V (Proc.tc.devRef r) = V (Proc.tc.devRef r) :=
  after_unwritten _ rfl h V

theorem mn_37_keep {r : Ref sig .tc} (h : r ∉ [main_v99]) : after mn_37 V (Proc.tc.devRef r) = V (Proc.tc.devRef r) :=
  after_unwritten _ rfl h V

theorem mn_38_keep {r : Ref sig .tc} (h : r ∉ [main_call32_cst, main_call32_v0, main_v100]) : after mn_38 V (Proc.tc.devRef r) = V (Proc.tc.devRef r) :=
  after_unwritten _ rfl h V

theorem mn_39_keep {r : Ref sig .tc} (h : r ∉ [main_v101]) : after mn_39 V (Proc.tc.devRef r) = V (Proc.tc.devRef r) :=
  after_unwritten _ rfl h V

theorem mn_40_keep {r : Ref sig .tc} (h : r ∉ [main_v102, main_v103, main_v104]) : after mn_40 V (Proc.tc.devRef r) = V (Proc.tc.devRef r) :=
  after_unwritten _ rfl h V

theorem wa_0_keep {r : Ref sig .tc} (h : r ∉ [main_while0b_call4_c, main_while0b_call4_v0, main_while0b_v105]) : after wa_0 V (Proc.tc.devRef r) = V (Proc.tc.devRef r) :=
  after_unwritten _ rfl h V

theorem wa_1_keep {r : Ref sig .tc} (h : r ∉ [main_while0b_call5_c, main_while0b_call5_v0, main_while0b_v106]) : after wa_1 V (Proc.tc.devRef r) = V (Proc.tc.devRef r) :=
  after_unwritten _ rfl h V

theorem wa_2_keep {r : Ref sig .tc} (h : r ∉ [main_while0b_v107, main_while0b_v108, main_while0b_v109, main_while0b_v110, main_while0b_v111, main_while0b_v112, main_while0b_v113, main_while0b_v114, main_while0b_v115, main_while0b_v116, main_while0b_v117, main_while0b_v118, main_while0b_v119, main_while0b_v120, main_while0b_v121, main_while0b_v122, main_while0b_v123, main_while0b_v124]) : after wa_2 V (Proc.tc.devRef r) = V (Proc.tc.devRef r) :=
  after_unwritten _ rfl h V

theorem wa_3_keep {r : Ref sig .tc} (h : r ∉ [main_while0b_cst_44, main_while0b_v125]) : after wa_3 V (Proc.tc.devRef r) = V (Proc.tc.devRef r) :=
  after_unwritten _ rfl h V

theorem wa_4_keep {r : Ref sig .tc} (h : r ∉ [main_while0b_v126]) : after wa_4 V (Proc.tc.devRef r) = V (Proc.tc.devRef r) :=
  after_unwritten _ rfl h V

theorem wa_5_keep {r : Ref sig .tc} (h : r ∉ [main_while0b_call6_v0, main_while0b_call6_c, main_while0b_call6_c_0, main_while0b_v127]) : after wa_5 V (Proc.tc.devRef r) = V (Proc.tc.devRef r) :=
  after_unwritten _ rfl h V

theorem wa_6_keep {r : Ref sig .tc} (h : r ∉ [main_while0b_c_45, main_while0b_v128, main_v22_2, main_v22_3, main_v22_4]) : after wa_6 V (Proc.tc.devRef r) = V (Proc.tc.devRef r) :=
  after_unwritten _ rfl h V

theorem wb_0_keep {r : Ref sig .tc} (h : r ∉ [main_while1b_call7_v0, main_while1b_v105]) : after wb_0 V (Proc.tc.devRef r) = V (Proc.tc.devRef r) :=
  after_unwritten _ rfl h V

theorem wb_1_keep {r : Ref sig .tc} (h : r ∉ [main_while1b_call8_c, main_while1b_call8_v0, main_while1b_v106]) : after wb_1 V (Proc.tc.devRef r) = V (Proc.tc.devRef r) :=
  after_unwritten _ rfl h V

theorem wb_2_keep {r : Ref sig .tc} (h : r ∉ [main_while1b_c_47, main_while1b_v107, main_while1b_c_48, main_while1b_v108, main_while1b_v109, main_while1b_v110]) : after wb_2 V (Proc.tc.devRef r) = V (Proc.tc.devRef r) :=
  after_unwritten _ rfl h V

theorem wb_3_keep {r : Ref sig .tc} (h : r ∉ [main_while1b_c_49, main_while1b_v111, main_while1b_v112, main_while1b_c_50, main_while1b_v113, main_while1b_v114, main_while1b_c_51, main_while1b_v115, main_while1b_v116, main_while1b_c_52, main_while1b_v117, main_while1b_v118, main_while1b_v119, main_while1b_c_53, main_while1b_v120, main_while1b_v121, main_while1b_c_54, main_while1b_v122, main_while1b_v123, main_while1b_v124, main_while1b_c_55, main_while1b_v125, main_while1b_v126, main_while1b_c_56, main_while1b_v127, main_while1b_v128, main_while1b_v129, main_while1b_v130, main_while1b_v131, main_while1b_v132]) : after wb_3 V (Proc.tc.devRef r) = V (Proc.tc.devRef r) :=
  after_unwritten _ rfl h V

theorem wb_4_keep {r : Ref sig .tc} (h : r ∉ [main_while1b_v133]) : after wb_4 V (Proc.tc.devRef r) = V (Proc.tc.devRef r) :=
  after_unwritten _ rfl h V

theorem wb_5_keep {r : Ref sig .tc} (h : r ∉ [main_while1b_v134]) : after wb_5 V (Proc.tc.devRef r) = V (Proc.tc.devRef r) :=
  after_unwritten _ rfl h V

theorem wb_6_keep {r : Ref sig .tc} (h : r ∉ [main_while1b_c_57, main_while1b_v135, main_while1b_v136, main_while1b_c_58, main_while1b_v137, main_while1b_v138, main_while1b_c_59, main_while1b_v139, main_while1b_v140, main_while1b_c_60, main_while1b_v141, main_while1b_v142, main_while1b_v143, main_while1b_c_61, main_while1b_v144, main_while1b_v145, main_while1b_c_62, main_while1b_v146, main_while1b_v147, main_while1b_v148, main_while1b_c_63, main_while1b_v149, main_while1b_v150, main_while1b_c_64, main_while1b_v151, main_while1b_v152, main_while1b_v153, main_while1b_v154, main_while1b_v155, main_while1b_v156]) : after wb_6 V (Proc.tc.devRef r) = V (Proc.tc.devRef r) :=
  after_unwritten _ rfl h V

theorem wb_7_keep {r : Ref sig .tc} (h : r ∉ [main_while1b_v157]) : after wb_7 V (Proc.tc.devRef r) = V (Proc.tc.devRef r) :=
  after_unwritten _ rfl h V

theorem wb_8_keep {r : Ref sig .tc} (h : r ∉ [main_while1b_v158]) : after wb_8 V (Proc.tc.devRef r) = V (Proc.tc.devRef r) :=
  after_unwritten _ rfl h V

theorem wb_9_keep {r : Ref sig .tc} (h : r ∉ [main_while1b_c_65, main_while1b_v159]) : after wb_9 V (Proc.tc.devRef r) = V (Proc.tc.devRef r) :=
  after_unwritten _ rfl h V

theorem wb_10_keep {r : Ref sig .tc} (h : r ∉ [main_while1b_call9_c, main_while1b_call9_v0, main_while1b_call9_c_0, main_while1b_call9_v1, main_while1b_call9_v2, main_while1b_call9_v3, main_while1b_call9_c_1, main_while1b_call9_c_2, main_while1b_call9_v4, main_while1b_call9_v5, main_while1b_call9_v6, main_while1b_call9_v7, main_while1b_call9_c_3, main_while1b_call9_v8, main_while1b_call9_v9, main_while1b_call9_v10, main_while1b_call9_cst, main_while1b_call9_v11, main_while1b_v160]) : after wb_10 V (Proc.tc.devRef r) = V (Proc.tc.devRef r) :=
  after_unwritten _ rfl h V

theorem wb_11_keep {r : Ref sig .tc} (h : r ∉ [main_while1b_v161, main_while1b_v162, main_while1b_cst_66, main_while1b_v163, main_while1b_v164]) : after wb_11 V (Proc.tc.devRef r) = V (Proc.tc.devRef r) :=
  after_unwritten _ rfl h V

theorem wb_12_keep {r : Ref sig .tc} (h : r ∉ [main_while1b_cst_67, main_while1b_v165, main_while1b_v166, main_while1b_cst_68]) : after wb_12 V (Proc.tc.devRef r) = V (Proc.tc.devRef r) :=
  after_unwritten _ rfl h V

theorem wb_13_keep {r : Ref sig .tc} (h : r ∉ [main_while1b_call10_v0, main_while1b_call10_v1, main_while1b_v167]) : after wb_13 V (Proc.tc.devRef r) = V (Proc.tc.devRef r) :=
  after_unwritten _ rfl h V

theorem wb_14_keep {r : Ref sig .tc} (h : r ∉ [main_while1b_cst_69]) : after wb_14 V (Proc.tc.devRef r) = V (Proc.tc.devRef r) :=
  after_unwritten _ rfl h V

theorem wb_15_keep {r : Ref sig .tc} (h : r ∉ [main_while1b_call11_v0, main_while1b_call11_v1, main_while1b_v168]) : after wb_15 V (Proc.tc.devRef r) = V (Proc.tc.devRef r) :=
  after_unwritten _ rfl h V

theorem wb_16_keep {r : Ref sig .tc} (h : r ∉ [main_while1b_v169, main_while1b_v170, main_while1b_v171, main_while1b_v172, main_while1b_v173, main_while1b_v174]) : after wb_16 V (Proc.tc.devRef r) = V (Proc.tc.devRef r) :=
  after_unwritten _ rfl h V

theorem wb_17_keep {r : Ref sig .tc} (h : r ∉ [main_while1b_v175]) : after wb_17 V (Proc.tc.devRef r) = V (Proc.tc.devRef r) :=
  after_unwritten _ rfl h V

theorem wb_18_keep {r : Ref sig .tc} (h : r ∉ [main_while1b_v176, main_while1b_v177, main_while1b_v178, main_while1b_cst_70, main_while1b_v179, main_while1b_v180, main_while1b_cst_71, main_while1b_v181, main_while1b_v182]) : after wb_18 V (Proc.tc.devRef r) = V (Proc.tc.devRef r) :=
  after_unwritten _ rfl h V

theorem wb_19_keep {r : Ref sig .tc} (h : r ∉ [main_while1b_v183, main_while1b_v184, main_while1b_c_72, main_while1b_v185, main_while1b_v186, main_while1b_c_73, main_while1b_v187, main_while1b_v188]) : after wb_19 V (Proc.tc.devRef r) = V (Proc.tc.devRef r) :=
  after_unwritten _ rfl h V

theorem wb_20_keep {r : Ref sig .tc} (h : r ∉ [main_while1b_v189]) : after wb_20 V (Proc.tc.devRef r) = V (Proc.tc.devRef r) :=
  after_unwritten _ rfl h V

theorem wb_21_keep {r : Ref sig .tc} (h : r ∉ [main_while1b_call14_v0, main_while1b_call14_c, main_while1b_v190]) : after wb_21 V (Proc.tc.devRef r) = V (Proc.tc.devRef r) :=
  after_unwritten _ rfl h V

theorem wb_22_keep {r : Ref sig .tc} (h : r ∉ [main_while1b_c_74, main_while1b_v191, main_v34_5, main_v34_6, main_v34_7]) : after wb_22 V (Proc.tc.devRef r) = V (Proc.tc.devRef r) :=
  after_unwritten _ rfl h V

theorem wc_0_keep {r : Ref sig .tc} (h : r ∉ [main_while2b_call20_c, main_while2b_call20_v0, main_while2b_v105]) : after wc_0 V (Proc.tc.devRef r) = V (Proc.tc.devRef r) :=
  after_unwritten _ rfl h V

theorem wc_1_keep {r : Ref sig .tc} (h : r ∉ [main_while2b_call21_c, main_while2b_call21_v0, main_while2b_v106]) : after wc_1 V (Proc.tc.devRef r) = V (Proc.tc.devRef r) :=
  after_unwritten _ rfl h V

theorem wc_2_keep {r : Ref sig .tc} (h : r ∉ [main_while2b_v107, main_while2b_v108, main_while2b_v109, main_while2b_v110]) : after wc_2 V (Proc.tc.devRef r) = V (Proc.tc.devRef r) :=
  after_unwritten _ rfl h V

theorem wc_3_keep {r : Ref sig .tc} (h : r ∉ [main_while2b_v111, main_while2b_v112, main_while2b_v113, main_while2b_v114]) : after wc_3 V (Proc.tc.devRef r) = V (Proc.tc.devRef r) :=
  after_unwritten _ rfl h V

theorem wc_4_keep {r : Ref sig .tc} (h : r ∉ [main_while2b_v115, main_while2b_v116, main_while2b_v117, main_while2b_v118, main_while2b_v119, main_while2b_v120, main_while2b_v121, main_while2b_v122, main_while2b_v123, main_while2b_v124]) : after wc_4 V (Proc.tc.devRef r) = V (Proc.tc.devRef r) :=
  after_unwritten _ rfl h V

theorem wc_5_keep {r : Ref sig .tc} (h : r ∉ [main_while2b_cst_51, main_while2b_v125, main_while2b_v126, main_while2b_v127, main_while2b_cst_52, main_while2b_v128, main_while2b_v129, main_while2b_v130, main_while2b_v131, main_while2b_v132]) : after wc_5 V (Proc.tc.devRef r) = V (Proc.tc.devRef r) :=
  after_unwritten _ rfl h V

theorem wc_6_keep {r : Ref sig .tc} (h : r ∉ [main_while2b_cst_53, main_while2b_v133, main_while2b_v134, main_while2b_v135, main_while2b_cst_54, main_while2b_v136, main_while2b_v137, main_while2b_v138, main_while2b_v139, main_while2b_v140]) : after wc_6 V (Proc.tc.devRef r) = V (Proc.tc.devRef r) :=
  after_unwritten _ rfl h V

theorem wc_7_keep {r : Ref sig .tc} (h : r ∉ [main_while2b_v141]) : after wc_7 V (Proc.tc.devRef r) = V (Proc.tc.devRef r) :=
  after_unwritten _ rfl h V

theorem wc_8_keep {r : Ref sig .tc} (h : r ∉ [main_while2b_call22_v0, main_while2b_call22_c, main_while2b_call22_c_0, main_while2b_v142]) : after wc_8 V (Proc.tc.devRef r) = V (Proc.tc.devRef r) :=
  after_unwritten _ rfl h V

theorem wc_9_keep {r : Ref sig .tc} (h : r ∉ [main_while2b_call23_v0, main_while2b_call23_c, main_while2b_call23_c_0, main_while2b_v143]) : after wc_9 V (Proc.tc.devRef r) = V (Proc.tc.devRef r) :=
  after_unwritten _ rfl h V

theorem wc_10_keep {r : Ref sig .tc} (h : r ∉ [main_while2b_call24_v0, main_while2b_call24_c, main_while2b_call24_c_0, main_while2b_v144]) : after wc_10 V (Proc.tc.devRef r) = V (Proc.tc.devRef r) :=
  after_unwritten _ rfl h V

theorem wc_11_keep {r : Ref sig .tc} (h : r ∉ [main_while2b_c_55, main_while2b_v145, main_v70_7, main_v70_8, main_v70_9, main_v70_10, main_v70_11]) : after wc_11 V (Proc.tc.devRef r) = V (Proc.tc.devRef r) :=
  after_unwritten _ rfl h V

theorem wd_0_keep {r : Ref sig .tc} (h : r ∉ [main_while3b_c_47, main_while3b_v105, main_while3b_c_48, main_while3b_v106]) : after wd_0 V (Proc.tc.devRef r) = V (Proc.tc.devRef r) :=
  after_unwritten _ rfl h V

theorem wd_1_keep {r : Ref sig .tc} (h : r ∉ [main_while3b_call25_c, main_while3b_call25_c_0, main_while3b_call25_v0, main_while3b_v107]) : after wd_1 V (Proc.tc.devRef r) = V (Proc.tc.devRef r) :=
  after_unwritten _ rfl h V

theorem wd_2_keep {r : Ref sig .tc} (h : r ∉ [main_while3b_call26_c, main_while3b_call26_c_0, main_while3b_call26_v0, main_while3b_v108]) : after wd_2 V (Proc.tc.devRef r) = V (Proc.tc.devRef r) :=
  after_unwritten _ rfl h V

theorem wd_3_keep {r : Ref sig .tc} (h : r ∉ [main_while3b_call27_c, main_while3b_call27_c_0, main_while3b_call27_v0, main_while3b_v109]) : after wd_3 V (Proc.tc.devRef r) = V (Proc.tc.devRef r) :=
  after_unwritten _ rfl h V

theorem wd_4_keep {r : Ref sig .tc} (h : r ∉ [main_while3b_v110, main_while3b_v111, main_while3b_v112, main_while3b_v113, main_while3b_v114]) : after wd_4 V (Proc.tc.devRef r) = V (Proc.tc.devRef r) :=
  after_unwritten _ rfl h V

theorem wd_5_keep {r : Ref sig .tc} (h : r ∉ [main_while3b_cst_49, main_while3b_v115, main_while3b_v116, main_while3b_cst_50, main_while3b_v117]) : after wd_5 V (Proc.tc.devRef r) = V (Proc.tc.devRef r) :=
  after_unwritten _ rfl h V

theorem wd_6_keep {r : Ref sig .tc} (h : r ∉ [main_while3b_cst_51, main_while3b_v118]) : after wd_6 V (Proc.tc.devRef r) = V (Proc.tc.devRef r) :=
  after_unwritten _ rfl h V

theorem wd_7_keep {r : Ref sig .tc} (h : r ∉ [main_while3b_cst_52, main_while3b_v119, main_while3b_v120, main_while3b_cst_53, main_while3b_v121]) : after wd_7 V (Proc.tc.devRef r) = V (Proc.tc.devRef r) :=
  after_unwritten _ rfl h V

theorem wd_8_keep {r : Ref sig .tc} (h : r ∉ [main_while3b_cst_54, main_while3b_v122, main_while3b_v123]) : after wd_8 V (Proc.tc.devRef r) = V (Proc.tc.devRef r) :=
  after_unwritten _ rfl h V

theorem wd_9_keep {r : Ref sig .tc} (h : r ∉ [main_while3b_call28_v0, main_while3b_call28_c, main_while3b_v124]) : after wd_9 V (Proc.tc.devRef r) = V (Proc.tc.devRef r) :=
  after_unwritten _ rfl h V

theorem wd_10_keep {r : Ref sig .tc} (h : r ∉ [main_while3b_call29_v0, main_while3b_call29_c, main_while3b_v125]) : after wd_10 V (Proc.tc.devRef r) = V (Proc.tc.devRef r) :=
  after_unwritten _ rfl h V

theorem wd_11_keep {r : Ref sig .tc} (h : r ∉ [main_while3b_c_55, main_while3b_v126, main_v88_4, main_v88_5, main_v88_6, main_v88_7]) : after wd_11 V (Proc.tc.devRef r) = V (Proc.tc.devRef r) :=
  after_unwritten _ rfl h V

end Cert.Proof.Ref

end
-- ==== Proof.RefStep.lean ====
/- The reference program trip by trip: the recursions its first two loops compute. -/
module

public import proofs.«01_k».proof.Proof.RefRead

@[expose] public section

set_option maxRecDepth 100000

noncomputable section

namespace Cert.Proof.Ref

open Cert.ReferenceIdeal
open Idealize.ShloMosaic Idealize.SL.Sem Idealize.ShloMosaic.StableHlo
open Cert.Proof.Many
open TcCoe

variable {F : FTy → Type} [FloatOps F]
variable [Facts]
open Facts₀ Facts

/-- A counter's word. -/
def word (k : ℕ) : (⟨S_, .i32⟩ : BufTy).Contents (Elt F) := fun _ => BitVec.ofNat 32 k

/-- The log-probabilities. -/
def lpR (a : (⟨S40x2048x1, .f32⟩ : BufTy).Contents (Elt F)) : (⟨S40x2048, .f32⟩ : BufTy).Contents (Elt F) := mn_2_v3 (mn_1_v1 (mn_0_v0 a))

/-- Their complements' logarithms. -/
def lqOf (lp : (⟨S40x2048, .f32⟩ : BufTy).Contents (Elt F)) : (⟨S40x2048, .f32⟩ : BufTy).Contents (Elt F) :=
  mn_8_v14 (mn_3_v5 lp) (mn_7_v10 (mn_4_v6 (mn_3_v5 lp) lp mn_3_cst_2)) (mn_7_v13 (mn_6_v7 (mn_3_v5 lp) mn_5_cst_3 lp))

/-- One trip of the forward loop. -/
def stNext (lpT lqT : (⟨S2048x40, .f32⟩ : BufTy).Contents (Elt F)) (k : (⟨S_, .i32⟩ : BufTy).Contents (Elt F)) (st : (⟨S40x12, .f32⟩ : BufTy).Contents (Elt F)) : (⟨S40x12, .f32⟩ : BufTy).Contents (Elt F) :=
  wa_4_v60 wa_3_v59 (wa_2_v58 st (wa_0_v39 lpT k) (wa_1_v40 lqT k))

/-- The forward loop's state after `k` trips. -/
def stR (lpT lqT : (⟨S2048x40, .f32⟩ : BufTy).Contents (Elt F)) : ℕ → (⟨S40x12, .f32⟩ : BufTy).Contents (Elt F)
  | 0 => mn_9_v18
  | k + 1 => stNext lpT lqT (word k) (stR lpT lqT k)

/-- The rows stored after `k` trips. -/
def stackR (lpT lqT : (⟨S2048x40, .f32⟩ : BufTy).Contents (Elt F)) : ℕ → (⟨S2048x40x12, .f32⟩ : BufTy).Contents (Elt F)
  | 0 => mn_10_v22_4
  | k + 1 => wa_5_v61 (stackR lpT lqT k) (stR lpT lqT (k + 1)) (word k)

/-- The whole table. -/
def arrR (lpT lqT : (⟨S2048x40, .f32⟩ : BufTy).Contents (Elt F)) : (⟨S40x2049x12, .f32⟩ : BufTy).Contents (Elt F) :=
  mn_13_v25 (mn_12_v23 mn_9_v18) (mn_12_v24 (stackR lpT lqT 2048))

section Trip
variable (its : (⟨S2048, .i32⟩ : BufTy).Contents (Elt F)) (U : (⟨S2048x40, .f32⟩ : BufTy).Contents (Elt F)) (ib : (⟨S40, .i32⟩ : BufTy).Contents (Elt F)) (A : (⟨S40x2049x12, .f32⟩ : BufTy).Contents (Elt F)) (lp : (⟨S40x2048, .f32⟩ : BufTy).Contents (Elt F))

/-- The log-probability of the draw, before its sigmoid. -/
def prawR (k : (⟨S_, .i32⟩ : BufTy).Contents (Elt F)) (j : (⟨S40, .i32⟩ : BufTy).Contents (Elt F)) : (⟨S40, .f32⟩ : BufTy).Contents (Elt F) :=
  wb_11_v98 (wb_5_v68 A (wb_4_v67 (wb_3_v64 ib) (wb_3_v65 (wb_2_v44 (wb_0_v39 its k))) (wb_3_v66 j)))
    (wb_10_v94 lp (wb_9_v93 (wb_0_v39 its k)))
    (wb_8_v92 A (wb_7_v91 (wb_6_v88 ib) (wb_6_v89 (wb_2_v44 (wb_0_v39 its k))) (wb_6_v90 j)))

/-- Its probability. -/
def probOf (p : (⟨S40, .f32⟩ : BufTy).Contents (Elt F)) : (⟨S40, .f32⟩ : BufTy).Contents (Elt F) :=
  wb_18_v116 p (wb_17_v109 (wb_12_v100 p) (wb_16_v105 (wb_13_v101 (wb_12_v100 p) p wb_12_cst_41))
    (wb_16_v108 (wb_15_v102 (wb_12_v100 p) wb_14_cst_42 p)))

/-- The draw. -/
def xR (k : (⟨S_, .i32⟩ : BufTy).Contents (Elt F)) (j : (⟨S40, .i32⟩ : BufTy).Contents (Elt F)) : (⟨S40, .i32⟩ : BufTy).Contents (Elt F) :=
  wb_19_v118 (wb_1_v40 U k) (probOf (prawR its ib A lp k j))

/-- The count left after the draw. -/
def jNext (k : (⟨S_, .i32⟩ : BufTy).Contents (Elt F)) (j : (⟨S40, .i32⟩ : BufTy).Contents (Elt F)) : (⟨S40, .i32⟩ : BufTy).Contents (Elt F) :=
  wb_20_v123 (wb_19_v120 (wb_1_v40 U k) (probOf (prawR its ib A lp k j))) (wb_19_v122 j) j

/-- The count before trip `t`. -/
def jR : ℕ → (⟨S40, .i32⟩ : BufTy).Contents (Elt F)
  | 0 => mn_15_v34_6
  | t + 1 => jNext its U ib A lp (word t) (jR t)

/-- The draws stored before trip `t`. -/
def xsR : ℕ → (⟨S2048x40, .i32⟩ : BufTy).Contents (Elt F)
  | 0 => mn_15_v34_7
  | t + 1 => wb_21_v124 (xsR t) (xR its U ib A lp (word t) (jR its U ib A lp t)) (word t)

end Trip

/-- The draws, as the program returns them. -/
def samplesR (a : (⟨S40x2048x1, .f32⟩ : BufTy).Contents (Elt F)) : (⟨S40x2048, .f32⟩ : BufTy).Contents (Elt F) :=
  mn_18_v37 (mn_17_v35 (xsR mn_14_v31 mn_0_cst mn_14_v26
    (arrR (mn_10_v22_0 (lpR a)) (mn_10_v22_1 (lqOf (lpR a)))) (lpR a) 2048))

/-- The first loop's condition. -/
def condA : List (HloOp τ sig (Elt F)) :=
    [(StableHlo.nullary main_while0c_c_44 (constantI S_ 32 2048#32)),
     (StableHlo.binary main_v22_2 main_while0c_c_44 main_while0c_v105 (cmpi .slt : (⟨S_, .i32⟩ : BufTy).Contents (Elt F) → (⟨S_, .i32⟩ : BufTy).Contents (Elt F) → (⟨S_, .i1⟩ : BufTy).Contents (Elt F)))]

/-- The second loop's condition. -/
def condB : List (HloOp τ sig (Elt F)) :=
    [(StableHlo.nullary main_while1c_c_47 (constantI S_ 32 2048#32)),
     (StableHlo.binary main_v34_5 main_while1c_c_47 main_while1c_v105 (cmpi .slt : (⟨S_, .i32⟩ : BufTy).Contents (Elt F) → (⟨S_, .i32⟩ : BufTy).Contents (Elt F) → (⟨S_, .i1⟩ : BufTy).Contents (Elt F)))]

/-- The third loop's condition. -/
def condC : List (HloOp τ sig (Elt F)) :=
    [(StableHlo.nullary main_while2c_c_51 (constantI S_ 32 2048#32)),
     (StableHlo.binary main_v70_7 main_while2c_c_51 main_while2c_v105 (cmpi .slt : (⟨S_, .i32⟩ : BufTy).Contents (Elt F) → (⟨S_, .i32⟩ : BufTy).Contents (Elt F) → (⟨S_, .i1⟩ : BufTy).Contents (Elt F)))]

/-- The fourth loop's condition. -/
def condD : List (HloOp τ sig (Elt F)) :=
    [(StableHlo.nullary main_while3c_c_47 (constantI S_ 32 2048#32)),
     (StableHlo.binary main_v88_4 main_while3c_c_47 main_while3c_v105 (cmpi .slt : (⟨S_, .i32⟩ : BufTy).Contents (Elt F) → (⟨S_, .i32⟩ : BufTy).Contents (Elt F) → (⟨S_, .i1⟩ : BufTy).Contents (Elt F)))]

/-- The program's result: the samples. -/
def resultR (a : (⟨S40x2048x1, .f32⟩ : BufTy).Contents (Elt F)) : (⟨S40x2048x1, .f32⟩ : BufTy).Contents (Elt F) :=
  broadcastInDim S40x2048x1 ![0, 1] bcast_S40x2048_S40x2048x1_0_1 (samplesR a)

variable (V : Valuation τ sig (Elt F))

theorem condA_keep {r : Ref sig .tc} (h : r ∉ [main_while0c_c_44, main_while0c_v105]) : after condA V (Proc.tc.devRef r) = V (Proc.tc.devRef r) :=
  after_unwritten _ rfl h V

/-- What the first loop's body writes. -/
abbrev waW : List (Ref sig .tc) :=
  [main_while0b_call4_c, main_while0b_call4_v0, main_while0b_v105] ++ [main_while0b_call5_c, main_while0b_call5_v0, main_while0b_v106] ++ [main_while0b_v107, main_while0b_v108, main_while0b_v109, main_while0b_v110, main_while0b_v111, main_while0b_v112, main_while0b_v113, main_while0b_v114, main_while0b_v115, main_while0b_v116, main_while0b_v117, main_while0b_v118, main_while0b_v119, main_while0b_v120, main_while0b_v121, main_while0b_v122, main_while0b_v123, main_while0b_v124] ++ [main_while0b_cst_44, main_while0b_v125] ++ [main_while0b_v126] ++ [main_while0b_call6_v0, main_while0b_call6_c, main_while0b_call6_c_0, main_while0b_v127] ++ [main_while0b_c_45, main_while0b_v128, main_v22_2, main_v22_3, main_v22_4]

theorem stepA_keep {r : Ref sig .tc} (h : r ∉ waW) : afterL waI V (Proc.tc.devRef r) = V (Proc.tc.devRef r) := by
  simp only [waW, List.mem_append, not_or] at h
  obtain ⟨⟨⟨⟨⟨⟨h0, h1⟩, h2⟩, h3⟩, h4⟩, h5⟩, h6⟩ := h
  rw [afterL_cons, afterL_cons, afterL_cons, afterL_cons, afterL_cons, afterL_cons, afterL_cons, afterL_nil, wa_6_keep _ h6, wa_5_keep _ h5, wa_4_keep _ h4, wa_3_keep _ h3, wa_2_keep _ h2, wa_1_keep _ h1, wa_0_keep _ h0]

theorem condB_keep {r : Ref sig .tc} (h : r ∉ [main_while1c_c_47, main_while1c_v105]) : after condB V (Proc.tc.devRef r) = V (Proc.tc.devRef r) :=
  after_unwritten _ rfl h V

/-- What the second loop's body writes. -/
abbrev wbW : List (Ref sig .tc) :=
  [main_while1b_call7_v0, main_while1b_v105] ++ [main_while1b_call8_c, main_while1b_call8_v0, main_while1b_v106] ++ [main_while1b_c_47, main_while1b_v107, main_while1b_c_48, main_while1b_v108, main_while1b_v109, main_while1b_v110] ++ [main_while1b_c_49, main_while1b_v111, main_while1b_v112, main_while1b_c_50, main_while1b_v113, main_while1b_v114, main_while1b_c_51, main_while1b_v115, main_while1b_v116, main_while1b_c_52, main_while1b_v117, main_while1b_v118, main_while1b_v119, main_while1b_c_53, main_while1b_v120, main_while1b_v121, main_while1b_c_54, main_while1b_v122, main_while1b_v123, main_while1b_v124, main_while1b_c_55, main_while1b_v125, main_while1b_v126, main_while1b_c_56, main_while1b_v127, main_while1b_v128, main_while1b_v129, main_while1b_v130, main_while1b_v131, main_while1b_v132] ++ [main_while1b_v133] ++ [main_while1b_v134] ++ [main_while1b_c_57, main_while1b_v135, main_while1b_v136, main_while1b_c_58, main_while1b_v137, main_while1b_v138, main_while1b_c_59, main_while1b_v139, main_while1b_v140, main_while1b_c_60, main_while1b_v141, main_while1b_v142, main_while1b_v143, main_while1b_c_61, main_while1b_v144, main_while1b_v145, main_while1b_c_62, main_while1b_v146, main_while1b_v147, main_while1b_v148, main_while1b_c_63, main_while1b_v149, main_while1b_v150, main_while1b_c_64, main_while1b_v151, main_while1b_v152, main_while1b_v153, main_while1b_v154, main_while1b_v155, main_while1b_v156] ++ [main_while1b_v157] ++ [main_while1b_v158] ++ [main_while1b_c_65, main_while1b_v159] ++ [main_while1b_call9_c, main_while1b_call9_v0, main_while1b_call9_c_0, main_while1b_call9_v1, main_while1b_call9_v2, main_while1b_call9_v3, main_while1b_call9_c_1, main_while1b_call9_c_2, main_while1b_call9_v4, main_while1b_call9_v5, main_while1b_call9_v6, main_while1b_call9_v7, main_while1b_call9_c_3, main_while1b_call9_v8, main_while1b_call9_v9, main_while1b_call9_v10, main_while1b_call9_cst, main_while1b_call9_v11, main_while1b_v160] ++ [main_while1b_v161, main_while1b_v162, main_while1b_cst_66, main_while1b_v163, main_while1b_v164] ++ [main_while1b_cst_67, main_while1b_v165, main_while1b_v166, main_while1b_cst_68] ++ [main_while1b_call10_v0, main_while1b_call10_v1, main_while1b_v167] ++ [main_while1b_cst_69] ++ [main_while1b_call11_v0, main_while1b_call11_v1, main_while1b_v168] ++ [main_while1b_v169, main_while1b_v170, main_while1b_v171, main_while1b_v172, main_while1b_v173, main_while1b_v174] ++ [main_while1b_v175] ++ [main_while1b_v176, main_while1b_v177, main_while1b_v178, main_while1b_cst_70, main_while1b_v179, main_while1b_v180, main_while1b_cst_71, main_while1b_v181, main_while1b_v182] ++ [main_while1b_v183, main_while1b_v184, main_while1b_c_72, main_while1b_v185, main_while1b_v186, main_while1b_c_73, main_while1b_v187, main_while1b_v188] ++ [main_while1b_v189] ++ [main_while1b_call14_v0, main_while1b_call14_c, main_while1b_v190] ++ [main_while1b_c_74, main_while1b_v191, main_v34_5, main_v34_6, main_v34_7]

theorem stepB_keep {r : Ref sig .tc} (h : r ∉ wbW) : afterL wbI V (Proc.tc.devRef r) = V (Proc.tc.devRef r) := by
  simp only [wbW, List.mem_append, not_or] at h
  obtain ⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩ := h
  rw [afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_nil, wb_22_keep _ h22, wb_21_keep _ h21, wb_20_keep _ h20, wb_19_keep _ h19, wb_18_keep _ h18, wb_17_keep _ h17, wb_16_keep _ h16, wb_15_keep _ h15, wb_14_keep _ h14, wb_13_keep _ h13, wb_12_keep _ h12, wb_11_keep _ h11, wb_10_keep _ h10, wb_9_keep _ h9, wb_8_keep _ h8, wb_7_keep _ h7, wb_6_keep _ h6, wb_5_keep _ h5, wb_4_keep _ h4, wb_3_keep _ h3, wb_2_keep _ h2, wb_1_keep _ h1, wb_0_keep _ h0]

theorem condC_keep {r : Ref sig .tc} (h : r ∉ [main_while2c_c_51, main_while2c_v105]) : after condC V (Proc.tc.devRef r) = V (Proc.tc.devRef r) :=
  after_unwritten _ rfl h V

/-- What the third loop's body writes. -/
abbrev wcW : List (Ref sig .tc) :=
  [main_while2b_call20_c, main_while2b_call20_v0, main_while2b_v105] ++ [main_while2b_call21_c, main_while2b_call21_v0, main_while2b_v106] ++ [main_while2b_v107, main_while2b_v108, main_while2b_v109, main_while2b_v110] ++ [main_while2b_v111, main_while2b_v112, main_while2b_v113, main_while2b_v114] ++ [main_while2b_v115, main_while2b_v116, main_while2b_v117, main_while2b_v118, main_while2b_v119, main_while2b_v120, main_while2b_v121, main_while2b_v122, main_while2b_v123, main_while2b_v124] ++ [main_while2b_cst_51, main_while2b_v125, main_while2b_v126, main_while2b_v127, main_while2b_cst_52, main_while2b_v128, main_while2b_v129, main_while2b_v130, main_while2b_v131, main_while2b_v132] ++ [main_while2b_cst_53, main_while2b_v133, main_while2b_v134, main_while2b_v135, main_while2b_cst_54, main_while2b_v136, main_while2b_v137, main_while2b_v138, main_while2b_v139, main_while2b_v140] ++ [main_while2b_v141] ++ [main_while2b_call22_v0, main_while2b_call22_c, main_while2b_call22_c_0, main_while2b_v142] ++ [main_while2b_call23_v0, main_while2b_call23_c, main_while2b_call23_c_0, main_while2b_v143] ++ [main_while2b_call24_v0, main_while2b_call24_c, main_while2b_call24_c_0, main_while2b_v144] ++ [main_while2b_c_55, main_while2b_v145, main_v70_7, main_v70_8, main_v70_9, main_v70_10, main_v70_11]

theorem stepC_keep {r : Ref sig .tc} (h : r ∉ wcW) : afterL wcI V (Proc.tc.devRef r) = V (Proc.tc.devRef r) := by
  simp only [wcW, List.mem_append, not_or] at h
  obtain ⟨⟨⟨⟨⟨⟨⟨⟨⟨⟨⟨h0, h1⟩, h2⟩, h3⟩, h4⟩, h5⟩, h6⟩, h7⟩, h8⟩, h9⟩, h10⟩, h11⟩ := h
  rw [afterL_cons, afterL_cons, afterL_cons, afterL_cons, afterL_cons, afterL_cons, afterL_cons, afterL_cons, afterL_cons, afterL_cons, afterL_cons, afterL_cons, afterL_nil, wc_11_keep _ h11, wc_10_keep _ h10, wc_9_keep _ h9, wc_8_keep _ h8, wc_7_keep _ h7, wc_6_keep _ h6, wc_5_keep _ h5, wc_4_keep _ h4, wc_3_keep _ h3, wc_2_keep _ h2, wc_1_keep _ h1, wc_0_keep _ h0]

theorem condD_keep {r : Ref sig .tc} (h : r ∉ [main_while3c_c_47, main_while3c_v105]) : after condD V (Proc.tc.devRef r) = V (Proc.tc.devRef r) :=
  after_unwritten _ rfl h V

/-- What the fourth loop's body writes. -/
abbrev wdW : List (Ref sig .tc) :=
  [main_while3b_c_47, main_while3b_v105, main_while3b_c_48, main_while3b_v106] ++ [main_while3b_call25_c, main_while3b_call25_c_0, main_while3b_call25_v0, main_while3b_v107] ++ [main_while3b_call26_c, main_while3b_call26_c_0, main_while3b_call26_v0, main_while3b_v108] ++ [main_while3b_call27_c, main_while3b_call27_c_0, main_while3b_call27_v0, main_while3b_v109] ++ [main_while3b_v110, main_while3b_v111, main_while3b_v112, main_while3b_v113, main_while3b_v114] ++ [main_while3b_cst_49, main_while3b_v115, main_while3b_v116, main_while3b_cst_50, main_while3b_v117] ++ [main_while3b_cst_51, main_while3b_v118] ++ [main_while3b_cst_52, main_while3b_v119, main_while3b_v120, main_while3b_cst_53, main_while3b_v121] ++ [main_while3b_cst_54, main_while3b_v122, main_while3b_v123] ++ [main_while3b_call28_v0, main_while3b_call28_c, main_while3b_v124] ++ [main_while3b_call29_v0, main_while3b_call29_c, main_while3b_v125] ++ [main_while3b_c_55, main_while3b_v126, main_v88_4, main_v88_5, main_v88_6, main_v88_7]

theorem stepD_keep {r : Ref sig .tc} (h : r ∉ wdW) : afterL wdI V (Proc.tc.devRef r) = V (Proc.tc.devRef r) := by
  simp only [wdW, List.mem_append, not_or] at h
  obtain ⟨⟨⟨⟨⟨⟨⟨⟨⟨⟨⟨h0, h1⟩, h2⟩, h3⟩, h4⟩, h5⟩, h6⟩, h7⟩, h8⟩, h9⟩, h10⟩, h11⟩ := h
  rw [afterL_cons, afterL_cons, afterL_cons, afterL_cons, afterL_cons, afterL_cons, afterL_cons, afterL_cons, afterL_cons, afterL_cons, afterL_cons, afterL_cons, afterL_nil, wd_11_keep _ h11, wd_10_keep _ h10, wd_9_keep _ h9, wd_8_keep _ h8, wd_7_keep _ h7, wd_6_keep _ h6, wd_5_keep _ h5, wd_4_keep _ h4, wd_3_keep _ h3, wd_2_keep _ h2, wd_1_keep _ h1, wd_0_keep _ h0]

theorem stepA_main_v22_2 : afterL waI V (Proc.tc.devRef main_v22_2) = wa_6_v22_2 (V (Proc.tc.devRef main_v22_2)) := by
  rw [afterL_cons, afterL_cons, afterL_cons, afterL_cons, afterL_cons, afterL_cons, afterL_cons, afterL_nil, wa_6_v22_2_read, wa_5_keep (r := main_v22_2) _ (by decide), wa_4_keep (r := main_v22_2) _ (by decide), wa_3_keep (r := main_v22_2) _ (by decide), wa_2_keep (r := main_v22_2) _ (by decide), wa_1_keep (r := main_v22_2) _ (by decide), wa_0_keep (r := main_v22_2) _ (by decide)]
  try simp only [wa_6_v22_3, wa_6_v22_4, wb_22_v34_6, wb_22_v34_7, stNext, jNext, xR, prawR, probOf, id_eq]

theorem stepA_main_v22_3 : afterL waI V (Proc.tc.devRef main_v22_3) = (stNext (V (Proc.tc.devRef main_v22_0)) (V (Proc.tc.devRef main_v22_1)) (V (Proc.tc.devRef main_v22_2)) (V (Proc.tc.devRef main_v22_3))) := by
  rw [afterL_cons, afterL_cons, afterL_cons, afterL_cons, afterL_cons, afterL_cons, afterL_cons, afterL_nil, wa_6_v22_3_read, wa_5_keep (r := main_while0b_v126) _ (by decide), wa_4_v60_read, wa_3_v59_read, wa_3_keep (r := main_while0b_v124) _ (by decide), wa_2_v58_read, wa_1_keep (r := main_v22_3) _ (by decide), wa_1_keep (r := main_while0b_v105) _ (by decide), wa_1_v40_read, wa_0_keep (r := main_v22_3) _ (by decide), wa_0_v39_read, wa_0_keep (r := main_v22_1) _ (by decide), wa_0_keep (r := main_v22_2) _ (by decide)]
  try simp only [wa_6_v22_3, wa_6_v22_4, wb_22_v34_6, wb_22_v34_7, stNext, jNext, xR, prawR, probOf, id_eq]

theorem stepA_main_v22_4 : afterL waI V (Proc.tc.devRef main_v22_4) = wa_5_v61 (V (Proc.tc.devRef main_v22_4)) (stNext (V (Proc.tc.devRef main_v22_0)) (V (Proc.tc.devRef main_v22_1)) (V (Proc.tc.devRef main_v22_2)) (V (Proc.tc.devRef main_v22_3))) (V (Proc.tc.devRef main_v22_2)) := by
  rw [afterL_cons, afterL_cons, afterL_cons, afterL_cons, afterL_cons, afterL_cons, afterL_cons, afterL_nil, wa_6_v22_4_read, wa_5_v61_read, wa_4_keep (r := main_v22_4) _ (by decide), wa_4_v60_read, wa_4_keep (r := main_v22_2) _ (by decide), wa_3_keep (r := main_v22_4) _ (by decide), wa_3_v59_read, wa_3_keep (r := main_while0b_v124) _ (by decide), wa_3_keep (r := main_v22_2) _ (by decide), wa_2_keep (r := main_v22_4) _ (by decide), wa_2_v58_read, wa_2_keep (r := main_v22_2) _ (by decide), wa_1_keep (r := main_v22_4) _ (by decide), wa_1_keep (r := main_v22_3) _ (by decide), wa_1_keep (r := main_while0b_v105) _ (by decide), wa_1_v40_read, wa_1_keep (r := main_v22_2) _ (by decide), wa_0_keep (r := main_v22_4) _ (by decide), wa_0_keep (r := main_v22_3) _ (by decide), wa_0_v39_read, wa_0_keep (r := main_v22_1) _ (by decide), wa_0_keep (r := main_v22_2) _ (by decide)]
  try simp only [wa_6_v22_3, wa_6_v22_4, wb_22_v34_6, wb_22_v34_7, stNext, jNext, xR, prawR, probOf, id_eq]

theorem stepB_main_v34_5 : afterL wbI V (Proc.tc.devRef main_v34_5) = wb_22_v34_5 (V (Proc.tc.devRef main_v34_5)) := by
  rw [afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_nil, wb_22_v34_5_read, wb_21_keep (r := main_v34_5) _ (by decide), wb_20_keep (r := main_v34_5) _ (by decide), wb_19_keep (r := main_v34_5) _ (by decide), wb_18_keep (r := main_v34_5) _ (by decide), wb_17_keep (r := main_v34_5) _ (by decide), wb_16_keep (r := main_v34_5) _ (by decide), wb_15_keep (r := main_v34_5) _ (by decide), wb_14_keep (r := main_v34_5) _ (by decide), wb_13_keep (r := main_v34_5) _ (by decide), wb_12_keep (r := main_v34_5) _ (by decide), wb_11_keep (r := main_v34_5) _ (by decide), wb_10_keep (r := main_v34_5) _ (by decide), wb_9_keep (r := main_v34_5) _ (by decide), wb_8_keep (r := main_v34_5) _ (by decide), wb_7_keep (r := main_v34_5) _ (by decide), wb_6_keep (r := main_v34_5) _ (by decide), wb_5_keep (r := main_v34_5) _ (by decide), wb_4_keep (r := main_v34_5) _ (by decide), wb_3_keep (r := main_v34_5) _ (by decide), wb_2_keep (r := main_v34_5) _ (by decide), wb_1_keep (r := main_v34_5) _ (by decide), wb_0_keep (r := main_v34_5) _ (by decide)]
  try simp only [wa_6_v22_3, wa_6_v22_4, wb_22_v34_6, wb_22_v34_7, stNext, jNext, xR, prawR, probOf, id_eq]

theorem stepB_main_v34_6 : afterL wbI V (Proc.tc.devRef main_v34_6) = jNext (V (Proc.tc.devRef main_v34_0)) (V (Proc.tc.devRef main_v34_1)) (V (Proc.tc.devRef main_v34_2)) (V (Proc.tc.devRef main_v34_3)) (V (Proc.tc.devRef main_v34_4)) (V (Proc.tc.devRef main_v34_5)) (V (Proc.tc.devRef main_v34_6)) := by
  rw [afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_nil, wb_22_v34_6_read, wb_21_keep (r := main_while1b_v189) _ (by decide), wb_20_v123_read, wb_19_v120_read, wb_19_v122_read, wb_19_keep (r := main_v34_6) _ (by decide), wb_18_keep (r := main_while1b_v106) _ (by decide), wb_18_v116_read, wb_18_keep (r := main_v34_6) _ (by decide), wb_17_keep (r := main_while1b_v106) _ (by decide), wb_17_keep (r := main_while1b_v164) _ (by decide), wb_17_v109_read, wb_17_keep (r := main_v34_6) _ (by decide), wb_16_keep (r := main_while1b_v106) _ (by decide), wb_16_keep (r := main_while1b_v164) _ (by decide), wb_16_keep (r := main_while1b_v166) _ (by decide), wb_16_v105_read, wb_16_v108_read, wb_16_keep (r := main_v34_6) _ (by decide), wb_15_keep (r := main_while1b_v106) _ (by decide), wb_15_keep (r := main_while1b_v164) _ (by decide), wb_15_keep (r := main_while1b_v166) _ (by decide), wb_15_keep (r := main_while1b_v167) _ (by decide), wb_15_v102_read, wb_15_keep (r := main_v34_6) _ (by decide), wb_14_keep (r := main_while1b_v106) _ (by decide), wb_14_keep (r := main_while1b_v164) _ (by decide), wb_14_keep (r := main_while1b_v166) _ (by decide), wb_14_keep (r := main_while1b_v167) _ (by decide), wb_14_cst_42_read, wb_14_keep (r := main_v34_6) _ (by decide), wb_13_keep (r := main_while1b_v106) _ (by decide), wb_13_keep (r := main_while1b_v164) _ (by decide), wb_13_keep (r := main_while1b_v166) _ (by decide), wb_13_v101_read, wb_13_keep (r := main_v34_6) _ (by decide), wb_12_keep (r := main_while1b_v106) _ (by decide), wb_12_keep (r := main_while1b_v164) _ (by decide), wb_12_v100_read, wb_12_cst_41_read, wb_12_keep (r := main_v34_6) _ (by decide), wb_11_keep (r := main_while1b_v106) _ (by decide), wb_11_v98_read, wb_11_keep (r := main_v34_6) _ (by decide), wb_10_keep (r := main_while1b_v106) _ (by decide), wb_10_keep (r := main_while1b_v134) _ (by decide), wb_10_v94_read, wb_10_keep (r := main_while1b_v158) _ (by decide), wb_10_keep (r := main_v34_6) _ (by decide), wb_9_keep (r := main_while1b_v106) _ (by decide), wb_9_keep (r := main_while1b_v134) _ (by decide), wb_9_keep (r := main_v34_4) _ (by decide), wb_9_v93_read, wb_9_keep (r := main_while1b_v158) _ (by decide), wb_9_keep (r := main_v34_6) _ (by decide), wb_8_keep (r := main_while1b_v106) _ (by decide), wb_8_keep (r := main_while1b_v134) _ (by decide), wb_8_keep (r := main_v34_4) _ (by decide), wb_8_keep (r := main_while1b_v105) _ (by decide), wb_8_v92_read, wb_8_keep (r := main_v34_6) _ (by decide), wb_7_keep (r := main_while1b_v106) _ (by decide), wb_7_keep (r := main_while1b_v134) _ (by decide), wb_7_keep (r := main_v34_4) _ (by decide), wb_7_keep (r := main_while1b_v105) _ (by decide), wb_7_keep (r := main_v34_3) _ (by decide), wb_7_v91_read, wb_7_keep (r := main_v34_6) _ (by decide), wb_6_keep (r := main_while1b_v106) _ (by decide), wb_6_keep (r := main_while1b_v134) _ (by decide), wb_6_keep (r := main_v34_4) _ (by decide), wb_6_keep (r := main_while1b_v105) _ (by decide), wb_6_keep (r := main_v34_3) _ (by decide), wb_6_v88_read, wb_6_v89_read, wb_6_v90_read, wb_6_keep (r := main_v34_6) _ (by decide), wb_5_keep (r := main_while1b_v106) _ (by decide), wb_5_v68_read, wb_5_keep (r := main_v34_4) _ (by decide), wb_5_keep (r := main_while1b_v105) _ (by decide), wb_5_keep (r := main_v34_3) _ (by decide), wb_5_keep (r := main_v34_2) _ (by decide), wb_5_keep (r := main_while1b_v110) _ (by decide), wb_5_keep (r := main_v34_6) _ (by decide), wb_4_keep (r := main_while1b_v106) _ (by decide), wb_4_keep (r := main_v34_3) _ (by decide), wb_4_v67_read, wb_4_keep (r := main_v34_4) _ (by decide), wb_4_keep (r := main_while1b_v105) _ (by decide), wb_4_keep (r := main_v34_2) _ (by decide), wb_4_keep (r := main_while1b_v110) _ (by decide), wb_4_keep (r := main_v34_6) _ (by decide), wb_3_keep (r := main_while1b_v106) _ (by decide), wb_3_keep (r := main_v34_3) _ (by decide), wb_3_v64_read, wb_3_v65_read, wb_3_v66_read, wb_3_keep (r := main_v34_4) _ (by decide), wb_3_keep (r := main_while1b_v105) _ (by decide), wb_3_keep (r := main_v34_2) _ (by decide), wb_3_keep (r := main_while1b_v110) _ (by decide), wb_3_keep (r := main_v34_6) _ (by decide), wb_2_keep (r := main_while1b_v106) _ (by decide), wb_2_keep (r := main_v34_3) _ (by decide), wb_2_keep (r := main_v34_2) _ (by decide), wb_2_v44_read, wb_2_keep (r := main_v34_6) _ (by decide), wb_2_keep (r := main_v34_4) _ (by decide), wb_2_keep (r := main_while1b_v105) _ (by decide), wb_1_v40_read, wb_1_keep (r := main_v34_3) _ (by decide), wb_1_keep (r := main_v34_2) _ (by decide), wb_1_keep (r := main_while1b_v105) _ (by decide), wb_1_keep (r := main_v34_6) _ (by decide), wb_1_keep (r := main_v34_4) _ (by decide), wb_0_keep (r := main_v34_1) _ (by decide), wb_0_keep (r := main_v34_5) _ (by decide), wb_0_keep (r := main_v34_3) _ (by decide), wb_0_keep (r := main_v34_2) _ (by decide), wb_0_v39_read, wb_0_keep (r := main_v34_6) _ (by decide), wb_0_keep (r := main_v34_4) _ (by decide)]
  try simp only [wa_6_v22_3, wa_6_v22_4, wb_22_v34_6, wb_22_v34_7, stNext, jNext, xR, prawR, probOf, id_eq]

theorem stepB_main_v34_7 : afterL wbI V (Proc.tc.devRef main_v34_7) = wb_21_v124 (V (Proc.tc.devRef main_v34_7)) (xR (V (Proc.tc.devRef main_v34_0)) (V (Proc.tc.devRef main_v34_1)) (V (Proc.tc.devRef main_v34_2)) (V (Proc.tc.devRef main_v34_3)) (V (Proc.tc.devRef main_v34_4)) (V (Proc.tc.devRef main_v34_5)) (V (Proc.tc.devRef main_v34_6))) (V (Proc.tc.devRef main_v34_5)) := by
  rw [afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_cons, afterL_nil, wb_22_v34_7_read, wb_21_v124_read, wb_20_keep (r := main_v34_7) _ (by decide), wb_20_keep (r := main_while1b_v184) _ (by decide), wb_20_keep (r := main_v34_5) _ (by decide), wb_19_keep (r := main_v34_7) _ (by decide), wb_19_v118_read, wb_19_keep (r := main_v34_5) _ (by decide), wb_18_keep (r := main_v34_7) _ (by decide), wb_18_keep (r := main_while1b_v106) _ (by decide), wb_18_v116_read, wb_18_keep (r := main_v34_5) _ (by decide), wb_17_keep (r := main_v34_7) _ (by decide), wb_17_keep (r := main_while1b_v106) _ (by decide), wb_17_keep (r := main_while1b_v164) _ (by decide), wb_17_v109_read, wb_17_keep (r := main_v34_5) _ (by decide), wb_16_keep (r := main_v34_7) _ (by decide), wb_16_keep (r := main_while1b_v106) _ (by decide), wb_16_keep (r := main_while1b_v164) _ (by decide), wb_16_keep (r := main_while1b_v166) _ (by decide), wb_16_v105_read, wb_16_v108_read, wb_16_keep (r := main_v34_5) _ (by decide), wb_15_keep (r := main_v34_7) _ (by decide), wb_15_keep (r := main_while1b_v106) _ (by decide), wb_15_keep (r := main_while1b_v164) _ (by decide), wb_15_keep (r := main_while1b_v166) _ (by decide), wb_15_keep (r := main_while1b_v167) _ (by decide), wb_15_v102_read, wb_15_keep (r := main_v34_5) _ (by decide), wb_14_keep (r := main_v34_7) _ (by decide), wb_14_keep (r := main_while1b_v106) _ (by decide), wb_14_keep (r := main_while1b_v164) _ (by decide), wb_14_keep (r := main_while1b_v166) _ (by decide), wb_14_keep (r := main_while1b_v167) _ (by decide), wb_14_cst_42_read, wb_14_keep (r := main_v34_5) _ (by decide), wb_13_keep (r := main_v34_7) _ (by decide), wb_13_keep (r := main_while1b_v106) _ (by decide), wb_13_keep (r := main_while1b_v164) _ (by decide), wb_13_keep (r := main_while1b_v166) _ (by decide), wb_13_v101_read, wb_13_keep (r := main_v34_5) _ (by decide), wb_12_keep (r := main_v34_7) _ (by decide), wb_12_keep (r := main_while1b_v106) _ (by decide), wb_12_keep (r := main_while1b_v164) _ (by decide), wb_12_v100_read, wb_12_cst_41_read, wb_12_keep (r := main_v34_5) _ (by decide), wb_11_keep (r := main_v34_7) _ (by decide), wb_11_keep (r := main_while1b_v106) _ (by decide), wb_11_v98_read, wb_11_keep (r := main_v34_5) _ (by decide), wb_10_keep (r := main_v34_7) _ (by decide), wb_10_keep (r := main_while1b_v106) _ (by decide), wb_10_keep (r := main_while1b_v134) _ (by decide), wb_10_v94_read, wb_10_keep (r := main_while1b_v158) _ (by decide), wb_10_keep (r := main_v34_5) _ (by decide), wb_9_keep (r := main_v34_7) _ (by decide), wb_9_keep (r := main_while1b_v106) _ (by decide), wb_9_keep (r := main_while1b_v134) _ (by decide), wb_9_keep (r := main_v34_4) _ (by decide), wb_9_v93_read, wb_9_keep (r := main_while1b_v158) _ (by decide), wb_9_keep (r := main_v34_5) _ (by decide), wb_8_keep (r := main_v34_7) _ (by decide), wb_8_keep (r := main_while1b_v106) _ (by decide), wb_8_keep (r := main_while1b_v134) _ (by decide), wb_8_keep (r := main_v34_4) _ (by decide), wb_8_keep (r := main_while1b_v105) _ (by decide), wb_8_v92_read, wb_8_keep (r := main_v34_5) _ (by decide), wb_7_keep (r := main_v34_7) _ (by decide), wb_7_keep (r := main_while1b_v106) _ (by decide), wb_7_keep (r := main_while1b_v134) _ (by decide), wb_7_keep (r := main_v34_4) _ (by decide), wb_7_keep (r := main_while1b_v105) _ (by decide), wb_7_keep (r := main_v34_3) _ (by decide), wb_7_v91_read, wb_7_keep (r := main_v34_5) _ (by decide), wb_6_keep (r := main_v34_7) _ (by decide), wb_6_keep (r := main_while1b_v106) _ (by decide), wb_6_keep (r := main_while1b_v134) _ (by decide), wb_6_keep (r := main_v34_4) _ (by decide), wb_6_keep (r := main_while1b_v105) _ (by decide), wb_6_keep (r := main_v34_3) _ (by decide), wb_6_v88_read, wb_6_v89_read, wb_6_v90_read, wb_6_keep (r := main_v34_5) _ (by decide), wb_5_keep (r := main_v34_7) _ (by decide), wb_5_keep (r := main_while1b_v106) _ (by decide), wb_5_v68_read, wb_5_keep (r := main_v34_4) _ (by decide), wb_5_keep (r := main_while1b_v105) _ (by decide), wb_5_keep (r := main_v34_3) _ (by decide), wb_5_keep (r := main_v34_2) _ (by decide), wb_5_keep (r := main_while1b_v110) _ (by decide), wb_5_keep (r := main_v34_6) _ (by decide), wb_5_keep (r := main_v34_5) _ (by decide), wb_4_keep (r := main_v34_7) _ (by decide), wb_4_keep (r := main_while1b_v106) _ (by decide), wb_4_keep (r := main_v34_3) _ (by decide), wb_4_v67_read, wb_4_keep (r := main_v34_4) _ (by decide), wb_4_keep (r := main_while1b_v105) _ (by decide), wb_4_keep (r := main_v34_2) _ (by decide), wb_4_keep (r := main_while1b_v110) _ (by decide), wb_4_keep (r := main_v34_6) _ (by decide), wb_4_keep (r := main_v34_5) _ (by decide), wb_3_keep (r := main_v34_7) _ (by decide), wb_3_keep (r := main_while1b_v106) _ (by decide), wb_3_keep (r := main_v34_3) _ (by decide), wb_3_v64_read, wb_3_v65_read, wb_3_v66_read, wb_3_keep (r := main_v34_4) _ (by decide), wb_3_keep (r := main_while1b_v105) _ (by decide), wb_3_keep (r := main_v34_2) _ (by decide), wb_3_keep (r := main_while1b_v110) _ (by decide), wb_3_keep (r := main_v34_6) _ (by decide), wb_3_keep (r := main_v34_5) _ (by decide), wb_2_keep (r := main_v34_7) _ (by decide), wb_2_keep (r := main_while1b_v106) _ (by decide), wb_2_keep (r := main_v34_3) _ (by decide), wb_2_keep (r := main_v34_2) _ (by decide), wb_2_v44_read, wb_2_keep (r := main_v34_6) _ (by decide), wb_2_keep (r := main_v34_4) _ (by decide), wb_2_keep (r := main_while1b_v105) _ (by decide), wb_2_keep (r := main_v34_5) _ (by decide), wb_1_keep (r := main_v34_7) _ (by decide), wb_1_v40_read, wb_1_keep (r := main_v34_3) _ (by decide), wb_1_keep (r := main_v34_2) _ (by decide), wb_1_keep (r := main_while1b_v105) _ (by decide), wb_1_keep (r := main_v34_6) _ (by decide), wb_1_keep (r := main_v34_4) _ (by decide), wb_1_keep (r := main_v34_5) _ (by decide), wb_0_keep (r := main_v34_7) _ (by decide), wb_0_keep (r := main_v34_1) _ (by decide), wb_0_keep (r := main_v34_5) _ (by decide), wb_0_keep (r := main_v34_3) _ (by decide), wb_0_keep (r := main_v34_2) _ (by decide), wb_0_v39_read, wb_0_keep (r := main_v34_6) _ (by decide), wb_0_keep (r := main_v34_4) _ (by decide)]
  try simp only [wa_6_v22_3, wa_6_v22_4, wb_22_v34_6, wb_22_v34_7, stNext, jNext, xR, prawR, probOf, id_eq]

theorem stepC_main_v70_7 : afterL wcI V (Proc.tc.devRef main_v70_7) = (wc_11_v70_7 (V (Proc.tc.devRef main_v70_7))) := by
  rw [afterL_cons, afterL_cons, afterL_cons, afterL_cons, afterL_cons, afterL_cons, afterL_cons, afterL_cons, afterL_cons, afterL_cons, afterL_cons, afterL_cons, afterL_nil, wc_11_v70_7_read, wc_10_keep (r := main_v70_7) _ (by decide), wc_9_keep (r := main_v70_7) _ (by decide), wc_8_keep (r := main_v70_7) _ (by decide), wc_7_keep (r := main_v70_7) _ (by decide), wc_6_keep (r := main_v70_7) _ (by decide), wc_5_keep (r := main_v70_7) _ (by decide), wc_4_keep (r := main_v70_7) _ (by decide), wc_3_keep (r := main_v70_7) _ (by decide), wc_2_keep (r := main_v70_7) _ (by decide), wc_1_keep (r := main_v70_7) _ (by decide), wc_0_keep (r := main_v70_7) _ (by decide)]

theorem stepC_main_v70_8 : afterL wcI V (Proc.tc.devRef main_v70_8) = (wc_11_v70_8 (wc_7_v141 (V (Proc.tc.devRef main_v70_2)) (wc_4_v124 (wc_2_v110 (V (Proc.tc.devRef main_v70_8)) (wc_0_v105 (V (Proc.tc.devRef main_v70_0)) (V (Proc.tc.devRef main_v70_7)))) (wc_3_v114 (V (Proc.tc.devRef main_v70_8)) (wc_1_v106 (V (Proc.tc.devRef main_v70_1)) (V (Proc.tc.devRef main_v70_7))))))) := by
  rw [afterL_cons, afterL_cons, afterL_cons, afterL_cons, afterL_cons, afterL_cons, afterL_cons, afterL_cons, afterL_cons, afterL_cons, afterL_cons, afterL_cons, afterL_nil, wc_11_v70_8_read, wc_10_keep (r := main_while2b_v141) _ (by decide), wc_9_keep (r := main_while2b_v141) _ (by decide), wc_8_keep (r := main_while2b_v141) _ (by decide), wc_7_v141_read, wc_6_keep (r := main_v70_2) _ (by decide), wc_6_keep (r := main_while2b_v124) _ (by decide), wc_5_keep (r := main_v70_2) _ (by decide), wc_5_keep (r := main_while2b_v124) _ (by decide), wc_4_keep (r := main_v70_2) _ (by decide), wc_4_v124_read, wc_3_keep (r := main_v70_2) _ (by decide), wc_3_keep (r := main_while2b_v110) _ (by decide), wc_3_v114_read, wc_2_keep (r := main_v70_2) _ (by decide), wc_2_v110_read, wc_2_keep (r := main_v70_8) _ (by decide), wc_2_keep (r := main_while2b_v106) _ (by decide), wc_1_keep (r := main_v70_2) _ (by decide), wc_1_keep (r := main_v70_8) _ (by decide), wc_1_keep (r := main_while2b_v105) _ (by decide), wc_1_v106_read, wc_0_keep (r := main_v70_2) _ (by decide), wc_0_keep (r := main_v70_8) _ (by decide), wc_0_v105_read, wc_0_keep (r := main_v70_1) _ (by decide), wc_0_keep (r := main_v70_7) _ (by decide)]

theorem stepC_main_v70_10 : afterL wcI V (Proc.tc.devRef main_v70_10) = (wc_11_v70_10 (wc_9_v143 (V (Proc.tc.devRef main_v70_10)) (wc_5_v132 (wc_2_v110 (V (Proc.tc.devRef main_v70_8)) (wc_0_v105 (V (Proc.tc.devRef main_v70_0)) (V (Proc.tc.devRef main_v70_7)))) (V (Proc.tc.devRef main_v70_3)) (wc_4_v124 (wc_2_v110 (V (Proc.tc.devRef main_v70_8)) (wc_0_v105 (V (Proc.tc.devRef main_v70_0)) (V (Proc.tc.devRef main_v70_7)))) (wc_3_v114 (V (Proc.tc.devRef main_v70_8)) (wc_1_v106 (V (Proc.tc.devRef main_v70_1)) (V (Proc.tc.devRef main_v70_7))))) (V (Proc.tc.devRef main_v70_4))) (V (Proc.tc.devRef main_v70_7)))) := by
  rw [afterL_cons, afterL_cons, afterL_cons, afterL_cons, afterL_cons, afterL_cons, afterL_cons, afterL_cons, afterL_cons, afterL_cons, afterL_cons, afterL_cons, afterL_nil, wc_11_v70_10_read, wc_10_keep (r := main_while2b_v143) _ (by decide), wc_9_v143_read, wc_8_keep (r := main_v70_10) _ (by decide), wc_8_keep (r := main_while2b_v132) _ (by decide), wc_8_keep (r := main_v70_7) _ (by decide), wc_7_keep (r := main_v70_10) _ (by decide), wc_7_keep (r := main_while2b_v132) _ (by decide), wc_7_keep (r := main_v70_7) _ (by decide), wc_6_keep (r := main_v70_10) _ (by decide), wc_6_keep (r := main_while2b_v132) _ (by decide), wc_6_keep (r := main_v70_7) _ (by decide), wc_5_keep (r := main_v70_10) _ (by decide), wc_5_v132_read, wc_5_keep (r := main_v70_7) _ (by decide), wc_4_keep (r := main_v70_10) _ (by decide), wc_4_keep (r := main_while2b_v110) _ (by decide), wc_4_keep (r := main_v70_3) _ (by decide), wc_4_v124_read, wc_4_keep (r := main_v70_4) _ (by decide), wc_4_keep (r := main_v70_7) _ (by decide), wc_3_keep (r := main_v70_10) _ (by decide), wc_3_keep (r := main_while2b_v110) _ (by decide), wc_3_keep (r := main_v70_3) _ (by decide), wc_3_v114_read, wc_3_keep (r := main_v70_4) _ (by decide), wc_3_keep (r := main_v70_7) _ (by decide), wc_2_keep (r := main_v70_10) _ (by decide), wc_2_v110_read, wc_2_keep (r := main_v70_3) _ (by decide), wc_2_keep (r := main_v70_8) _ (by decide), wc_2_keep (r := main_while2b_v106) _ (by decide), wc_2_keep (r := main_v70_4) _ (by decide), wc_2_keep (r := main_v70_7) _ (by decide), wc_1_keep (r := main_v70_10) _ (by decide), wc_1_keep (r := main_v70_8) _ (by decide), wc_1_keep (r := main_while2b_v105) _ (by decide), wc_1_keep (r := main_v70_3) _ (by decide), wc_1_v106_read, wc_1_keep (r := main_v70_4) _ (by decide), wc_1_keep (r := main_v70_7) _ (by decide), wc_0_keep (r := main_v70_10) _ (by decide), wc_0_keep (r := main_v70_8) _ (by decide), wc_0_v105_read, wc_0_keep (r := main_v70_3) _ (by decide), wc_0_keep (r := main_v70_1) _ (by decide), wc_0_keep (r := main_v70_7) _ (by decide), wc_0_keep (r := main_v70_4) _ (by decide)]

theorem stepC_main_v70_11 : afterL wcI V (Proc.tc.devRef main_v70_11) = (wc_11_v70_11 (wc_10_v144 (V (Proc.tc.devRef main_v70_11)) (wc_6_v140 (wc_3_v114 (V (Proc.tc.devRef main_v70_8)) (wc_1_v106 (V (Proc.tc.devRef main_v70_1)) (V (Proc.tc.devRef main_v70_7)))) (V (Proc.tc.devRef main_v70_5)) (wc_4_v124 (wc_2_v110 (V (Proc.tc.devRef main_v70_8)) (wc_0_v105 (V (Proc.tc.devRef main_v70_0)) (V (Proc.tc.devRef main_v70_7)))) (wc_3_v114 (V (Proc.tc.devRef main_v70_8)) (wc_1_v106 (V (Proc.tc.devRef main_v70_1)) (V (Proc.tc.devRef main_v70_7))))) (V (Proc.tc.devRef main_v70_6))) (V (Proc.tc.devRef main_v70_7)))) := by
  rw [afterL_cons, afterL_cons, afterL_cons, afterL_cons, afterL_cons, afterL_cons, afterL_cons, afterL_cons, afterL_cons, afterL_cons, afterL_cons, afterL_cons, afterL_nil, wc_11_v70_11_read, wc_10_v144_read, wc_9_keep (r := main_v70_11) _ (by decide), wc_9_keep (r := main_while2b_v140) _ (by decide), wc_9_keep (r := main_v70_7) _ (by decide), wc_8_keep (r := main_v70_11) _ (by decide), wc_8_keep (r := main_while2b_v140) _ (by decide), wc_8_keep (r := main_v70_7) _ (by decide), wc_7_keep (r := main_v70_11) _ (by decide), wc_7_keep (r := main_while2b_v140) _ (by decide), wc_7_keep (r := main_v70_7) _ (by decide), wc_6_keep (r := main_v70_11) _ (by decide), wc_6_v140_read, wc_6_keep (r := main_v70_7) _ (by decide), wc_5_keep (r := main_v70_11) _ (by decide), wc_5_keep (r := main_while2b_v114) _ (by decide), wc_5_keep (r := main_v70_5) _ (by decide), wc_5_keep (r := main_while2b_v124) _ (by decide), wc_5_keep (r := main_v70_6) _ (by decide), wc_5_keep (r := main_v70_7) _ (by decide), wc_4_keep (r := main_v70_11) _ (by decide), wc_4_keep (r := main_while2b_v114) _ (by decide), wc_4_keep (r := main_v70_5) _ (by decide), wc_4_v124_read, wc_4_keep (r := main_v70_6) _ (by decide), wc_4_keep (r := main_v70_7) _ (by decide), wc_3_keep (r := main_v70_11) _ (by decide), wc_3_v114_read, wc_3_keep (r := main_v70_5) _ (by decide), wc_3_keep (r := main_while2b_v110) _ (by decide), wc_3_keep (r := main_v70_6) _ (by decide), wc_3_keep (r := main_v70_7) _ (by decide), wc_2_keep (r := main_v70_11) _ (by decide), wc_2_keep (r := main_v70_8) _ (by decide), wc_2_keep (r := main_while2b_v106) _ (by decide), wc_2_keep (r := main_v70_5) _ (by decide), wc_2_v110_read, wc_2_keep (r := main_v70_6) _ (by decide), wc_2_keep (r := main_v70_7) _ (by decide), wc_1_keep (r := main_v70_11) _ (by decide), wc_1_keep (r := main_v70_8) _ (by decide), wc_1_v106_read, wc_1_keep (r := main_v70_5) _ (by decide), wc_1_keep (r := main_while2b_v105) _ (by decide), wc_1_keep (r := main_v70_6) _ (by decide), wc_1_keep (r := main_v70_7) _ (by decide), wc_0_keep (r := main_v70_11) _ (by decide), wc_0_keep (r := main_v70_8) _ (by decide), wc_0_keep (r := main_v70_1) _ (by decide), wc_0_keep (r := main_v70_7) _ (by decide), wc_0_keep (r := main_v70_5) _ (by decide), wc_0_v105_read, wc_0_keep (r := main_v70_6) _ (by decide)]

theorem stepD_main_v88_4 : afterL wdI V (Proc.tc.devRef main_v88_4) = (wd_11_v88_4 (V (Proc.tc.devRef main_v88_4))) := by
  rw [afterL_cons, afterL_cons, afterL_cons, afterL_cons, afterL_cons, afterL_cons, afterL_cons, afterL_cons, afterL_cons, afterL_cons, afterL_cons, afterL_cons, afterL_nil, wd_11_v88_4_read, wd_10_keep (r := main_v88_4) _ (by decide), wd_9_keep (r := main_v88_4) _ (by decide), wd_8_keep (r := main_v88_4) _ (by decide), wd_7_keep (r := main_v88_4) _ (by decide), wd_6_keep (r := main_v88_4) _ (by decide), wd_5_keep (r := main_v88_4) _ (by decide), wd_4_keep (r := main_v88_4) _ (by decide), wd_3_keep (r := main_v88_4) _ (by decide), wd_2_keep (r := main_v88_4) _ (by decide), wd_1_keep (r := main_v88_4) _ (by decide), wd_0_keep (r := main_v88_4) _ (by decide)]

theorem stepD_main_v88_5 : afterL wdI V (Proc.tc.devRef main_v88_5) = (wd_11_v88_5 (wd_8_v123 (wd_4_v114 (V (Proc.tc.devRef main_v88_5)) (wd_1_v107 (V (Proc.tc.devRef main_v88_0)) (wd_0_v106 (V (Proc.tc.devRef main_v88_4)))) (wd_2_v108 (V (Proc.tc.devRef main_v88_1)) (wd_0_v106 (V (Proc.tc.devRef main_v88_4))))) (wd_6_v118 (wd_4_v113 (V (Proc.tc.devRef main_v88_5)) (wd_1_v107 (V (Proc.tc.devRef main_v88_0)) (wd_0_v106 (V (Proc.tc.devRef main_v88_4)))) (wd_3_v109 (V (Proc.tc.devRef main_v88_2)) (wd_0_v106 (V (Proc.tc.devRef main_v88_4)))))))) := by
  rw [afterL_cons, afterL_cons, afterL_cons, afterL_cons, afterL_cons, afterL_cons, afterL_cons, afterL_cons, afterL_cons, afterL_cons, afterL_cons, afterL_cons, afterL_nil, wd_11_v88_5_read, wd_10_keep (r := main_while3b_v123) _ (by decide), wd_9_keep (r := main_while3b_v123) _ (by decide), wd_8_v123_read, wd_7_keep (r := main_while3b_v114) _ (by decide), wd_7_keep (r := main_while3b_v118) _ (by decide), wd_6_keep (r := main_while3b_v114) _ (by decide), wd_6_v118_read, wd_5_keep (r := main_while3b_v114) _ (by decide), wd_5_keep (r := main_while3b_v113) _ (by decide), wd_4_v114_read, wd_4_v113_read, wd_3_keep (r := main_v88_5) _ (by decide), wd_3_keep (r := main_while3b_v107) _ (by decide), wd_3_keep (r := main_while3b_v108) _ (by decide), wd_3_v109_read, wd_2_keep (r := main_v88_5) _ (by decide), wd_2_keep (r := main_while3b_v107) _ (by decide), wd_2_v108_read, wd_2_keep (r := main_v88_2) _ (by decide), wd_2_keep (r := main_while3b_v106) _ (by decide), wd_1_keep (r := main_v88_5) _ (by decide), wd_1_v107_read, wd_1_keep (r := main_v88_1) _ (by decide), wd_1_keep (r := main_while3b_v106) _ (by decide), wd_1_keep (r := main_v88_2) _ (by decide), wd_0_keep (r := main_v88_5) _ (by decide), wd_0_keep (r := main_v88_0) _ (by decide), wd_0_v106_read, wd_0_keep (r := main_v88_1) _ (by decide), wd_0_keep (r := main_v88_2) _ (by decide)]

theorem stepD_main_v88_6 : afterL wdI V (Proc.tc.devRef main_v88_6) = (wd_11_v88_6 (wd_9_v124 (V (Proc.tc.devRef main_v88_6)) (wd_7_v121 (wd_4_v114 (V (Proc.tc.devRef main_v88_5)) (wd_1_v107 (V (Proc.tc.devRef main_v88_0)) (wd_0_v106 (V (Proc.tc.devRef main_v88_4)))) (wd_2_v108 (V (Proc.tc.devRef main_v88_1)) (wd_0_v106 (V (Proc.tc.devRef main_v88_4)))))) (wd_0_v106 (V (Proc.tc.devRef main_v88_4))))) := by
  rw [afterL_cons, afterL_cons, afterL_cons, afterL_cons, afterL_cons, afterL_cons, afterL_cons, afterL_cons, afterL_cons, afterL_cons, afterL_cons, afterL_cons, afterL_nil, wd_11_v88_6_read, wd_10_keep (r := main_while3b_v124) _ (by decide), wd_9_v124_read, wd_8_keep (r := main_v88_6) _ (by decide), wd_8_keep (r := main_while3b_v121) _ (by decide), wd_8_keep (r := main_while3b_v106) _ (by decide), wd_7_keep (r := main_v88_6) _ (by decide), wd_7_v121_read, wd_7_keep (r := main_while3b_v106) _ (by decide), wd_6_keep (r := main_v88_6) _ (by decide), wd_6_keep (r := main_while3b_v114) _ (by decide), wd_6_keep (r := main_while3b_v106) _ (by decide), wd_5_keep (r := main_v88_6) _ (by decide), wd_5_keep (r := main_while3b_v114) _ (by decide), wd_5_keep (r := main_while3b_v106) _ (by decide), wd_4_keep (r := main_v88_6) _ (by decide), wd_4_v114_read, wd_4_keep (r := main_while3b_v106) _ (by decide), wd_3_keep (r := main_v88_6) _ (by decide), wd_3_keep (r := main_v88_5) _ (by decide), wd_3_keep (r := main_while3b_v107) _ (by decide), wd_3_keep (r := main_while3b_v108) _ (by decide), wd_3_keep (r := main_while3b_v106) _ (by decide), wd_2_keep (r := main_v88_6) _ (by decide), wd_2_keep (r := main_v88_5) _ (by decide), wd_2_keep (r := main_while3b_v107) _ (by decide), wd_2_v108_read, wd_2_keep (r := main_while3b_v106) _ (by decide), wd_1_keep (r := main_v88_6) _ (by decide), wd_1_keep (r := main_v88_5) _ (by decide), wd_1_v107_read, wd_1_keep (r := main_v88_1) _ (by decide), wd_1_keep (r := main_while3b_v106) _ (by decide), wd_0_keep (r := main_v88_6) _ (by decide), wd_0_keep (r := main_v88_5) _ (by decide), wd_0_keep (r := main_v88_0) _ (by decide), wd_0_v106_read, wd_0_keep (r := main_v88_1) _ (by decide)]

theorem stepD_main_v88_7 : afterL wdI V (Proc.tc.devRef main_v88_7) = (wd_11_v88_7 (wd_10_v125 (V (Proc.tc.devRef main_v88_7)) (wd_5_v117 (wd_4_v113 (V (Proc.tc.devRef main_v88_5)) (wd_1_v107 (V (Proc.tc.devRef main_v88_0)) (wd_0_v106 (V (Proc.tc.devRef main_v88_4)))) (wd_3_v109 (V (Proc.tc.devRef main_v88_2)) (wd_0_v106 (V (Proc.tc.devRef main_v88_4)))))) (wd_0_v106 (V (Proc.tc.devRef main_v88_4))))) := by
  rw [afterL_cons, afterL_cons, afterL_cons, afterL_cons, afterL_cons, afterL_cons, afterL_cons, afterL_cons, afterL_cons, afterL_cons, afterL_cons, afterL_cons, afterL_nil, wd_11_v88_7_read, wd_10_v125_read, wd_9_keep (r := main_v88_7) _ (by decide), wd_9_keep (r := main_while3b_v117) _ (by decide), wd_9_keep (r := main_while3b_v106) _ (by decide), wd_8_keep (r := main_v88_7) _ (by decide), wd_8_keep (r := main_while3b_v117) _ (by decide), wd_8_keep (r := main_while3b_v106) _ (by decide), wd_7_keep (r := main_v88_7) _ (by decide), wd_7_keep (r := main_while3b_v117) _ (by decide), wd_7_keep (r := main_while3b_v106) _ (by decide), wd_6_keep (r := main_v88_7) _ (by decide), wd_6_keep (r := main_while3b_v117) _ (by decide), wd_6_keep (r := main_while3b_v106) _ (by decide), wd_5_keep (r := main_v88_7) _ (by decide), wd_5_v117_read, wd_5_keep (r := main_while3b_v106) _ (by decide), wd_4_keep (r := main_v88_7) _ (by decide), wd_4_v113_read, wd_4_keep (r := main_while3b_v106) _ (by decide), wd_3_keep (r := main_v88_7) _ (by decide), wd_3_keep (r := main_v88_5) _ (by decide), wd_3_keep (r := main_while3b_v107) _ (by decide), wd_3_v109_read, wd_3_keep (r := main_while3b_v106) _ (by decide), wd_2_keep (r := main_v88_7) _ (by decide), wd_2_keep (r := main_v88_5) _ (by decide), wd_2_keep (r := main_while3b_v107) _ (by decide), wd_2_keep (r := main_v88_2) _ (by decide), wd_2_keep (r := main_while3b_v106) _ (by decide), wd_1_keep (r := main_v88_7) _ (by decide), wd_1_keep (r := main_v88_5) _ (by decide), wd_1_v107_read, wd_1_keep (r := main_v88_2) _ (by decide), wd_1_keep (r := main_while3b_v106) _ (by decide), wd_0_keep (r := main_v88_7) _ (by decide), wd_0_keep (r := main_v88_5) _ (by decide), wd_0_keep (r := main_v88_0) _ (by decide), wd_0_v106_read, wd_0_keep (r := main_v88_2) _ (by decide)]

end Cert.Proof.Ref

end
-- ==== Proof.RefRun.lean ====
/- The reference program's run: its four loops unrolled in their invariants, its frame, and its result. -/
module

public import proofs.«01_k».proof.Proof.RefStep
public import proofs.«01_k».proof.Proof.RunMany
public import Idealize.ShloMosaic.Lib.Quiescent

@[expose] public section

set_option maxRecDepth 100000

noncomputable section

namespace Cert.Proof.Ref

open Cert.ReferenceIdeal
open Idealize.ShloMosaic Idealize.SL.Sem Idealize.ShloMosaic.StableHlo
open Cert.Proof.Many
open TcCoe

variable {F : FTy → Type} [FloatOps F]
variable [Facts]
open Facts₀ Facts
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (ucRefs sub_ucRefs)

/-- The operations before the first loop. -/
abbrev mnA : List (List (HloOp τ sig (Elt F))) := [mn_0, mn_1, mn_2, mn_3, mn_4, mn_5, mn_6, mn_7, mn_8, mn_9, mn_10]

/-- The operations between the first loop and the second. -/
abbrev mnB : List (List (HloOp τ sig (Elt F))) := [mn_12, mn_13, mn_14, mn_15]

/-- The operations between the second loop and the third. -/
abbrev mnC : List (List (HloOp τ sig (Elt F))) := [mn_17, mn_18, mn_19, mn_20, mn_21, mn_22, mn_23, mn_24, mn_25, mn_26, mn_27, mn_28]

/-- The operations between the third loop and the fourth. -/
abbrev mnD : List (List (HloOp τ sig (Elt F))) := [mn_30, mn_31]

/-- The operations after the loops. -/
abbrev mnE : List (List (HloOp τ sig (Elt F))) := [mn_33, mn_34, mn_35, mn_36, mn_37, mn_38, mn_39, mn_40]

section Reads
variable (V : Valuation τ sig (Elt F))

theorem mnA_main_arg0 : afterL mnA V (Proc.tc.devRef main_arg0) = (V (Proc.tc.devRef main_arg0)) := by
  rw [afterL_cons, afterL_cons, afterL_cons, afterL_cons, afterL_cons, afterL_cons, afterL_cons, afterL_cons, afterL_cons, afterL_cons, afterL_cons, afterL_nil, mn_10_keep (r := main_arg0) _ (by decide), mn_9_keep (r := main_arg0) _ (by decide), mn_8_keep (r := main_arg0) _ (by decide), mn_7_keep (r := main_arg0) _ (by decide), mn_6_keep (r := main_arg0) _ (by decide), mn_5_keep (r := main_arg0) _ (by decide), mn_4_keep (r := main_arg0) _ (by decide), mn_3_keep (r := main_arg0) _ (by decide), mn_2_keep (r := main_arg0) _ (by decide), mn_1_keep (r := main_arg0) _ (by decide), mn_0_keep (r := main_arg0) _ (by decide)]

theorem mnA_main_cst : afterL mnA V (Proc.tc.devRef main_cst) = mn_0_cst := by
  rw [afterL_cons, afterL_cons, afterL_cons, afterL_cons, afterL_cons, afterL_cons, afterL_cons, afterL_cons, afterL_cons, afterL_cons, afterL_cons, afterL_nil, mn_10_keep (r := main_cst) _ (by decide), mn_9_keep (r := main_cst) _ (by decide), mn_8_keep (r := main_cst) _ (by decide), mn_7_keep (r := main_cst) _ (by decide), mn_6_keep (r := main_cst) _ (by decide), mn_5_keep (r := main_cst) _ (by decide), mn_4_keep (r := main_cst) _ (by decide), mn_3_keep (r := main_cst) _ (by decide), mn_2_keep (r := main_cst) _ (by decide), mn_1_keep (r := main_cst) _ (by decide), mn_0_cst_read]

theorem mnA_main_v18 : afterL mnA V (Proc.tc.devRef main_v18) = mn_9_v18 := by
  rw [afterL_cons, afterL_cons, afterL_cons, afterL_cons, afterL_cons, afterL_cons, afterL_cons, afterL_cons, afterL_cons, afterL_cons, afterL_cons, afterL_nil, mn_10_keep (r := main_v18) _ (by decide), mn_9_v18_read]

theorem mnA_main_v3 : afterL mnA V (Proc.tc.devRef main_v3) = lpR (V (Proc.tc.devRef main_arg0)) := by
  rw [afterL_cons, afterL_cons, afterL_cons, afterL_cons, afterL_cons, afterL_cons, afterL_cons, afterL_cons, afterL_cons, afterL_cons, afterL_cons, afterL_nil, mn_10_keep (r := main_v3) _ (by decide), mn_9_keep (r := main_v3) _ (by decide), mn_8_keep (r := main_v3) _ (by decide), mn_7_keep (r := main_v3) _ (by decide), mn_6_keep (r := main_v3) _ (by decide), mn_5_keep (r := main_v3) _ (by decide), mn_4_keep (r := main_v3) _ (by decide), mn_3_keep (r := main_v3) _ (by decide), mn_2_v3_read, mn_1_v1_read, mn_0_v0_read]
  try simp only [lpR, lqOf, arrR]

theorem mnA_main_v22_0 : afterL mnA V (Proc.tc.devRef main_v22_0) = mn_10_v22_0 (lpR (V (Proc.tc.devRef main_arg0))) := by
  rw [afterL_cons, afterL_cons, afterL_cons, afterL_cons, afterL_cons, afterL_cons, afterL_cons, afterL_cons, afterL_cons, afterL_cons, afterL_cons, afterL_nil, mn_10_v22_0_read, mn_9_keep (r := main_v3) _ (by decide), mn_8_keep (r := main_v3) _ (by decide), mn_7_keep (r := main_v3) _ (by decide), mn_6_keep (r := main_v3) _ (by decide), mn_5_keep (r := main_v3) _ (by decide), mn_4_keep (r := main_v3) _ (by decide), mn_3_keep (r := main_v3) _ (by decide), mn_2_v3_read, mn_1_v1_read, mn_0_v0_read]
  try simp only [lpR, lqOf, arrR]

theorem mnA_main_v22_1 : afterL mnA V (Proc.tc.devRef main_v22_1) = mn_10_v22_1 (lqOf (lpR (V (Proc.tc.devRef main_arg0)))) := by
  rw [afterL_cons, afterL_cons, afterL_cons, afterL_cons, afterL_cons, afterL_cons, afterL_cons, afterL_cons, afterL_cons, afterL_cons, afterL_cons, afterL_nil, mn_10_v22_1_read, mn_9_keep (r := main_v14) _ (by decide), mn_8_v14_read, mn_7_keep (r := main_v5) _ (by decide), mn_7_v10_read, mn_7_v13_read, mn_6_keep (r := main_v5) _ (by decide), mn_6_keep (r := main_v6) _ (by decide), mn_6_v7_read, mn_5_keep (r := main_v5) _ (by decide), mn_5_keep (r := main_v6) _ (by decide), mn_5_cst_3_read, mn_5_keep (r := main_v3) _ (by decide), mn_4_keep (r := main_v5) _ (by decide), mn_4_v6_read, mn_4_keep (r := main_v3) _ (by decide), mn_3_v5_read, mn_3_keep (r := main_v3) _ (by decide), mn_3_cst_2_read, mn_2_v3_read, mn_1_v1_read, mn_0_v0_read]
  try simp only [lpR, lqOf, arrR]

theorem mnA_main_v22_2 : afterL mnA V (Proc.tc.devRef main_v22_2) = mn_10_v22_2 := by
  rw [afterL_cons, afterL_cons, afterL_cons, afterL_cons, afterL_cons, afterL_cons, afterL_cons, afterL_cons, afterL_cons, afterL_cons, afterL_cons, afterL_nil, mn_10_v22_2_read]

theorem mnA_main_v22_3 : afterL mnA V (Proc.tc.devRef main_v22_3) = mn_10_v22_3 mn_9_v18 := by
  rw [afterL_cons, afterL_cons, afterL_cons, afterL_cons, afterL_cons, afterL_cons, afterL_cons, afterL_cons, afterL_cons, afterL_cons, afterL_cons, afterL_nil, mn_10_v22_3_read, mn_9_v18_read]

theorem mnA_main_v22_4 : afterL mnA V (Proc.tc.devRef main_v22_4) = mn_10_v22_4 := by
  rw [afterL_cons, afterL_cons, afterL_cons, afterL_cons, afterL_cons, afterL_cons, afterL_cons, afterL_cons, afterL_cons, afterL_cons, afterL_cons, afterL_nil, mn_10_v22_4_read]

theorem mnB_main_arg0 : afterL mnB V (Proc.tc.devRef main_arg0) = (V (Proc.tc.devRef main_arg0)) := by
  rw [afterL_cons, afterL_cons, afterL_cons, afterL_cons, afterL_nil, mn_15_keep (r := main_arg0) _ (by decide), mn_14_keep (r := main_arg0) _ (by decide), mn_13_keep (r := main_arg0) _ (by decide), mn_12_keep (r := main_arg0) _ (by decide)]

theorem mnB_main_v34_0 : afterL mnB V (Proc.tc.devRef main_v34_0) = mn_15_v34_0 mn_14_v31 := by
  rw [afterL_cons, afterL_cons, afterL_cons, afterL_cons, afterL_nil, mn_15_v34_0_read, mn_14_v31_read]

theorem mnB_main_v34_1 : afterL mnB V (Proc.tc.devRef main_v34_1) = mn_15_v34_1 (V (Proc.tc.devRef main_cst)) := by
  rw [afterL_cons, afterL_cons, afterL_cons, afterL_cons, afterL_nil, mn_15_v34_1_read, mn_14_keep (r := main_cst) _ (by decide), mn_13_keep (r := main_cst) _ (by decide), mn_12_keep (r := main_cst) _ (by decide)]

theorem mnB_main_v34_2 : afterL mnB V (Proc.tc.devRef main_v34_2) = mn_15_v34_2 mn_14_v26 := by
  rw [afterL_cons, afterL_cons, afterL_cons, afterL_cons, afterL_nil, mn_15_v34_2_read, mn_14_v26_read]

theorem mnB_main_v34_3 : afterL mnB V (Proc.tc.devRef main_v34_3) = mn_15_v34_3 (mn_13_v25 (mn_12_v23 (V (Proc.tc.devRef main_v18))) (mn_12_v24 (V (Proc.tc.devRef main_v22_4)))) := by
  rw [afterL_cons, afterL_cons, afterL_cons, afterL_cons, afterL_nil, mn_15_v34_3_read, mn_14_keep (r := main_v25) _ (by decide), mn_13_v25_read, mn_12_v23_read, mn_12_v24_read]

theorem mnB_main_v34_4 : afterL mnB V (Proc.tc.devRef main_v34_4) = mn_15_v34_4 (V (Proc.tc.devRef main_v3)) := by
  rw [afterL_cons, afterL_cons, afterL_cons, afterL_cons, afterL_nil, mn_15_v34_4_read, mn_14_keep (r := main_v3) _ (by decide), mn_13_keep (r := main_v3) _ (by decide), mn_12_keep (r := main_v3) _ (by decide)]

theorem mnB_main_v34_5 : afterL mnB V (Proc.tc.devRef main_v34_5) = mn_15_v34_5 := by
  rw [afterL_cons, afterL_cons, afterL_cons, afterL_cons, afterL_nil, mn_15_v34_5_read]

theorem mnB_main_v34_6 : afterL mnB V (Proc.tc.devRef main_v34_6) = mn_15_v34_6 := by
  rw [afterL_cons, afterL_cons, afterL_cons, afterL_cons, afterL_nil, mn_15_v34_6_read]

theorem mnB_main_v34_7 : afterL mnB V (Proc.tc.devRef main_v34_7) = mn_15_v34_7 := by
  rw [afterL_cons, afterL_cons, afterL_cons, afterL_cons, afterL_nil, mn_15_v34_7_read]

theorem mnA_main_v0 : afterL mnA V (Proc.tc.devRef main_v0) = mn_0_v0 (V (Proc.tc.devRef main_arg0)) := by
  rw [afterL_cons, afterL_cons, afterL_cons, afterL_cons, afterL_cons, afterL_cons, afterL_cons, afterL_cons, afterL_cons, afterL_cons, afterL_cons, afterL_nil, mn_10_keep (r := main_v0) _ (by decide), mn_9_keep (r := main_v0) _ (by decide), mn_8_keep (r := main_v0) _ (by decide), mn_7_keep (r := main_v0) _ (by decide), mn_6_keep (r := main_v0) _ (by decide), mn_5_keep (r := main_v0) _ (by decide), mn_4_keep (r := main_v0) _ (by decide), mn_3_keep (r := main_v0) _ (by decide), mn_2_keep (r := main_v0) _ (by decide), mn_1_keep (r := main_v0) _ (by decide), mn_0_v0_read]

theorem mnB_main_v0 : afterL mnB V (Proc.tc.devRef main_v0) = (V (Proc.tc.devRef main_v0)) := by
  rw [afterL_cons, afterL_cons, afterL_cons, afterL_cons, afterL_nil, mn_15_keep (r := main_v0) _ (by decide), mn_14_keep (r := main_v0) _ (by decide), mn_13_keep (r := main_v0) _ (by decide), mn_12_keep (r := main_v0) _ (by decide)]

theorem mnC_main_arg0 : afterL mnC V (Proc.tc.devRef main_arg0) = (V (Proc.tc.devRef main_arg0)) := by
  rw [afterL_cons, afterL_cons, afterL_cons, afterL_cons, afterL_cons, afterL_cons, afterL_cons, afterL_cons, afterL_cons, afterL_cons, afterL_cons, afterL_cons, afterL_nil, mn_28_keep (r := main_arg0) _ (by decide), mn_27_keep (r := main_arg0) _ (by decide), mn_26_keep (r := main_arg0) _ (by decide), mn_25_keep (r := main_arg0) _ (by decide), mn_24_keep (r := main_arg0) _ (by decide), mn_23_keep (r := main_arg0) _ (by decide), mn_22_keep (r := main_arg0) _ (by decide), mn_21_keep (r := main_arg0) _ (by decide), mn_20_keep (r := main_arg0) _ (by decide), mn_19_keep (r := main_arg0) _ (by decide), mn_18_keep (r := main_arg0) _ (by decide), mn_17_keep (r := main_arg0) _ (by decide)]

theorem mnC_main_v37 : afterL mnC V (Proc.tc.devRef main_v37) = (mn_18_v37 (mn_17_v35 (V (Proc.tc.devRef main_v34_7)))) := by
  rw [afterL_cons, afterL_cons, afterL_cons, afterL_cons, afterL_cons, afterL_cons, afterL_cons, afterL_cons, afterL_cons, afterL_cons, afterL_cons, afterL_cons, afterL_nil, mn_28_keep (r := main_v37) _ (by decide), mn_27_keep (r := main_v37) _ (by decide), mn_26_keep (r := main_v37) _ (by decide), mn_25_keep (r := main_v37) _ (by decide), mn_24_keep (r := main_v37) _ (by decide), mn_23_keep (r := main_v37) _ (by decide), mn_22_keep (r := main_v37) _ (by decide), mn_21_keep (r := main_v37) _ (by decide), mn_20_keep (r := main_v37) _ (by decide), mn_19_keep (r := main_v37) _ (by decide), mn_18_v37_read, mn_17_v35_read]

theorem mnC_main_v42 : afterL mnC V (Proc.tc.devRef main_v42) = (mn_20_v42 (mn_19_v38 (V (Proc.tc.devRef main_v0)))) := by
  rw [afterL_cons, afterL_cons, afterL_cons, afterL_cons, afterL_cons, afterL_cons, afterL_cons, afterL_cons, afterL_cons, afterL_cons, afterL_cons, afterL_cons, afterL_nil, mn_28_keep (r := main_v42) _ (by decide), mn_27_keep (r := main_v42) _ (by decide), mn_26_keep (r := main_v42) _ (by decide), mn_25_keep (r := main_v42) _ (by decide), mn_24_keep (r := main_v42) _ (by decide), mn_23_keep (r := main_v42) _ (by decide), mn_22_keep (r := main_v42) _ (by decide), mn_21_keep (r := main_v42) _ (by decide), mn_20_v42_read, mn_19_v38_read, mn_18_keep (r := main_v0) _ (by decide), mn_17_keep (r := main_v0) _ (by decide)]

theorem mnC_main_v43_1 : afterL mnC V (Proc.tc.devRef main_v43_1) = (mn_21_v43_1 (mn_20_v42 (mn_19_v38 (V (Proc.tc.devRef main_v0)))) (mn_20_v40 (mn_19_v38 (V (Proc.tc.devRef main_v0)))) mn_20_cst_15) := by
  rw [afterL_cons, afterL_cons, afterL_cons, afterL_cons, afterL_cons, afterL_cons, afterL_cons, afterL_cons, afterL_cons, afterL_cons, afterL_cons, afterL_cons, afterL_nil, mn_28_keep (r := main_v43_1) _ (by decide), mn_27_keep (r := main_v43_1) _ (by decide), mn_26_keep (r := main_v43_1) _ (by decide), mn_25_keep (r := main_v43_1) _ (by decide), mn_24_keep (r := main_v43_1) _ (by decide), mn_23_keep (r := main_v43_1) _ (by decide), mn_22_keep (r := main_v43_1) _ (by decide), mn_21_v43_1_read, mn_20_v42_read, mn_20_v40_read, mn_20_cst_15_read, mn_19_v38_read, mn_18_keep (r := main_v0) _ (by decide), mn_17_keep (r := main_v0) _ (by decide)]

theorem mnC_main_v44_1 : afterL mnC V (Proc.tc.devRef main_v44_1) = (mn_23_v44_1 (mn_20_v42 (mn_19_v38 (V (Proc.tc.devRef main_v0)))) mn_22_cst_16 (mn_20_v40 (mn_19_v38 (V (Proc.tc.devRef main_v0))))) := by
  rw [afterL_cons, afterL_cons, afterL_cons, afterL_cons, afterL_cons, afterL_cons, afterL_cons, afterL_cons, afterL_cons, afterL_cons, afterL_cons, afterL_cons, afterL_nil, mn_28_keep (r := main_v44_1) _ (by decide), mn_27_keep (r := main_v44_1) _ (by decide), mn_26_keep (r := main_v44_1) _ (by decide), mn_25_keep (r := main_v44_1) _ (by decide), mn_24_keep (r := main_v44_1) _ (by decide), mn_23_v44_1_read, mn_22_keep (r := main_v42) _ (by decide), mn_22_cst_16_read, mn_22_keep (r := main_v40) _ (by decide), mn_21_keep (r := main_v42) _ (by decide), mn_21_keep (r := main_v40) _ (by decide), mn_20_v42_read, mn_20_v40_read, mn_19_v38_read, mn_18_keep (r := main_v0) _ (by decide), mn_17_keep (r := main_v0) _ (by decide)]

theorem mnC_main_v46 : afterL mnC V (Proc.tc.devRef main_v46) = (mn_24_v46 (mn_21_v43_0 (mn_20_v42 (mn_19_v38 (V (Proc.tc.devRef main_v0)))) (mn_20_v40 (mn_19_v38 (V (Proc.tc.devRef main_v0)))) mn_20_cst_15)) := by
  rw [afterL_cons, afterL_cons, afterL_cons, afterL_cons, afterL_cons, afterL_cons, afterL_cons, afterL_cons, afterL_cons, afterL_cons, afterL_cons, afterL_cons, afterL_nil, mn_28_keep (r := main_v46) _ (by decide), mn_27_keep (r := main_v46) _ (by decide), mn_26_keep (r := main_v46) _ (by decide), mn_25_keep (r := main_v46) _ (by decide), mn_24_v46_read, mn_23_keep (r := main_v43_0) _ (by decide), mn_22_keep (r := main_v43_0) _ (by decide), mn_21_v43_0_read, mn_20_v42_read, mn_20_v40_read, mn_20_cst_15_read, mn_19_v38_read, mn_18_keep (r := main_v0) _ (by decide), mn_17_keep (r := main_v0) _ (by decide)]

theorem mnC_main_v47 : afterL mnC V (Proc.tc.devRef main_v47) = (mn_24_v47 (mn_21_v43_0 (mn_20_v42 (mn_19_v38 (V (Proc.tc.devRef main_v0)))) (mn_20_v40 (mn_19_v38 (V (Proc.tc.devRef main_v0)))) mn_20_cst_15)) := by
  rw [afterL_cons, afterL_cons, afterL_cons, afterL_cons, afterL_cons, afterL_cons, afterL_cons, afterL_cons, afterL_cons, afterL_cons, afterL_cons, afterL_cons, afterL_nil, mn_28_keep (r := main_v47) _ (by decide), mn_27_keep (r := main_v47) _ (by decide), mn_26_keep (r := main_v47) _ (by decide), mn_25_keep (r := main_v47) _ (by decide), mn_24_v47_read, mn_23_keep (r := main_v43_0) _ (by decide), mn_22_keep (r := main_v43_0) _ (by decide), mn_21_v43_0_read, mn_20_v42_read, mn_20_v40_read, mn_20_cst_15_read, mn_19_v38_read, mn_18_keep (r := main_v0) _ (by decide), mn_17_keep (r := main_v0) _ (by decide)]

theorem mnC_main_v49 : afterL mnC V (Proc.tc.devRef main_v49) = (mn_24_v49 (mn_23_v44_0 (mn_20_v42 (mn_19_v38 (V (Proc.tc.devRef main_v0)))) mn_22_cst_16 (mn_20_v40 (mn_19_v38 (V (Proc.tc.devRef main_v0)))))) := by
  rw [afterL_cons, afterL_cons, afterL_cons, afterL_cons, afterL_cons, afterL_cons, afterL_cons, afterL_cons, afterL_cons, afterL_cons, afterL_cons, afterL_cons, afterL_nil, mn_28_keep (r := main_v49) _ (by decide), mn_27_keep (r := main_v49) _ (by decide), mn_26_keep (r := main_v49) _ (by decide), mn_25_keep (r := main_v49) _ (by decide), mn_24_v49_read, mn_23_v44_0_read, mn_22_keep (r := main_v42) _ (by decide), mn_22_cst_16_read, mn_22_keep (r := main_v40) _ (by decide), mn_21_keep (r := main_v42) _ (by decide), mn_21_keep (r := main_v40) _ (by decide), mn_20_v42_read, mn_20_v40_read, mn_19_v38_read, mn_18_keep (r := main_v0) _ (by decide), mn_17_keep (r := main_v0) _ (by decide)]

theorem mnC_main_v53 : afterL mnC V (Proc.tc.devRef main_v53) = (mn_24_v53 (mn_23_v44_0 (mn_20_v42 (mn_19_v38 (V (Proc.tc.devRef main_v0)))) mn_22_cst_16 (mn_20_v40 (mn_19_v38 (V (Proc.tc.devRef main_v0)))))) := by
  rw [afterL_cons, afterL_cons, afterL_cons, afterL_cons, afterL_cons, afterL_cons, afterL_cons, afterL_cons, afterL_cons, afterL_cons, afterL_cons, afterL_cons, afterL_nil, mn_28_keep (r := main_v53) _ (by decide), mn_27_keep (r := main_v53) _ (by decide), mn_26_keep (r := main_v53) _ (by decide), mn_25_keep (r := main_v53) _ (by decide), mn_24_v53_read, mn_23_v44_0_read, mn_22_keep (r := main_v42) _ (by decide), mn_22_cst_16_read, mn_22_keep (r := main_v40) _ (by decide), mn_21_keep (r := main_v42) _ (by decide), mn_21_keep (r := main_v40) _ (by decide), mn_20_v42_read, mn_20_v40_read, mn_19_v38_read, mn_18_keep (r := main_v0) _ (by decide), mn_17_keep (r := main_v0) _ (by decide)]

theorem mnC_main_v70_0 : afterL mnC V (Proc.tc.devRef main_v70_0) = (mn_28_v70_0 (mn_27_v59 (mn_20_v40 (mn_19_v38 (V (Proc.tc.devRef main_v0)))))) := by
  rw [afterL_cons, afterL_cons, afterL_cons, afterL_cons, afterL_cons, afterL_cons, afterL_cons, afterL_cons, afterL_cons, afterL_cons, afterL_cons, afterL_cons, afterL_nil, mn_28_v70_0_read, mn_27_v59_read, mn_26_keep (r := main_v40) _ (by decide), mn_25_keep (r := main_v40) _ (by decide), mn_24_keep (r := main_v40) _ (by decide), mn_23_keep (r := main_v40) _ (by decide), mn_22_keep (r := main_v40) _ (by decide), mn_21_keep (r := main_v40) _ (by decide), mn_20_v40_read, mn_19_v38_read, mn_18_keep (r := main_v0) _ (by decide), mn_17_keep (r := main_v0) _ (by decide)]

theorem mnC_main_v70_1 : afterL mnC V (Proc.tc.devRef main_v70_1) = (mn_28_v70_1 (mn_27_v60 (mn_25_v54 (mn_20_v42 (mn_19_v38 (V (Proc.tc.devRef main_v0)))) (mn_24_v48 (mn_21_v43_0 (mn_20_v42 (mn_19_v38 (V (Proc.tc.devRef main_v0)))) (mn_20_v40 (mn_19_v38 (V (Proc.tc.devRef main_v0)))) mn_20_cst_15)) (mn_24_v51 (mn_23_v44_0 (mn_20_v42 (mn_19_v38 (V (Proc.tc.devRef main_v0)))) mn_22_cst_16 (mn_20_v40 (mn_19_v38 (V (Proc.tc.devRef main_v0))))))))) := by
  rw [afterL_cons, afterL_cons, afterL_cons, afterL_cons, afterL_cons, afterL_cons, afterL_cons, afterL_cons, afterL_cons, afterL_cons, afterL_cons, afterL_cons, afterL_nil, mn_28_v70_1_read, mn_27_v60_read, mn_26_keep (r := main_v54) _ (by decide), mn_25_v54_read, mn_24_keep (r := main_v42) _ (by decide), mn_24_v48_read, mn_24_v51_read, mn_23_keep (r := main_v42) _ (by decide), mn_23_keep (r := main_v43_0) _ (by decide), mn_23_v44_0_read, mn_22_keep (r := main_v42) _ (by decide), mn_22_keep (r := main_v43_0) _ (by decide), mn_22_cst_16_read, mn_22_keep (r := main_v40) _ (by decide), mn_21_keep (r := main_v42) _ (by decide), mn_21_v43_0_read, mn_21_keep (r := main_v40) _ (by decide), mn_20_v42_read, mn_20_v40_read, mn_20_cst_15_read, mn_19_v38_read, mn_18_keep (r := main_v0) _ (by decide), mn_17_keep (r := main_v0) _ (by decide)]

theorem mnC_main_v70_2 : afterL mnC V (Proc.tc.devRef main_v70_2) = (mn_28_v70_2 mn_27_v65) := by
  rw [afterL_cons, afterL_cons, afterL_cons, afterL_cons, afterL_cons, afterL_cons, afterL_cons, afterL_cons, afterL_cons, afterL_cons, afterL_cons, afterL_cons, afterL_nil, mn_28_v70_2_read, mn_27_v65_read]

theorem mnC_main_v70_3 : afterL mnC V (Proc.tc.devRef main_v70_3) = (mn_28_v70_3 mn_27_v61) := by
  rw [afterL_cons, afterL_cons, afterL_cons, afterL_cons, afterL_cons, afterL_cons, afterL_cons, afterL_cons, afterL_cons, afterL_cons, afterL_cons, afterL_cons, afterL_nil, mn_28_v70_3_read, mn_27_v61_read]

theorem mnC_main_v70_4 : afterL mnC V (Proc.tc.devRef main_v70_4) = (mn_28_v70_4 mn_27_v62) := by
  rw [afterL_cons, afterL_cons, afterL_cons, afterL_cons, afterL_cons, afterL_cons, afterL_cons, afterL_cons, afterL_cons, afterL_cons, afterL_cons, afterL_cons, afterL_nil, mn_28_v70_4_read, mn_27_v62_read]

theorem mnC_main_v70_5 : afterL mnC V (Proc.tc.devRef main_v70_5) = (mn_28_v70_5 mn_27_v63) := by
  rw [afterL_cons, afterL_cons, afterL_cons, afterL_cons, afterL_cons, afterL_cons, afterL_cons, afterL_cons, afterL_cons, afterL_cons, afterL_cons, afterL_cons, afterL_nil, mn_28_v70_5_read, mn_27_v63_read]

theorem mnC_main_v70_6 : afterL mnC V (Proc.tc.devRef main_v70_6) = (mn_28_v70_6 mn_27_v64) := by
  rw [afterL_cons, afterL_cons, afterL_cons, afterL_cons, afterL_cons, afterL_cons, afterL_cons, afterL_cons, afterL_cons, afterL_cons, afterL_cons, afterL_cons, afterL_nil, mn_28_v70_6_read, mn_27_v64_read]

theorem mnC_main_v70_7 : afterL mnC V (Proc.tc.devRef main_v70_7) = mn_28_v70_7 := by
  rw [afterL_cons, afterL_cons, afterL_cons, afterL_cons, afterL_cons, afterL_cons, afterL_cons, afterL_cons, afterL_cons, afterL_cons, afterL_cons, afterL_cons, afterL_nil, mn_28_v70_7_read]

theorem mnC_main_v70_8 : afterL mnC V (Proc.tc.devRef main_v70_8) = (mn_28_v70_8 mn_26_v58) := by
  rw [afterL_cons, afterL_cons, afterL_cons, afterL_cons, afterL_cons, afterL_cons, afterL_cons, afterL_cons, afterL_cons, afterL_cons, afterL_cons, afterL_cons, afterL_nil, mn_28_v70_8_read, mn_27_keep (r := main_v58) _ (by decide), mn_26_v58_read]

theorem mnC_main_v70_10 : afterL mnC V (Proc.tc.devRef main_v70_10) = (mn_28_v70_10 mn_27_v68) := by
  rw [afterL_cons, afterL_cons, afterL_cons, afterL_cons, afterL_cons, afterL_cons, afterL_cons, afterL_cons, afterL_cons, afterL_cons, afterL_cons, afterL_cons, afterL_nil, mn_28_v70_10_read, mn_27_v68_read]

theorem mnC_main_v70_11 : afterL mnC V (Proc.tc.devRef main_v70_11) = (mn_28_v70_11 mn_27_v69) := by
  rw [afterL_cons, afterL_cons, afterL_cons, afterL_cons, afterL_cons, afterL_cons, afterL_cons, afterL_cons, afterL_cons, afterL_cons, afterL_cons, afterL_cons, afterL_nil, mn_28_v70_11_read, mn_27_v69_read]

theorem mnD_main_arg0 : afterL mnD V (Proc.tc.devRef main_arg0) = (V (Proc.tc.devRef main_arg0)) := by
  rw [afterL_cons, afterL_cons, afterL_nil, mn_31_keep (r := main_arg0) _ (by decide), mn_30_keep (r := main_arg0) _ (by decide)]

theorem mnD_main_v37 : afterL mnD V (Proc.tc.devRef main_v37) = (V (Proc.tc.devRef main_v37)) := by
  rw [afterL_cons, afterL_cons, afterL_nil, mn_31_keep (r := main_v37) _ (by decide), mn_30_keep (r := main_v37) _ (by decide)]

theorem mnD_main_v42 : afterL mnD V (Proc.tc.devRef main_v42) = (V (Proc.tc.devRef main_v42)) := by
  rw [afterL_cons, afterL_cons, afterL_nil, mn_31_keep (r := main_v42) _ (by decide), mn_30_keep (r := main_v42) _ (by decide)]

theorem mnD_main_v43_1 : afterL mnD V (Proc.tc.devRef main_v43_1) = (V (Proc.tc.devRef main_v43_1)) := by
  rw [afterL_cons, afterL_cons, afterL_nil, mn_31_keep (r := main_v43_1) _ (by decide), mn_30_keep (r := main_v43_1) _ (by decide)]

theorem mnD_main_v44_1 : afterL mnD V (Proc.tc.devRef main_v44_1) = (V (Proc.tc.devRef main_v44_1)) := by
  rw [afterL_cons, afterL_cons, afterL_nil, mn_31_keep (r := main_v44_1) _ (by decide), mn_30_keep (r := main_v44_1) _ (by decide)]

theorem mnD_main_v46 : afterL mnD V (Proc.tc.devRef main_v46) = (V (Proc.tc.devRef main_v46)) := by
  rw [afterL_cons, afterL_cons, afterL_nil, mn_31_keep (r := main_v46) _ (by decide), mn_30_keep (r := main_v46) _ (by decide)]

theorem mnD_main_v47 : afterL mnD V (Proc.tc.devRef main_v47) = (V (Proc.tc.devRef main_v47)) := by
  rw [afterL_cons, afterL_cons, afterL_nil, mn_31_keep (r := main_v47) _ (by decide), mn_30_keep (r := main_v47) _ (by decide)]

theorem mnD_main_v49 : afterL mnD V (Proc.tc.devRef main_v49) = (V (Proc.tc.devRef main_v49)) := by
  rw [afterL_cons, afterL_cons, afterL_nil, mn_31_keep (r := main_v49) _ (by decide), mn_30_keep (r := main_v49) _ (by decide)]

theorem mnD_main_v53 : afterL mnD V (Proc.tc.devRef main_v53) = (V (Proc.tc.devRef main_v53)) := by
  rw [afterL_cons, afterL_cons, afterL_nil, mn_31_keep (r := main_v53) _ (by decide), mn_30_keep (r := main_v53) _ (by decide)]

theorem mnD_main_v88_0 : afterL mnD V (Proc.tc.devRef main_v88_0) = (mn_31_v88_0 mn_30_v84) := by
  rw [afterL_cons, afterL_cons, afterL_nil, mn_31_v88_0_read, mn_30_v84_read]

theorem mnD_main_v88_1 : afterL mnD V (Proc.tc.devRef main_v88_1) = (mn_31_v88_1 (V (Proc.tc.devRef main_v70_10))) := by
  rw [afterL_cons, afterL_cons, afterL_nil, mn_31_v88_1_read, mn_30_keep (r := main_v70_10) _ (by decide)]

theorem mnD_main_v88_2 : afterL mnD V (Proc.tc.devRef main_v88_2) = (mn_31_v88_2 (V (Proc.tc.devRef main_v70_11))) := by
  rw [afterL_cons, afterL_cons, afterL_nil, mn_31_v88_2_read, mn_30_keep (r := main_v70_11) _ (by decide)]

theorem mnD_main_v88_4 : afterL mnD V (Proc.tc.devRef main_v88_4) = mn_31_v88_4 := by
  rw [afterL_cons, afterL_cons, afterL_nil, mn_31_v88_4_read]

theorem mnD_main_v88_5 : afterL mnD V (Proc.tc.devRef main_v88_5) = mn_31_v88_5 := by
  rw [afterL_cons, afterL_cons, afterL_nil, mn_31_v88_5_read]

theorem mnD_main_v88_6 : afterL mnD V (Proc.tc.devRef main_v88_6) = mn_31_v88_6 := by
  rw [afterL_cons, afterL_cons, afterL_nil, mn_31_v88_6_read]

theorem mnD_main_v88_7 : afterL mnD V (Proc.tc.devRef main_v88_7) = mn_31_v88_7 := by
  rw [afterL_cons, afterL_cons, afterL_nil, mn_31_v88_7_read]

theorem mnE_main_arg0 : afterL mnE V (Proc.tc.devRef main_arg0) = (V (Proc.tc.devRef main_arg0)) := by
  rw [afterL_cons, afterL_cons, afterL_cons, afterL_cons, afterL_cons, afterL_cons, afterL_cons, afterL_cons, afterL_nil, mn_40_keep (r := main_arg0) _ (by decide), mn_39_keep (r := main_arg0) _ (by decide), mn_38_keep (r := main_arg0) _ (by decide), mn_37_keep (r := main_arg0) _ (by decide), mn_36_keep (r := main_arg0) _ (by decide), mn_35_keep (r := main_arg0) _ (by decide), mn_34_keep (r := main_arg0) _ (by decide), mn_33_keep (r := main_arg0) _ (by decide)]

/-- The gradient term, from what the last loop leaves. -/
def yOf : (⟨S40x2048, .f32⟩ : BufTy).Contents (Elt F) :=
  (mn_39_v101 (mn_37_v99 (mn_33_v90 (V (Proc.tc.devRef main_v88_6))) (mn_36_v98 (V (Proc.tc.devRef main_v42)) (V (Proc.tc.devRef main_v44_1)) (mn_35_v94 (mn_34_v91_1 (V (Proc.tc.devRef main_v42)) (mn_33_v89 (V (Proc.tc.devRef main_v88_7)))) (V (Proc.tc.devRef main_v53)) (V (Proc.tc.devRef main_v49))))) (mn_38_v100 (V (Proc.tc.devRef main_v42)) (V (Proc.tc.devRef main_v43_1)) (mn_35_v97 (mn_34_v91_0 (V (Proc.tc.devRef main_v42)) (mn_33_v89 (V (Proc.tc.devRef main_v88_7)))) (V (Proc.tc.devRef main_v47)) (V (Proc.tc.devRef main_v46)))))

theorem mnE_main_v104 : afterL mnE V (Proc.tc.devRef main_v104) = mn_40_v104 (V (Proc.tc.devRef main_v37)) (yOf V) := by
  rw [afterL_cons, afterL_cons, afterL_cons, afterL_cons, afterL_cons, afterL_cons, afterL_cons, afterL_cons, afterL_nil, mn_40_v104_read, mn_39_keep (r := main_v37) _ (by decide), mn_39_v101_read, mn_38_keep (r := main_v37) _ (by decide), mn_38_keep (r := main_v99) _ (by decide), mn_38_v100_read, mn_37_keep (r := main_v37) _ (by decide), mn_37_v99_read, mn_37_keep (r := main_v42) _ (by decide), mn_37_keep (r := main_v43_1) _ (by decide), mn_37_keep (r := main_v97) _ (by decide), mn_36_keep (r := main_v37) _ (by decide), mn_36_keep (r := main_v90) _ (by decide), mn_36_v98_read, mn_36_keep (r := main_v42) _ (by decide), mn_36_keep (r := main_v43_1) _ (by decide), mn_36_keep (r := main_v97) _ (by decide), mn_35_keep (r := main_v37) _ (by decide), mn_35_keep (r := main_v90) _ (by decide), mn_35_keep (r := main_v42) _ (by decide), mn_35_keep (r := main_v44_1) _ (by decide), mn_35_v94_read, mn_35_keep (r := main_v43_1) _ (by decide), mn_35_v97_read, mn_34_keep (r := main_v37) _ (by decide), mn_34_keep (r := main_v90) _ (by decide), mn_34_keep (r := main_v42) _ (by decide), mn_34_keep (r := main_v44_1) _ (by decide), mn_34_v91_1_read, mn_34_keep (r := main_v53) _ (by decide), mn_34_keep (r := main_v49) _ (by decide), mn_34_keep (r := main_v43_1) _ (by decide), mn_34_v91_0_read, mn_34_keep (r := main_v47) _ (by decide), mn_34_keep (r := main_v46) _ (by decide), mn_33_keep (r := main_v37) _ (by decide), mn_33_v90_read, mn_33_keep (r := main_v42) _ (by decide), mn_33_keep (r := main_v44_1) _ (by decide), mn_33_v89_read, mn_33_keep (r := main_v53) _ (by decide), mn_33_keep (r := main_v49) _ (by decide), mn_33_keep (r := main_v43_1) _ (by decide), mn_33_keep (r := main_v47) _ (by decide), mn_33_keep (r := main_v46) _ (by decide)]
  try rfl

end Reads

theorem word_next (k : ℕ) : wa_6_v22_2 (F := F) (word k) = word (k + 1) :=
  funext fun _ => (BitVec.ofNat_add k 1).symm

theorem word_next' (k : ℕ) : wb_22_v34_5 (F := F) (word k) = word (k + 1) :=
  funext fun _ => (BitVec.ofNat_add k 1).symm

theorem word_nextC (k : ℕ) : wc_11_v70_7 (F := F) (word k) = word (k + 1) :=
  funext fun _ => (BitVec.ofNat_add k 1).symm

theorem word_nextD (k : ℕ) : wd_11_v88_4 (F := F) (word k) = word (k + 1) :=
  funext fun _ => (BitVec.ofNat_add k 1).symm

theorem word_zero : mn_10_v22_2 (F := F) = word 0 := rfl

theorem word_zero' : mn_15_v34_5 (F := F) = word 0 := rfl

section Loops
variable (W : Dev nD → Valuation τ sig (Elt F)) (c : Dev nD)

theorem lpA_keep {r : Ref sig .tc} (h : r ∉ waW) (h' : r ∉ [main_while0c_c_44, main_while0c_v105]) (k : ℕ) :
    atTrip condA waI W k c (Proc.tc.devRef r) = W c (Proc.tc.devRef r) := by
  induction k with
  | zero => rfl
  | succ k ih => rw [atTrip_succ, stepA_keep _ h, condA_keep _ h', ih]

theorem lpB_keep {r : Ref sig .tc} (h : r ∉ wbW) (h' : r ∉ [main_while1c_c_47, main_while1c_v105]) (k : ℕ) :
    atTrip condB wbI W k c (Proc.tc.devRef r) = W c (Proc.tc.devRef r) := by
  induction k with
  | zero => rfl
  | succ k ih => rw [atTrip_succ, stepB_keep _ h, condB_keep _ h', ih]

theorem lpC_keep {r : Ref sig .tc} (h : r ∉ wcW) (h' : r ∉ [main_while2c_c_51, main_while2c_v105]) (k : ℕ) :
    atTrip condC wcI W k c (Proc.tc.devRef r) = W c (Proc.tc.devRef r) := by
  induction k with
  | zero => rfl
  | succ k ih => rw [atTrip_succ, stepC_keep _ h, condC_keep _ h', ih]

theorem lpD_keep {r : Ref sig .tc} (h : r ∉ wdW) (h' : r ∉ [main_while3c_c_47, main_while3c_v105]) (k : ℕ) :
    atTrip condD wdI W k c (Proc.tc.devRef r) = W c (Proc.tc.devRef r) := by
  induction k with
  | zero => rfl
  | succ k ih => rw [atTrip_succ, stepD_keep _ h, condD_keep _ h', ih]

theorem lpA_main_v22_2 (h2 : W c (Proc.tc.devRef main_v22_2) = word 0) (k : ℕ) : atTrip condA waI W k c (Proc.tc.devRef main_v22_2) = word k := by
  induction k with
  | zero => exact h2
  | succ k ih => rw [atTrip_succ, stepA_main_v22_2, condA_keep (r := main_v22_2) _ (by decide), ih, word_next]

theorem lpA_main_v22_3 (h2 : W c (Proc.tc.devRef main_v22_2) = word 0) (h3 : W c (Proc.tc.devRef main_v22_3) = mn_9_v18) (k : ℕ) : atTrip condA waI W k c (Proc.tc.devRef main_v22_3) = stR (W c (Proc.tc.devRef main_v22_0)) (W c (Proc.tc.devRef main_v22_1)) k := by
  induction k with
  | zero => exact h3
  | succ k ih =>
    rw [atTrip_succ, stepA_main_v22_3, condA_keep (r := main_v22_0) _ (by decide), condA_keep (r := main_v22_1) _ (by decide), condA_keep (r := main_v22_2) _ (by decide), condA_keep (r := main_v22_3) _ (by decide), ih,
      lpA_keep (r := main_v22_0) _ _ (by decide) (by decide), lpA_keep (r := main_v22_1) _ _ (by decide) (by decide), lpA_main_v22_2 W c h2]
    rfl

theorem lpA_main_v22_4 (h2 : W c (Proc.tc.devRef main_v22_2) = word 0) (h3 : W c (Proc.tc.devRef main_v22_3) = mn_9_v18) (h4 : W c (Proc.tc.devRef main_v22_4) = mn_10_v22_4) (k : ℕ) : atTrip condA waI W k c (Proc.tc.devRef main_v22_4) = stackR (W c (Proc.tc.devRef main_v22_0)) (W c (Proc.tc.devRef main_v22_1)) k := by
  induction k with
  | zero => exact h4
  | succ k ih =>
    rw [atTrip_succ, stepA_main_v22_4, condA_keep (r := main_v22_0) _ (by decide), condA_keep (r := main_v22_1) _ (by decide), condA_keep (r := main_v22_2) _ (by decide), condA_keep (r := main_v22_3) _ (by decide),
      condA_keep (r := main_v22_4) _ (by decide), ih, lpA_keep (r := main_v22_0) _ _ (by decide) (by decide), lpA_keep (r := main_v22_1) _ _ (by decide) (by decide), lpA_main_v22_2 W c h2, lpA_main_v22_3 W c h2 h3]
    rfl

theorem lpB_main_v34_5 (h5 : W c (Proc.tc.devRef main_v34_5) = word 0) (k : ℕ) : atTrip condB wbI W k c (Proc.tc.devRef main_v34_5) = word k := by
  induction k with
  | zero => exact h5
  | succ k ih => rw [atTrip_succ, stepB_main_v34_5, condB_keep (r := main_v34_5) _ (by decide), ih, word_next']

theorem lpB_main_v34_6 (h5 : W c (Proc.tc.devRef main_v34_5) = word 0) (h6 : W c (Proc.tc.devRef main_v34_6) = mn_15_v34_6) (k : ℕ) : atTrip condB wbI W k c (Proc.tc.devRef main_v34_6) = jR (W c (Proc.tc.devRef main_v34_0)) (W c (Proc.tc.devRef main_v34_1)) (W c (Proc.tc.devRef main_v34_2)) (W c (Proc.tc.devRef main_v34_3)) (W c (Proc.tc.devRef main_v34_4)) k := by
  induction k with
  | zero => exact h6
  | succ k ih =>
    rw [atTrip_succ, stepB_main_v34_6, condB_keep (r := main_v34_0) _ (by decide), condB_keep (r := main_v34_1) _ (by decide), condB_keep (r := main_v34_2) _ (by decide), condB_keep (r := main_v34_3) _ (by decide), condB_keep (r := main_v34_4) _ (by decide), condB_keep (r := main_v34_5) _ (by decide), condB_keep (r := main_v34_6) _ (by decide), ih,
      lpB_keep (r := main_v34_0) _ _ (by decide) (by decide), lpB_keep (r := main_v34_1) _ _ (by decide) (by decide), lpB_keep (r := main_v34_2) _ _ (by decide) (by decide), lpB_keep (r := main_v34_3) _ _ (by decide) (by decide), lpB_keep (r := main_v34_4) _ _ (by decide) (by decide), lpB_main_v34_5 W c h5]
    rfl

theorem lpB_main_v34_7 (h5 : W c (Proc.tc.devRef main_v34_5) = word 0) (h6 : W c (Proc.tc.devRef main_v34_6) = mn_15_v34_6) (h7 : W c (Proc.tc.devRef main_v34_7) = mn_15_v34_7) (k : ℕ) : atTrip condB wbI W k c (Proc.tc.devRef main_v34_7) = xsR (W c (Proc.tc.devRef main_v34_0)) (W c (Proc.tc.devRef main_v34_1)) (W c (Proc.tc.devRef main_v34_2)) (W c (Proc.tc.devRef main_v34_3)) (W c (Proc.tc.devRef main_v34_4)) k := by
  induction k with
  | zero => exact h7
  | succ k ih =>
    rw [atTrip_succ, stepB_main_v34_7, condB_keep (r := main_v34_0) _ (by decide), condB_keep (r := main_v34_1) _ (by decide), condB_keep (r := main_v34_2) _ (by decide), condB_keep (r := main_v34_3) _ (by decide), condB_keep (r := main_v34_4) _ (by decide), condB_keep (r := main_v34_5) _ (by decide), condB_keep (r := main_v34_6) _ (by decide), condB_keep (r := main_v34_7) _ (by decide), ih,
      lpB_keep (r := main_v34_0) _ _ (by decide) (by decide), lpB_keep (r := main_v34_1) _ _ (by decide) (by decide), lpB_keep (r := main_v34_2) _ _ (by decide) (by decide), lpB_keep (r := main_v34_3) _ _ (by decide) (by decide), lpB_keep (r := main_v34_4) _ _ (by decide) (by decide), lpB_main_v34_5 W c h5, lpB_main_v34_6 W c h5 h6]
    rfl

theorem lpC_main_v70_7 (h : W c (Proc.tc.devRef main_v70_7) = word 0) (k : ℕ) : atTrip condC wcI W k c (Proc.tc.devRef main_v70_7) = word k := by
  induction k with
  | zero => exact h
  | succ k ih => rw [atTrip_succ, stepC_main_v70_7, condC_keep (r := main_v70_7) _ (by decide), ih, word_nextC]

theorem lpD_main_v88_4 (h : W c (Proc.tc.devRef main_v88_4) = word 0) (k : ℕ) : atTrip condD wdI W k c (Proc.tc.devRef main_v88_4) = word k := by
  induction k with
  | zero => exact h
  | succ k ih => rw [atTrip_succ, stepD_main_v88_4, condD_keep (r := main_v88_4) _ (by decide), ih, word_nextD]

end Loops

theorem pred_iff (k : ℕ) (hk : k ≤ 2048) : IntOp.cmpi .slt (BitVec.ofNat 32 k) 2048#32 = 1#1 ↔ k < 2048 := by
  show BitVec.ofBool ((BitVec.ofNat 32 k).slt 2048#32) = 1#1 ↔ k < 2048
  rw [BitVec.slt, show (2048#32 : BitVec 32).toInt = 2048 from by decide,
    BitVec.toInt_eq_toNat_of_lt (by rw [BitVec.toNat_ofNat]; omega), BitVec.toNat_ofNat]
  by_cases h : k < 2048
  · rw [decide_eq_true (by omega)]; simp [h]
  · rw [decide_eq_false (by omega)]; simp [h]

set_option backward.isDefEq.respectTransparency.types false in
theorem cond_specA (W : Dev nD → Valuation τ sig (Elt F)) (hz : ∀ c, W c (Proc.tc.devRef main_v22_2) = word 0) :
    CondSpec (pcfgs (F := F)) defs₀ loops main_while0_cond condA waI W 2048 := by
  intro k hk c bd
  have hctr := lpA_main_v22_2 W c (hz c) k
  unfold main_while0_cond
  rw [wp_bind]
  iintro ⟨Hb, Hh⟩
  iapply (StableHlo.wp_hlo_within _ (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  simp only [bind_pure]
  iapply (StableHlo.wp_hlo_within _ (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condA waI W k c) main_v22_2 HostLoop.idx0)
        (HloOp.result _ (atTrip condA waI W k c) main_while0c_c_44 HostLoop.idx0) = 1#1) (k < 2048)
    rw [StableHlo.nullary_result_ne _ _ _ _ (by decide), StableHlo.nullary_result, hctr]
    exact pred_iff k hk
  isplitl [Hb]; · iexact Hb
  unfold condA
  rw [StableHlo.after_cons, StableHlo.after_cons, StableHlo.after_nil]; iexact Hh

set_option backward.isDefEq.respectTransparency.types false in
theorem cond_specB (W : Dev nD → Valuation τ sig (Elt F)) (hz : ∀ c, W c (Proc.tc.devRef main_v34_5) = word 0) :
    CondSpec (pcfgs (F := F)) defs₀ loops main_while1_cond condB wbI W 2048 := by
  intro k hk c bd
  have hctr := lpB_main_v34_5 W c (hz c) k
  unfold main_while1_cond
  rw [wp_bind]
  iintro ⟨Hb, Hh⟩
  iapply (StableHlo.wp_hlo_within _ (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  simp only [bind_pure]
  iapply (StableHlo.wp_hlo_within _ (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condB wbI W k c) main_v34_5 HostLoop.idx0)
        (HloOp.result _ (atTrip condB wbI W k c) main_while1c_c_47 HostLoop.idx0) = 1#1) (k < 2048)
    rw [StableHlo.nullary_result_ne _ _ _ _ (by decide), StableHlo.nullary_result, hctr]
    exact pred_iff k hk
  isplitl [Hb]; · iexact Hb
  unfold condB
  rw [StableHlo.after_cons, StableHlo.after_cons, StableHlo.after_nil]; iexact Hh

set_option backward.isDefEq.respectTransparency.types false in
theorem cond_specC (W : Dev nD → Valuation τ sig (Elt F)) (hz : ∀ c, W c (Proc.tc.devRef main_v70_7) = word 0) :
    CondSpec (pcfgs (F := F)) defs₀ loops main_while2_cond condC wcI W 2048 := by
  intro k hk c bd
  have hctr := lpC_main_v70_7 W c (hz c) k
  unfold main_while2_cond
  rw [wp_bind]
  iintro ⟨Hb, Hh⟩
  iapply (StableHlo.wp_hlo_within _ (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  simp only [bind_pure]
  iapply (StableHlo.wp_hlo_within _ (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condC wcI W k c) main_v70_7 HostLoop.idx0)
        (HloOp.result _ (atTrip condC wcI W k c) main_while2c_c_51 HostLoop.idx0) = 1#1) (k < 2048)
    rw [StableHlo.nullary_result_ne _ _ _ _ (by decide), StableHlo.nullary_result, hctr]
    exact pred_iff k hk
  isplitl [Hb]; · iexact Hb
  unfold condC
  rw [StableHlo.after_cons, StableHlo.after_cons, StableHlo.after_nil]; iexact Hh

set_option backward.isDefEq.respectTransparency.types false in
theorem cond_specD (W : Dev nD → Valuation τ sig (Elt F)) (hz : ∀ c, W c (Proc.tc.devRef main_v88_4) = word 0) :
    CondSpec (pcfgs (F := F)) defs₀ loops main_while3_cond condD wdI W 2048 := by
  intro k hk c bd
  have hctr := lpD_main_v88_4 W c (hz c) k
  unfold main_while3_cond
  rw [wp_bind]
  iintro ⟨Hb, Hh⟩
  iapply (StableHlo.wp_hlo_within _ (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  simp only [bind_pure]
  iapply (StableHlo.wp_hlo_within _ (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condD wdI W k c) main_v88_4 HostLoop.idx0)
        (HloOp.result _ (atTrip condD wdI W k c) main_while3c_c_47 HostLoop.idx0) = 1#1) (k < 2048)
    rw [StableHlo.nullary_result_ne _ _ _ _ (by decide), StableHlo.nullary_result, hctr]
    exact pred_iff k hk
  isplitl [Hb]; · iexact Hb
  unfold condD
  rw [StableHlo.after_cons, StableHlo.after_cons, StableHlo.after_nil]; iexact Hh

theorem wa_0_plain {rest : List (List (HloOp τ sig (Elt F)))} (h : Plain rest) : Plain (wa_0 :: rest) :=
  Plain.cons (by unfold wa_0; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wa_1_plain {rest : List (List (HloOp τ sig (Elt F)))} (h : Plain rest) : Plain (wa_1 :: rest) :=
  Plain.cons (by unfold wa_1; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wa_2_plain {rest : List (List (HloOp τ sig (Elt F)))} (h : Plain rest) : Plain (wa_2 :: rest) :=
  Plain.cons (by unfold wa_2; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wa_3_plain {rest : List (List (HloOp τ sig (Elt F)))} (h : Plain rest) : Plain (wa_3 :: rest) :=
  Plain.cons (by unfold wa_3; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wa_4_plain {rest : List (List (HloOp τ sig (Elt F)))} (h : Plain rest) : Plain (wa_4 :: rest) :=
  Plain.cons (by unfold wa_4; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wa_5_plain {rest : List (List (HloOp τ sig (Elt F)))} (h : Plain rest) : Plain (wa_5 :: rest) :=
  Plain.cons (by unfold wa_5; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wa_6_plain {rest : List (List (HloOp τ sig (Elt F)))} (h : Plain rest) : Plain (wa_6 :: rest) :=
  Plain.cons (by unfold wa_6; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_0_plain {rest : List (List (HloOp τ sig (Elt F)))} (h : Plain rest) : Plain (wb_0 :: rest) :=
  Plain.cons (by unfold wb_0; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_1_plain {rest : List (List (HloOp τ sig (Elt F)))} (h : Plain rest) : Plain (wb_1 :: rest) :=
  Plain.cons (by unfold wb_1; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_2_plain {rest : List (List (HloOp τ sig (Elt F)))} (h : Plain rest) : Plain (wb_2 :: rest) :=
  Plain.cons (by unfold wb_2; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_3_plain {rest : List (List (HloOp τ sig (Elt F)))} (h : Plain rest) : Plain (wb_3 :: rest) :=
  Plain.cons (by unfold wb_3; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_4_plain {rest : List (List (HloOp τ sig (Elt F)))} (h : Plain rest) : Plain (wb_4 :: rest) :=
  Plain.cons (by unfold wb_4; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_5_plain {rest : List (List (HloOp τ sig (Elt F)))} (h : Plain rest) : Plain (wb_5 :: rest) :=
  Plain.cons (by unfold wb_5; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_6_plain {rest : List (List (HloOp τ sig (Elt F)))} (h : Plain rest) : Plain (wb_6 :: rest) :=
  Plain.cons (by unfold wb_6; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_7_plain {rest : List (List (HloOp τ sig (Elt F)))} (h : Plain rest) : Plain (wb_7 :: rest) :=
  Plain.cons (by unfold wb_7; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_8_plain {rest : List (List (HloOp τ sig (Elt F)))} (h : Plain rest) : Plain (wb_8 :: rest) :=
  Plain.cons (by unfold wb_8; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_9_plain {rest : List (List (HloOp τ sig (Elt F)))} (h : Plain rest) : Plain (wb_9 :: rest) :=
  Plain.cons (by unfold wb_9; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_10_plain {rest : List (List (HloOp τ sig (Elt F)))} (h : Plain rest) : Plain (wb_10 :: rest) :=
  Plain.cons (by unfold wb_10; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_11_plain {rest : List (List (HloOp τ sig (Elt F)))} (h : Plain rest) : Plain (wb_11 :: rest) :=
  Plain.cons (by unfold wb_11; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_12_plain {rest : List (List (HloOp τ sig (Elt F)))} (h : Plain rest) : Plain (wb_12 :: rest) :=
  Plain.cons (by unfold wb_12; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_13_plain {rest : List (List (HloOp τ sig (Elt F)))} (h : Plain rest) : Plain (wb_13 :: rest) :=
  Plain.cons (by unfold wb_13; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_14_plain {rest : List (List (HloOp τ sig (Elt F)))} (h : Plain rest) : Plain (wb_14 :: rest) :=
  Plain.cons (by unfold wb_14; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_15_plain {rest : List (List (HloOp τ sig (Elt F)))} (h : Plain rest) : Plain (wb_15 :: rest) :=
  Plain.cons (by unfold wb_15; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_16_plain {rest : List (List (HloOp τ sig (Elt F)))} (h : Plain rest) : Plain (wb_16 :: rest) :=
  Plain.cons (by unfold wb_16; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_17_plain {rest : List (List (HloOp τ sig (Elt F)))} (h : Plain rest) : Plain (wb_17 :: rest) :=
  Plain.cons (by unfold wb_17; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_18_plain {rest : List (List (HloOp τ sig (Elt F)))} (h : Plain rest) : Plain (wb_18 :: rest) :=
  Plain.cons (by unfold wb_18; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_19_plain {rest : List (List (HloOp τ sig (Elt F)))} (h : Plain rest) : Plain (wb_19 :: rest) :=
  Plain.cons (by unfold wb_19; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_20_plain {rest : List (List (HloOp τ sig (Elt F)))} (h : Plain rest) : Plain (wb_20 :: rest) :=
  Plain.cons (by unfold wb_20; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_21_plain {rest : List (List (HloOp τ sig (Elt F)))} (h : Plain rest) : Plain (wb_21 :: rest) :=
  Plain.cons (by unfold wb_21; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wb_22_plain {rest : List (List (HloOp τ sig (Elt F)))} (h : Plain rest) : Plain (wb_22 :: rest) :=
  Plain.cons (by unfold wb_22; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wc_0_plain {rest : List (List (HloOp τ sig (Elt F)))} (h : Plain rest) : Plain (wc_0 :: rest) :=
  Plain.cons (by unfold wc_0; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wc_1_plain {rest : List (List (HloOp τ sig (Elt F)))} (h : Plain rest) : Plain (wc_1 :: rest) :=
  Plain.cons (by unfold wc_1; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wc_2_plain {rest : List (List (HloOp τ sig (Elt F)))} (h : Plain rest) : Plain (wc_2 :: rest) :=
  Plain.cons (by unfold wc_2; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wc_3_plain {rest : List (List (HloOp τ sig (Elt F)))} (h : Plain rest) : Plain (wc_3 :: rest) :=
  Plain.cons (by unfold wc_3; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wc_4_plain {rest : List (List (HloOp τ sig (Elt F)))} (h : Plain rest) : Plain (wc_4 :: rest) :=
  Plain.cons (by unfold wc_4; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wc_5_plain {rest : List (List (HloOp τ sig (Elt F)))} (h : Plain rest) : Plain (wc_5 :: rest) :=
  Plain.cons (by unfold wc_5; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wc_6_plain {rest : List (List (HloOp τ sig (Elt F)))} (h : Plain rest) : Plain (wc_6 :: rest) :=
  Plain.cons (by unfold wc_6; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wc_7_plain {rest : List (List (HloOp τ sig (Elt F)))} (h : Plain rest) : Plain (wc_7 :: rest) :=
  Plain.cons (by unfold wc_7; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wc_8_plain {rest : List (List (HloOp τ sig (Elt F)))} (h : Plain rest) : Plain (wc_8 :: rest) :=
  Plain.cons (by unfold wc_8; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wc_9_plain {rest : List (List (HloOp τ sig (Elt F)))} (h : Plain rest) : Plain (wc_9 :: rest) :=
  Plain.cons (by unfold wc_9; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wc_10_plain {rest : List (List (HloOp τ sig (Elt F)))} (h : Plain rest) : Plain (wc_10 :: rest) :=
  Plain.cons (by unfold wc_10; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wc_11_plain {rest : List (List (HloOp τ sig (Elt F)))} (h : Plain rest) : Plain (wc_11 :: rest) :=
  Plain.cons (by unfold wc_11; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wd_0_plain {rest : List (List (HloOp τ sig (Elt F)))} (h : Plain rest) : Plain (wd_0 :: rest) :=
  Plain.cons (by unfold wd_0; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wd_1_plain {rest : List (List (HloOp τ sig (Elt F)))} (h : Plain rest) : Plain (wd_1 :: rest) :=
  Plain.cons (by unfold wd_1; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wd_2_plain {rest : List (List (HloOp τ sig (Elt F)))} (h : Plain rest) : Plain (wd_2 :: rest) :=
  Plain.cons (by unfold wd_2; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wd_3_plain {rest : List (List (HloOp τ sig (Elt F)))} (h : Plain rest) : Plain (wd_3 :: rest) :=
  Plain.cons (by unfold wd_3; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wd_4_plain {rest : List (List (HloOp τ sig (Elt F)))} (h : Plain rest) : Plain (wd_4 :: rest) :=
  Plain.cons (by unfold wd_4; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wd_5_plain {rest : List (List (HloOp τ sig (Elt F)))} (h : Plain rest) : Plain (wd_5 :: rest) :=
  Plain.cons (by unfold wd_5; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wd_6_plain {rest : List (List (HloOp τ sig (Elt F)))} (h : Plain rest) : Plain (wd_6 :: rest) :=
  Plain.cons (by unfold wd_6; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wd_7_plain {rest : List (List (HloOp τ sig (Elt F)))} (h : Plain rest) : Plain (wd_7 :: rest) :=
  Plain.cons (by unfold wd_7; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wd_8_plain {rest : List (List (HloOp τ sig (Elt F)))} (h : Plain rest) : Plain (wd_8 :: rest) :=
  Plain.cons (by unfold wd_8; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wd_9_plain {rest : List (List (HloOp τ sig (Elt F)))} (h : Plain rest) : Plain (wd_9 :: rest) :=
  Plain.cons (by unfold wd_9; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wd_10_plain {rest : List (List (HloOp τ sig (Elt F)))} (h : Plain rest) : Plain (wd_10 :: rest) :=
  Plain.cons (by unfold wd_10; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wd_11_plain {rest : List (List (HloOp τ sig (Elt F)))} (h : Plain rest) : Plain (wd_11 :: rest) :=
  Plain.cons (by unfold wd_11; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_0_plain {rest : List (List (HloOp τ sig (Elt F)))} (h : Plain rest) : Plain (mn_0 :: rest) :=
  Plain.cons (by unfold mn_0; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_1_plain {rest : List (List (HloOp τ sig (Elt F)))} (h : Plain rest) : Plain (mn_1 :: rest) :=
  Plain.cons (by unfold mn_1; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_2_plain {rest : List (List (HloOp τ sig (Elt F)))} (h : Plain rest) : Plain (mn_2 :: rest) :=
  Plain.cons (by unfold mn_2; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_3_plain {rest : List (List (HloOp τ sig (Elt F)))} (h : Plain rest) : Plain (mn_3 :: rest) :=
  Plain.cons (by unfold mn_3; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_4_plain {rest : List (List (HloOp τ sig (Elt F)))} (h : Plain rest) : Plain (mn_4 :: rest) :=
  Plain.cons (by unfold mn_4; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_5_plain {rest : List (List (HloOp τ sig (Elt F)))} (h : Plain rest) : Plain (mn_5 :: rest) :=
  Plain.cons (by unfold mn_5; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_6_plain {rest : List (List (HloOp τ sig (Elt F)))} (h : Plain rest) : Plain (mn_6 :: rest) :=
  Plain.cons (by unfold mn_6; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_7_plain {rest : List (List (HloOp τ sig (Elt F)))} (h : Plain rest) : Plain (mn_7 :: rest) :=
  Plain.cons (by unfold mn_7; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_8_plain {rest : List (List (HloOp τ sig (Elt F)))} (h : Plain rest) : Plain (mn_8 :: rest) :=
  Plain.cons (by unfold mn_8; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_9_plain {rest : List (List (HloOp τ sig (Elt F)))} (h : Plain rest) : Plain (mn_9 :: rest) :=
  Plain.cons (by unfold mn_9; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_10_plain {rest : List (List (HloOp τ sig (Elt F)))} (h : Plain rest) : Plain (mn_10 :: rest) :=
  Plain.cons (by unfold mn_10; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_12_plain {rest : List (List (HloOp τ sig (Elt F)))} (h : Plain rest) : Plain (mn_12 :: rest) :=
  Plain.cons (by unfold mn_12; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_13_plain {rest : List (List (HloOp τ sig (Elt F)))} (h : Plain rest) : Plain (mn_13 :: rest) :=
  Plain.cons (by unfold mn_13; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_14_plain {rest : List (List (HloOp τ sig (Elt F)))} (h : Plain rest) : Plain (mn_14 :: rest) :=
  Plain.cons (by unfold mn_14; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_15_plain {rest : List (List (HloOp τ sig (Elt F)))} (h : Plain rest) : Plain (mn_15 :: rest) :=
  Plain.cons (by unfold mn_15; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_17_plain {rest : List (List (HloOp τ sig (Elt F)))} (h : Plain rest) : Plain (mn_17 :: rest) :=
  Plain.cons (by unfold mn_17; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_18_plain {rest : List (List (HloOp τ sig (Elt F)))} (h : Plain rest) : Plain (mn_18 :: rest) :=
  Plain.cons (by unfold mn_18; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_19_plain {rest : List (List (HloOp τ sig (Elt F)))} (h : Plain rest) : Plain (mn_19 :: rest) :=
  Plain.cons (by unfold mn_19; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_20_plain {rest : List (List (HloOp τ sig (Elt F)))} (h : Plain rest) : Plain (mn_20 :: rest) :=
  Plain.cons (by unfold mn_20; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_21_plain {rest : List (List (HloOp τ sig (Elt F)))} (h : Plain rest) : Plain (mn_21 :: rest) :=
  Plain.cons (by unfold mn_21; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_22_plain {rest : List (List (HloOp τ sig (Elt F)))} (h : Plain rest) : Plain (mn_22 :: rest) :=
  Plain.cons (by unfold mn_22; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_23_plain {rest : List (List (HloOp τ sig (Elt F)))} (h : Plain rest) : Plain (mn_23 :: rest) :=
  Plain.cons (by unfold mn_23; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_24_plain {rest : List (List (HloOp τ sig (Elt F)))} (h : Plain rest) : Plain (mn_24 :: rest) :=
  Plain.cons (by unfold mn_24; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_25_plain {rest : List (List (HloOp τ sig (Elt F)))} (h : Plain rest) : Plain (mn_25 :: rest) :=
  Plain.cons (by unfold mn_25; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_26_plain {rest : List (List (HloOp τ sig (Elt F)))} (h : Plain rest) : Plain (mn_26 :: rest) :=
  Plain.cons (by unfold mn_26; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_27_plain {rest : List (List (HloOp τ sig (Elt F)))} (h : Plain rest) : Plain (mn_27 :: rest) :=
  Plain.cons (by unfold mn_27; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_28_plain {rest : List (List (HloOp τ sig (Elt F)))} (h : Plain rest) : Plain (mn_28 :: rest) :=
  Plain.cons (by unfold mn_28; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_30_plain {rest : List (List (HloOp τ sig (Elt F)))} (h : Plain rest) : Plain (mn_30 :: rest) :=
  Plain.cons (by unfold mn_30; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_31_plain {rest : List (List (HloOp τ sig (Elt F)))} (h : Plain rest) : Plain (mn_31 :: rest) :=
  Plain.cons (by unfold mn_31; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_33_plain {rest : List (List (HloOp τ sig (Elt F)))} (h : Plain rest) : Plain (mn_33 :: rest) :=
  Plain.cons (by unfold mn_33; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_34_plain {rest : List (List (HloOp τ sig (Elt F)))} (h : Plain rest) : Plain (mn_34 :: rest) :=
  Plain.cons (by unfold mn_34; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_35_plain {rest : List (List (HloOp τ sig (Elt F)))} (h : Plain rest) : Plain (mn_35 :: rest) :=
  Plain.cons (by unfold mn_35; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_36_plain {rest : List (List (HloOp τ sig (Elt F)))} (h : Plain rest) : Plain (mn_36 :: rest) :=
  Plain.cons (by unfold mn_36; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_37_plain {rest : List (List (HloOp τ sig (Elt F)))} (h : Plain rest) : Plain (mn_37 :: rest) :=
  Plain.cons (by unfold mn_37; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_38_plain {rest : List (List (HloOp τ sig (Elt F)))} (h : Plain rest) : Plain (mn_38 :: rest) :=
  Plain.cons (by unfold mn_38; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_39_plain {rest : List (List (HloOp τ sig (Elt F)))} (h : Plain rest) : Plain (mn_39 :: rest) :=
  Plain.cons (by unfold mn_39; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem mn_40_plain {rest : List (List (HloOp τ sig (Elt F)))} (h : Plain rest) : Plain (mn_40 :: rest) :=
  Plain.cons (by unfold mn_40; simp only [List.cons_append, List.nil_append, List.Forall, nullary_bufs_sub, unary_bufs_sub, binary_bufs_sub, ternary_bufs_sub, reshape_bufs_sub, nary_bufs_sub, unaryIndexed_bufs_sub, binaryIndexed_bufs_sub, and_self]) h

theorem wa_plain : Plain (waI (F := F)) := wa_0_plain (wa_1_plain (wa_2_plain (wa_3_plain (wa_4_plain (wa_5_plain (wa_6_plain (Plain.nil)))))))

theorem wb_plain : Plain (wbI (F := F)) := wb_0_plain (wb_1_plain (wb_2_plain (wb_3_plain (wb_4_plain (wb_5_plain (wb_6_plain (wb_7_plain (wb_8_plain (wb_9_plain (wb_10_plain (wb_11_plain (wb_12_plain (wb_13_plain (wb_14_plain (wb_15_plain (wb_16_plain (wb_17_plain (wb_18_plain (wb_19_plain (wb_20_plain (wb_21_plain (wb_22_plain (Plain.nil)))))))))))))))))))))))

theorem wc_plain : Plain (wcI (F := F)) := wc_0_plain (wc_1_plain (wc_2_plain (wc_3_plain (wc_4_plain (wc_5_plain (wc_6_plain (wc_7_plain (wc_8_plain (wc_9_plain (wc_10_plain (wc_11_plain (Plain.nil))))))))))))

theorem wd_plain : Plain (wdI (F := F)) := wd_0_plain (wd_1_plain (wd_2_plain (wd_3_plain (wd_4_plain (wd_5_plain (wd_6_plain (wd_7_plain (wd_8_plain (wd_9_plain (wd_10_plain (wd_11_plain (Plain.nil))))))))))))

/-- The first loop. -/
abbrev itA : Item (nD := nD) (τ := τ) (sig := sig) (F := F) (Λ₀ := Λ₀) (nL := 4) pcfgs :=
  .loop 0 main_while0_cond main_while0_body condA waI 2048

/-- The second loop. -/
abbrev itB : Item (nD := nD) (τ := τ) (sig := sig) (F := F) (Λ₀ := Λ₀) (nL := 4) pcfgs :=
  .loop 1 main_while1_cond main_while1_body condB wbI 2048

/-- The third loop. -/
abbrev itC : Item (nD := nD) (τ := τ) (sig := sig) (F := F) (Λ₀ := Λ₀) (nL := 4) pcfgs :=
  .loop 2 main_while2_cond main_while2_body condC wcI 2048

/-- The fourth loop. -/
abbrev itD : Item (nD := nD) (τ := τ) (sig := sig) (F := F) (Λ₀ := Λ₀) (nL := 4) pcfgs :=
  .loop 3 main_while3_cond main_while3_body condD wdI 2048

/-- The program's items. -/
abbrev mainItems : List (Item (nD := nD) (τ := τ) (sig := sig) (F := F) (Λ₀ := Λ₀) (nL := 4) pcfgs) :=
  [.ops mn_0, .ops mn_1, .ops mn_2, .ops mn_3, .ops mn_4, .ops mn_5, .ops mn_6, .ops mn_7, .ops mn_8, .ops mn_9, .ops mn_10, itA, .ops mn_12, .ops mn_13, .ops mn_14, .ops mn_15, itB, .ops mn_17, .ops mn_18, .ops mn_19, .ops mn_20, .ops mn_21, .ops mn_22, .ops mn_23, .ops mn_24, .ops mn_25, .ops mn_26, .ops mn_27, .ops mn_28, itC, .ops mn_30, .ops mn_31, itD, .ops mn_33, .ops mn_34, .ops mn_35, .ops mn_36, .ops mn_37, .ops mn_38, .ops mn_39, .ops mn_40]

variable (V : Dev nD → Valuation τ sig (Elt F))

/-- Every buffer at the first loop. -/
def atA : Dev nD → Valuation τ sig (Elt F) := fun c => afterL mnA (V c)

/-- Every buffer at the second loop. -/
def atB : Dev nD → Valuation τ sig (Elt F) := fun c => afterL mnB (after condA (atTrip condA waI (atA V) 2048 c))

/-- Every buffer at the third loop. -/
def atC : Dev nD → Valuation τ sig (Elt F) := fun c => afterL mnC (after condB (atTrip condB wbI (atB V) 2048 c))

/-- Every buffer at the fourth loop. -/
def atD : Dev nD → Valuation τ sig (Elt F) := fun c => afterL mnD (after condC (atTrip condC wcI (atC V) 2048 c))

/-- Every buffer after the fourth loop. -/
def atE : Dev nD → Valuation τ sig (Elt F) := fun c => after condD (atTrip condD wdI (atD V) 2048 c)

theorem fold_eq (c : Dev nD) : foldMany mainItems V c = afterL mnE (atE V c) := rfl

theorem atA_ctr (c : Dev nD) : atA V c (Proc.tc.devRef main_v22_2) = word 0 := mnA_main_v22_2 (V c)

theorem atB_ctr (c : Dev nD) : atB V c (Proc.tc.devRef main_v34_5) = word 0 := mnB_main_v34_5 _

theorem atC_ctr (c : Dev nD) : atC V c (Proc.tc.devRef main_v70_7) = word 0 := mnC_main_v70_7 _

theorem atD_ctr (c : Dev nD) : atD V c (Proc.tc.devRef main_v88_4) = word 0 := mnD_main_v88_4 _

theorem ok : OkMany defs₀ loops mainItems V :=
  ⟨mn_0_plain Plain.nil, mn_1_plain Plain.nil, mn_2_plain Plain.nil, mn_3_plain Plain.nil, mn_4_plain Plain.nil, mn_5_plain Plain.nil, mn_6_plain Plain.nil, mn_7_plain Plain.nil, mn_8_plain Plain.nil, mn_9_plain Plain.nil, mn_10_plain Plain.nil,
    ⟨rfl, wa_plain, wa_chn, cond_specA (atA V) (atA_ctr V)⟩,
    mn_12_plain Plain.nil, mn_13_plain Plain.nil, mn_14_plain Plain.nil, mn_15_plain Plain.nil,
    ⟨rfl, wb_plain, wb_chn, cond_specB (atB V) (atB_ctr V)⟩,
    mn_17_plain Plain.nil, mn_18_plain Plain.nil, mn_19_plain Plain.nil, mn_20_plain Plain.nil, mn_21_plain Plain.nil, mn_22_plain Plain.nil, mn_23_plain Plain.nil, mn_24_plain Plain.nil, mn_25_plain Plain.nil, mn_26_plain Plain.nil, mn_27_plain Plain.nil, mn_28_plain Plain.nil,
    ⟨rfl, wc_plain, wc_chn, cond_specC (atC V) (atC_ctr V)⟩,
    mn_30_plain Plain.nil, mn_31_plain Plain.nil,
    ⟨rfl, wd_plain, wd_chn, cond_specD (atD V) (atD_ctr V)⟩,
    mn_33_plain Plain.nil, mn_34_plain Plain.nil, mn_35_plain Plain.nil, mn_36_plain Plain.nil, mn_37_plain Plain.nil, mn_38_plain Plain.nil, mn_39_plain Plain.nil, mn_40_plain Plain.nil, trivial⟩

theorem fold_arg (c : Dev nD) : foldMany mainItems V c (Proc.tc.devRef main_arg0) = V c (Proc.tc.devRef main_arg0) := by
  rw [fold_eq, mnE_main_arg0, atE, condD_keep (r := main_arg0) _ (by decide), lpD_keep (r := main_arg0) _ _ (by decide) (by decide), atD, mnD_main_arg0, condC_keep (r := main_arg0) _ (by decide), lpC_keep (r := main_arg0) _ _ (by decide) (by decide), atC, mnC_main_arg0, condB_keep (r := main_arg0) _ (by decide), lpB_keep (r := main_arg0) _ _ (by decide) (by decide), atB, mnB_main_arg0, condA_keep (r := main_arg0) _ (by decide), lpA_keep (r := main_arg0) _ _ (by decide) (by decide), atA, mnA_main_arg0]

theorem atB_0 (c : Dev nD) : atB V c (Proc.tc.devRef main_v34_0) = mn_14_v31 := mnB_main_v34_0 _
theorem atB_1 (c : Dev nD) : atB V c (Proc.tc.devRef main_v34_1) = mn_0_cst := by
  rw [atB, mnB_main_v34_1, condA_keep (r := main_cst) _ (by decide), lpA_keep (r := main_cst) _ _ (by decide) (by decide), atA, mnA_main_cst]; rfl
theorem atB_2 (c : Dev nD) : atB V c (Proc.tc.devRef main_v34_2) = mn_14_v26 := mnB_main_v34_2 _
theorem atA_3 (c : Dev nD) : atA V c (Proc.tc.devRef main_v22_3) = mn_9_v18 := by
  rw [atA, mnA_main_v22_3, mn_10_v22_3, id]
theorem atA_4 (c : Dev nD) : atA V c (Proc.tc.devRef main_v22_4) = mn_10_v22_4 := by
  rw [atA, mnA_main_v22_4]
theorem atB_3 (c : Dev nD) : atB V c (Proc.tc.devRef main_v34_3) = arrR (mn_10_v22_0 (lpR (V c (Proc.tc.devRef main_arg0)))) (mn_10_v22_1 (lqOf (lpR (V c (Proc.tc.devRef main_arg0))))) := by
  rw [atB, mnB_main_v34_3, condA_keep (r := main_v18) _ (by decide), condA_keep (r := main_v22_4) _ (by decide), lpA_keep (r := main_v18) _ _ (by decide) (by decide),
    lpA_main_v22_4 (atA V) c (atA_ctr V c) (atA_3 V c) (atA_4 V c), atA, mnA_main_v18, mnA_main_v22_0, mnA_main_v22_1,
    mn_15_v34_3, id, arrR]
theorem atB_4 (c : Dev nD) : atB V c (Proc.tc.devRef main_v34_4) = lpR (V c (Proc.tc.devRef main_arg0)) := by
  rw [atB, mnB_main_v34_4, condA_keep (r := main_v3) _ (by decide), lpA_keep (r := main_v3) _ _ (by decide) (by decide), atA, mnA_main_v3]; rfl

theorem atC_samples (c : Dev nD) : atC V c (Proc.tc.devRef main_v37) = samplesR (V c (Proc.tc.devRef main_arg0)) := by
  rw [atC, mnC_main_v37, condB_keep (r := main_v34_7) _ (by decide), lpB_main_v34_7 (atB V) c (atB_ctr V c) (mnB_main_v34_6 _) (mnB_main_v34_7 _),
    atB_0, atB_1, atB_2, atB_3, atB_4, samplesR]

theorem atE_samples (c : Dev nD) : atE V c (Proc.tc.devRef main_v37) = samplesR (V c (Proc.tc.devRef main_arg0)) := by
  rw [atE, condD_keep (r := main_v37) _ (by decide), lpD_keep (r := main_v37) _ _ (by decide) (by decide), atD, mnD_main_v37, condC_keep (r := main_v37) _ (by decide), lpC_keep (r := main_v37) _ _ (by decide) (by decide), atC_samples]

theorem fold_res (c : Dev nD) : foldMany mainItems V c (Proc.tc.devRef main_v104) =
    mn_40_v104 (samplesR (V c (Proc.tc.devRef main_arg0))) (yOf (atE V c)) := by
  rw [fold_eq, mnE_main_v104, atE_samples]

theorem hmain (c : Dev nD) : main (F := F) c = Pipeline.chain (mainItems.map Item.prog) := mn_chn c

theorem run_fold (m : (ℓ : Loc nD τ sig) → Buf (Elt F) ℓ) (ρ : Dev nD → PrngReg) :
    θ_run (defs (F := F)) (onTc (τ := τ) main) ⟨m, fun _ => 0, ρ⟩ (fun r => ∀ c : Dev nD,
      r.2.mem ((c.tc : Thread nD τ).loc main_v104) = mn_40_v104 (samplesR (m ((c.tc : Thread nD τ).loc main_arg0))) (yOf (atE (launchContents m) c))
      ∧ r.2.mem ((c.tc : Thread nD τ).loc main_arg0) = m ((c.tc : Thread nD τ).loc main_arg0)) := by
  have h := run_many pcfgs defs₀ loops main mainItems hmain m ρ (ok _)
  refine (θ_run _ _ _).mono (fun r h c => ⟨?_, ?_⟩) h
  · rw [h c main_v104 rfl, fold_res]
  · rw [h c main_arg0 rfl, fold_arg]

end Cert.Proof.Ref

end
-- ==== Proof.Spec.lean ====
/- The scalar recurrences both programs compute, one column of the batch at a time. -/
module

public import Idealize.ShloMosaic.Lib.Pointwise

@[expose] public section

noncomputable section

namespace Cert.Proof.Eq

open Idealize.ShloMosaic

/-- The clip of a log-probability. -/
abbrev clipC : EReal := Ideal.ofBits .f32 3017195413#32

/-- The threshold between the two forms of `log (1 - exp y)`. -/
abbrev ln2C : EReal := Ideal.ofBits .f32 3207688728#32

/-- The pad of the table. -/
abbrev negC : EReal := Ideal.ofBits .f32 3281387520#32

/-- The clipped log-sigmoid. -/
def lpS (x : EReal) : EReal := min (-(max (-x) 0 + Ideal.log1p (Ideal.exp (-(max (-x) (-(-x))))))) clipC

/-- `log (1 - exp y)`. -/
def lqS (y : EReal) : EReal :=
  if ln2C < y then Ideal.log (-(Ideal.exp (if ln2C < y then y else ln2C) - 1))
  else Ideal.log1p (-(Ideal.exp (if ln2C < y then ln2C else y)))

/-- `log (exp a + exp b)`. -/
def laeS (a b : EReal) : EReal := max a b + Ideal.log1p (Ideal.exp (-(max (a - b) (-(a - b)))))

/-- The table, state by state. -/
def stM (lp : ℕ → EReal) : ℕ → Fin 12 → EReal
  | 0 => fun k => if k = 1 then 0 else negC
  | i + 1 => Fin.cases negC (fun k => laeS (stM lp i k.castSucc + lp i) (stM lp i k.succ + lqS (lp i)))

/-- The column of the table a count word selects. -/
def colOf (j : BitVec 32) : Fin 12 := ⟨min j.toInt.toNat 11, by omega⟩

/-- The clipped log-probability of including item `2047 - t` at count `j`. -/
def prM (lp : ℕ → EReal) (t : ℕ) (j : BitVec 32) : EReal :=
  min (stM lp (2047 - t) (colOf (j - 1#32)) + lp (2047 - t) - stM lp (2048 - t) (colOf j)) clipC

/-- Whether item `2047 - t` is included, as a bit. -/
def bitM (lp u : ℕ → EReal) (t : ℕ) (j : BitVec 32) : BitVec 1 :=
  BitVec.ofBool (decide (u (2047 - t) < Ideal.logistic (prM lp t j - lqS (prM lp t j))))

/-- The count after `t` items. -/
def cntM (lp u : ℕ → EReal) : ℕ → BitVec 32
  | 0 => 11#32
  | t + 1 => Scalar.select (bitM lp u t (cntM lp u t)) (cntM lp u t - 1#32) (cntM lp u t)

theorem cnt_range (lp u : ℕ → EReal) (t : ℕ) (ht : t ≤ 2048) :
    (cntM lp u t).toInt ≤ 11 ∧ 11 - (t : ℤ) ≤ (cntM lp u t).toInt := by
  induction t with
  | zero => exact ⟨show (11#32 : BitVec 32).toInt ≤ 11 by decide, show 11 - ((0 : ℕ) : ℤ) ≤ (11#32 : BitVec 32).toInt by decide⟩
  | succ t ih =>
    obtain ⟨h1, h2⟩ := ih (by omega)
    have hs : (cntM lp u t - 1#32).toInt = (cntM lp u t).toInt - 1 := by
      rw [BitVec.toInt_sub]
      show Int.bmod ((cntM lp u t).toInt - 1) (2 ^ 32) = _
      rw [Int.bmod_eq_of_le] <;> push_cast at * <;> omega
    rw [cntM]
    unfold Scalar.select
    split
    · rw [hs]; push_cast; omega
    · push_cast; omega

theorem pred_range (lp u : ℕ → EReal) (t : ℕ) (ht : t < 2048) :
    (cntM lp u t - 1#32).toInt = (cntM lp u t).toInt - 1 := by
  obtain ⟨h1, h2⟩ := cnt_range lp u t ht.le
  rw [BitVec.toInt_sub]
  show Int.bmod ((cntM lp u t).toInt - 1) (2 ^ 32) = _
  rw [Int.bmod_eq_of_le] <;> push_cast at * <;> omega

theorem max_toInt (j : BitVec 32) : (IntOp.maxsi j 0#32).toInt = max j.toInt 0 := by
  unfold IntOp.maxsi
  split <;> rename_i hh <;> simp [BitVec.sle, BitVec.slt] at hh ⊢ <;> omega

/-- A count clipped at zero is the word of its column. -/
theorem max_zero_eq (j : BitVec 32) (h : j.toInt ≤ 11) : IntOp.maxsi j 0#32 = BitVec.ofNat 32 (colOf j).val := by
  apply BitVec.eq_of_toInt_eq
  rw [max_toInt]
  have h1 : (BitVec.ofNat 32 (colOf j).val).toInt = ((colOf j).val : ℤ) := by
    generalize colOf j = k
    revert k
    decide
  rw [h1]
  show max j.toInt 0 = ((min j.toInt.toNat 11 : ℕ) : ℤ)
  omega

/-- A sum against the indicator of one column is that column's entry. -/
theorem sum_onehot (f : Fin 12 → EReal) (k : Fin 12) :
    ∑ x : Fin 12, Scalar.select (IntOp.cmpi .eq (BitVec.ofNat 32 x.val) (BitVec.ofNat 32 k.val)) (f x) 0 = f k := by
  rw [Finset.sum_eq_single k]
  · unfold Scalar.select; rw [if_pos]; fin_cases k <;> rfl
  · intro x _ hx
    unfold Scalar.select; rw [if_neg]
    revert hx; revert x; revert k; decide
  · simp

end Cert.Proof.Eq
end
-- ==== Proof.Real.lean ====
/- Which values of the scalar recurrences are real numbers, and which host operations keep an array real. -/
module

public import proofs.«01_k».proof.Proof.Spec
public import Idealize.ShloMosaic.Lib.IdealHost

@[expose] public section

noncomputable section

namespace Cert.Proof.Eq

open Idealize.ShloMosaic

/-- A real number, neither infinity. -/
def IsR (x : EReal) : Prop := ∃ r : ℝ, x = (r : EReal)

/-- A positive real number. -/
def IsP (x : EReal) : Prop := ∃ r : ℝ, 0 < r ∧ x = (r : EReal)

theorem IsP.real {x : EReal} (h : IsP x) : IsR x := let ⟨r, _, e⟩ := h; ⟨r, e⟩

theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩
theorem IsR.div {x y : EReal} (hx : IsR x) (hy : IsP y) : IsR (Ideal.div x y) := by
  obtain ⟨a, rfl⟩ := hx; obtain ⟨b, hb, rfl⟩ := hy
  refine ⟨a * b⁻¹, ?_⟩
  unfold Ideal.div
  rw [if_neg (by simpa using hb.ne'), EReal.coe_mul, EReal.coe_inv]
theorem isR_zero : IsR 0 := ⟨0, rfl⟩
theorem IsR.sum {ι : Type} (s : Finset ι) (f : ι → EReal) (h : ∀ i ∈ s, IsR (f i)) : IsR (∑ i ∈ s, f i) :=
  Finset.sum_induction f IsR (fun _ _ => IsR.add) isR_zero h
theorem IsR.ne_top {x : EReal} (hx : IsR x) : x ≠ ⊤ := by obtain ⟨a, rfl⟩ := hx; exact EReal.coe_ne_top a
theorem IsR.select {x y : EReal} (c : BitVec 1) (hx : IsR x) (hy : IsR y) : IsR (Scalar.select c x y) := by
  unfold Scalar.select; split
  · exact hx
  · exact hy
/-- A real number cancels. -/
theorem sub_add_real {x y : EReal} (hx : IsR x) (hy : IsR y) : x - y + y = x := by
  obtain ⟨a, rfl⟩ := hx; obtain ⟨b, rfl⟩ := hy
  rw [← EReal.coe_sub, ← EReal.coe_add, sub_add_cancel]

theorem isR_exp {x : EReal} (h : x ≠ ⊤) : ∃ r : ℝ, 0 ≤ r ∧ Ideal.exp x = (r : EReal) := by
  induction x with
  | bot => exact ⟨0, le_rfl, rfl⟩
  | top => exact absurd rfl h
  | coe r => exact ⟨Real.exp r, (Real.exp_pos r).le, rfl⟩

theorem real_exp_lt {r : ℝ} (h : r < 0) : Real.exp r < 1 := by
  rw [← Real.exp_zero]; exact Real.exp_lt_exp.2 h

theorem exp_lt_one {x : EReal} (h : x < 0) : ∃ r : ℝ, 0 ≤ r ∧ r < 1 ∧ Ideal.exp x = (r : EReal) := by
  induction x with
  | bot => exact ⟨0, le_rfl, one_pos, rfl⟩
  | top => exact absurd h (by simp)
  | coe r => exact ⟨Real.exp r, (Real.exp_pos r).le, real_exp_lt (by exact_mod_cast h), rfl⟩

theorem isR_log {x : EReal} (h : IsP x) : IsR (Ideal.log x) := by
  obtain ⟨r, hr, rfl⟩ := h
  refine ⟨Real.log r, ?_⟩
  show (if r ≤ 0 then (⊥ : EReal) else (Real.log r : EReal)) = _
  rw [if_neg (not_le.2 hr)]

theorem isR_log1p_exp_neg {x : EReal} (h : 0 ≤ x) : IsR (Ideal.log1p (Ideal.exp (-x))) := by
  have hne : -x ≠ ⊤ := by
    intro e
    have : x = ⊥ := by rw [← neg_neg x, e]; rfl
    rw [this] at h; exact absurd h (by simp)
  obtain ⟨r, hr, e⟩ := isR_exp hne
  rw [e]
  exact isR_log ⟨1 + r, by positivity, by rw [EReal.coe_add]; rfl⟩

theorem abs_nonneg' (x : EReal) : 0 ≤ max x (-x) := by
  rcases le_total 0 x with h | h
  · exact h.trans (le_max_left _ _)
  · exact (EReal.neg_nonneg.2 h).trans (le_max_right _ _)

theorem isR_max {a b : EReal} (ha : a ≠ ⊤) (hb : IsR b) : IsR (max a b) := by
  obtain ⟨r, rfl⟩ := hb
  induction a with
  | bot => exact ⟨r, by simp⟩
  | top => exact absurd rfl ha
  | coe x => exact ⟨max x r, (EReal.coe_strictMono.monotone.map_max (a := x) (b := r)).symm⟩

/-- Where one side is real and the other not `⊤`, the log of the sum is real. -/
theorem isR_lae {a b : EReal} (ha : a ≠ ⊤) (hb : IsR b) : IsR (laeS a b) :=
  (isR_max ha hb).add (isR_log1p_exp_neg (abs_nonneg' _))

theorem clip_real : ∃ r : ℝ, r < 0 ∧ clipC = (r : EReal) := by
  refine ⟨-(14073749 * 2 ^ (-47 : ℤ)), by norm_num, ?_⟩
  simp [Ideal.ofBits, Ideal.ieee, clipC]
theorem ln2_real : ∃ r : ℝ, r < 0 ∧ ln2C = (r : EReal) := by
  refine ⟨-(11629080 * 2 ^ (-24 : ℤ)), by norm_num, ?_⟩
  simp [Ideal.ofBits, Ideal.ieee, ln2C]
theorem neg_real : IsR negC := by
  refine ⟨-300, ?_⟩
  simp [Ideal.ofBits, Ideal.ieee, negC, -EReal.coe_mul]
  norm_num

theorem clip_neg : clipC < 0 := by obtain ⟨r, h, e⟩ := clip_real; rw [e]; exact_mod_cast h
theorem ln2_neg : ln2C < 0 := by obtain ⟨r, h, e⟩ := ln2_real; rw [e]; exact_mod_cast h

theorem lp_le (x : EReal) : lpS x ≤ clipC := min_le_right _ _

/-- The argument of the near form of `log (1 - exp y)`: real and negative. -/
theorem near_arg {y : EReal} (h : y ≤ clipC) : ∃ r : ℝ, r < 0 ∧ (if ln2C < y then y else ln2C) = (r : EReal) := by
  split
  · rename_i hl
    have h0 : y < 0 := h.trans_lt clip_neg
    induction y with
    | bot => exact absurd hl (by simp)
    | top => exact absurd h0 (by simp)
    | coe r => exact ⟨r, by exact_mod_cast h0, rfl⟩
  · exact ln2_real
/-- The argument of the far form: negative. -/
theorem far_arg (y : EReal) : (if ln2C < y then ln2C else y) < 0 := by
  split
  · exact ln2_neg
  · rename_i hl; exact (not_lt.1 hl).trans_lt ln2_neg

theorem near_pos {y : EReal} (h : y ≤ clipC) : IsP (-(Ideal.exp (if ln2C < y then y else ln2C) - 1)) := by
  obtain ⟨r, hr, e⟩ := near_arg h
  rw [e]
  refine ⟨-(Real.exp r - 1), by have := real_exp_lt hr; linarith, ?_⟩
  rw [EReal.coe_neg, EReal.coe_sub]; rfl
theorem far_pos (y : EReal) : IsP (1 + -(Ideal.exp (if ln2C < y then ln2C else y))) := by
  obtain ⟨r, _, h1, e⟩ := exp_lt_one (far_arg y)
  rw [e]
  exact ⟨1 + -r, by linarith, by rw [EReal.coe_add, EReal.coe_neg]; rfl⟩
theorem near_exp {y : EReal} (h : y ≤ clipC) : IsR (Ideal.exp (if ln2C < y then y else ln2C)) := by
  obtain ⟨r, _, e⟩ := near_arg h
  rw [e]; exact ⟨Real.exp r, rfl⟩
theorem far_exp (y : EReal) : IsR (Ideal.exp (if ln2C < y then ln2C else y)) := by
  obtain ⟨r, _, _, e⟩ := exp_lt_one (far_arg y)
  exact ⟨r, e⟩

/-- The log of the complement of a clipped probability is real. -/
theorem isR_lq {y : EReal} (h : y ≤ clipC) : IsR (lqS y) := by
  unfold lqS
  by_cases hl : ln2C < y
  · have := near_pos h
    rw [if_pos hl] at this ⊢
    rw [if_pos hl]
    exact isR_log this
  · have := far_pos y
    rw [if_neg hl] at this ⊢
    rw [if_neg hl]
    exact isR_log this

/-! ## Arrays -/

variable {s t : Shape} {α : Type} (p : α → Prop)

/-- Every entry has the property. -/
def All (x : s.Idx → α) : Prop := ∀ i, p (x i)

variable {p}

theorem All.bcast {x : s.Idx → α} (hx : All p x) (dims h) : All p (broadcastInDim t dims h x) := fun _ => hx _
theorem All.cast {x : s.Idx → α} (hx : All p x) (h) : All p (shapeCast t x h) := fun _ => hx _
theorem All.slice {x : s.Idx → α} (hx : All p x) (off h) : All p (extractStridedSlice t off x h) := fun _ => hx _
theorem All.transpose {x : s.Idx → α} (hx : All p x) (perm h) : All p (Idealize.ShloMosaic.transpose t perm x h) := fun _ => hx _
theorem All.dynSlice {x : s.Idx → α} (hx : All p x) (st h) : All p (Host.dynamicSlice t x st h) := fun _ => hx _
theorem All.dynUpdate {x : s.Idx → α} {u : t.Idx → α} (hx : All p x) (hu : All p u) (st h) : All p (Host.dynamicUpdateSlice x u st h) := by
  intro i
  unfold Host.dynamicUpdateSlice updateSlice
  split
  · exact hu _
  · exact hx _
theorem All.pad {x : s.Idx → α} {u : Shape} {v : u.Idx → α} (hx : All p x) (hv : All p v) (lo hi int h hu) :
    All p (Idealize.ShloMosaic.pad t lo hi int x v h hu) := by
  intro i
  unfold Idealize.ShloMosaic.pad
  split
  · exact hx _
  · exact hv _
theorem All.concat {xs : List ((s : Shape) × (s.Idx → α))} (hx : ∀ x ∈ xs, All p x.2) (a h) :
    All p (concatenate t a xs h) := by
  intro i
  unfold concatenate
  exact hx _ (List.getElem_mem _) _
theorem All.concat2 {s' : Shape} {x : s.Idx → α} {y : s'.Idx → α} (hx : All p x) (hy : All p y) (a h) :
    All p (concatenate t a [⟨s, x⟩, ⟨s', y⟩] h) :=
  All.concat (fun z hz => by
    rcases List.mem_cons.1 hz with rfl | hz
    · exact hx
    · rcases List.mem_singleton.1 hz with rfl
      exact hy) a h
theorem All.scatterSet {si u : Shape} {w : ℕ} {x : s.Idx → α} {upd : u.Idx → α} (hx : All p x) (hu : All p upd) (d : ScatterDims s si u) (idx : IVec si w) :
    All p (Host.scatter d (fun _ b => b) x idx upd) := by
  unfold Host.scatter
  generalize List.finRange u.numel = l
  induction l generalizing x with
  | nil => exact hx
  | cons n l ih =>
    rw [List.foldl_cons]
    refine ih ?_
    intro i
    cases d.resultIdx? (u.rowMajor.symm n) idx with
    | none => exact hx _
    | some j =>
      show p (if _ then _ else _)
      split
      · exact hu _
      · exact hx _

theorem All.add {x y : FVec Ideal s .f32} (hx : All IsR x) (hy : All IsR y) : All IsR (addf (F := Ideal) x y) := fun i => (hx i).add (hy i)
theorem All.mul {x y : FVec Ideal s .f32} (hx : All IsR x) (hy : All IsR y) : All IsR (mulf (F := Ideal) x y) := fun i => (hx i).mul (hy i)
theorem All.neg {x : FVec Ideal s .f32} (hx : All IsR x) : All IsR (Host.negf (F := Ideal) x) := fun i => (hx i).neg
theorem All.div {x y : FVec Ideal s .f32} (hx : All IsR x) (hy : All IsP y) : All IsR (Host.divf (F := Ideal) x y) := fun i => (hx i).div (hy i)
theorem All.sel {x y : FVec Ideal s .f32} (c : IVec s 1) (hx : All IsR x) (hy : All IsR y) : All IsR (select c x y) := fun i => (hx i).select (c i) (hy i)
theorem All.reduceAdd {u : Shape} {axes : List (Fin s.rank)} {x : FVec Ideal s .f32} {v : u.Idx → Ideal .f32} (hx : All IsR x) (hv : All IsR v) (h : s.ReducesTo axes t) (hu) :
    All IsR (Host.reduceAdd (F := Ideal) x v h hu) := fun _ => (hv _).add (IsR.sum _ _ fun i _ => hx i)
theorem All.zero (w : Shape) : All IsR (constant (F := Ideal) w .f32 0x00000000#32) := fun _ => ⟨0, Ideal.ofBits_zero_f32⟩
theorem All.one (w : Shape) : All IsR (constant (F := Ideal) w .f32 0x3F800000#32) := fun _ => ⟨1, Ideal.ofBits_one_f32⟩
theorem All.negC (w : Shape) : All IsR (constant (F := Ideal) w .f32 0xC3960000#32) := fun _ => neg_real

end Cert.Proof.Eq
end
-- ==== Proof.RefReal.lean ====
/- The gradient term of the reference is a real number for every input, so it cancels. -/
module

public import proofs.«01_k».proof.Proof.RefRun
public import proofs.«01_k».proof.Proof.Real
public import Idealize.ShloMosaic.Lib.Routing.OpsOne

@[expose] public section

set_option maxRecDepth 10000

noncomputable section

namespace Cert.Proof.Ref

open Cert.ReferenceIdeal
open Idealize.ShloMosaic Idealize.SL.Sem Idealize.ShloMosaic.StableHlo
open Cert.Proof.Many Cert.Proof.Eq
open TcCoe

variable [Facts]
open Facts₀ Facts

/-- Not plus infinity. -/
def NoTop (x : EReal) : Prop := x ≠ ⊤

section Arrays
variable {s : Shape} {x y : FVec Ideal s .f32}

theorem All.noTop (hx : All IsR x) : All NoTop x := fun i => (hx i).ne_top
theorem All.add_noTop (hx : All IsR x) (hy : All NoTop y) : All NoTop (addf (F := Ideal) x y) :=
  fun i => EReal.add_ne_top (hx i).ne_top (hy i)
theorem All.sel_noTop (c : IVec s 1) (hx : All NoTop x) (hy : All NoTop y) : All NoTop (select c x y) := fun i => by
  show NoTop (Scalar.select (c i) (x i) (y i))
  unfold Scalar.select; split
  · exact hx i
  · exact hy i
/-- A weight `exp (x - y)` is real where `x` is not plus infinity. -/
theorem All.weight (hx : All NoTop x) (hy : All IsR y) : All IsR (Host.exp (F := Ideal) (subf (F := Ideal) x y)) := fun i => by
  obtain ⟨r, _, e⟩ := isR_exp (x := x i - y i) (EReal.add_ne_top (hx i) (hy i).neg.ne_top)
  exact ⟨r, e⟩

end Arrays

section Steps
variable {p : EReal → Prop}

theorem row_all {x : Vec Ideal S2048x40 .f32} (hx : All p x) (k) : All p (fn_dynamic_index_in_dim_f (F := Ideal) x k) := by
  unfold fn_dynamic_index_in_dim_f; exact All.cast (All.dynSlice hx _ _) _
theorem row12_all {x : Vec Ideal S2048x40x12 .f32} (hx : All p x) (k) : All p (fn_dynamic_index_in_dim_14_f (F := Ideal) x k) := by
  unfold fn_dynamic_index_in_dim_14_f; exact All.cast (All.dynSlice hx _ _) _
theorem row11_all {x : Vec Ideal S2048x40x11 .f32} (hx : All p x) (k) : All p (fn_dynamic_index_in_dim_15_f (F := Ideal) x k) := by
  unfold fn_dynamic_index_in_dim_15_f; exact All.cast (All.dynSlice hx _ _) _
theorem put11_all {x : Vec Ideal S2048x40x11 .f32} {u : Vec Ideal S40x11 .f32} (hx : All p x) (hu : All p u) (k) :
    All p (fn_dynamic_update_index_in_dim_13_f (F := Ideal) x u k) := by
  unfold fn_dynamic_update_index_in_dim_13_f; exact All.dynUpdate hx (All.bcast hu _ _) _ _
theorem put_all {x : Vec Ideal S2048x40 .f32} {u : Vec Ideal S40 .f32} (hx : All p x) (hu : All p u) (k) :
    All p (fn_dynamic_update_index_in_dim_16_f (F := Ideal) x u k) := by
  unfold fn_dynamic_update_index_in_dim_16_f; exact All.dynUpdate hx (All.bcast hu _ _) _ _

theorem c0_all {x : Vec Ideal S2048x40 .f32} (hx : All p x) (k) : All p (wc_0_v105 (F := Ideal) x k) := by
  unfold wc_0_v105; exact row_all hx k
theorem c1_all {x : Vec Ideal S2048x40 .f32} (hx : All p x) (k) : All p (wc_1_v106 (F := Ideal) x k) := by
  unfold wc_1_v106; exact row_all hx k
theorem c2_all {st : Vec Ideal S40x12 .f32} {l : Vec Ideal S40 .f32} (hs : All IsR st) (hl : All NoTop l) : All NoTop (wc_2_v110 (F := Ideal) st l) := by
  unfold wc_2_v110; exact All.add_noTop (All.slice hs _ _) (All.bcast (All.bcast hl _ _) _ _)
theorem c3_all {st : Vec Ideal S40x12 .f32} {l : Vec Ideal S40 .f32} (hs : All IsR st) (hl : All IsR l) : All IsR (wc_3_v114 (F := Ideal) st l) := by
  unfold wc_3_v114; exact All.add (All.slice hs _ _) (All.bcast (All.bcast hl _ _) _ _)
theorem c4_all {a b : Vec Ideal S40x11 .f32} (ha : All NoTop a) (hb : All IsR b) : All IsR (wc_4_v124 (F := Ideal) a b) := fun i => by
  have e : wc_4_v124 (F := Ideal) a b i = laeS (a i) (b i) := by
    pointwise [wc_4_v124]
    rw [if_neg (fun h => h rfl)]
    rfl
  rw [e]; exact isR_lae (ha i) (hb i)
theorem c5_all {a z d w : Vec Ideal S40x11 .f32} (ha : All NoTop a) (hz : All IsR z) (hd : All IsR d) (hw : All IsR w) :
    All IsR (wc_5_v132 (F := Ideal) a z d w) := by
  unfold wc_5_v132; exact All.weight (All.sel_noTop _ (All.noTop hz) ha) (All.sel _ hw hd)
theorem c6_all {a z d w : Vec Ideal S40x11 .f32} (ha : All IsR a) (hz : All IsR z) (hd : All IsR d) (hw : All IsR w) :
    All IsR (wc_6_v140 (F := Ideal) a z d w) := by
  unfold wc_6_v140; exact All.weight (All.noTop (All.sel _ hz ha)) (All.sel _ hw hd)
theorem c7_all {a : Vec Ideal S40x1 .f32} {b : Vec Ideal S40x11 .f32} (ha : All IsR a) (hb : All IsR b) : All IsR (wc_7_v141 (F := Ideal) a b) := by
  unfold wc_7_v141; exact All.concat2 ha hb _ _

theorem d1_all {x : Vec Ideal S2048x40x12 .f32} (hx : All p x) (k) : All p (wd_1_v107 (F := Ideal) x k) := by
  unfold wd_1_v107; exact row12_all hx k
theorem d2_all {x : Vec Ideal S2048x40x11 .f32} (hx : All p x) (k) : All p (wd_2_v108 (F := Ideal) x k) := by
  unfold wd_2_v108; exact row11_all hx k
theorem d3_all {x : Vec Ideal S2048x40x11 .f32} (hx : All p x) (k) : All p (wd_3_v109 (F := Ideal) x k) := by
  unfold wd_3_v109; exact row11_all hx k
theorem d4_all {g e : Vec Ideal S40x12 .f32} {w : Vec Ideal S40x11 .f32} (hg : All IsR g) (he : All IsR e) (hw : All IsR w) :
    All IsR (wd_4_v113 (F := Ideal) g e w) := by
  unfold wd_4_v113; exact All.mul (All.slice (All.add hg he) _ _) hw
theorem d4'_all {g e : Vec Ideal S40x12 .f32} {w : Vec Ideal S40x11 .f32} (hg : All IsR g) (he : All IsR e) (hw : All IsR w) :
    All IsR (wd_4_v114 (F := Ideal) g e w) := d4_all hg he hw
theorem d5_all {x : Vec Ideal S40x11 .f32} (hx : All IsR x) : All IsR (wd_5_v117 (F := Ideal) x) := by
  unfold wd_5_v117; exact All.reduceAdd (All.cast (All.reduceAdd hx (All.zero _) _ _) _) (All.zero _) _ _
theorem d7_all {x : Vec Ideal S40x11 .f32} (hx : All IsR x) : All IsR (wd_7_v121 (F := Ideal) x) := d5_all hx
theorem d6_all {x : Vec Ideal S40x11 .f32} (hx : All IsR x) : All IsR (wd_6_v118 (F := Ideal) x) := by
  unfold wd_6_v118; exact All.pad hx (All.zero _) _ _ _ _ _
theorem d8_all {x : Vec Ideal S40x11 .f32} {y : Vec Ideal S40x12 .f32} (hx : All IsR x) (hy : All IsR y) : All IsR (wd_8_v123 (F := Ideal) x y) := by
  unfold wd_8_v123; exact All.add hy (All.pad hx (All.zero _) _ _ _ _ _)

section Fourth
variable {g : Vec Ideal S40x12 .f32} {o : Vec Ideal S2048x40x12 .f32} {w1 w2 : Vec Ideal S2048x40x11 .f32} {y : Vec Ideal S2048x40 .f32}

theorem d9_all (hx : All IsR y) {u : Vec Ideal S40 .f32} (hu : All IsR u) (k) : All IsR (wd_9_v124 (F := Ideal) y u k) := by
  unfold wd_9_v124; exact put_all hx hu k
theorem d10_all (hx : All IsR y) {u : Vec Ideal S40 .f32} (hu : All IsR u) (k) : All IsR (wd_10_v125 (F := Ideal) y u k) := by
  unfold wd_10_v125; exact put_all hx hu k
theorem stD5 (hg : All IsR g) (ho : All IsR o) (h1 : All IsR w1) (h2 : All IsR w2) (k) :
    All IsR (wd_11_v88_5 (F := Ideal) (wd_8_v123 (wd_4_v114 g (wd_1_v107 o (wd_0_v106 k)) (wd_2_v108 w1 (wd_0_v106 k))) (wd_6_v118 (wd_4_v113 g (wd_1_v107 o (wd_0_v106 k)) (wd_3_v109 w2 (wd_0_v106 k)))))) := by
  unfold wd_11_v88_5
  exact d8_all (d4'_all hg (d1_all ho _) (d2_all h1 _)) (d6_all (d4_all hg (d1_all ho _) (d3_all h2 _)))
theorem put1_all {u : Vec Ideal S40 .f32} (hy : All IsR y) (hu : All IsR u) (k) : All IsR (wd_11_v88_6 (F := Ideal) (wd_9_v124 (F := Ideal) y u k)) := by
  unfold wd_11_v88_6; exact d9_all hy hu k
theorem put2_all {u : Vec Ideal S40 .f32} (hy : All IsR y) (hu : All IsR u) (k) : All IsR (wd_11_v88_7 (F := Ideal) (wd_10_v125 (F := Ideal) y u k)) := by
  unfold wd_11_v88_7; exact d10_all hy hu k
theorem sum1_all (hg : All IsR g) (ho : All IsR o) (h1 : All IsR w1) (k) :
    All IsR (wd_7_v121 (F := Ideal) (wd_4_v114 g (wd_1_v107 o (wd_0_v106 k)) (wd_2_v108 w1 (wd_0_v106 k)))) :=
  d7_all (d4'_all hg (d1_all ho _) (d2_all h1 _))
theorem sum2_all (hg : All IsR g) (ho : All IsR o) (h2 : All IsR w2) (k) :
    All IsR (wd_5_v117 (F := Ideal) (wd_4_v113 g (wd_1_v107 o (wd_0_v106 k)) (wd_3_v109 w2 (wd_0_v106 k)))) :=
  d5_all (d4_all hg (d1_all ho _) (d3_all h2 _))

end Fourth

theorem padC_all : All IsR (mn_28_v70_2 (F := Ideal) mn_27_v65) := by
  unfold mn_28_v70_2 mn_27_v65; dsimp only [id]; exact All.bcast (All.negC _) _ _
theorem ones_all : All IsR (mn_30_v84 (F := Ideal)) := by
  unfold mn_30_v84
  dsimp only
  exact All.transpose (All.slice (All.pad (All.bcast (All.bcast (All.one _) _ _) _ _) (All.zero _) _ _ _ _ _) _ _) _ _

end Steps

section Logs
variable (v : Vec Ideal S40x2048 .f32)

theorem lp_clip (i : S40x2048.Idx) : mn_20_v40 (F := Ideal) v i ≤ clipC := min_le_right _ _

theorem lp_noTop : All NoTop (mn_20_v40 (F := Ideal) v) := fun i => ((lp_clip v i).trans_lt (clip_neg.trans EReal.zero_lt_top)).ne

/-- The argument of the near form of `log (1 - exp y)`. -/
abbrev nearV : Vec Ideal S40x2048 .f32 := mn_21_v43_0 (F := Ideal) (mn_20_v42 v) (mn_20_v40 v) mn_20_cst_15
/-- The argument of the far form. -/
abbrev farV : Vec Ideal S40x2048 .f32 := mn_23_v44_0 (F := Ideal) (mn_20_v42 v) mn_22_cst_16 (mn_20_v40 v)

theorem near_apply (i : S40x2048.Idx) : nearV v i = if ln2C < mn_20_v40 (F := Ideal) v i then mn_20_v40 (F := Ideal) v i else ln2C := by
  pointwise [mn_21_v43_0, mn_20_v42, mn_20_v40, mn_20_cst_15, fn_where_10_f0]
  rfl
theorem far_apply (i : S40x2048.Idx) : farV v i = if ln2C < mn_20_v40 (F := Ideal) v i then ln2C else mn_20_v40 (F := Ideal) v i := by
  pointwise [mn_23_v44_0, mn_20_v42, mn_20_v40, mn_22_cst_16, fn_where_11_f0]
  rfl

theorem v46_all : All IsR (mn_24_v46 (F := Ideal) (nearV v)) := fun i => by
  show IsR (Ideal.exp (nearV v i)); rw [near_apply]; exact near_exp (lp_clip v i)
theorem v47_all : All IsP (mn_24_v47 (F := Ideal) (nearV v)) := fun i => by
  show IsP (-(Ideal.exp (nearV v i) - 1)); rw [near_apply]; exact near_pos (lp_clip v i)
theorem v48_all : All IsR (mn_24_v48 (F := Ideal) (nearV v)) := fun i => isR_log (v47_all v i)
theorem v49_all : All IsR (mn_24_v49 (F := Ideal) (farV v)) := fun i => by
  show IsR (Ideal.exp (farV v i)); rw [far_apply]; exact far_exp _
theorem far_all (i : S40x2048.Idx) : IsP (1 + -(Ideal.exp (farV v i))) := by
  rw [far_apply]; exact far_pos _
theorem v51_all : All IsR (mn_24_v51 (F := Ideal) (farV v)) := fun i => isR_log (far_all v i)
theorem v53_all : All IsP (mn_24_v53 (F := Ideal) (farV v)) := fun i => by
  have h := far_all v i
  rw [add_comm, ← Ideal.ofBits_one_f32] at h
  exact h

theorem lpT_all : All NoTop (mn_28_v70_0 (F := Ideal) (mn_27_v59 (mn_20_v40 v))) := by
  unfold mn_28_v70_0 mn_27_v59; exact All.transpose (lp_noTop v) _ _
theorem lqT_all : All IsR (mn_28_v70_1 (F := Ideal) (mn_27_v60 (mn_25_v54 (mn_20_v42 v) (mn_24_v48 (nearV v)) (mn_24_v51 (farV v))))) := by
  unfold mn_28_v70_1 mn_27_v60 mn_25_v54 fn_where_12_f; exact All.transpose (All.sel _ (v48_all v) (v51_all v)) _ _

end Logs

section Loops

/-- What the third loop needs and keeps. -/
structure InvC (V : Valuation τ sig (Elt Ideal)) : Prop where
  lp : All NoTop (V (Proc.tc.devRef main_v70_0) : Vec Ideal S2048x40 .f32)
  lq : All IsR (V (Proc.tc.devRef main_v70_1) : Vec Ideal S2048x40 .f32)
  pad : All IsR (V (Proc.tc.devRef main_v70_2) : Vec Ideal S40x1 .f32)
  z3 : All IsR (V (Proc.tc.devRef main_v70_3) : Vec Ideal S40x11 .f32)
  z4 : All IsR (V (Proc.tc.devRef main_v70_4) : Vec Ideal S40x11 .f32)
  z5 : All IsR (V (Proc.tc.devRef main_v70_5) : Vec Ideal S40x11 .f32)
  z6 : All IsR (V (Proc.tc.devRef main_v70_6) : Vec Ideal S40x11 .f32)
  st : All IsR (V (Proc.tc.devRef main_v70_8) : Vec Ideal S40x12 .f32)
  w1 : All IsR (V (Proc.tc.devRef main_v70_10) : Vec Ideal S2048x40x11 .f32)
  w2 : All IsR (V (Proc.tc.devRef main_v70_11) : Vec Ideal S2048x40x11 .f32)

theorem InvC.cond {V : Valuation τ sig (Elt Ideal)} (h : InvC V) : InvC (after condC V) := by
  constructor
  · rw [condC_keep (r := main_v70_0) _ (by decide)]; exact h.lp
  · rw [condC_keep (r := main_v70_1) _ (by decide)]; exact h.lq
  · rw [condC_keep (r := main_v70_2) _ (by decide)]; exact h.pad
  · rw [condC_keep (r := main_v70_3) _ (by decide)]; exact h.z3
  · rw [condC_keep (r := main_v70_4) _ (by decide)]; exact h.z4
  · rw [condC_keep (r := main_v70_5) _ (by decide)]; exact h.z5
  · rw [condC_keep (r := main_v70_6) _ (by decide)]; exact h.z6
  · rw [condC_keep (r := main_v70_8) _ (by decide)]; exact h.st
  · rw [condC_keep (r := main_v70_10) _ (by decide)]; exact h.w1
  · rw [condC_keep (r := main_v70_11) _ (by decide)]; exact h.w2

theorem InvC.step {V : Valuation τ sig (Elt Ideal)} (h : InvC V) : InvC (afterL wcI V) := by
  have a := c2_all h.st (c0_all h.lp (V (Proc.tc.devRef main_v70_7)))
  have b := c3_all h.st (c1_all h.lq (V (Proc.tc.devRef main_v70_7)))
  have d := c4_all a b
  constructor
  · rw [stepC_keep (r := main_v70_0) _ (by decide)]; exact h.lp
  · rw [stepC_keep (r := main_v70_1) _ (by decide)]; exact h.lq
  · rw [stepC_keep (r := main_v70_2) _ (by decide)]; exact h.pad
  · rw [stepC_keep (r := main_v70_3) _ (by decide)]; exact h.z3
  · rw [stepC_keep (r := main_v70_4) _ (by decide)]; exact h.z4
  · rw [stepC_keep (r := main_v70_5) _ (by decide)]; exact h.z5
  · rw [stepC_keep (r := main_v70_6) _ (by decide)]; exact h.z6
  · rw [stepC_main_v70_8]; unfold wc_11_v70_8; exact c7_all h.pad d
  · rw [stepC_main_v70_10]; unfold wc_11_v70_10 wc_9_v143; exact put11_all h.w1 (c5_all a h.z3 d h.z4) _
  · rw [stepC_main_v70_11]; unfold wc_11_v70_11 wc_10_v144; exact put11_all h.w2 (c6_all b h.z5 d h.z6) _

/-- What the fourth loop needs and keeps. -/
structure InvD (V : Valuation τ sig (Elt Ideal)) : Prop where
  one : All IsR (V (Proc.tc.devRef main_v88_0) : Vec Ideal S2048x40x12 .f32)
  w1 : All IsR (V (Proc.tc.devRef main_v88_1) : Vec Ideal S2048x40x11 .f32)
  w2 : All IsR (V (Proc.tc.devRef main_v88_2) : Vec Ideal S2048x40x11 .f32)
  g : All IsR (V (Proc.tc.devRef main_v88_5) : Vec Ideal S40x12 .f32)
  y1 : All IsR (V (Proc.tc.devRef main_v88_6) : Vec Ideal S2048x40 .f32)
  y2 : All IsR (V (Proc.tc.devRef main_v88_7) : Vec Ideal S2048x40 .f32)

theorem InvD.cond {V : Valuation τ sig (Elt Ideal)} (h : InvD V) : InvD (after condD V) := by
  constructor
  · rw [condD_keep (r := main_v88_0) _ (by decide)]; exact h.one
  · rw [condD_keep (r := main_v88_1) _ (by decide)]; exact h.w1
  · rw [condD_keep (r := main_v88_2) _ (by decide)]; exact h.w2
  · rw [condD_keep (r := main_v88_5) _ (by decide)]; exact h.g
  · rw [condD_keep (r := main_v88_6) _ (by decide)]; exact h.y1
  · rw [condD_keep (r := main_v88_7) _ (by decide)]; exact h.y2

theorem InvD.step {V : Valuation τ sig (Elt Ideal)} (h : InvD V) : InvD (afterL wdI V) := by
  constructor
  · rw [stepD_keep (r := main_v88_0) _ (by decide)]; exact h.one
  · rw [stepD_keep (r := main_v88_1) _ (by decide)]; exact h.w1
  · rw [stepD_keep (r := main_v88_2) _ (by decide)]; exact h.w2
  · rw [stepD_main_v88_5]; exact stD5 h.g h.one h.w1 h.w2 _
  · rw [stepD_main_v88_6]; exact put1_all h.y1 (sum1_all h.g h.one h.w1 _) _
  · rw [stepD_main_v88_7]; exact put2_all h.y2 (sum2_all h.g h.one h.w2 _) _

variable (V : Dev nD → Valuation τ sig (Elt Ideal)) (c : Dev nD)

theorem atC_inv : InvC (atC V c) := by
  constructor
  · rw [atC, mnC_main_v70_0]; exact lpT_all _
  · rw [atC, mnC_main_v70_1]; exact lqT_all _
  · rw [atC, mnC_main_v70_2]; exact padC_all
  · rw [atC, mnC_main_v70_3]; unfold mn_28_v70_3 mn_27_v61; dsimp only [id]; exact All.bcast (All.zero _) _ _
  · rw [atC, mnC_main_v70_4]; unfold mn_28_v70_4 mn_27_v62; dsimp only [id]; exact All.bcast (All.zero _) _ _
  · rw [atC, mnC_main_v70_5]; unfold mn_28_v70_5 mn_27_v63; dsimp only [id]; exact All.bcast (All.zero _) _ _
  · rw [atC, mnC_main_v70_6]; unfold mn_28_v70_6 mn_27_v64; dsimp only [id]; exact All.bcast (All.zero _) _ _
  · rw [atC, mnC_main_v70_8]; unfold mn_28_v70_8 mn_26_v58; dsimp only [id]; exact All.scatterSet (All.bcast (All.negC _) _ _) (All.bcast (All.zero _) _ _) _ _
  · rw [atC, mnC_main_v70_10]; unfold mn_28_v70_10 mn_27_v68; dsimp only [id]; exact All.bcast (All.zero _) _ _
  · rw [atC, mnC_main_v70_11]; unfold mn_28_v70_11 mn_27_v69; dsimp only [id]; exact All.bcast (All.zero _) _ _

theorem lpC_inv (k : ℕ) : InvC (atTrip condC wcI (atC V) k c) := by
  induction k with
  | zero => exact atC_inv V c
  | succ k ih => rw [atTrip_succ]; exact ih.cond.step

theorem atD_inv : InvD (atD V c) := by
  have h := (lpC_inv V c 2048).cond
  constructor
  · rw [atD, mnD_main_v88_0]; unfold mn_31_v88_0; exact ones_all
  · rw [atD, mnD_main_v88_1]; exact h.w1
  · rw [atD, mnD_main_v88_2]; exact h.w2
  · rw [atD, mnD_main_v88_5]; unfold mn_31_v88_5; dsimp only [id]; exact All.bcast (All.zero _) _ _
  · rw [atD, mnD_main_v88_6]; unfold mn_31_v88_6; dsimp only [id]; exact All.bcast (All.zero _) _ _
  · rw [atD, mnD_main_v88_7]; unfold mn_31_v88_7; dsimp only [id]; exact All.bcast (All.zero _) _ _

theorem lpD_inv (k : ℕ) : InvD (atTrip condD wdI (atD V) k c) := by
  induction k with
  | zero => exact atD_inv V c
  | succ k ih => rw [atTrip_succ]; exact ih.cond.step

/-- A buffer that neither of the last two loops writes. -/
theorem atE_keep {r : Ref sig .tc} (h1 : r ∉ wdW) (h2 : r ∉ [main_while3c_c_47, main_while3c_v105]) (h3 : r ∉ wcW) (h4 : r ∉ [main_while2c_c_51, main_while2c_v105])
    (hD : ∀ W : Valuation τ sig (Elt Ideal), afterL mnD W (Proc.tc.devRef r) = W (Proc.tc.devRef r)) :
    atE V c (Proc.tc.devRef r) = atC V c (Proc.tc.devRef r) := by
  rw [atE, condD_keep _ h2, lpD_keep _ _ h1 h2, atD, hD, condC_keep _ h4, lpC_keep _ _ h3 h4]

/-- The gradient term is real. -/
theorem yOf_real : All IsR (yOf (atE V c)) := by
  have h := (lpD_inv V c 2048).cond
  have z : ∀ (b : IVec S40x2048 1) (x : Vec Ideal S2048x40 .f32), All IsR x → All IsR (mn_34_v91_0 (F := Ideal) b (mn_33_v89 x)) := fun b x hx => by
    unfold mn_34_v91_0 mn_33_v89 fn_where_17_f1; exact All.sel _ (All.transpose hx _ _) (All.bcast (All.zero _) _ _)
  have z' : ∀ (b : IVec S40x2048 1) (x : Vec Ideal S2048x40 .f32), All IsR x → All IsR (mn_34_v91_1 (F := Ideal) b (mn_33_v89 x)) := fun b x hx => by
    unfold mn_34_v91_1 mn_33_v89 fn_where_17_f0; exact All.sel _ (All.bcast (All.zero _) _ _) (All.transpose hx _ _)
  have e46 : All IsR (atE V c (Proc.tc.devRef main_v46) : Vec Ideal S40x2048 .f32) := by
    rw [atE_keep V c (by decide) (by decide) (by decide) (by decide) mnD_main_v46, atC, mnC_main_v46]; exact v46_all _
  have e47 : All IsP (atE V c (Proc.tc.devRef main_v47) : Vec Ideal S40x2048 .f32) := by
    rw [atE_keep V c (by decide) (by decide) (by decide) (by decide) mnD_main_v47, atC, mnC_main_v47]; exact v47_all _
  have e49 : All IsR (atE V c (Proc.tc.devRef main_v49) : Vec Ideal S40x2048 .f32) := by
    rw [atE_keep V c (by decide) (by decide) (by decide) (by decide) mnD_main_v49, atC, mnC_main_v49]; exact v49_all _
  have e53 : All IsP (atE V c (Proc.tc.devRef main_v53) : Vec Ideal S40x2048 .f32) := by
    rw [atE_keep V c (by decide) (by decide) (by decide) (by decide) mnD_main_v53, atC, mnC_main_v53]; exact v53_all _
  unfold yOf mn_39_v101 mn_37_v99 mn_33_v90 mn_36_v98 fn_where_18_f mn_35_v94 mn_38_v100 fn_where_19_f mn_35_v97
  exact All.add (All.add (All.transpose h.y1 _ _)
      (All.sel _ (All.bcast (All.zero _) _ _) (All.mul (All.neg (All.div (z' _ _ h.y2) e53)) e49)))
    (All.sel _ (All.mul (All.neg (All.div (z _ _ h.y2) e47)) e46) (All.bcast (All.zero _) _ _))

end Loops

/-- Taking the gradient term away and adding it again changes nothing. -/
theorem result_eq (a : Vec Ideal S40x2048x1 .f32) {y : Vec Ideal S40x2048 .f32} (hy : All IsR y) :
    mn_40_v104 (F := Ideal) (samplesR a) y = resultR a := by
  have e : addf (F := Ideal) (φ := .f32) (subf (F := Ideal) (φ := .f32) (samplesR a) y) y = samplesR a :=
    funext fun i => sub_add_real ⟨_, rfl⟩ (hy i)
  unfold mn_40_v104 resultR
  dsimp only
  rw [e]

theorem run_value (m : (ℓ : Loc nD τ sig) → Buf (Elt Ideal) ℓ) (ρ : Dev nD → PrngReg) :
    θ_run (defs (F := Ideal)) (onTc (τ := τ) main) ⟨m, fun _ => 0, ρ⟩ (fun r => ∀ c : Dev nD,
      r.2.mem ((c.tc : Thread nD τ).loc main_v104) = resultR (m ((c.tc : Thread nD τ).loc main_arg0))
      ∧ r.2.mem ((c.tc : Thread nD τ).loc main_arg0) = m ((c.tc : Thread nD τ).loc main_arg0)) := by
  have e := fun c : Dev nD => result_eq (m ((c.tc : Thread nD τ).loc main_arg0)) (yOf_real (launchContents m) c)
  refine (θ_run (defs (F := Ideal)) _ _).mono (fun r h c => ⟨?_, (h c).2⟩) (run_fold (F := Ideal) m ρ)
  rw [(h c).1, e c]

end Cert.Proof.Ref
end
-- ==== Proof.Alg.lean ====
/- From one answer on both sides to the claim that the two programs end with one value. -/
module

public import proofs.«01_k».proof.Defs
public import proofs.«01_k».proof.Proof.KIdealValue
public import proofs.«01_k».proof.Proof.RefReal

@[expose] public section

noncomputable section

namespace Cert.Proof

open Idealize.ShloMosaic Idealize.SL.Sem

theorem alg_of [Cert.KernelIdeal.Facts] [Cert.ReferenceIdeal.Facts]
    (h : ∀ a : Vec Ideal ⟨3, ![40, 2048, 1]⟩ .f32, Ref.resultR (F := Ideal) a = Cert.KernelIdeal.Gen.resultOf a) :
    Cert.algebraic_KernelIdeal_ReferenceIdeal := by
  intro m g m' g' _ hagree
  refine ⟨fun c => Cert.KernelIdeal.Gen.resultOf (m ((c.tc : Thread Cert.KernelIdeal.nD Cert.KernelIdeal.τ).loc Cert.KernelIdeal.main_arg0)),
    Cert.KernelIdeal.Gen.run_value m g, ?_⟩
  refine (θ_run Cert.ReferenceIdeal.defs _ _).mono (fun r hr c => ⟨?_, (hr c).2⟩) (Ref.run_value m' g')
  exact (hr c).1.trans ((congrArg (Ref.resultR (F := Ideal)) (hagree c)).trans (h _))

end Cert.Proof
end
-- ==== Proof.KEq.lean ====
/- The kernel's value at an index is the scalar recurrence of its column. -/
module

public import proofs.«01_k».proof.Proof.KIdealValue
public import proofs.«01_k».proof.Proof.Spec

@[expose] public section

noncomputable section

namespace Cert.Proof.Eq

open Idealize.ShloMosaic Idealize.SL.Sem Cert.KernelIdeal Cert.KernelIdeal.Gen

theorem absf_eq (x : EReal) : FloatOps.absf (F := Ideal) (φ := .f32) x = max x (-x) := rfl

theorem pay13_apply (x : Vec Ideal S2048x40 .f32) (y : S2048x40.Idx) : k0_pay13 x y = lpS (x y) := by
  pointwise [k0_pay13]
  simp only [lpS, zero_sub]
  rfl

theorem pay14_apply (x : Vec Ideal S2048x40 .f32) (y : S2048x40.Idx) : k0_pay14 x y = lpS (x y) := by
  rw [← pay13_apply]
  pointwise [k0_pay14]

theorem pay15_apply (x : Vec Ideal S2048x40 .f32) (y : S2048x40.Idx) : k0_pay15 x y = lqS (lpS (x y)) := by
  pointwise [k0_pay15]
  simp only [lqS, zero_sub, pay13_apply]

theorem pay3_zero (st : FVec Ideal S12x40 .f32) (lp lq : Vec Ideal S1x40 .f32) (b : Fin 40) : k0_pay3 st lp lq (ix2 0 b) = negC := by
  pointwise [k0_pay3]

theorem pay3_succ (st : FVec Ideal S12x40 .f32) (lp lq : Vec Ideal S1x40 .f32) (k : Fin 11) (b : Fin 40) :
    k0_pay3 st lp lq (ix2 k.succ b) = laeS (st (ix2 k.castSucc b) + lp (ix2 0 b)) (st (ix2 k.succ b) + lq (ix2 0 b)) := by
  pointwise [k0_pay3]
  rw [dif_neg (by simp)]
  simp only [laeS, zero_sub]
  have h1 : (⟨k.succ.val - 1, by simp; omega⟩ : Fin 12) = k.castSucc := Fin.ext (by simp)
  have h2 : (⟨1 + (k.succ.val - 1), by simp; omega⟩ : Fin 12) = k.succ := Fin.ext (by simp; omega)
  rw [h1, h2]
  rfl

theorem pay1_apply (k : Fin 12) (b : Fin 40) : k0_pay1 (F := Ideal) rowIota 1#32 (ix2 k b) = if k = 1 then 0 else negC := by
  pointwise [k0_pay1, rowIota]
  fin_cases k <;> rfl

theorem planeA_zero (x : Vec Ideal S2048x40 .f32) (k : Fin 12) (b : Fin 40) (i : ℕ) : planeA x i (ix3 0 k b) = stA x i (ix2 k b) := by
  cases i with
  | zero => rw [planeA, stA]; pointwise [k0_pay2]
  | succ i => rw [planeA, stA]; pointwise [k0_pay4]

theorem rowX_apply (X : Vec Ideal S2048x40 .f32) (i : ℕ) (b : Fin 40) :
    rowX X i (ix2 0 b) = X (ix2 ⟨i % 2048, Nat.mod_lt _ (by decide)⟩ b) := by
  unfold rowX VecWindow.window
  refine congrArg X (funext fun a => Fin.ext ?_)
  refine Fin.cases ?_ (fun a => Fin.cases ?_ (fun a => a.elim0) a) a
  · show i % 2048 + 1 * 0 = i % 2048
    omega
  · show 0 + 1 * b.val = b.val
    omega

/-- The draw as a bit, read from one lane. -/
theorem pay6_apply (p : FVec Ideal S1x40 .f32) (big : IVec S1x40 1) (sm ex : FVec Ideal S1x40 .f32) (u : Vec Ideal S1x40 .f32) (b : Fin 40) :
    k0_pay6 p big sm ex u (ix2 0 b) = BitVec.ofBool (decide (u (ix2 0 b) < Ideal.logistic (p (ix2 0 b) -
      Scalar.select (big (ix2 0 b)) (Ideal.log (0 - (ex (ix2 0 b) - 1))) (Ideal.log1p (0 - Ideal.exp (sm (ix2 0 b))))))) := by
  pointwise [k0_pay6]

theorem pay7_apply (p : FVec Ideal S1x40 .f32) (big : IVec S1x40 1) (sm ex : FVec Ideal S1x40 .f32) (u : Vec Ideal S1x40 .f32) (b : Fin 40) :
    k0_pay7 p big sm ex u (ix2 0 b) = Scalar.select (k0_pay6 p big sm ex u (ix2 0 b)) 1 0 := by
  pointwise [k0_pay7]

theorem pay8_apply (j : IVec S1x40 32) (p : FVec Ideal S1x40 .f32) (big : IVec S1x40 1) (sm ex : FVec Ideal S1x40 .f32) (u : Vec Ideal S1x40 .f32) (b : Fin 40) :
    k0_pay8 j p big sm ex u (ix2 0 b) = Scalar.select (k0_pay6 p big sm ex u (ix2 0 b)) (j (ix2 0 b) - 1#32) (j (ix2 0 b)) := by
  pointwise [k0_pay8]
  rfl

theorem pay9_apply (j : IVec S1x40 32) (P Z : Vec Ideal S1x12x40 .f32) (lp : Vec Ideal S1x40 .f32) (b : Fin 40)
    (h1 : (j (ix2 0 b)).toInt ≤ 11) (h2 : (j (ix2 0 b) - 1#32).toInt ≤ 11) :
    k0_pay9 rowIota j P Z lp (ix2 0 b) =
      min (P (ix3 0 (colOf (j (ix2 0 b) - 1#32)) b) + lp (ix2 0 b) - Z (ix3 0 (colOf (j (ix2 0 b))) b)) clipC := by
  pointwise [k0_pay9, rowIota]
  have e : IntOp.subi (j (ix2 0 b)) 1#32 = j (ix2 0 b) - 1#32 := rfl
  rw [e, max_zero_eq _ h1, max_zero_eq _ h2, sum_onehot (fun x => P (ix3 0 x b)), sum_onehot (fun x => Z (ix3 0 x b))]

/-- The lane's log-probabilities. -/
def lpK (x : Vec Ideal S2048x40 .f32) (b : Fin 40) (i : ℕ) : EReal := lpS (x (ix2 ⟨i % 2048, Nat.mod_lt _ (by decide)⟩ b))

/-- The lane's uniforms. -/
def uK (x : Vec Ideal S2048x40 .f32) (b : Fin 40) (i : ℕ) : EReal := x (ix2 ⟨i % 2048, Nat.mod_lt _ (by decide)⟩ b)

theorem stA_eq (x : Vec Ideal S2048x40 .f32) (b : Fin 40) (i : ℕ) (k : Fin 12) : stA x i (ix2 k b) = stM (lpK x b) i k := by
  induction i generalizing k with
  | zero => rw [stA, pay1_apply]; rfl
  | succ i ih =>
    rw [stA]
    refine Fin.cases ?_ (fun k => ?_) k
    · rw [pay3_zero]; rfl
    · rw [pay3_succ, ih, ih, rowX_apply, rowX_apply, pay14_apply, pay15_apply]; rfl

theorem praw_eq (x0 : Vec Ideal S2048x40 .f32) (t : ℕ) (j : IVec S1x40 32) (b : Fin 40)
    (h1 : (j (ix2 0 b)).toInt ≤ 11) (h2 : (j (ix2 0 b) - 1#32).toInt ≤ 11) :
    praw x0 t j (ix2 0 b) = prM (lpK x0 b) t (j (ix2 0 b)) := by
  rw [praw, pay9_apply _ _ _ _ _ h1 h2, planeA_zero, planeA_zero, stA_eq, stA_eq, rowX_apply, pay14_apply]
  rfl

theorem log1mexp_eq (j : IVec S1x40 32) (P Z : Vec Ideal S1x12x40 .f32) (lp : Vec Ideal S1x40 .f32) (u : Vec Ideal S1x40 .f32) (b : Fin 40) :
    k0_pay6 (k0_pay9 rowIota j P Z lp) (k0_pay10 rowIota j P Z lp) (k0_pay11 rowIota j P Z lp) (k0_pay12 rowIota j P Z lp) u (ix2 0 b) =
      BitVec.ofBool (decide (u (ix2 0 b) < Ideal.logistic (k0_pay9 rowIota j P Z lp (ix2 0 b) - lqS (k0_pay9 rowIota j P Z lp (ix2 0 b))))) := by
  have e10 : k0_pay10 rowIota j P Z lp (ix2 0 b) = BitVec.ofBool (decide (ln2C < k0_pay9 rowIota j P Z lp (ix2 0 b))) := by
    pointwise [k0_pay10]
  have e11 : k0_pay11 rowIota j P Z lp (ix2 0 b) = if ln2C < k0_pay9 rowIota j P Z lp (ix2 0 b) then ln2C else k0_pay9 rowIota j P Z lp (ix2 0 b) := by
    pointwise [k0_pay11, k0_pay10]
  have e12 : k0_pay12 rowIota j P Z lp (ix2 0 b) = Ideal.exp (if ln2C < k0_pay9 rowIota j P Z lp (ix2 0 b) then k0_pay9 rowIota j P Z lp (ix2 0 b) else ln2C) := by
    pointwise [k0_pay12, k0_pay10]
  rw [pay6_apply, e10, e11, e12]
  generalize k0_pay9 rowIota j P Z lp (ix2 0 b) = y
  unfold lqS Scalar.select
  by_cases h : ln2C < y <;> simp [h, zero_sub]

theorem pay6_eq (x0 x1 : Vec Ideal S2048x40 .f32) (t : ℕ) (j : IVec S1x40 32) (b : Fin 40)
    (h1 : (j (ix2 0 b)).toInt ≤ 11) (h2 : (j (ix2 0 b) - 1#32).toInt ≤ 11) :
    k0_pay6 (praw x0 t j) (pbig x0 t j) (psmall x0 t j) (pexp x0 t j) (rowX x1 (2047 - t)) (ix2 0 b) =
      bitM (lpK x0 b) (uK x1 b) t (j (ix2 0 b)) := by
  have e := praw_eq x0 t j b h1 h2
  unfold praw pbig psmall pexp at *
  rw [log1mexp_eq, e, rowX_apply]
  rfl

theorem stJ_eq (x0 x1 : Vec Ideal S2048x40 .f32) (b : Fin 40) (t : ℕ) (ht : t ≤ 2048) :
    stJ x0 x1 t (ix2 0 b) = cntM (lpK x0 b) (uK x1 b) t := by
  induction t with
  | zero => rw [stJ]; pointwise [k0_pay5]; rfl
  | succ t ih =>
    have e := ih (by omega)
    have r := cnt_range (lpK x0 b) (uK x1 b) t (by omega)
    have r' := pred_range (lpK x0 b) (uK x1 b) t (by omega)
    rw [stJ, pay8_apply, pay6_eq x0 x1 t _ b (by rw [e]; exact r.1) (by rw [e, r']; omega), e]
    rfl

theorem outRow_eq (x0 x1 : Vec Ideal S2048x40 .f32) (b : Fin 40) (t : ℕ) (ht : t < 2048) :
    outRow x0 x1 t (ix2 0 b) = Scalar.select (bitM (lpK x0 b) (uK x1 b) t (cntM (lpK x0 b) (uK x1 b) t)) 1 0 := by
  have e := stJ_eq x0 x1 b t ht.le
  have r := cnt_range (lpK x0 b) (uK x1 b) t ht.le
  have r' := pred_range (lpK x0 b) (uK x1 b) t ht
  rw [outRow, pay7_apply, pay6_eq x0 x1 t _ b (by rw [e]; exact r.1) (by rw [e, r']; omega), e]

/-- The kernel's answer at an index. -/
theorem resultOf_apply (a : Vec Ideal S40x2048x1 .f32) (b : Fin 40) (i : Fin 2048) :
    resultOf a (ix3 b i 0) = Scalar.select (bitM (lpK (thetaOf a) b) (uK drawsOf b) (2047 - i.val)
      (cntM (lpK (thetaOf a) b) (uK drawsOf b) (2047 - i.val))) 1 0 := by
  rw [← outRow_eq _ _ _ _ (by omega)]
  unfold resultOf
  pointwise []
  show outRow _ _ (2047 - i.val) (inRow (ix2 i b)) = _
  refine congrArg (outRow _ _ _) (funext fun a => ?_)
  refine Fin.cases rfl (fun a => Fin.cases rfl (fun a => a.elim0) a) a

end Cert.Proof.Eq
end
-- ==== Proof.REq.lean ====
/- The reference's value at an index is the scalar recurrence of its column. -/
module

public import proofs.«01_k».proof.Proof.RefStep
public import proofs.«01_k».proof.Proof.Spec
public import Idealize.ShloMosaic.Lib.Routing.OpsOne

@[expose] public section

set_option maxRecDepth 10000

noncomputable section

namespace Cert.Proof.Eq

open Idealize.ShloMosaic Idealize.SL.Sem Idealize.ShloMosaic.StableHlo Cert.ReferenceIdeal Cert.Proof.Ref

variable [Facts]
open Facts₀ Facts

theorem absR_eq (x : EReal) : FloatOps.absf (F := Ideal) (φ := .f32) x = max x (-x) := rfl

theorem lpR_apply (a : Vec Ideal S40x2048x1 .f32) (b : Fin 40) (i : Fin 2048) :
    lpR (F := Ideal) a (ix2 b i) = lpS (a (ix3 b i 0)) := by
  unfold lpR
  pointwise [mn_2_v3, mn_1_v1, mn_0_v0, fn_log_sigmoid_f, fn_softplus_f]
  rw [if_neg (fun h => h rfl)]
  rfl

theorem lqOf_apply (lp : Vec Ideal S40x2048 .f32) (y : S40x2048.Idx) :
    lqOf (F := Ideal) lp y = lqS (lp y) := by
  unfold lqOf
  pointwise [mn_8_v14, mn_3_v5, mn_7_v10, mn_4_v6, mn_3_cst_2, mn_7_v13, mn_6_v7, mn_5_cst_3, fn_where_f, fn_where_0_f, fn_where_1_f]
  rfl

theorem toInt_small (k : ℕ) (hk : k < 4096) : (BitVec.ofNat 32 k).toInt = k := by
  rw [BitVec.toInt_ofNat', Int.bmod_eq_of_le] <;> omega

/-- One row of a matrix, by its start index. -/
theorem row_read (X : Vec Ideal S2048x40 .f32) (st : Fin 2 → Int) (h) (k : ℕ) (hk : k < 2048) (h0 : st 0 = k) (h1 : st 1 = 0) (b : Fin 40) :
    Host.dynamicSlice S1x40 X st h (ix2 0 b) = X (ix2 ⟨k, hk⟩ b) := by
  pointwise []
  refine congrArg X (congrArg₂ ix2 (Fin.ext ?_) (Fin.ext ?_))
  · exact Host.clampedStart_of_le (s := S2048x40) (t := S1x40) rfl st 0 k h0 (by show k + 1 ≤ 2048; omega)
  · show Host.clampedStart _ _ _ _ _ + b.val = b.val
    rw [Host.clampedStart_of_le _ _ _ 0 h1 (by show 0 + 40 ≤ 40; omega)]; omega

theorem row_apply (X : Vec Ideal S2048x40 .f32) (k : ℕ) (hk : k < 2048) (b : Fin 40) :
    fn_dynamic_index_in_dim_f (F := Ideal) X (word (F := Ideal) k) (ix1 b) = X (ix2 ⟨k, hk⟩ b) := by
  rw [← row_read X (fun a => ((![word (F := Ideal) k, constantI S_ 32 0#32] : Fin 2 → IVec S_ 32) a (Shape.Idx.first h_S_)).toInt) sliceFits_S2048x40_S1x40 k hk
    (toInt_small k (by omega)) rfl b]
  pointwise [fn_dynamic_index_in_dim_f]

theorem stNext_zero (lpT lqT : Vec Ideal S2048x40 .f32) (k : (⟨S_, .i32⟩ : BufTy).Contents (Elt Ideal)) (st : Vec Ideal S40x12 .f32) (b : Fin 40) :
    stNext (F := Ideal) lpT lqT k st (ix2 b 0) = negC := by
  unfold stNext
  pointwise [wa_4_v60, wa_3_v59]

theorem wa_2_apply (st : Vec Ideal S40x12 .f32) (l q : Vec Ideal S40 .f32) (b : Fin 40) (k : Fin 11) :
    wa_2_v58 (F := Ideal) st l q (ix2 b k) = laeS (st (ix2 b k.castSucc) + l (ix1 b)) (st (ix2 b k.succ) + q (ix1 b)) := by
  pointwise [wa_2_v58]
  rw [if_neg (fun h => h rfl)]
  have h1 : (⟨1 + k.val, by omega⟩ : Fin 12) = k.succ := Fin.ext (by simp; omega)
  rw [h1]
  rfl

theorem stNext_succ (lpT lqT : Vec Ideal S2048x40 .f32) (k : (⟨S_, .i32⟩ : BufTy).Contents (Elt Ideal)) (st : Vec Ideal S40x12 .f32) (b : Fin 40) (c : Fin 11) :
    stNext (F := Ideal) lpT lqT k st (ix2 b c.succ) = wa_2_v58 st (wa_0_v39 lpT k) (wa_1_v40 lqT k) (ix2 b c) := by
  unfold stNext
  pointwise [wa_4_v60, wa_3_v59]
  rw [dif_neg (by simp)]
  exact congrArg (fun x => wa_2_v58 (F := Ideal) st (wa_0_v39 lpT k) (wa_1_v40 lqT k) (ix2 b x)) (Fin.ext (by simp))

theorem init_apply (b : Fin 40) (k : Fin 12) : mn_9_v18 (F := Ideal) (ix2 b k) = if k = 1 then 0 else negC := by
  unfold mn_9_v18
  have hl := fun w' => Routing.lands_col scatter_S40x12_S1_S40_0_1_1_0 rfl rfl (broadcastInDim S1 ![] bcast_S_S1 (constantI S_ 32 1#32)) (1 : Fin 12) (by pointwise []; rfl) w' b k
  by_cases h : k = 1
  · rw [if_pos h]
    exact Routing.scatter_set_hit scatter_S40x12_S1_S40_0_1_1_0 _ _ _ _ _ (fun y _ => Ideal.ofBits_zero_f32) (ix1 b) ((hl b).2 ⟨rfl, h⟩)
  · rw [if_neg h]
    refine (Routing.scatter_set_miss scatter_S40x12_S1_S40_0_1_1_0 _ _ _ _ (fun y hy => h ?_)).trans ?_
    · rw [eq_ix1 y] at hy
      exact ((hl _).1 hy).2
    · rfl

/-- One plane of a stack written at its start index. -/
theorem plane_write {α : Type} (S : S2048x40x12.Idx → α) (u : S1x40x12.Idx → α) (st : Fin 3 → Int) (h) (k : ℕ) (hk : k < 2048) (h0 : st 0 = k) (h1 : st 1 = 0) (h2 : st 2 = 0)
    (i : Fin 2048) (b : Fin 40) (c : Fin 12) :
    Host.dynamicUpdateSlice S u st h (ix3 i b c) = if i.val = k then u (ix3 0 b c) else S (ix3 i b c) := by
  have e0 : Host.clampedStart S2048x40x12 S1x40x12 rfl st 0 = k := Host.clampedStart_of_le _ _ _ _ h0 (by show k + 1 ≤ 2048; omega)
  have e1 : Host.clampedStart S2048x40x12 S1x40x12 rfl st 1 = 0 := Host.clampedStart_of_le _ _ _ 0 h1 (by show 0 + 40 ≤ 40; omega)
  have e2 : Host.clampedStart S2048x40x12 S1x40x12 rfl st 2 = 0 := Host.clampedStart_of_le _ _ _ 0 h2 (by show 0 + 12 ≤ 12; omega)
  pointwise []
  simp only [e0, e1, e2]
  by_cases hi : i.val = k
  · rw [if_pos hi, dif_pos (by omega)]; simp [hi]
  · rw [if_neg hi, dif_neg (by omega)]

theorem stack_apply (S : Vec Ideal S2048x40x12 .f32) (st : Vec Ideal S40x12 .f32) (k : ℕ) (hk : k < 2048) (i : Fin 2048) (b : Fin 40) (c : Fin 12) :
    wa_5_v61 (F := Ideal) S st (word (F := Ideal) k) (ix3 i b c) = if i.val = k then st (ix2 b c) else S (ix3 i b c) := by
  unfold wa_5_v61 fn_dynamic_update_index_in_dim_f
  refine (plane_write S _ _ _ k hk (toInt_small k (by omega)) rfl rfl i b c).trans ?_
  pointwise []

/-- One row of a matrix of words written at its start index. -/
theorem row_write {α : Type} (S : S2048x40.Idx → α) (u : S1x40.Idx → α) (st : Fin 2 → Int) (h) (k : ℕ) (hk : k < 2048) (h0 : st 0 = k) (h1 : st 1 = 0)
    (i : Fin 2048) (b : Fin 40) :
    Host.dynamicUpdateSlice S u st h (ix2 i b) = if i.val = k then u (ix2 0 b) else S (ix2 i b) := by
  have e0 : Host.clampedStart S2048x40 S1x40 rfl st 0 = k := Host.clampedStart_of_le _ _ _ _ h0 (by show k + 1 ≤ 2048; omega)
  have e1 : Host.clampedStart S2048x40 S1x40 rfl st 1 = 0 := Host.clampedStart_of_le _ _ _ 0 h1 (by show 0 + 40 ≤ 40; omega)
  pointwise []
  simp only [e0, e1]
  by_cases hi : i.val = k
  · rw [if_pos hi, dif_pos (by omega)]; simp [hi]
  · rw [if_neg hi, dif_neg (by omega)]

theorem draws_apply (S : IVec S2048x40 32) (x : IVec S40 32) (k : ℕ) (hk : k < 2048) (i : Fin 2048) (b : Fin 40) :
    wb_21_v124 (F := Ideal) S x (word (F := Ideal) k) (ix2 i b) = if i.val = k then x (ix1 b) else S (ix2 i b) := by
  unfold wb_21_v124 fn_dynamic_update_index_in_dim_9_f
  refine (row_write S _ _ _ k hk (toInt_small k (by omega)) rfl i b).trans ?_
  pointwise []

section Table
variable (lp : Vec Ideal S40x2048 .f32) (b : Fin 40)

/-- The lane's log-probabilities. -/
def lpH (i : ℕ) : EReal := lp (ix2 b ⟨i % 2048, Nat.mod_lt _ (by decide)⟩)

theorem lpT_apply (i : Fin 2048) : mn_10_v22_0 (F := Ideal) lp (ix2 i b) = lp (ix2 b i) := by
  unfold mn_10_v22_0; dsimp only [id]; pointwise []
theorem lqT_apply (i : Fin 2048) : mn_10_v22_1 (F := Ideal) lp (ix2 i b) = lp (ix2 b i) := by
  unfold mn_10_v22_1; dsimp only [id]; pointwise []

theorem stR_eq (i : ℕ) (hi : i ≤ 2048) (k : Fin 12) :
    stR (F := Ideal) (mn_10_v22_0 lp) (mn_10_v22_1 (lqOf lp)) i (ix2 b k) = stM (lpH lp b) i k := by
  induction i generalizing k with
  | zero => rw [stR, init_apply]; rfl
  | succ i ih =>
    have ih := ih (by omega)
    have hm : (⟨i, by omega⟩ : Fin 2048) = ⟨i % 2048, Nat.mod_lt _ (by decide)⟩ := Fin.ext (Nat.mod_eq_of_lt (by omega)).symm
    rw [stR]
    refine Fin.cases ?_ (fun k => ?_) k
    · rw [stNext_zero]; rfl
    · rw [stNext_succ, wa_2_apply, ih, ih, wa_0_v39, wa_1_v40, row_apply _ i (by omega), row_apply _ i (by omega), lpT_apply, lqT_apply, lqOf_apply, hm]
      rfl

theorem stackR_eq (n : ℕ) (hn : n ≤ 2048) (i : Fin 2048) (hi : i.val < n) (k : Fin 12) :
    stackR (F := Ideal) (mn_10_v22_0 lp) (mn_10_v22_1 (lqOf lp)) n (ix3 i b k) = stM (lpH lp b) (i.val + 1) k := by
  induction n with
  | zero => omega
  | succ n ih =>
    rw [stackR, stack_apply _ _ n (by omega)]
    by_cases h : i.val = n
    · rw [if_pos h, stR_eq _ _ _ (by omega), h]
    · rw [if_neg h]; exact ih (by omega) (by omega)

theorem arr_apply (i : Fin 2049) (k : Fin 12) :
    arrR (F := Ideal) (mn_10_v22_0 lp) (mn_10_v22_1 (lqOf lp)) (ix3 b i k) = stM (lpH lp b) i.val k := by
  unfold arrR
  pointwise [mn_13_v25, mn_12_v23, mn_12_v24]
  by_cases h : i.val < 1
  · rw [dif_pos h, init_apply, show i.val = 0 by omega]; rfl
  · rw [dif_neg h, stackR_eq _ _ _ le_rfl _ (by show i.val - 1 < 2048; omega)]
    exact congrArg (fun n => stM (lpH lp b) n k) (by show i.val - 1 + 1 = i.val; omega)

end Table

/-- The reference's index triples. -/
theorem gather3_apply {α : Type} (x : S40x2049x12.Idx → α) (idx : IVec S40x3 32) (b : Fin 40) :
    Host.gather gather_S40x2049x12_S40x3_S40_n_012_n_n_012_1_111 x idx (ix1 b) =
      x (ix3 ⟨min (idx (ix2 b 0)).toInt.toNat 39, by omega⟩ ⟨min (idx (ix2 b 1)).toInt.toNat 2048, by omega⟩ ⟨min (idx (ix2 b 2)).toInt.toNat 11, by omega⟩) := by
  have hmem : ∀ a : Fin 3, a ∈ ([0, 1, 2] : List (Fin 3)) := by decide
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil,
    GatherDims.offCoord_eq_zero _ _ _ (fun h => ((GatherDims.mem_sKept _ _).mp h).1 (hmem a))]
  simp only [Nat.add_zero]
  unfold GatherDims.start
  rw [dif_pos (show a ∈ (gather_S40x2049x12_S40x3_S40_n_012_n_n_012_1_111 : GatherDims S40x2049x12 S40x3 S40).startIndexMap from hmem a)]
  match a with
  | ⟨0, _⟩ =>
    refine congrArg (fun y => min (idx y).toInt.toNat 39) (funext fun c => Fin.ext ?_)
    match c with | ⟨0, _⟩ => rfl | ⟨1, _⟩ => rfl
  | ⟨1, _⟩ =>
    refine congrArg (fun y => min (idx y).toInt.toNat 2048) (funext fun c => Fin.ext ?_)
    match c with | ⟨0, _⟩ => rfl | ⟨1, _⟩ => rfl
  | ⟨2, _⟩ =>
    refine congrArg (fun y => min (idx y).toInt.toNat 11) (funext fun c => Fin.ext ?_)
    match c with | ⟨0, _⟩ => rfl | ⟨1, _⟩ => rfl

/-- One column of a matrix by its index word. -/
theorem gather1_apply {α : Type} (x : S40x2048.Idx → α) (idx : IVec S1 32) (b : Fin 40) :
    Host.gather gather_S40x2048_S1_S40_0_1_n_n_1_0_401 x idx (ix1 b) =
      x (ix2 b ⟨min (idx (ix1 0)).toInt.toNat 2047, by omega⟩) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  have hk : (gather_S40x2048_S1_S40_0_1_n_n_1_0_401 : GatherDims S40x2048 S1 S40).sKept = [0] := rfl
  match a with
  | ⟨0, _⟩ =>
    show (gather_S40x2048_S1_S40_0_1_n_n_1_0_401 : GatherDims S40x2048 S1 S40).start _ _ (0 : Fin 2) + 0 + (gather_S40x2048_S1_S40_0_1_n_n_1_0_401 : GatherDims S40x2048 S1 S40).offCoord _ (0 : Fin 2) = b.val
    unfold GatherDims.start GatherDims.offCoord
    rw [dif_neg (show (0 : Fin 2) ∉ (gather_S40x2048_S1_S40_0_1_n_n_1_0_401 : GatherDims S40x2048 S1 S40).startIndexMap from (show (0 : Fin 2) ∉ ([1] : List (Fin 2)) by decide)), dif_pos (by rw [hk]; exact List.mem_singleton.2 rfl)]
    have q : ∀ X : Fin 1, ((ix1 b : S40.Idx) X).val = b.val := fun X => by
      obtain rfl : X = 0 := Subsingleton.elim _ _
      rfl
    rw [Nat.zero_add]
    exact q _
  | ⟨1, _⟩ =>
    show (gather_S40x2048_S1_S40_0_1_n_n_1_0_401 : GatherDims S40x2048 S1 S40).start _ _ (1 : Fin 2) + 0 + (gather_S40x2048_S1_S40_0_1_n_n_1_0_401 : GatherDims S40x2048 S1 S40).offCoord _ (1 : Fin 2) = min (idx (ix1 0)).toInt.toNat 2047
    rw [GatherDims.offCoord_eq_zero _ _ _ (by rw [hk]; decide)]
    unfold GatherDims.start
    rw [dif_pos (show (1 : Fin 2) ∈ (gather_S40x2048_S1_S40_0_1_n_n_1_0_401 : GatherDims S40x2048 S1 S40).startIndexMap from (show (1 : Fin 2) ∈ ([1] : List (Fin 2)) by decide))]
    refine congrArg (fun y => min (idx y).toInt.toNat 2047) (funext fun c => Fin.ext ?_)
    match c with | ⟨0, _⟩ => rfl

/-- A nonnegative index word is not wrapped. -/
theorem wrap_nonneg (x y : BitVec 32) (h : 0 ≤ x.toInt) : Scalar.select (IntOp.cmpi .slt x 0#32) y x = x := by
  have : ¬ IntOp.cmpi .slt x 0#32 = 1#1 := by
    show ¬ BitVec.ofBool (BitVec.slt x 0#32) = 1#1
    intro hh
    have h2 : BitVec.slt x 0#32 = true := by
      revert hh; cases BitVec.slt x 0#32 <;> decide
    simp [BitVec.slt] at h2; omega
  unfold Scalar.select
  exact if_neg this

/-- One word of a vector, by its start index. -/
theorem word_read (X : IVec S2048 32) (st : Fin 1 → Int) (h) (k : ℕ) (hk : k < 2048) (h0 : st 0 = k) :
    Host.dynamicSlice S1 X st h (ix1 0) = X (ix1 ⟨k, hk⟩) := by
  pointwise []
  refine congrArg X (congrArg ix1 (Fin.ext ?_))
  exact Host.clampedStart_of_le (s := S2048) (t := S1) rfl st 0 k h0 (by show k + 1 ≤ 2048; omega)

theorem item_apply (t : ℕ) (ht : t < 2048) : wb_0_v39 (F := Ideal) mn_14_v31 (word (F := Ideal) t) ix0 = BitVec.ofNat 32 (2048 - t) := by
  have e := word_read (mn_14_v31 (F := Ideal)) (fun a => ((![word (F := Ideal) t] : Fin 1 → IVec S_ 32) a (Shape.Idx.first h_S_)).toInt) sliceFits_S2048_S1 t ht
    (toInt_small t (by omega))
  have e2 : mn_14_v31 (F := Ideal) (ix1 ⟨t, ht⟩) = BitVec.ofNat 32 (2048 - t) := by
    pointwise [mn_14_v31]
    apply BitVec.eq_of_toNat_eq
    show (2048#32 + 4294967295#32 * BitVec.ofNat 32 t).toNat = _
    simp <;> omega
  rw [← e2, ← e]
  unfold wb_0_v39
  pointwise [fn_dynamic_index_in_dim_2_f]

section Cols
variable (k : (⟨S_, .i32⟩ : BufTy).Contents (Elt Ideal)) (j : IVec S40 32) (b : Fin 40)

theorem cols4_0 : wb_4_v67 (F := Ideal) (wb_3_v64 mn_14_v26) (wb_3_v65 (wb_2_v44 k)) (wb_3_v66 j) (ix2 b 0) = BitVec.ofNat 32 b.val := by
  pointwise [wb_4_v67, wb_3_v64, mn_14_v26]
  exact wrap_nonneg _ _ (by rw [toInt_small _ (by omega)]; omega)

theorem cols4_1 (t : ℕ) (ht : t < 2048) (hk : k ix0 = BitVec.ofNat 32 (2048 - t)) :
    wb_4_v67 (F := Ideal) (wb_3_v64 mn_14_v26) (wb_3_v65 (wb_2_v44 k)) (wb_3_v66 j) (ix2 b 1) = BitVec.ofNat 32 (2047 - t) := by
  have e : IntOp.addi 0#32 (IntOp.subi (k ix0) 1#32) = BitVec.ofNat 32 (2047 - t) := by
    rw [hk]
    apply BitVec.eq_of_toNat_eq
    show (0#32 + (BitVec.ofNat 32 (2048 - t) - 1#32)).toNat = _
    simp <;> omega
  pointwise [wb_4_v67, wb_3_v65, wb_2_v44]
  rw [e]
  exact wrap_nonneg _ _ (by rw [toInt_small _ (by omega)]; omega)

theorem cols4_2 : wb_4_v67 (F := Ideal) (wb_3_v64 mn_14_v26) (wb_3_v65 (wb_2_v44 k)) (wb_3_v66 j) (ix2 b 2) = IntOp.maxsi (j (ix1 b) - 1#32) 0#32 := by
  pointwise [wb_4_v67, wb_3_v66]
  exact wrap_nonneg _ _ (by rw [max_toInt]; omega)

theorem cols7_0 : wb_7_v91 (F := Ideal) (wb_6_v88 mn_14_v26) (wb_6_v89 (wb_2_v44 k)) (wb_6_v90 j) (ix2 b 0) = BitVec.ofNat 32 b.val := by
  pointwise [wb_7_v91, wb_6_v88, mn_14_v26]
  exact wrap_nonneg _ _ (by rw [toInt_small _ (by omega)]; omega)

theorem cols7_1 (t : ℕ) (ht : t < 2048) (hk : k ix0 = BitVec.ofNat 32 (2048 - t)) :
    wb_7_v91 (F := Ideal) (wb_6_v88 mn_14_v26) (wb_6_v89 (wb_2_v44 k)) (wb_6_v90 j) (ix2 b 1) = BitVec.ofNat 32 (2048 - t) := by
  have e : IntOp.addi (IntOp.addi 0#32 (IntOp.subi (k ix0) 1#32)) 1#32 = BitVec.ofNat 32 (2048 - t) := by
    rw [hk]
    apply BitVec.eq_of_toNat_eq
    show (0#32 + (BitVec.ofNat 32 (2048 - t) - 1#32) + 1#32).toNat = _
    simp <;> omega
  pointwise [wb_7_v91, wb_6_v89, wb_2_v44]
  rw [e]
  exact wrap_nonneg _ _ (by rw [toInt_small _ (by omega)]; omega)

theorem cols7_2 : wb_7_v91 (F := Ideal) (wb_6_v88 mn_14_v26) (wb_6_v89 (wb_2_v44 k)) (wb_6_v90 j) (ix2 b 2) = IntOp.maxsi (j (ix1 b)) 0#32 := by
  pointwise [wb_7_v91, wb_6_v90]
  exact wrap_nonneg _ _ (by rw [max_toInt]; omega)

end Cols

theorem take_apply (lp : Vec Ideal S40x2048 .f32) (w : IVec S_ 32) (i : Fin 2048) (hw : w ix0 = BitVec.ofNat 32 i.val) (b : Fin 40) :
    fn_take_f (F := Ideal) lp w (ix1 b) = lp (ix2 b i) := by
  pointwise [fn_take_f, fn_where_4_f]
  have hn : (w ix0).toInt = i.val := by rw [hw, toInt_small _ (by omega)]
  rw [wrap_nonneg _ _ (by rw [hn]; omega), gather1_apply]
  have hge : IntOp.cmpi .sge (w ix0) 0#32 = 1#1 := by
    show BitVec.ofBool (BitVec.sle 0#32 (w ix0)) = 1#1
    rw [show BitVec.sle 0#32 (w ix0) = true by simp [BitVec.sle, hn]]; rfl
  have hle : IntOp.cmpi .sle (w ix0) 2047#32 = 1#1 := by
    show BitVec.ofBool (BitVec.sle (w ix0) 2047#32) = 1#1
    rw [show BitVec.sle (w ix0) 2047#32 = true by
      simp only [BitVec.sle, hn, decide_eq_true_eq]
      show (i.val : ℤ) ≤ 2047
      omega]; rfl
  rw [hge, hle]
  have hg : ∀ f : Fin 1 → BitVec 1, f 0 = 1#1 → Finset.fold IntOp.andi 1#1 f Finset.univ = 1#1 := by
    intro f hf
    rw [show (Finset.univ : Finset (Fin 1)) = {0} from rfl, Finset.fold_singleton, hf]; rfl
  rw [hg _ rfl]
  refine congrArg lp (congrArg (ix2 b) (Fin.ext ?_))
  have hbc : ∀ v : IVec S_ 32, broadcastInDim S1 ![] bcast_S_S1 v (ix1 0) = v ix0 := by intro v; pointwise []
  show min (BitVec.toInt (broadcastInDim (s := S_) S1 ![] bcast_S_S1 (select (cmpi .slt w (constantI S_ 32 0#32)) (addi w (constantI S_ 32 2048#32)) w) (ix1 0))).toNat 2047 = _
  rw [hbc]
  show min (Scalar.select (IntOp.cmpi .slt (w ix0) 0#32) (IntOp.addi (w ix0) 2048#32) (w ix0)).toInt.toNat 2047 = i.val
  rw [wrap_nonneg _ _ (by rw [hn]; omega), hn]; omega

theorem prob_apply (p : Vec Ideal S40 .f32) (b : Fin 40) : probOf (F := Ideal) p (ix1 b) = Ideal.logistic (p (ix1 b) - lqS (p (ix1 b))) := by
  unfold probOf
  pointwise [wb_18_v116, wb_17_v109, wb_12_v100, wb_16_v105, wb_13_v101, wb_12_cst_41, wb_16_v108, wb_15_v102, wb_14_cst_42, fn_where_5_f, fn_where_6_f, fn_where_7_f]
  rfl

theorem bit_apply (u p : Vec Ideal S40 .f32) (b : Fin 40) :
    wb_19_v118 (F := Ideal) u p (ix1 b) = (BitVec.ofBool (decide (u (ix1 b) < p (ix1 b)))).setWidth 32 := by
  pointwise [wb_19_v118]

theorem next_apply (u p : Vec Ideal S40 .f32) (j : IVec S40 32) (b : Fin 40) :
    wb_20_v123 (F := Ideal) (wb_19_v120 u p) (wb_19_v122 j) j (ix1 b) =
      Scalar.select (BitVec.ofBool (decide (u (ix1 b) < p (ix1 b)))) (j (ix1 b) - 1#32) (j (ix1 b)) := by
  pointwise [wb_20_v123, wb_19_v120, wb_19_v122, fn_where_8_f]
  by_cases h : u (ix1 b) < p (ix1 b) <;> simp only [h, decide_true, decide_false] <;> rfl

theorem uni_apply (U : Vec Ideal S2048x40 .f32) (t : ℕ) (ht : t < 2048) (b : Fin 40) :
    wb_1_v40 (F := Ideal) U (word (F := Ideal) t) (ix1 b) = U (ix2 ⟨t, ht⟩ b) := by
  rw [← row_read U (fun a => ((![word (F := Ideal) t, constantI S_ 32 0#32] : Fin 2 → IVec S_ 32) a (Shape.Idx.first h_S_)).toInt) sliceFits_S2048x40_S1x40 t ht
    (toInt_small t (by omega)) rfl b]
  pointwise [wb_1_v40, fn_dynamic_index_in_dim_3_f]

section Trip
variable (U : Vec Ideal S2048x40 .f32) (lp : Vec Ideal S40x2048 .f32) (b : Fin 40)

/-- The table the second loop reads. -/
abbrev tabR : Vec Ideal S40x2049x12 .f32 := arrR (F := Ideal) (mn_10_v22_0 lp) (mn_10_v22_1 (lqOf lp))

theorem prawR_eq (t : ℕ) (ht : t < 2048) (j : IVec S40 32) :
    prawR (F := Ideal) mn_14_v31 mn_14_v26 (tabR lp) lp (word (F := Ideal) t) j (ix1 b) = prM (lpH lp b) t (j (ix1 b)) := by
  unfold prawR
  have hk := item_apply t ht
  generalize wb_0_v39 (F := Ideal) mn_14_v31 (word (F := Ideal) t) = k at hk
  have e : ∀ x y z : Vec Ideal S40 .f32, wb_11_v98 (F := Ideal) x y z (ix1 b) = min (x (ix1 b) + y (ix1 b) - z (ix1 b)) clipC := by
    intro x y z
    pointwise [wb_11_v98]
  have hs : wb_9_v93 (F := Ideal) k ix0 = BitVec.ofNat 32 (2047 - t) := by
    show k ix0 - 1#32 = _
    rw [hk]
    apply BitVec.eq_of_toNat_eq
    show (BitVec.ofNat 32 (2048 - t) - 1#32).toNat = _
    simp <;> omega
  have hc : ∀ w : BitVec 32, (⟨min (IntOp.maxsi w 0#32).toInt.toNat 11, by omega⟩ : Fin 12) = colOf w := fun w => Fin.ext (by
    show min (IntOp.maxsi w 0#32).toInt.toNat 11 = min w.toInt.toNat 11
    rw [max_toInt]; omega)
  rw [e, wb_10_v94, take_apply lp _ ⟨2047 - t, by omega⟩ hs, wb_5_v68, wb_8_v92]
  show min (Host.gather _ _ _ _ + _ - Host.gather _ _ _ _) _ = _
  rw [gather3_apply, gather3_apply]
  simp only [cols4_0, cols4_1 k j b t ht hk, cols4_2, cols7_0, cols7_1 k j b t ht hk, cols7_2, hc]
  have hb : (⟨min (BitVec.ofNat 32 b.val).toInt.toNat 39, by omega⟩ : Fin 40) = b := Fin.ext (by
    show min (BitVec.ofNat 32 b.val).toInt.toNat 39 = b.val
    rw [toInt_small _ (by omega)]; omega)
  unfold tabR
  rw [hb, arr_apply, arr_apply]
  have h1 : min (BitVec.ofNat 32 (2047 - t)).toInt.toNat 2048 = 2047 - t := by rw [toInt_small _ (by omega)]; omega
  have h2 : min (BitVec.ofNat 32 (2048 - t)).toInt.toNat 2048 = 2048 - t := by rw [toInt_small _ (by omega)]; omega
  have h3 : (⟨2047 - t, by omega⟩ : Fin 2048) = ⟨(2047 - t) % 2048, Nat.mod_lt _ (by decide)⟩ := Fin.ext (by
    show 2047 - t = (2047 - t) % 2048
    omega)
  simp only [h1, h2, h3]
  rfl

/-- The lane's uniforms, by item. -/
def uH (i : ℕ) : EReal := U (ix2 ⟨2047 - i % 2048, by omega⟩ b)

theorem uni_eq (t : ℕ) (ht : t < 2048) : wb_1_v40 (F := Ideal) U (word (F := Ideal) t) (ix1 b) = uH U b (2047 - t) := by
  rw [uni_apply U t ht b]
  refine congrArg (fun i => U (ix2 i b)) (Fin.ext ?_)
  show t = 2047 - (2047 - t) % 2048
  omega

theorem jR_eq (t : ℕ) (ht : t ≤ 2048) :
    jR (F := Ideal) mn_14_v31 U mn_14_v26 (tabR lp) lp t (ix1 b) = cntM (lpH lp b) (uH U b) t := by
  induction t with
  | zero =>
    show mn_15_v34_6 (F := Ideal) (ix1 b) = 11#32
    unfold mn_15_v34_6; dsimp only [id]; pointwise []
  | succ t ih =>
    rw [jR, jNext, next_apply, prob_apply, uni_eq U b t (by omega), prawR_eq lp b t (by omega), ih (by omega)]
    rfl

theorem xR_eq (t : ℕ) (ht : t < 2048) :
    xR (F := Ideal) mn_14_v31 U mn_14_v26 (tabR lp) lp (word (F := Ideal) t) (jR (F := Ideal) mn_14_v31 U mn_14_v26 (tabR lp) lp t) (ix1 b) =
      (bitM (lpH lp b) (uH U b) t (cntM (lpH lp b) (uH U b) t)).setWidth 32 := by
  rw [xR, bit_apply, prob_apply, uni_eq U b t ht, prawR_eq lp b t ht, jR_eq U lp b t ht.le]
  rfl

theorem xsR_eq (n : ℕ) (hn : n ≤ 2048) (i : Fin 2048) (hi : i.val < n) :
    xsR (F := Ideal) mn_14_v31 U mn_14_v26 (tabR lp) lp n (ix2 i b) =
      (bitM (lpH lp b) (uH U b) i.val (cntM (lpH lp b) (uH U b) i.val)).setWidth 32 := by
  induction n with
  | zero => omega
  | succ n ih =>
    rw [xsR, draws_apply _ _ n (by omega)]
    by_cases h : i.val = n
    · rw [if_pos h, xR_eq U lp b n (by omega), h]
    · rw [if_neg h]; exact ih (by omega) (by omega)

end Trip

/-- The reference's answer at an index. -/
theorem resultR_apply (a : Vec Ideal S40x2048x1 .f32) (b : Fin 40) (i : Fin 2048) :
    resultR (F := Ideal) a (ix3 b i 0) = Scalar.select (bitM (lpH (lpR (F := Ideal) a) b) (uH (mn_0_cst (F := Ideal)) b) (2047 - i.val)
      (cntM (lpH (lpR (F := Ideal) a) b) (uH (mn_0_cst (F := Ideal)) b) (2047 - i.val))) 1 0 := by
  have e := xsR_eq (mn_0_cst (F := Ideal)) (lpR (F := Ideal) a) b 2048 le_rfl ⟨2047 - i.val, by omega⟩ (by show 2047 - i.val < 2048; omega)
  have hz : ∀ w : BitVec 1, FloatOps.sitofp (F := Ideal) .f32 (w.setWidth 32) = Scalar.select w (1 : EReal) 0 := by
    intro w
    rcases BitVec.eq_zero_or_eq_one w with h | h <;> subst h
    · show (((BitVec.setWidth 32 0#1).toInt : ℝ) : EReal) = 0
      norm_num
    · show (((BitVec.setWidth 32 1#1).toInt : ℝ) : EReal) = 1
      norm_num
  rw [← hz, ← e]
  unfold resultR samplesR
  pointwise [mn_18_v37, mn_17_v35, fn_flip_f]
  refine congrArg (fun y => FloatOps.sitofp (F := Ideal) .f32 (xsR (F := Ideal) _ _ _ _ _ 2048 (ix2 y b))) (Fin.ext ?_)
  show 2048 - (i.val + 1) = 2047 - i.val
  omega

end Cert.Proof.Eq
end
-- ==== Proof.Lit.lean ====
/- The literal tables read at a position. -/
module

public import proofs.«01_k».proof.KernelIdeal
public import proofs.«01_k».proof.ReferenceIdeal

@[expose] public section

noncomputable section

namespace Cert.Proof.Table

theorem litR : ∀ x : Fin 81920, Cert.ReferenceIdeal.lit0 x = Cert.ReferenceIdeal.lit0t x.val := fun ⟨i, _⟩ => @rfl _ (Cert.ReferenceIdeal.lit0t i)

theorem litK : ∀ x : Fin 81920, Cert.KernelIdeal.lit0 x = Cert.KernelIdeal.lit0t x.val := fun ⟨i, _⟩ => @rfl _ (Cert.KernelIdeal.lit0t i)

end Cert.Proof.Table
end
-- ==== Proof.Table.lean ====
/- The two programs' tables of uniform draws are one table, read in opposite row orders. -/
module

public import proofs.«01_k».proof.KernelIdeal
public import proofs.«01_k».proof.ReferenceIdeal

@[expose] public section

set_option maxRecDepth 100000

noncomputable section

namespace Cert.Proof.Table

/-- Whether row `t` of the one table is row `2047 - t` of the other. -/
def rowOk (t : ℕ) : Bool :=
  (List.range 40).all fun b => decide (Cert.ReferenceIdeal.lit0t (40 * t + b) = Cert.KernelIdeal.lit0t (40 * (2047 - t) + b))

/-- Whether the 32 rows from `a` on are. -/
def rowsOk (a : ℕ) : Bool := (List.range 32).all fun t => rowOk (a + t)

/-- Eight runs of 32 rows are 256 rows. -/
theorem rows_join (a : ℕ) (h : ∀ s, s < 8 → rowsOk (a + 32 * s) = true) (t : ℕ) (ht : t < 256) : rowOk (a + t) = true := by
  have hr := List.all_eq_true.1 (h (t / 32) (by omega)) (t % 32) (List.mem_range.2 (Nat.mod_lt _ (by decide)))
  have e : a + 32 * (t / 32) + t % 32 = a + t := by omega
  rwa [e] at hr

end Cert.Proof.Table

end
-- ==== Proof.Table0.lean ====
/- The two programs' tables of uniform draws are one table, read in opposite row orders: rows 0 to 255. -/
module

public import proofs.«01_k».proof.Proof.Table

@[expose] public section

set_option maxRecDepth 100000

noncomputable section

namespace Cert.Proof.Table

theorem rows0_0 : rowsOk (0 + 32 * 0) = true := by decide +kernel

theorem rows0_1 : rowsOk (0 + 32 * 1) = true := by decide +kernel

theorem rows0_2 : rowsOk (0 + 32 * 2) = true := by decide +kernel

theorem rows0_3 : rowsOk (0 + 32 * 3) = true := by decide +kernel

theorem rows0_4 : rowsOk (0 + 32 * 4) = true := by decide +kernel

theorem rows0_5 : rowsOk (0 + 32 * 5) = true := by decide +kernel

theorem rows0_6 : rowsOk (0 + 32 * 6) = true := by decide +kernel

theorem rows0_7 : rowsOk (0 + 32 * 7) = true := by decide +kernel

theorem rows0_ok : ∀ t, t < 256 → rowOk (0 + t) = true :=
  rows_join 0 fun s hs => match s, hs with
    | 0, _ => rows0_0
    | 1, _ => rows0_1
    | 2, _ => rows0_2
    | 3, _ => rows0_3
    | 4, _ => rows0_4
    | 5, _ => rows0_5
    | 6, _ => rows0_6
    | 7, _ => rows0_7

end Cert.Proof.Table

end
-- ==== Proof.Table1.lean ====
/- The two programs' tables of uniform draws are one table, read in opposite row orders: rows 256 to 511. -/
module

public import proofs.«01_k».proof.Proof.Table

@[expose] public section

set_option maxRecDepth 100000

noncomputable section

namespace Cert.Proof.Table

theorem rows1_0 : rowsOk (256 + 32 * 0) = true := by decide +kernel

theorem rows1_1 : rowsOk (256 + 32 * 1) = true := by decide +kernel

theorem rows1_2 : rowsOk (256 + 32 * 2) = true := by decide +kernel

theorem rows1_3 : rowsOk (256 + 32 * 3) = true := by decide +kernel

theorem rows1_4 : rowsOk (256 + 32 * 4) = true := by decide +kernel

theorem rows1_5 : rowsOk (256 + 32 * 5) = true := by decide +kernel

theorem rows1_6 : rowsOk (256 + 32 * 6) = true := by decide +kernel

theorem rows1_7 : rowsOk (256 + 32 * 7) = true := by decide +kernel

theorem rows1_ok : ∀ t, t < 256 → rowOk (256 + t) = true :=
  rows_join 256 fun s hs => match s, hs with
    | 0, _ => rows1_0
    | 1, _ => rows1_1
    | 2, _ => rows1_2
    | 3, _ => rows1_3
    | 4, _ => rows1_4
    | 5, _ => rows1_5
    | 6, _ => rows1_6
    | 7, _ => rows1_7

end Cert.Proof.Table

end
-- ==== Proof.Table2.lean ====
/- The two programs' tables of uniform draws are one table, read in opposite row orders: rows 512 to 767. -/
module

public import proofs.«01_k».proof.Proof.Table

@[expose] public section

set_option maxRecDepth 100000

noncomputable section

namespace Cert.Proof.Table

theorem rows2_0 : rowsOk (512 + 32 * 0) = true := by decide +kernel

theorem rows2_1 : rowsOk (512 + 32 * 1) = true := by decide +kernel

theorem rows2_2 : rowsOk (512 + 32 * 2) = true := by decide +kernel

theorem rows2_3 : rowsOk (512 + 32 * 3) = true := by decide +kernel

theorem rows2_4 : rowsOk (512 + 32 * 4) = true := by decide +kernel

theorem rows2_5 : rowsOk (512 + 32 * 5) = true := by decide +kernel

theorem rows2_6 : rowsOk (512 + 32 * 6) = true := by decide +kernel

theorem rows2_7 : rowsOk (512 + 32 * 7) = true := by decide +kernel

theorem rows2_ok : ∀ t, t < 256 → rowOk (512 + t) = true :=
  rows_join 512 fun s hs => match s, hs with
    | 0, _ => rows2_0
    | 1, _ => rows2_1
    | 2, _ => rows2_2
    | 3, _ => rows2_3
    | 4, _ => rows2_4
    | 5, _ => rows2_5
    | 6, _ => rows2_6
    | 7, _ => rows2_7

end Cert.Proof.Table

end
-- ==== Proof.Table3.lean ====
/- The two programs' tables of uniform draws are one table, read in opposite row orders: rows 768 to 1023. -/
module

public import proofs.«01_k».proof.Proof.Table

@[expose] public section

set_option maxRecDepth 100000

noncomputable section

namespace Cert.Proof.Table

theorem rows3_0 : rowsOk (768 + 32 * 0) = true := by decide +kernel

theorem rows3_1 : rowsOk (768 + 32 * 1) = true := by decide +kernel

theorem rows3_2 : rowsOk (768 + 32 * 2) = true := by decide +kernel

theorem rows3_3 : rowsOk (768 + 32 * 3) = true := by decide +kernel

theorem rows3_4 : rowsOk (768 + 32 * 4) = true := by decide +kernel

theorem rows3_5 : rowsOk (768 + 32 * 5) = true := by decide +kernel

theorem rows3_6 : rowsOk (768 + 32 * 6) = true := by decide +kernel

theorem rows3_7 : rowsOk (768 + 32 * 7) = true := by decide +kernel

theorem rows3_ok : ∀ t, t < 256 → rowOk (768 + t) = true :=
  rows_join 768 fun s hs => match s, hs with
    | 0, _ => rows3_0
    | 1, _ => rows3_1
    | 2, _ => rows3_2
    | 3, _ => rows3_3
    | 4, _ => rows3_4
    | 5, _ => rows3_5
    | 6, _ => rows3_6
    | 7, _ => rows3_7

end Cert.Proof.Table

end
-- ==== Proof.Table4.lean ====
/- The two programs' tables of uniform draws are one table, read in opposite row orders: rows 1024 to 1279. -/
module

public import proofs.«01_k».proof.Proof.Table

@[expose] public section

set_option maxRecDepth 100000

noncomputable section

namespace Cert.Proof.Table

theorem rows4_0 : rowsOk (1024 + 32 * 0) = true := by decide +kernel

theorem rows4_1 : rowsOk (1024 + 32 * 1) = true := by decide +kernel

theorem rows4_2 : rowsOk (1024 + 32 * 2) = true := by decide +kernel

theorem rows4_3 : rowsOk (1024 + 32 * 3) = true := by decide +kernel

theorem rows4_4 : rowsOk (1024 + 32 * 4) = true := by decide +kernel

theorem rows4_5 : rowsOk (1024 + 32 * 5) = true := by decide +kernel

theorem rows4_6 : rowsOk (1024 + 32 * 6) = true := by decide +kernel

theorem rows4_7 : rowsOk (1024 + 32 * 7) = true := by decide +kernel

theorem rows4_ok : ∀ t, t < 256 → rowOk (1024 + t) = true :=
  rows_join 1024 fun s hs => match s, hs with
    | 0, _ => rows4_0
    | 1, _ => rows4_1
    | 2, _ => rows4_2
    | 3, _ => rows4_3
    | 4, _ => rows4_4
    | 5, _ => rows4_5
    | 6, _ => rows4_6
    | 7, _ => rows4_7

end Cert.Proof.Table

end
-- ==== Proof.Table5.lean ====
/- The two programs' tables of uniform draws are one table, read in opposite row orders: rows 1280 to 1535. -/
module

public import proofs.«01_k».proof.Proof.Table

@[expose] public section

set_option maxRecDepth 100000

noncomputable section

namespace Cert.Proof.Table

theorem rows5_0 : rowsOk (1280 + 32 * 0) = true := by decide +kernel

theorem rows5_1 : rowsOk (1280 + 32 * 1) = true := by decide +kernel

theorem rows5_2 : rowsOk (1280 + 32 * 2) = true := by decide +kernel

theorem rows5_3 : rowsOk (1280 + 32 * 3) = true := by decide +kernel

theorem rows5_4 : rowsOk (1280 + 32 * 4) = true := by decide +kernel

theorem rows5_5 : rowsOk (1280 + 32 * 5) = true := by decide +kernel

theorem rows5_6 : rowsOk (1280 + 32 * 6) = true := by decide +kernel

theorem rows5_7 : rowsOk (1280 + 32 * 7) = true := by decide +kernel

theorem rows5_ok : ∀ t, t < 256 → rowOk (1280 + t) = true :=
  rows_join 1280 fun s hs => match s, hs with
    | 0, _ => rows5_0
    | 1, _ => rows5_1
    | 2, _ => rows5_2
    | 3, _ => rows5_3
    | 4, _ => rows5_4
    | 5, _ => rows5_5
    | 6, _ => rows5_6
    | 7, _ => rows5_7

end Cert.Proof.Table

end
-- ==== Proof.Table6.lean ====
/- The two programs' tables of uniform draws are one table, read in opposite row orders: rows 1536 to 1791. -/
module

public import proofs.«01_k».proof.Proof.Table

@[expose] public section

set_option maxRecDepth 100000

noncomputable section

namespace Cert.Proof.Table

theorem rows6_0 : rowsOk (1536 + 32 * 0) = true := by decide +kernel

theorem rows6_1 : rowsOk (1536 + 32 * 1) = true := by decide +kernel

theorem rows6_2 : rowsOk (1536 + 32 * 2) = true := by decide +kernel

theorem rows6_3 : rowsOk (1536 + 32 * 3) = true := by decide +kernel

theorem rows6_4 : rowsOk (1536 + 32 * 4) = true := by decide +kernel

theorem rows6_5 : rowsOk (1536 + 32 * 5) = true := by decide +kernel

theorem rows6_6 : rowsOk (1536 + 32 * 6) = true := by decide +kernel

theorem rows6_7 : rowsOk (1536 + 32 * 7) = true := by decide +kernel

theorem rows6_ok : ∀ t, t < 256 → rowOk (1536 + t) = true :=
  rows_join 1536 fun s hs => match s, hs with
    | 0, _ => rows6_0
    | 1, _ => rows6_1
    | 2, _ => rows6_2
    | 3, _ => rows6_3
    | 4, _ => rows6_4
    | 5, _ => rows6_5
    | 6, _ => rows6_6
    | 7, _ => rows6_7

end Cert.Proof.Table

end
-- ==== Proof.Table7.lean ====
/- The two programs' tables of uniform draws are one table, read in opposite row orders: rows 1792 to 2047. -/
module

public import proofs.«01_k».proof.Proof.Table

@[expose] public section

set_option maxRecDepth 100000

noncomputable section

namespace Cert.Proof.Table

theorem rows7_0 : rowsOk (1792 + 32 * 0) = true := by decide +kernel

theorem rows7_1 : rowsOk (1792 + 32 * 1) = true := by decide +kernel

theorem rows7_2 : rowsOk (1792 + 32 * 2) = true := by decide +kernel

theorem rows7_3 : rowsOk (1792 + 32 * 3) = true := by decide +kernel

theorem rows7_4 : rowsOk (1792 + 32 * 4) = true := by decide +kernel

theorem rows7_5 : rowsOk (1792 + 32 * 5) = true := by decide +kernel

theorem rows7_6 : rowsOk (1792 + 32 * 6) = true := by decide +kernel

theorem rows7_7 : rowsOk (1792 + 32 * 7) = true := by decide +kernel

theorem rows7_ok : ∀ t, t < 256 → rowOk (1792 + t) = true :=
  rows_join 1792 fun s hs => match s, hs with
    | 0, _ => rows7_0
    | 1, _ => rows7_1
    | 2, _ => rows7_2
    | 3, _ => rows7_3
    | 4, _ => rows7_4
    | 5, _ => rows7_5
    | 6, _ => rows7_6
    | 7, _ => rows7_7

end Cert.Proof.Table

end
-- ==== Proof.Answer.lean ====
/- The two programs' answers are one function of the argument. -/
module

public import proofs.«01_k».proof.Proof.KEq
public import proofs.«01_k».proof.Proof.REq
public import proofs.«01_k».proof.Proof.Lit
public import proofs.«01_k».proof.Proof.Table0
public import proofs.«01_k».proof.Proof.Table1
public import proofs.«01_k».proof.Proof.Table2
public import proofs.«01_k».proof.Proof.Table3
public import proofs.«01_k».proof.Proof.Table4
public import proofs.«01_k».proof.Proof.Table5
public import proofs.«01_k».proof.Proof.Table6
public import proofs.«01_k».proof.Proof.Table7

@[expose] public section

noncomputable section

namespace Cert.Proof.Eq

open Idealize.ShloMosaic Cert.Proof.Table

theorem rowOk_all (t : ℕ) (ht : t < 2048) : rowOk t = true := by
  have hd : t = 256 * (t / 256) + t % 256 := (Nat.div_add_mod t 256).symm
  have hm : t % 256 < 256 := Nat.mod_lt _ (by decide)
  rw [hd]
  have hq : t / 256 < 8 := by omega
  generalize t / 256 = q at hq ⊢
  match q, hq with
  | 0, _ => exact rows0_ok _ hm
  | 1, _ => exact rows1_ok _ hm
  | 2, _ => exact rows2_ok _ hm
  | 3, _ => exact rows3_ok _ hm
  | 4, _ => exact rows4_ok _ hm
  | 5, _ => exact rows5_ok _ hm
  | 6, _ => exact rows6_ok _ hm
  | 7, _ => exact rows7_ok _ hm

/-- An entry of the one table is the entry of the other at the opposite row. -/
theorem lit_eq (t : ℕ) (ht : t < 2048) (b : ℕ) (hb : b < 40) :
    Cert.ReferenceIdeal.lit0t (40 * t + b) = Cert.KernelIdeal.lit0t (40 * (2047 - t) + b) :=
  of_decide_eq_true (List.all_eq_true.1 (rowOk_all t ht) b (List.mem_range.2 hb))

theorem row_read_lit (L : Fin 81920 → BitVec 32) (T : ℕ → BitVec 32) (hL : ∀ x, L x = T x.val) (i : Fin 2048) (b : Fin 40) :
    L ((⟨2, ![2048, 40]⟩ : Shape).rowMajor (ix2 i b)) = T (40 * i.val + b.val) := by
  refine (hL _).trans (congrArg T ?_)
  refine (Shape.rowMajor_val_two (ix2 i b)).trans ?_
  show i.val * 40 + b.val = _
  omega

/-- Two tables that are one table in opposite row orders give one draw per item. -/
theorem uni_gen (LR LK : Fin 81920 → BitVec 32) (TR TK : ℕ → BitVec 32) (hR : ∀ x, LR x = TR x.val) (hK : ∀ x, LK x = TK x.val)
    (hT : ∀ t, t < 2048 → ∀ b, b < 40 → TR (40 * t + b) = TK (40 * (2047 - t) + b)) (b : Fin 40) :
    uH (fun i => FloatOps.ofBits (F := Ideal) .f32 (LR (Cert.ReferenceIdeal.S2048x40.rowMajor i))) b =
      uK (fun i => FloatOps.ofBits (F := Ideal) .f32 (LK (Cert.KernelIdeal.S2048x40.rowMajor i))) b := by
  funext i
  unfold uH uK
  have hi : i % 2048 < 2048 := Nat.mod_lt _ (by decide)
  have hn : 2047 - (2047 - i % 2048) = i % 2048 := by omega
  have e := (hT (2047 - i % 2048) (by omega) b.val b.isLt).trans (congrArg (fun n => TK (40 * n + b.val)) hn)
  have e1 := row_read_lit LR TR hR ⟨2047 - i % 2048, by omega⟩ b
  have e2 := row_read_lit LK TK hK ⟨i % 2048, hi⟩ b
  exact congrArg (fun w => FloatOps.ofBits (F := Ideal) .f32 w) (e1.trans (e.trans e2.symm))

theorem uni_agree [Cert.ReferenceIdeal.Facts] (b : Fin 40) :
    uH (Cert.Proof.Ref.mn_0_cst (F := Ideal)) b = uK (Cert.KernelIdeal.Gen.drawsOf (F := Ideal)) b := by
  unfold Cert.Proof.Ref.mn_0_cst Cert.KernelIdeal.Gen.drawsOf
  exact uni_gen Cert.ReferenceIdeal.lit0 Cert.KernelIdeal.lit0 Cert.ReferenceIdeal.lit0t Cert.KernelIdeal.lit0t litR litK lit_eq b

theorem lp_agree [Cert.ReferenceIdeal.Facts] (a : Vec Ideal ⟨3, ![40, 2048, 1]⟩ .f32) (b : Fin 40) :
    lpH (Cert.Proof.Ref.lpR (F := Ideal) a) b = lpK (Cert.KernelIdeal.Gen.thetaOf a) b := by
  funext i
  unfold lpH lpK
  rw [lpR_apply]
  unfold Cert.KernelIdeal.Gen.thetaOf
  pointwise []

theorem answer_eq [Cert.ReferenceIdeal.Facts] (a : Vec Ideal ⟨3, ![40, 2048, 1]⟩ .f32) :
    Cert.Proof.Ref.resultR (F := Ideal) a = Cert.KernelIdeal.Gen.resultOf a := by
  funext y
  rw [eq_ix3 y]
  generalize y 0 = b
  generalize y 1 = i
  have hz : y 2 = (0 : Fin 1) := Subsingleton.elim (α := Fin 1) _ _
  rw [hz]
  exact (resultR_apply a b i).trans (((congrArg₂ (fun l u => Scalar.select (bitM l u (2047 - i.val) (cntM l u (2047 - i.val))) (1 : EReal) 0)
    (lp_agree a b) (uni_agree b))).trans (resultOf_apply a b i).symm)

end Cert.Proof.Eq
end
-- ==== Proof.lean ====
module

public import proofs.«01_k».proof.Defs
public import proofs.«01_k».proof.Proof.KBitsRun
public import proofs.«01_k».proof.Proof.KIdealValue
public import proofs.«01_k».proof.Proof.RefReal
public import proofs.«01_k».proof.Proof.Gen.ReferenceIdeal
public import proofs.«01_k».proof.Proof.Alg
public import proofs.«01_k».proof.Proof.Answer

@[expose] public section

noncomputable section

namespace Cert.Proof

open Idealize.ShloMosaic Idealize.SL.Sem

theorem frame_ref [Cert.ReferenceIdeal.Facts] : Cert.quiescent_ReferenceIdeal := fun m ρ _ =>
  (θ_run Cert.ReferenceIdeal.defs _ _).mono (fun r h => ⟨fun c => (h c).2, sem_eq_zero_of_no_sems (by decide) r.2⟩)
    (Ref.run_value m ρ)

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    @frame_ref Cert.ReferenceIdeal.Gen.facts, trivial,
    @alg_of Cert.KernelIdeal.Gen.facts Cert.ReferenceIdeal.Gen.facts (@Eq.answer_eq Cert.ReferenceIdeal.Gen.facts)⟩

end Cert.Proof

end
